-- ==== Defs.lean ====
def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_merge_finite [hPre_merge_finite : Cert.Pre_merge_finite.Facts] (m : (ℓ : Loc Cert.MergeIdeal.nD Cert.MergeIdeal.τ Cert.MergeIdeal.sig) → Buf (Elt Ideal) ℓ) : Prop :=
  ∀ c : Dev Cert.MergeIdeal.nD,
    (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_merge_finite [hPre_merge_finite : Cert.Pre_merge_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))) = (fun _ => 1#1)

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_BigIn (m : (ℓ : Loc Cert.BigIn.nD Cert.BigIn.τ Cert.BigIn.sig) → Buf (Elt Bits) ℓ) : Prop :=
  True

def Pre_BigInIdeal (m : (ℓ : Loc Cert.BigInIdeal.nD Cert.BigInIdeal.τ Cert.BigInIdeal.sig) → Buf (Elt Ideal) ℓ) : Prop :=
  True

def Pre_BigInRefIdeal (m : (ℓ : Loc Cert.BigInRefIdeal.nD Cert.BigInRefIdeal.τ Cert.BigInRefIdeal.sig) → Buf (Elt Ideal) ℓ) : Prop :=
  True

def Pre_BigGlu (m : (ℓ : Loc Cert.BigGlu.nD Cert.BigGlu.τ Cert.BigGlu.sig) → Buf (Elt Bits) ℓ) : Prop :=
  True

def Pre_BigGluIdeal (m : (ℓ : Loc Cert.BigGluIdeal.nD Cert.BigGluIdeal.τ Cert.BigGluIdeal.sig) → Buf (Elt Ideal) ℓ) : Prop :=
  True

def Pre_BigGluRefIdeal (m : (ℓ : Loc Cert.BigGluRefIdeal.nD Cert.BigGluRefIdeal.τ Cert.BigGluRefIdeal.sig) → Buf (Elt Ideal) ℓ) : Prop :=
  True

def Pre_BigBranch (m : (ℓ : Loc Cert.BigBranch.nD Cert.BigBranch.τ Cert.BigBranch.sig) → Buf (Elt Bits) ℓ) : Prop :=
  True

def Pre_BigBranchIdeal (m : (ℓ : Loc Cert.BigBranchIdeal.nD Cert.BigBranchIdeal.τ Cert.BigBranchIdeal.sig) → Buf (Elt Ideal) ℓ) : Prop :=
  True

def Pre_BigBranchRefIdeal (m : (ℓ : Loc Cert.BigBranchRefIdeal.nD Cert.BigBranchRefIdeal.τ Cert.BigBranchRefIdeal.sig) → Buf (Elt Ideal) ℓ) : Prop :=
  True

def Pre_BigOut (m : (ℓ : Loc Cert.BigOut.nD Cert.BigOut.τ Cert.BigOut.sig) → Buf (Elt Bits) ℓ) : Prop :=
  True

def Pre_BigOutIdeal (m : (ℓ : Loc Cert.BigOutIdeal.nD Cert.BigOutIdeal.τ Cert.BigOutIdeal.sig) → Buf (Elt Ideal) ℓ) : Prop :=
  True

def Pre_BigOutRefIdeal (m : (ℓ : Loc Cert.BigOutRefIdeal.nD Cert.BigOutRefIdeal.τ Cert.BigOutRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Disc (m : (ℓ : Loc Cert.Disc.nD Cert.Disc.τ Cert.Disc.sig) → Buf (Elt Bits) ℓ) : Prop :=
  True

def Pre_DiscIdeal (m : (ℓ : Loc Cert.DiscIdeal.nD Cert.DiscIdeal.τ Cert.DiscIdeal.sig) → Buf (Elt Ideal) ℓ) : Prop :=
  True

def Pre_DiscRefIdeal (m : (ℓ : Loc Cert.DiscRefIdeal.nD Cert.DiscRefIdeal.τ Cert.DiscRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_tail_finite [hPre_tail_finite : Cert.Pre_tail_finite.Facts] (m : (ℓ : Loc Cert.TailIdeal.nD Cert.TailIdeal.τ Cert.TailIdeal.sig) → Buf (Elt Ideal) ℓ) : Prop :=
  ∀ c : Dev Cert.TailIdeal.nD,
    (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6))) = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_tail_finite [hPre_tail_finite : Cert.Pre_tail_finite.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6))) = (fun _ => 1#1)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeIdeal_pre_merge_finite [hMergeIdeal : Cert.MergeIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_merge_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_MergeRefIdeal_pre_merge_finite [hMergeRefIdeal : Cert.MergeRefIdeal.Facts] [hPre_merge_finite : Cert.Pre_merge_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_merge_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3))
      ∧ r.2.sem = fun _ => 0)

def quiescent_BigIn [hBigIn : Cert.BigIn.Facts] : Prop :=
  ∀ (m : (ℓ : Loc Cert.BigIn.nD Cert.BigIn.τ Cert.BigIn.sig) → Buf (Elt Bits) ℓ) (g : Dev Cert.BigIn.nD → PrngReg), Pre_BigIn m →
    θ_run (Cert.BigIn.defs (F := Bits)) (onTc (τ := Cert.BigIn.τ) (Cert.BigIn.main (F := Bits))) ⟨m, fun _ => 0, g⟩ (fun r => (∀ c : Dev Cert.BigIn.nD,
      r.2.mem ((c.tc : Thread Cert.BigIn.nD Cert.BigIn.τ).loc Cert.BigIn.main_arg0) = m ((c.tc : Thread Cert.BigIn.nD Cert.BigIn.τ).loc Cert.BigIn.main_arg0)
      ∧ r.2.mem ((c.tc : Thread Cert.BigIn.nD Cert.BigIn.τ).loc Cert.BigIn.main_arg1) = m ((c.tc : Thread Cert.BigIn.nD Cert.BigIn.τ).loc Cert.BigIn.main_arg1)
      ∧ r.2.mem ((c.tc : Thread Cert.BigIn.nD Cert.BigIn.τ).loc Cert.BigIn.main_arg2) = m ((c.tc : Thread Cert.BigIn.nD Cert.BigIn.τ).loc Cert.BigIn.main_arg2)
      ∧ r.2.mem ((c.tc : Thread Cert.BigIn.nD Cert.BigIn.τ).loc Cert.BigIn.main_arg3) = m ((c.tc : Thread Cert.BigIn.nD Cert.BigIn.τ).loc Cert.BigIn.main_arg3)
      ∧ r.2.mem ((c.tc : Thread Cert.BigIn.nD Cert.BigIn.τ).loc Cert.BigIn.main_arg4) = m ((c.tc : Thread Cert.BigIn.nD Cert.BigIn.τ).loc Cert.BigIn.main_arg4)
      ∧ r.2.mem ((c.tc : Thread Cert.BigIn.nD Cert.BigIn.τ).loc Cert.BigIn.main_arg5) = m ((c.tc : Thread Cert.BigIn.nD Cert.BigIn.τ).loc Cert.BigIn.main_arg5)
      ∧ r.2.mem ((c.tc : Thread Cert.BigIn.nD Cert.BigIn.τ).loc Cert.BigIn.main_arg6) = m ((c.tc : Thread Cert.BigIn.nD Cert.BigIn.τ).loc Cert.BigIn.main_arg6)
      ∧ r.2.mem ((c.tc : Thread Cert.BigIn.nD Cert.BigIn.τ).loc Cert.BigIn.main_arg7) = m ((c.tc : Thread Cert.BigIn.nD Cert.BigIn.τ).loc Cert.BigIn.main_arg7)
      ∧ r.2.mem ((c.tc : Thread Cert.BigIn.nD Cert.BigIn.τ).loc Cert.BigIn.main_arg8) = m ((c.tc : Thread Cert.BigIn.nD Cert.BigIn.τ).loc Cert.BigIn.main_arg8))
      ∧ r.2.sem = fun _ => 0)

def quiescent_BigInIdeal [hBigInIdeal : Cert.BigInIdeal.Facts] : Prop :=
  ∀ (m : (ℓ : Loc Cert.BigInIdeal.nD Cert.BigInIdeal.τ Cert.BigInIdeal.sig) → Buf (Elt Ideal) ℓ) (g : Dev Cert.BigInIdeal.nD → PrngReg), Pre_BigInIdeal m →
    θ_run (Cert.BigInIdeal.defs (F := Ideal)) (onTc (τ := Cert.BigInIdeal.τ) (Cert.BigInIdeal.main (F := Ideal))) ⟨m, fun _ => 0, g⟩ (fun r => (∀ c : Dev Cert.BigInIdeal.nD,
      r.2.mem ((c.tc : Thread Cert.BigInIdeal.nD Cert.BigInIdeal.τ).loc Cert.BigInIdeal.main_arg0) = m ((c.tc : Thread Cert.BigInIdeal.nD Cert.BigInIdeal.τ).loc Cert.BigInIdeal.main_arg0)
      ∧ r.2.mem ((c.tc : Thread Cert.BigInIdeal.nD Cert.BigInIdeal.τ).loc Cert.BigInIdeal.main_arg1) = m ((c.tc : Thread Cert.BigInIdeal.nD Cert.BigInIdeal.τ).loc Cert.BigInIdeal.main_arg1)
      ∧ r.2.mem ((c.tc : Thread Cert.BigInIdeal.nD Cert.BigInIdeal.τ).loc Cert.BigInIdeal.main_arg2) = m ((c.tc : Thread Cert.BigInIdeal.nD Cert.BigInIdeal.τ).loc Cert.BigInIdeal.main_arg2)
      ∧ r.2.mem ((c.tc : Thread Cert.BigInIdeal.nD Cert.BigInIdeal.τ).loc Cert.BigInIdeal.main_arg3) = m ((c.tc : Thread Cert.BigInIdeal.nD Cert.BigInIdeal.τ).loc Cert.BigInIdeal.main_arg3)
      ∧ r.2.mem ((c.tc : Thread Cert.BigInIdeal.nD Cert.BigInIdeal.τ).loc Cert.BigInIdeal.main_arg4) = m ((c.tc : Thread Cert.BigInIdeal.nD Cert.BigInIdeal.τ).loc Cert.BigInIdeal.main_arg4)
      ∧ r.2.mem ((c.tc : Thread Cert.BigInIdeal.nD Cert.BigInIdeal.τ).loc Cert.BigInIdeal.main_arg5) = m ((c.tc : Thread Cert.BigInIdeal.nD Cert.BigInIdeal.τ).loc Cert.BigInIdeal.main_arg5)
      ∧ r.2.mem ((c.tc : Thread Cert.BigInIdeal.nD Cert.BigInIdeal.τ).loc Cert.BigInIdeal.main_arg6) = m ((c.tc : Thread Cert.BigInIdeal.nD Cert.BigInIdeal.τ).loc Cert.BigInIdeal.main_arg6)
      ∧ r.2.mem ((c.tc : Thread Cert.BigInIdeal.nD Cert.BigInIdeal.τ).loc Cert.BigInIdeal.main_arg7) = m ((c.tc : Thread Cert.BigInIdeal.nD Cert.BigInIdeal.τ).loc Cert.BigInIdeal.main_arg7)
      ∧ r.2.mem ((c.tc : Thread Cert.BigInIdeal.nD Cert.BigInIdeal.τ).loc Cert.BigInIdeal.main_arg8) = m ((c.tc : Thread Cert.BigInIdeal.nD Cert.BigInIdeal.τ).loc Cert.BigInIdeal.main_arg8))
      ∧ r.2.sem = fun _ => 0)

def quiescent_BigInRefIdeal [hBigInRefIdeal : Cert.BigInRefIdeal.Facts] : Prop :=
  ∀ (m : (ℓ : Loc Cert.BigInRefIdeal.nD Cert.BigInRefIdeal.τ Cert.BigInRefIdeal.sig) → Buf (Elt Ideal) ℓ) (g : Dev Cert.BigInRefIdeal.nD → PrngReg), Pre_BigInRefIdeal m →
    θ_run (Cert.BigInRefIdeal.defs (F := Ideal)) (onTc (τ := Cert.BigInRefIdeal.τ) (Cert.BigInRefIdeal.main (F := Ideal))) ⟨m, fun _ => 0, g⟩ (fun r => (∀ c : Dev Cert.BigInRefIdeal.nD,
      r.2.mem ((c.tc : Thread Cert.BigInRefIdeal.nD Cert.BigInRefIdeal.τ).loc Cert.BigInRefIdeal.main_arg0) = m ((c.tc : Thread Cert.BigInRefIdeal.nD Cert.BigInRefIdeal.τ).loc Cert.BigInRefIdeal.main_arg0)
      ∧ r.2.mem ((c.tc : Thread Cert.BigInRefIdeal.nD Cert.BigInRefIdeal.τ).loc Cert.BigInRefIdeal.main_arg1) = m ((c.tc : Thread Cert.BigInRefIdeal.nD Cert.BigInRefIdeal.τ).loc Cert.BigInRefIdeal.main_arg1)
      ∧ r.2.mem ((c.tc : Thread Cert.BigInRefIdeal.nD Cert.BigInRefIdeal.τ).loc Cert.BigInRefIdeal.main_arg2) = m ((c.tc : Thread Cert.BigInRefIdeal.nD Cert.BigInRefIdeal.τ).loc Cert.BigInRefIdeal.main_arg2)
      ∧ r.2.mem ((c.tc : Thread Cert.BigInRefIdeal.nD Cert.BigInRefIdeal.τ).loc Cert.BigInRefIdeal.main_arg3) = m ((c.tc : Thread Cert.BigInRefIdeal.nD Cert.BigInRefIdeal.τ).loc Cert.BigInRefIdeal.main_arg3)
      ∧ r.2.mem ((c.tc : Thread Cert.BigInRefIdeal.nD Cert.BigInRefIdeal.τ).loc Cert.BigInRefIdeal.main_arg4) = m ((c.tc : Thread Cert.BigInRefIdeal.nD Cert.BigInRefIdeal.τ).loc Cert.BigInRefIdeal.main_arg4)
      ∧ r.2.mem ((c.tc : Thread Cert.BigInRefIdeal.nD Cert.BigInRefIdeal.τ).loc Cert.BigInRefIdeal.main_arg5) = m ((c.tc : Thread Cert.BigInRefIdeal.nD Cert.BigInRefIdeal.τ).loc Cert.BigInRefIdeal.main_arg5)
      ∧ r.2.mem ((c.tc : Thread Cert.BigInRefIdeal.nD Cert.BigInRefIdeal.τ).loc Cert.BigInRefIdeal.main_arg6) = m ((c.tc : Thread Cert.BigInRefIdeal.nD Cert.BigInRefIdeal.τ).loc Cert.BigInRefIdeal.main_arg6)
      ∧ r.2.mem ((c.tc : Thread Cert.BigInRefIdeal.nD Cert.BigInRefIdeal.τ).loc Cert.BigInRefIdeal.main_arg7) = m ((c.tc : Thread Cert.BigInRefIdeal.nD Cert.BigInRefIdeal.τ).loc Cert.BigInRefIdeal.main_arg7)
      ∧ r.2.mem ((c.tc : Thread Cert.BigInRefIdeal.nD Cert.BigInRefIdeal.τ).loc Cert.BigInRefIdeal.main_arg8) = m ((c.tc : Thread Cert.BigInRefIdeal.nD Cert.BigInRefIdeal.τ).loc Cert.BigInRefIdeal.main_arg8))
      ∧ r.2.sem = fun _ => 0)

def quiescent_BigGlu [hBigGlu : Cert.BigGlu.Facts] : Prop :=
  ∀ (m : (ℓ : Loc Cert.BigGlu.nD Cert.BigGlu.τ Cert.BigGlu.sig) → Buf (Elt Bits) ℓ) (g : Dev Cert.BigGlu.nD → PrngReg), Pre_BigGlu m →
    θ_run (Cert.BigGlu.defs (F := Bits)) (onTc (τ := Cert.BigGlu.τ) (Cert.BigGlu.main (F := Bits))) ⟨m, fun _ => 0, g⟩ (fun r => (∀ c : Dev Cert.BigGlu.nD,
      r.2.mem ((c.tc : Thread Cert.BigGlu.nD Cert.BigGlu.τ).loc Cert.BigGlu.main_arg0) = m ((c.tc : Thread Cert.BigGlu.nD Cert.BigGlu.τ).loc Cert.BigGlu.main_arg0)
      ∧ r.2.mem ((c.tc : Thread Cert.BigGlu.nD Cert.BigGlu.τ).loc Cert.BigGlu.main_arg1) = m ((c.tc : Thread Cert.BigGlu.nD Cert.BigGlu.τ).loc Cert.BigGlu.main_arg1)
      ∧ r.2.mem ((c.tc : Thread Cert.BigGlu.nD Cert.BigGlu.τ).loc Cert.BigGlu.main_arg2) = m ((c.tc : Thread Cert.BigGlu.nD Cert.BigGlu.τ).loc Cert.BigGlu.main_arg2)
      ∧ r.2.mem ((c.tc : Thread Cert.BigGlu.nD Cert.BigGlu.τ).loc Cert.BigGlu.main_arg3) = m ((c.tc : Thread Cert.BigGlu.nD Cert.BigGlu.τ).loc Cert.BigGlu.main_arg3)
      ∧ r.2.mem ((c.tc : Thread Cert.BigGlu.nD Cert.BigGlu.τ).loc Cert.BigGlu.main_arg4) = m ((c.tc : Thread Cert.BigGlu.nD Cert.BigGlu.τ).loc Cert.BigGlu.main_arg4)
      ∧ r.2.mem ((c.tc : Thread Cert.BigGlu.nD Cert.BigGlu.τ).loc Cert.BigGlu.main_arg5) = m ((c.tc : Thread Cert.BigGlu.nD Cert.BigGlu.τ).loc Cert.BigGlu.main_arg5)
      ∧ r.2.mem ((c.tc : Thread Cert.BigGlu.nD Cert.BigGlu.τ).loc Cert.BigGlu.main_arg6) = m ((c.tc : Thread Cert.BigGlu.nD Cert.BigGlu.τ).loc Cert.BigGlu.main_arg6)
      ∧ r.2.mem ((c.tc : Thread Cert.BigGlu.nD Cert.BigGlu.τ).loc Cert.BigGlu.main_arg7) = m ((c.tc : Thread Cert.BigGlu.nD Cert.BigGlu.τ).loc Cert.BigGlu.main_arg7)
      ∧ r.2.mem ((c.tc : Thread Cert.BigGlu.nD Cert.BigGlu.τ).loc Cert.BigGlu.main_arg8) = m ((c.tc : Thread Cert.BigGlu.nD Cert.BigGlu.τ).loc Cert.BigGlu.main_arg8))
      ∧ r.2.sem = fun _ => 0)

def quiescent_BigGluIdeal [hBigGluIdeal : Cert.BigGluIdeal.Facts] : Prop :=
  ∀ (m : (ℓ : Loc Cert.BigGluIdeal.nD Cert.BigGluIdeal.τ Cert.BigGluIdeal.sig) → Buf (Elt Ideal) ℓ) (g : Dev Cert.BigGluIdeal.nD → PrngReg), Pre_BigGluIdeal m →
    θ_run (Cert.BigGluIdeal.defs (F := Ideal)) (onTc (τ := Cert.BigGluIdeal.τ) (Cert.BigGluIdeal.main (F := Ideal))) ⟨m, fun _ => 0, g⟩ (fun r => (∀ c : Dev Cert.BigGluIdeal.nD,
      r.2.mem ((c.tc : Thread Cert.BigGluIdeal.nD Cert.BigGluIdeal.τ).loc Cert.BigGluIdeal.main_arg0) = m ((c.tc : Thread Cert.BigGluIdeal.nD Cert.BigGluIdeal.τ).loc Cert.BigGluIdeal.main_arg0)
      ∧ r.2.mem ((c.tc : Thread Cert.BigGluIdeal.nD Cert.BigGluIdeal.τ).loc Cert.BigGluIdeal.main_arg1) = m ((c.tc : Thread Cert.BigGluIdeal.nD Cert.BigGluIdeal.τ).loc Cert.BigGluIdeal.main_arg1)
      ∧ r.2.mem ((c.tc : Thread Cert.BigGluIdeal.nD Cert.BigGluIdeal.τ).loc Cert.BigGluIdeal.main_arg2) = m ((c.tc : Thread Cert.BigGluIdeal.nD Cert.BigGluIdeal.τ).loc Cert.BigGluIdeal.main_arg2)
      ∧ r.2.mem ((c.tc : Thread Cert.BigGluIdeal.nD Cert.BigGluIdeal.τ).loc Cert.BigGluIdeal.main_arg3) = m ((c.tc : Thread Cert.BigGluIdeal.nD Cert.BigGluIdeal.τ).loc Cert.BigGluIdeal.main_arg3)
      ∧ r.2.mem ((c.tc : Thread Cert.BigGluIdeal.nD Cert.BigGluIdeal.τ).loc Cert.BigGluIdeal.main_arg4) = m ((c.tc : Thread Cert.BigGluIdeal.nD Cert.BigGluIdeal.τ).loc Cert.BigGluIdeal.main_arg4)
      ∧ r.2.mem ((c.tc : Thread Cert.BigGluIdeal.nD Cert.BigGluIdeal.τ).loc Cert.BigGluIdeal.main_arg5) = m ((c.tc : Thread Cert.BigGluIdeal.nD Cert.BigGluIdeal.τ).loc Cert.BigGluIdeal.main_arg5)
      ∧ r.2.mem ((c.tc : Thread Cert.BigGluIdeal.nD Cert.BigGluIdeal.τ).loc Cert.BigGluIdeal.main_arg6) = m ((c.tc : Thread Cert.BigGluIdeal.nD Cert.BigGluIdeal.τ).loc Cert.BigGluIdeal.main_arg6)
      ∧ r.2.mem ((c.tc : Thread Cert.BigGluIdeal.nD Cert.BigGluIdeal.τ).loc Cert.BigGluIdeal.main_arg7) = m ((c.tc : Thread Cert.BigGluIdeal.nD Cert.BigGluIdeal.τ).loc Cert.BigGluIdeal.main_arg7)
      ∧ r.2.mem ((c.tc : Thread Cert.BigGluIdeal.nD Cert.BigGluIdeal.τ).loc Cert.BigGluIdeal.main_arg8) = m ((c.tc : Thread Cert.BigGluIdeal.nD Cert.BigGluIdeal.τ).loc Cert.BigGluIdeal.main_arg8))
      ∧ r.2.sem = fun _ => 0)

def quiescent_BigGluRefIdeal [hBigGluRefIdeal : Cert.BigGluRefIdeal.Facts] : Prop :=
  ∀ (m : (ℓ : Loc Cert.BigGluRefIdeal.nD Cert.BigGluRefIdeal.τ Cert.BigGluRefIdeal.sig) → Buf (Elt Ideal) ℓ) (g : Dev Cert.BigGluRefIdeal.nD → PrngReg), Pre_BigGluRefIdeal m →
    θ_run (Cert.BigGluRefIdeal.defs (F := Ideal)) (onTc (τ := Cert.BigGluRefIdeal.τ) (Cert.BigGluRefIdeal.main (F := Ideal))) ⟨m, fun _ => 0, g⟩ (fun r => (∀ c : Dev Cert.BigGluRefIdeal.nD,
      r.2.mem ((c.tc : Thread Cert.BigGluRefIdeal.nD Cert.BigGluRefIdeal.τ).loc Cert.BigGluRefIdeal.main_arg0) = m ((c.tc : Thread Cert.BigGluRefIdeal.nD Cert.BigGluRefIdeal.τ).loc Cert.BigGluRefIdeal.main_arg0)
      ∧ r.2.mem ((c.tc : Thread Cert.BigGluRefIdeal.nD Cert.BigGluRefIdeal.τ).loc Cert.BigGluRefIdeal.main_arg1) = m ((c.tc : Thread Cert.BigGluRefIdeal.nD Cert.BigGluRefIdeal.τ).loc Cert.BigGluRefIdeal.main_arg1)
      ∧ r.2.mem ((c.tc : Thread Cert.BigGluRefIdeal.nD Cert.BigGluRefIdeal.τ).loc Cert.BigGluRefIdeal.main_arg2) = m ((c.tc : Thread Cert.BigGluRefIdeal.nD Cert.BigGluRefIdeal.τ).loc Cert.BigGluRefIdeal.main_arg2)
      ∧ r.2.mem ((c.tc : Thread Cert.BigGluRefIdeal.nD Cert.BigGluRefIdeal.τ).loc Cert.BigGluRefIdeal.main_arg3) = m ((c.tc : Thread Cert.BigGluRefIdeal.nD Cert.BigGluRefIdeal.τ).loc Cert.BigGluRefIdeal.main_arg3)
      ∧ r.2.mem ((c.tc : Thread Cert.BigGluRefIdeal.nD Cert.BigGluRefIdeal.τ).loc Cert.BigGluRefIdeal.main_arg4) = m ((c.tc : Thread Cert.BigGluRefIdeal.nD Cert.BigGluRefIdeal.τ).loc Cert.BigGluRefIdeal.main_arg4)
      ∧ r.2.mem ((c.tc : Thread Cert.BigGluRefIdeal.nD Cert.BigGluRefIdeal.τ).loc Cert.BigGluRefIdeal.main_arg5) = m ((c.tc : Thread Cert.BigGluRefIdeal.nD Cert.BigGluRefIdeal.τ).loc Cert.BigGluRefIdeal.main_arg5)
      ∧ r.2.mem ((c.tc : Thread Cert.BigGluRefIdeal.nD Cert.BigGluRefIdeal.τ).loc Cert.BigGluRefIdeal.main_arg6) = m ((c.tc : Thread Cert.BigGluRefIdeal.nD Cert.BigGluRefIdeal.τ).loc Cert.BigGluRefIdeal.main_arg6)
      ∧ r.2.mem ((c.tc : Thread Cert.BigGluRefIdeal.nD Cert.BigGluRefIdeal.τ).loc Cert.BigGluRefIdeal.main_arg7) = m ((c.tc : Thread Cert.BigGluRefIdeal.nD Cert.BigGluRefIdeal.τ).loc Cert.BigGluRefIdeal.main_arg7)
      ∧ r.2.mem ((c.tc : Thread Cert.BigGluRefIdeal.nD Cert.BigGluRefIdeal.τ).loc Cert.BigGluRefIdeal.main_arg8) = m ((c.tc : Thread Cert.BigGluRefIdeal.nD Cert.BigGluRefIdeal.τ).loc Cert.BigGluRefIdeal.main_arg8))
      ∧ r.2.sem = fun _ => 0)

def quiescent_BigBranch [hBigBranch : Cert.BigBranch.Facts] : Prop :=
  ∀ (m : (ℓ : Loc Cert.BigBranch.nD Cert.BigBranch.τ Cert.BigBranch.sig) → Buf (Elt Bits) ℓ) (g : Dev Cert.BigBranch.nD → PrngReg), Pre_BigBranch m →
    θ_run (Cert.BigBranch.defs (F := Bits)) (onTc (τ := Cert.BigBranch.τ) (Cert.BigBranch.main (F := Bits))) ⟨m, fun _ => 0, g⟩ (fun r => (∀ c : Dev Cert.BigBranch.nD,
      r.2.mem ((c.tc : Thread Cert.BigBranch.nD Cert.BigBranch.τ).loc Cert.BigBranch.main_arg0) = m ((c.tc : Thread Cert.BigBranch.nD Cert.BigBranch.τ).loc Cert.BigBranch.main_arg0)
      ∧ r.2.mem ((c.tc : Thread Cert.BigBranch.nD Cert.BigBranch.τ).loc Cert.BigBranch.main_arg1) = m ((c.tc : Thread Cert.BigBranch.nD Cert.BigBranch.τ).loc Cert.BigBranch.main_arg1)
      ∧ r.2.mem ((c.tc : Thread Cert.BigBranch.nD Cert.BigBranch.τ).loc Cert.BigBranch.main_arg2) = m ((c.tc : Thread Cert.BigBranch.nD Cert.BigBranch.τ).loc Cert.BigBranch.main_arg2)
      ∧ r.2.mem ((c.tc : Thread Cert.BigBranch.nD Cert.BigBranch.τ).loc Cert.BigBranch.main_arg3) = m ((c.tc : Thread Cert.BigBranch.nD Cert.BigBranch.τ).loc Cert.BigBranch.main_arg3)
      ∧ r.2.mem ((c.tc : Thread Cert.BigBranch.nD Cert.BigBranch.τ).loc Cert.BigBranch.main_arg4) = m ((c.tc : Thread Cert.BigBranch.nD Cert.BigBranch.τ).loc Cert.BigBranch.main_arg4)
      ∧ r.2.mem ((c.tc : Thread Cert.BigBranch.nD Cert.BigBranch.τ).loc Cert.BigBranch.main_arg5) = m ((c.tc : Thread Cert.BigBranch.nD Cert.BigBranch.τ).loc Cert.BigBranch.main_arg5)
      ∧ r.2.mem ((c.tc : Thread Cert.BigBranch.nD Cert.BigBranch.τ).loc Cert.BigBranch.main_arg6) = m ((c.tc : Thread Cert.BigBranch.nD Cert.BigBranch.τ).loc Cert.BigBranch.main_arg6)
      ∧ r.2.mem ((c.tc : Thread Cert.BigBranch.nD Cert.BigBranch.τ).loc Cert.BigBranch.main_arg7) = m ((c.tc : Thread Cert.BigBranch.nD Cert.BigBranch.τ).loc Cert.BigBranch.main_arg7)
      ∧ r.2.mem ((c.tc : Thread Cert.BigBranch.nD Cert.BigBranch.τ).loc Cert.BigBranch.main_arg8) = m ((c.tc : Thread Cert.BigBranch.nD Cert.BigBranch.τ).loc Cert.BigBranch.main_arg8))
      ∧ r.2.sem = fun _ => 0)

def quiescent_BigBranchIdeal [hBigBranchIdeal : Cert.BigBranchIdeal.Facts] : Prop :=
  ∀ (m : (ℓ : Loc Cert.BigBranchIdeal.nD Cert.BigBranchIdeal.τ Cert.BigBranchIdeal.sig) → Buf (Elt Ideal) ℓ) (g : Dev Cert.BigBranchIdeal.nD → PrngReg), Pre_BigBranchIdeal m →
    θ_run (Cert.BigBranchIdeal.defs (F := Ideal)) (onTc (τ := Cert.BigBranchIdeal.τ) (Cert.BigBranchIdeal.main (F := Ideal))) ⟨m, fun _ => 0, g⟩ (fun r => (∀ c : Dev Cert.BigBranchIdeal.nD,
      r.2.mem ((c.tc : Thread Cert.BigBranchIdeal.nD Cert.BigBranchIdeal.τ).loc Cert.BigBranchIdeal.main_arg0) = m ((c.tc : Thread Cert.BigBranchIdeal.nD Cert.BigBranchIdeal.τ).loc Cert.BigBranchIdeal.main_arg0)
      ∧ r.2.mem ((c.tc : Thread Cert.BigBranchIdeal.nD Cert.BigBranchIdeal.τ).loc Cert.BigBranchIdeal.main_arg1) = m ((c.tc : Thread Cert.BigBranchIdeal.nD Cert.BigBranchIdeal.τ).loc Cert.BigBranchIdeal.main_arg1)
      ∧ r.2.mem ((c.tc : Thread Cert.BigBranchIdeal.nD Cert.BigBranchIdeal.τ).loc Cert.BigBranchIdeal.main_arg2) = m ((c.tc : Thread Cert.BigBranchIdeal.nD Cert.BigBranchIdeal.τ).loc Cert.BigBranchIdeal.main_arg2)
      ∧ r.2.mem ((c.tc : Thread Cert.BigBranchIdeal.nD Cert.BigBranchIdeal.τ).loc Cert.BigBranchIdeal.main_arg3) = m ((c.tc : Thread Cert.BigBranchIdeal.nD Cert.BigBranchIdeal.τ).loc Cert.BigBranchIdeal.main_arg3)
      ∧ r.2.mem ((c.tc : Thread Cert.BigBranchIdeal.nD Cert.BigBranchIdeal.τ).loc Cert.BigBranchIdeal.main_arg4) = m ((c.tc : Thread Cert.BigBranchIdeal.nD Cert.BigBranchIdeal.τ).loc Cert.BigBranchIdeal.main_arg4)
      ∧ r.2.mem ((c.tc : Thread Cert.BigBranchIdeal.nD Cert.BigBranchIdeal.τ).loc Cert.BigBranchIdeal.main_arg5) = m ((c.tc : Thread Cert.BigBranchIdeal.nD Cert.BigBranchIdeal.τ).loc Cert.BigBranchIdeal.main_arg5)
      ∧ r.2.mem ((c.tc : Thread Cert.BigBranchIdeal.nD Cert.BigBranchIdeal.τ).loc Cert.BigBranchIdeal.main_arg6) = m ((c.tc : Thread Cert.BigBranchIdeal.nD Cert.BigBranchIdeal.τ).loc Cert.BigBranchIdeal.main_arg6)
      ∧ r.2.mem ((c.tc : Thread Cert.BigBranchIdeal.nD Cert.BigBranchIdeal.τ).loc Cert.BigBranchIdeal.main_arg7) = m ((c.tc : Thread Cert.BigBranchIdeal.nD Cert.BigBranchIdeal.τ).loc Cert.BigBranchIdeal.main_arg7)
      ∧ r.2.mem ((c.tc : Thread Cert.BigBranchIdeal.nD Cert.BigBranchIdeal.τ).loc Cert.BigBranchIdeal.main_arg8) = m ((c.tc : Thread Cert.BigBranchIdeal.nD Cert.BigBranchIdeal.τ).loc Cert.BigBranchIdeal.main_arg8))
      ∧ r.2.sem = fun _ => 0)

def quiescent_BigBranchRefIdeal [hBigBranchRefIdeal : Cert.BigBranchRefIdeal.Facts] : Prop :=
  ∀ (m : (ℓ : Loc Cert.BigBranchRefIdeal.nD Cert.BigBranchRefIdeal.τ Cert.BigBranchRefIdeal.sig) → Buf (Elt Ideal) ℓ) (g : Dev Cert.BigBranchRefIdeal.nD → PrngReg), Pre_BigBranchRefIdeal m →
    θ_run (Cert.BigBranchRefIdeal.defs (F := Ideal)) (onTc (τ := Cert.BigBranchRefIdeal.τ) (Cert.BigBranchRefIdeal.main (F := Ideal))) ⟨m, fun _ => 0, g⟩ (fun r => (∀ c : Dev Cert.BigBranchRefIdeal.nD,
      r.2.mem ((c.tc : Thread Cert.BigBranchRefIdeal.nD Cert.BigBranchRefIdeal.τ).loc Cert.BigBranchRefIdeal.main_arg0) = m ((c.tc : Thread Cert.BigBranchRefIdeal.nD Cert.BigBranchRefIdeal.τ).loc Cert.BigBranchRefIdeal.main_arg0)
      ∧ r.2.mem ((c.tc : Thread Cert.BigBranchRefIdeal.nD Cert.BigBranchRefIdeal.τ).loc Cert.BigBranchRefIdeal.main_arg1) = m ((c.tc : Thread Cert.BigBranchRefIdeal.nD Cert.BigBranchRefIdeal.τ).loc Cert.BigBranchRefIdeal.main_arg1)
      ∧ r.2.mem ((c.tc : Thread Cert.BigBranchRefIdeal.nD Cert.BigBranchRefIdeal.τ).loc Cert.BigBranchRefIdeal.main_arg2) = m ((c.tc : Thread Cert.BigBranchRefIdeal.nD Cert.BigBranchRefIdeal.τ).loc Cert.BigBranchRefIdeal.main_arg2)
      ∧ r.2.mem ((c.tc : Thread Cert.BigBranchRefIdeal.nD Cert.BigBranchRefIdeal.τ).loc Cert.BigBranchRefIdeal.main_arg3) = m ((c.tc : Thread Cert.BigBranchRefIdeal.nD Cert.BigBranchRefIdeal.τ).loc Cert.BigBranchRefIdeal.main_arg3)
      ∧ r.2.mem ((c.tc : Thread Cert.BigBranchRefIdeal.nD Cert.BigBranchRefIdeal.τ).loc Cert.BigBranchRefIdeal.main_arg4) = m ((c.tc : Thread Cert.BigBranchRefIdeal.nD Cert.BigBranchRefIdeal.τ).loc Cert.BigBranchRefIdeal.main_arg4)
      ∧ r.2.mem ((c.tc : Thread Cert.BigBranchRefIdeal.nD Cert.BigBranchRefIdeal.τ).loc Cert.BigBranchRefIdeal.main_arg5) = m ((c.tc : Thread Cert.BigBranchRefIdeal.nD Cert.BigBranchRefIdeal.τ).loc Cert.BigBranchRefIdeal.main_arg5)
      ∧ r.2.mem ((c.tc : Thread Cert.BigBranchRefIdeal.nD Cert.BigBranchRefIdeal.τ).loc Cert.BigBranchRefIdeal.main_arg6) = m ((c.tc : Thread Cert.BigBranchRefIdeal.nD Cert.BigBranchRefIdeal.τ).loc Cert.BigBranchRefIdeal.main_arg6)
      ∧ r.2.mem ((c.tc : Thread Cert.BigBranchRefIdeal.nD Cert.BigBranchRefIdeal.τ).loc Cert.BigBranchRefIdeal.main_arg7) = m ((c.tc : Thread Cert.BigBranchRefIdeal.nD Cert.BigBranchRefIdeal.τ).loc Cert.BigBranchRefIdeal.main_arg7)
      ∧ r.2.mem ((c.tc : Thread Cert.BigBranchRefIdeal.nD Cert.BigBranchRefIdeal.τ).loc Cert.BigBranchRefIdeal.main_arg8) = m ((c.tc : Thread Cert.BigBranchRefIdeal.nD Cert.BigBranchRefIdeal.τ).loc Cert.BigBranchRefIdeal.main_arg8))
      ∧ r.2.sem = fun _ => 0)

def quiescent_BigOut [hBigOut : Cert.BigOut.Facts] : Prop :=
  ∀ (m : (ℓ : Loc Cert.BigOut.nD Cert.BigOut.τ Cert.BigOut.sig) → Buf (Elt Bits) ℓ) (g : Dev Cert.BigOut.nD → PrngReg), Pre_BigOut m →
    θ_run (Cert.BigOut.defs (F := Bits)) (onTc (τ := Cert.BigOut.τ) (Cert.BigOut.main (F := Bits))) ⟨m, fun _ => 0, g⟩ (fun r => (∀ c : Dev Cert.BigOut.nD,
      r.2.mem ((c.tc : Thread Cert.BigOut.nD Cert.BigOut.τ).loc Cert.BigOut.main_arg0) = m ((c.tc : Thread Cert.BigOut.nD Cert.BigOut.τ).loc Cert.BigOut.main_arg0)
      ∧ r.2.mem ((c.tc : Thread Cert.BigOut.nD Cert.BigOut.τ).loc Cert.BigOut.main_arg1) = m ((c.tc : Thread Cert.BigOut.nD Cert.BigOut.τ).loc Cert.BigOut.main_arg1)
      ∧ r.2.mem ((c.tc : Thread Cert.BigOut.nD Cert.BigOut.τ).loc Cert.BigOut.main_arg2) = m ((c.tc : Thread Cert.BigOut.nD Cert.BigOut.τ).loc Cert.BigOut.main_arg2)
      ∧ r.2.mem ((c.tc : Thread Cert.BigOut.nD Cert.BigOut.τ).loc Cert.BigOut.main_arg3) = m ((c.tc : Thread Cert.BigOut.nD Cert.BigOut.τ).loc Cert.BigOut.main_arg3)
      ∧ r.2.mem ((c.tc : Thread Cert.BigOut.nD Cert.BigOut.τ).loc Cert.BigOut.main_arg4) = m ((c.tc : Thread Cert.BigOut.nD Cert.BigOut.τ).loc Cert.BigOut.main_arg4)
      ∧ r.2.mem ((c.tc : Thread Cert.BigOut.nD Cert.BigOut.τ).loc Cert.BigOut.main_arg5) = m ((c.tc : Thread Cert.BigOut.nD Cert.BigOut.τ).loc Cert.BigOut.main_arg5)
      ∧ r.2.mem ((c.tc : Thread Cert.BigOut.nD Cert.BigOut.τ).loc Cert.BigOut.main_arg6) = m ((c.tc : Thread Cert.BigOut.nD Cert.BigOut.τ).loc Cert.BigOut.main_arg6)
      ∧ r.2.mem ((c.tc : Thread Cert.BigOut.nD Cert.BigOut.τ).loc Cert.BigOut.main_arg7) = m ((c.tc : Thread Cert.BigOut.nD Cert.BigOut.τ).loc Cert.BigOut.main_arg7)
      ∧ r.2.mem ((c.tc : Thread Cert.BigOut.nD Cert.BigOut.τ).loc Cert.BigOut.main_arg8) = m ((c.tc : Thread Cert.BigOut.nD Cert.BigOut.τ).loc Cert.BigOut.main_arg8))
      ∧ r.2.sem = fun _ => 0)

def quiescent_BigOutIdeal [hBigOutIdeal : Cert.BigOutIdeal.Facts] : Prop :=
  ∀ (m : (ℓ : Loc Cert.BigOutIdeal.nD Cert.BigOutIdeal.τ Cert.BigOutIdeal.sig) → Buf (Elt Ideal) ℓ) (g : Dev Cert.BigOutIdeal.nD → PrngReg), Pre_BigOutIdeal m →
    θ_run (Cert.BigOutIdeal.defs (F := Ideal)) (onTc (τ := Cert.BigOutIdeal.τ) (Cert.BigOutIdeal.main (F := Ideal))) ⟨m, fun _ => 0, g⟩ (fun r => (∀ c : Dev Cert.BigOutIdeal.nD,
      r.2.mem ((c.tc : Thread Cert.BigOutIdeal.nD Cert.BigOutIdeal.τ).loc Cert.BigOutIdeal.main_arg0) = m ((c.tc : Thread Cert.BigOutIdeal.nD Cert.BigOutIdeal.τ).loc Cert.BigOutIdeal.main_arg0)
      ∧ r.2.mem ((c.tc : Thread Cert.BigOutIdeal.nD Cert.BigOutIdeal.τ).loc Cert.BigOutIdeal.main_arg1) = m ((c.tc : Thread Cert.BigOutIdeal.nD Cert.BigOutIdeal.τ).loc Cert.BigOutIdeal.main_arg1)
      ∧ r.2.mem ((c.tc : Thread Cert.BigOutIdeal.nD Cert.BigOutIdeal.τ).loc Cert.BigOutIdeal.main_arg2) = m ((c.tc : Thread Cert.BigOutIdeal.nD Cert.BigOutIdeal.τ).loc Cert.BigOutIdeal.main_arg2)
      ∧ r.2.mem ((c.tc : Thread Cert.BigOutIdeal.nD Cert.BigOutIdeal.τ).loc Cert.BigOutIdeal.main_arg3) = m ((c.tc : Thread Cert.BigOutIdeal.nD Cert.BigOutIdeal.τ).loc Cert.BigOutIdeal.main_arg3)
      ∧ r.2.mem ((c.tc : Thread Cert.BigOutIdeal.nD Cert.BigOutIdeal.τ).loc Cert.BigOutIdeal.main_arg4) = m ((c.tc : Thread Cert.BigOutIdeal.nD Cert.BigOutIdeal.τ).loc Cert.BigOutIdeal.main_arg4)
      ∧ r.2.mem ((c.tc : Thread Cert.BigOutIdeal.nD Cert.BigOutIdeal.τ).loc Cert.BigOutIdeal.main_arg5) = m ((c.tc : Thread Cert.BigOutIdeal.nD Cert.BigOutIdeal.τ).loc Cert.BigOutIdeal.main_arg5)
      ∧ r.2.mem ((c.tc : Thread Cert.BigOutIdeal.nD Cert.BigOutIdeal.τ).loc Cert.BigOutIdeal.main_arg6) = m ((c.tc : Thread Cert.BigOutIdeal.nD Cert.BigOutIdeal.τ).loc Cert.BigOutIdeal.main_arg6)
      ∧ r.2.mem ((c.tc : Thread Cert.BigOutIdeal.nD Cert.BigOutIdeal.τ).loc Cert.BigOutIdeal.main_arg7) = m ((c.tc : Thread Cert.BigOutIdeal.nD Cert.BigOutIdeal.τ).loc Cert.BigOutIdeal.main_arg7)
      ∧ r.2.mem ((c.tc : Thread Cert.BigOutIdeal.nD Cert.BigOutIdeal.τ).loc Cert.BigOutIdeal.main_arg8) = m ((c.tc : Thread Cert.BigOutIdeal.nD Cert.BigOutIdeal.τ).loc Cert.BigOutIdeal.main_arg8))
      ∧ r.2.sem = fun _ => 0)

def quiescent_BigOutRefIdeal [hBigOutRefIdeal : Cert.BigOutRefIdeal.Facts] : Prop :=
  ∀ (m : (ℓ : Loc Cert.BigOutRefIdeal.nD Cert.BigOutRefIdeal.τ Cert.BigOutRefIdeal.sig) → Buf (Elt Ideal) ℓ) (g : Dev Cert.BigOutRefIdeal.nD → PrngReg), Pre_BigOutRefIdeal m →
    θ_run (Cert.BigOutRefIdeal.defs (F := Ideal)) (onTc (τ := Cert.BigOutRefIdeal.τ) (Cert.BigOutRefIdeal.main (F := Ideal))) ⟨m, fun _ => 0, g⟩ (fun r => (∀ c : Dev Cert.BigOutRefIdeal.nD,
      r.2.mem ((c.tc : Thread Cert.BigOutRefIdeal.nD Cert.BigOutRefIdeal.τ).loc Cert.BigOutRefIdeal.main_arg0) = m ((c.tc : Thread Cert.BigOutRefIdeal.nD Cert.BigOutRefIdeal.τ).loc Cert.BigOutRefIdeal.main_arg0)
      ∧ r.2.mem ((c.tc : Thread Cert.BigOutRefIdeal.nD Cert.BigOutRefIdeal.τ).loc Cert.BigOutRefIdeal.main_arg1) = m ((c.tc : Thread Cert.BigOutRefIdeal.nD Cert.BigOutRefIdeal.τ).loc Cert.BigOutRefIdeal.main_arg1)
      ∧ r.2.mem ((c.tc : Thread Cert.BigOutRefIdeal.nD Cert.BigOutRefIdeal.τ).loc Cert.BigOutRefIdeal.main_arg2) = m ((c.tc : Thread Cert.BigOutRefIdeal.nD Cert.BigOutRefIdeal.τ).loc Cert.BigOutRefIdeal.main_arg2)
      ∧ r.2.mem ((c.tc : Thread Cert.BigOutRefIdeal.nD Cert.BigOutRefIdeal.τ).loc Cert.BigOutRefIdeal.main_arg3) = m ((c.tc : Thread Cert.BigOutRefIdeal.nD Cert.BigOutRefIdeal.τ).loc Cert.BigOutRefIdeal.main_arg3)
      ∧ r.2.mem ((c.tc : Thread Cert.BigOutRefIdeal.nD Cert.BigOutRefIdeal.τ).loc Cert.BigOutRefIdeal.main_arg4) = m ((c.tc : Thread Cert.BigOutRefIdeal.nD Cert.BigOutRefIdeal.τ).loc Cert.BigOutRefIdeal.main_arg4)
      ∧ r.2.mem ((c.tc : Thread Cert.BigOutRefIdeal.nD Cert.BigOutRefIdeal.τ).loc Cert.BigOutRefIdeal.main_arg5) = m ((c.tc : Thread Cert.BigOutRefIdeal.nD Cert.BigOutRefIdeal.τ).loc Cert.BigOutRefIdeal.main_arg5)
      ∧ r.2.mem ((c.tc : Thread Cert.BigOutRefIdeal.nD Cert.BigOutRefIdeal.τ).loc Cert.BigOutRefIdeal.main_arg6) = m ((c.tc : Thread Cert.BigOutRefIdeal.nD Cert.BigOutRefIdeal.τ).loc Cert.BigOutRefIdeal.main_arg6)
      ∧ r.2.mem ((c.tc : Thread Cert.BigOutRefIdeal.nD Cert.BigOutRefIdeal.τ).loc Cert.BigOutRefIdeal.main_arg7) = m ((c.tc : Thread Cert.BigOutRefIdeal.nD Cert.BigOutRefIdeal.τ).loc Cert.BigOutRefIdeal.main_arg7)
      ∧ r.2.mem ((c.tc : Thread Cert.BigOutRefIdeal.nD Cert.BigOutRefIdeal.τ).loc Cert.BigOutRefIdeal.main_arg8) = m ((c.tc : Thread Cert.BigOutRefIdeal.nD Cert.BigOutRefIdeal.τ).loc Cert.BigOutRefIdeal.main_arg8))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Disc [hDisc : Cert.Disc.Facts] : Prop :=
  ∀ (m : (ℓ : Loc Cert.Disc.nD Cert.Disc.τ Cert.Disc.sig) → Buf (Elt Bits) ℓ) (g : Dev Cert.Disc.nD → PrngReg), Pre_Disc m →
    θ_run (Cert.Disc.defs (F := Bits)) (onTc (τ := Cert.Disc.τ) (Cert.Disc.main (F := Bits))) ⟨m, fun _ => 0, g⟩ (fun r => (∀ c : Dev Cert.Disc.nD,
      r.2.mem ((c.tc : Thread Cert.Disc.nD Cert.Disc.τ).loc Cert.Disc.main_arg0) = m ((c.tc : Thread Cert.Disc.nD Cert.Disc.τ).loc Cert.Disc.main_arg0)
      ∧ r.2.mem ((c.tc : Thread Cert.Disc.nD Cert.Disc.τ).loc Cert.Disc.main_arg1) = m ((c.tc : Thread Cert.Disc.nD Cert.Disc.τ).loc Cert.Disc.main_arg1)
      ∧ r.2.mem ((c.tc : Thread Cert.Disc.nD Cert.Disc.τ).loc Cert.Disc.main_arg2) = m ((c.tc : Thread Cert.Disc.nD Cert.Disc.τ).loc Cert.Disc.main_arg2)
      ∧ r.2.mem ((c.tc : Thread Cert.Disc.nD Cert.Disc.τ).loc Cert.Disc.main_arg3) = m ((c.tc : Thread Cert.Disc.nD Cert.Disc.τ).loc Cert.Disc.main_arg3)
      ∧ r.2.mem ((c.tc : Thread Cert.Disc.nD Cert.Disc.τ).loc Cert.Disc.main_arg4) = m ((c.tc : Thread Cert.Disc.nD Cert.Disc.τ).loc Cert.Disc.main_arg4)
      ∧ r.2.mem ((c.tc : Thread Cert.Disc.nD Cert.Disc.τ).loc Cert.Disc.main_arg5) = m ((c.tc : Thread Cert.Disc.nD Cert.Disc.τ).loc Cert.Disc.main_arg5)
      ∧ r.2.mem ((c.tc : Thread Cert.Disc.nD Cert.Disc.τ).loc Cert.Disc.main_arg6) = m ((c.tc : Thread Cert.Disc.nD Cert.Disc.τ).loc Cert.Disc.main_arg6)
      ∧ r.2.mem ((c.tc : Thread Cert.Disc.nD Cert.Disc.τ).loc Cert.Disc.main_arg7) = m ((c.tc : Thread Cert.Disc.nD Cert.Disc.τ).loc Cert.Disc.main_arg7)
      ∧ r.2.mem ((c.tc : Thread Cert.Disc.nD Cert.Disc.τ).loc Cert.Disc.main_arg8) = m ((c.tc : Thread Cert.Disc.nD Cert.Disc.τ).loc Cert.Disc.main_arg8))
      ∧ r.2.sem = fun _ => 0)

def quiescent_DiscIdeal [hDiscIdeal : Cert.DiscIdeal.Facts] : Prop :=
  ∀ (m : (ℓ : Loc Cert.DiscIdeal.nD Cert.DiscIdeal.τ Cert.DiscIdeal.sig) → Buf (Elt Ideal) ℓ) (g : Dev Cert.DiscIdeal.nD → PrngReg), Pre_DiscIdeal m →
    θ_run (Cert.DiscIdeal.defs (F := Ideal)) (onTc (τ := Cert.DiscIdeal.τ) (Cert.DiscIdeal.main (F := Ideal))) ⟨m, fun _ => 0, g⟩ (fun r => (∀ c : Dev Cert.DiscIdeal.nD,
      r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
      ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
      ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
      ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
      ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4)
      ∧ r.2.mem ((c.tc : Thread Cert.DiscIdeal.nD Cert.DiscIdeal.τ).loc Cert.DiscIdeal.main_arg5) = m ((c.tc : Thread Cert.DiscIdeal.nD Cert.DiscIdeal.τ).loc Cert.DiscIdeal.main_arg5)
      ∧ r.2.mem ((c.tc : Thread Cert.DiscIdeal.nD Cert.DiscIdeal.τ).loc Cert.DiscIdeal.main_arg6) = m ((c.tc : Thread Cert.DiscIdeal.nD Cert.DiscIdeal.τ).loc Cert.DiscIdeal.main_arg6)
      ∧ r.2.mem ((c.tc : Thread Cert.DiscIdeal.nD Cert.DiscIdeal.τ).loc Cert.DiscIdeal.main_arg7) = m ((c.tc : Thread Cert.DiscIdeal.nD Cert.DiscIdeal.τ).loc Cert.DiscIdeal.main_arg7)
      ∧ r.2.mem ((c.tc : Thread Cert.DiscIdeal.nD Cert.DiscIdeal.τ).loc Cert.DiscIdeal.main_arg8) = m ((c.tc : Thread Cert.DiscIdeal.nD Cert.DiscIdeal.τ).loc Cert.DiscIdeal.main_arg8))
      ∧ r.2.sem = fun _ => 0)

def quiescent_DiscRefIdeal [hDiscRefIdeal : Cert.DiscRefIdeal.Facts] : Prop :=
  ∀ (m : (ℓ : Loc Cert.DiscRefIdeal.nD Cert.DiscRefIdeal.τ Cert.DiscRefIdeal.sig) → Buf (Elt Ideal) ℓ) (g : Dev Cert.DiscRefIdeal.nD → PrngReg), Pre_DiscRefIdeal m →
    θ_run (Cert.DiscRefIdeal.defs (F := Ideal)) (onTc (τ := Cert.DiscRefIdeal.τ) (Cert.DiscRefIdeal.main (F := Ideal))) ⟨m, fun _ => 0, g⟩ (fun r => (∀ c : Dev Cert.DiscRefIdeal.nD,
      r.2.mem ((c.tc : Thread Cert.DiscRefIdeal.nD Cert.DiscRefIdeal.τ).loc Cert.DiscRefIdeal.main_arg0) = m ((c.tc : Thread Cert.DiscRefIdeal.nD Cert.DiscRefIdeal.τ).loc Cert.DiscRefIdeal.main_arg0)
      ∧ r.2.mem ((c.tc : Thread Cert.DiscRefIdeal.nD Cert.DiscRefIdeal.τ).loc Cert.DiscRefIdeal.main_arg1) = m ((c.tc : Thread Cert.DiscRefIdeal.nD Cert.DiscRefIdeal.τ).loc Cert.DiscRefIdeal.main_arg1)
      ∧ r.2.mem ((c.tc : Thread Cert.DiscRefIdeal.nD Cert.DiscRefIdeal.τ).loc Cert.DiscRefIdeal.main_arg2) = m ((c.tc : Thread Cert.DiscRefIdeal.nD Cert.DiscRefIdeal.τ).loc Cert.DiscRefIdeal.main_arg2)
      ∧ r.2.mem ((c.tc : Thread Cert.DiscRefIdeal.nD Cert.DiscRefIdeal.τ).loc Cert.DiscRefIdeal.main_arg3) = m ((c.tc : Thread Cert.DiscRefIdeal.nD Cert.DiscRefIdeal.τ).loc Cert.DiscRefIdeal.main_arg3)
      ∧ r.2.mem ((c.tc : Thread Cert.DiscRefIdeal.nD Cert.DiscRefIdeal.τ).loc Cert.DiscRefIdeal.main_arg4) = m ((c.tc : Thread Cert.DiscRefIdeal.nD Cert.DiscRefIdeal.τ).loc Cert.DiscRefIdeal.main_arg4)
      ∧ r.2.mem ((c.tc : Thread Cert.DiscRefIdeal.nD Cert.DiscRefIdeal.τ).loc Cert.DiscRefIdeal.main_arg5) = m ((c.tc : Thread Cert.DiscRefIdeal.nD Cert.DiscRefIdeal.τ).loc Cert.DiscRefIdeal.main_arg5)
      ∧ r.2.mem ((c.tc : Thread Cert.DiscRefIdeal.nD Cert.DiscRefIdeal.τ).loc Cert.DiscRefIdeal.main_arg6) = m ((c.tc : Thread Cert.DiscRefIdeal.nD Cert.DiscRefIdeal.τ).loc Cert.DiscRefIdeal.main_arg6)
      ∧ r.2.mem ((c.tc : Thread Cert.DiscRefIdeal.nD Cert.DiscRefIdeal.τ).loc Cert.DiscRefIdeal.main_arg7) = m ((c.tc : Thread Cert.DiscRefIdeal.nD Cert.DiscRefIdeal.τ).loc Cert.DiscRefIdeal.main_arg7)
      ∧ r.2.mem ((c.tc : Thread Cert.DiscRefIdeal.nD Cert.DiscRefIdeal.τ).loc Cert.DiscRefIdeal.main_arg8) = m ((c.tc : Thread Cert.DiscRefIdeal.nD Cert.DiscRefIdeal.τ).loc Cert.DiscRefIdeal.main_arg8))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ r.2.sem = fun _ => 0)

def quiescent_TailIdeal_pre_tail_finite [hTailIdeal : Cert.TailIdeal.Facts] [hPre_tail_finite : Cert.Pre_tail_finite.Facts] : Prop :=
  ∀ (m : (ℓ : Loc Cert.TailIdeal.nD Cert.TailIdeal.τ Cert.TailIdeal.sig) → Buf (Elt Ideal) ℓ) (g : Dev Cert.TailIdeal.nD → PrngReg), Pre_TailIdeal_tail_finite m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6))
      ∧ r.2.sem = fun _ => 0)

def quiescent_TailRefIdeal_pre_tail_finite [hTailRefIdeal : Cert.TailRefIdeal.Facts] [hPre_tail_finite : Cert.Pre_tail_finite.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_tail_finite m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6))
      ∧ r.2.sem = fun _ => 0)

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v4_0)) (v1 : (c : Dev Cert.FwdIdeal.nD) → Buf (Elt Ideal) ((c.tc : Thread Cert.FwdIdeal.nD Cert.FwdIdeal.τ).loc Cert.FwdIdeal.main_v4_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v4_0) = v0 c
          ∧ r.2.mem ((c.tc : Thread Cert.FwdIdeal.nD Cert.FwdIdeal.τ).loc Cert.FwdIdeal.main_v4_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v13) = v0 c
          ∧ r.2.mem ((c.tc : Thread Cert.FwdRefIdeal.nD Cert.FwdRefIdeal.τ).loc Cert.FwdRefIdeal.main_v14) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v5) = v0 c
          ∧ r.2.mem ((c.tc : Thread Cert.ProjRefIdeal.nD Cert.ProjRefIdeal.τ).loc Cert.ProjRefIdeal.main_v8) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Merge_MergeIdeal : Prop :=
  True

def algebraic_MergeIdeal_MergeRefIdeal_pre_merge_finite [hMergeIdeal : Cert.MergeIdeal.Facts] [hMergeRefIdeal : Cert.MergeRefIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_merge_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v8_0)) (v1 : (c : Dev Cert.MergeIdeal.nD) → Buf (Elt Ideal) ((c.tc : Thread Cert.MergeIdeal.nD Cert.MergeIdeal.τ).loc Cert.MergeIdeal.main_v8_1)) (v2 : (c : Dev Cert.MergeIdeal.nD) → Buf (Elt Ideal) ((c.tc : Thread Cert.MergeIdeal.nD Cert.MergeIdeal.τ).loc Cert.MergeIdeal.main_v8_3)) (v3 : (c : Dev Cert.MergeIdeal.nD) → Buf (Elt Ideal) ((c.tc : Thread Cert.MergeIdeal.nD Cert.MergeIdeal.τ).loc Cert.MergeIdeal.main_v8_4)) (v4 : (c : Dev Cert.MergeIdeal.nD) → Buf (Elt Ideal) ((c.tc : Thread Cert.MergeIdeal.nD Cert.MergeIdeal.τ).loc Cert.MergeIdeal.main_v8_5)) (v5 : (c : Dev Cert.MergeIdeal.nD) → Buf (Elt Ideal) ((c.tc : Thread Cert.MergeIdeal.nD Cert.MergeIdeal.τ).loc Cert.MergeIdeal.main_v8_6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8_0) = v0 c
          ∧ r.2.mem ((c.tc : Thread Cert.MergeIdeal.nD Cert.MergeIdeal.τ).loc Cert.MergeIdeal.main_v8_1) = v1 c
          ∧ r.2.mem ((c.tc : Thread Cert.MergeIdeal.nD Cert.MergeIdeal.τ).loc Cert.MergeIdeal.main_v8_3) = v2 c
          ∧ r.2.mem ((c.tc : Thread Cert.MergeIdeal.nD Cert.MergeIdeal.τ).loc Cert.MergeIdeal.main_v8_4) = v3 c
          ∧ r.2.mem ((c.tc : Thread Cert.MergeIdeal.nD Cert.MergeIdeal.τ).loc Cert.MergeIdeal.main_v8_5) = v4 c
          ∧ r.2.mem ((c.tc : Thread Cert.MergeIdeal.nD Cert.MergeIdeal.τ).loc Cert.MergeIdeal.main_v8_6) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v66) = v0 c
          ∧ r.2.mem ((c.tc : Thread Cert.MergeRefIdeal.nD Cert.MergeRefIdeal.τ).loc Cert.MergeRefIdeal.main_v62) = v1 c
          ∧ r.2.mem ((c.tc : Thread Cert.MergeRefIdeal.nD Cert.MergeRefIdeal.τ).loc Cert.MergeRefIdeal.main_v69) = v2 c
          ∧ r.2.mem ((c.tc : Thread Cert.MergeRefIdeal.nD Cert.MergeRefIdeal.τ).loc Cert.MergeRefIdeal.main_v72) = v3 c
          ∧ r.2.mem ((c.tc : Thread Cert.MergeRefIdeal.nD Cert.MergeRefIdeal.τ).loc Cert.MergeRefIdeal.main_v73) = v4 c
          ∧ r.2.mem ((c.tc : Thread Cert.MergeRefIdeal.nD Cert.MergeRefIdeal.τ).loc Cert.MergeRefIdeal.main_v74) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v36) = v0 c
          ∧ r.2.mem ((c.tc : Thread Cert.NormRefIdeal.nD Cert.NormRefIdeal.τ).loc Cert.NormRefIdeal.main_v37) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)) (v3 : (c : Dev Cert.SmallIdeal.nD) → Buf (Elt Ideal) ((c.tc : Thread Cert.SmallIdeal.nD Cert.SmallIdeal.τ).loc Cert.SmallIdeal.main_v0_3)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_v0_3) = v3 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v1) = v0 c
          ∧ r.2.mem ((c.tc : Thread Cert.SmallRefIdeal.nD Cert.SmallRefIdeal.τ).loc Cert.SmallRefIdeal.main_v25) = v1 c
          ∧ r.2.mem ((c.tc : Thread Cert.SmallRefIdeal.nD Cert.SmallRefIdeal.τ).loc Cert.SmallRefIdeal.main_v6) = v2 c
          ∧ r.2.mem ((c.tc : Thread Cert.SmallRefIdeal.nD Cert.SmallRefIdeal.τ).loc Cert.SmallRefIdeal.main_v12) = v3 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3))

def preserves_BigIn_BigInIdeal : Prop :=
  True

def algebraic_BigInIdeal_BigInRefIdeal [hBigInIdeal : Cert.BigInIdeal.Facts] [hBigInRefIdeal : Cert.BigInRefIdeal.Facts] : Prop :=
  ∀ (m : (ℓ : Loc Cert.BigInIdeal.nD Cert.BigInIdeal.τ Cert.BigInIdeal.sig) → Buf (Elt Ideal) ℓ) (g : Dev Cert.BigInIdeal.nD → PrngReg)
    (m' : (ℓ : Loc Cert.BigInRefIdeal.nD Cert.BigInRefIdeal.τ Cert.BigInRefIdeal.sig) → Buf (Elt Ideal) ℓ) (g' : Dev Cert.BigInRefIdeal.nD → PrngReg), Pre_BigInIdeal m →
    (∀ c : Dev Cert.BigInIdeal.nD,
      m' ((c.tc : Thread Cert.BigInRefIdeal.nD Cert.BigInRefIdeal.τ).loc Cert.BigInRefIdeal.main_arg0) = m ((c.tc : Thread Cert.BigInIdeal.nD Cert.BigInIdeal.τ).loc Cert.BigInIdeal.main_arg0)
      ∧ m' ((c.tc : Thread Cert.BigInRefIdeal.nD Cert.BigInRefIdeal.τ).loc Cert.BigInRefIdeal.main_arg1) = m ((c.tc : Thread Cert.BigInIdeal.nD Cert.BigInIdeal.τ).loc Cert.BigInIdeal.main_arg1)
      ∧ m' ((c.tc : Thread Cert.BigInRefIdeal.nD Cert.BigInRefIdeal.τ).loc Cert.BigInRefIdeal.main_arg2) = m ((c.tc : Thread Cert.BigInIdeal.nD Cert.BigInIdeal.τ).loc Cert.BigInIdeal.main_arg2)
      ∧ m' ((c.tc : Thread Cert.BigInRefIdeal.nD Cert.BigInRefIdeal.τ).loc Cert.BigInRefIdeal.main_arg3) = m ((c.tc : Thread Cert.BigInIdeal.nD Cert.BigInIdeal.τ).loc Cert.BigInIdeal.main_arg3)
      ∧ m' ((c.tc : Thread Cert.BigInRefIdeal.nD Cert.BigInRefIdeal.τ).loc Cert.BigInRefIdeal.main_arg4) = m ((c.tc : Thread Cert.BigInIdeal.nD Cert.BigInIdeal.τ).loc Cert.BigInIdeal.main_arg4)
      ∧ m' ((c.tc : Thread Cert.BigInRefIdeal.nD Cert.BigInRefIdeal.τ).loc Cert.BigInRefIdeal.main_arg5) = m ((c.tc : Thread Cert.BigInIdeal.nD Cert.BigInIdeal.τ).loc Cert.BigInIdeal.main_arg5)
      ∧ m' ((c.tc : Thread Cert.BigInRefIdeal.nD Cert.BigInRefIdeal.τ).loc Cert.BigInRefIdeal.main_arg6) = m ((c.tc : Thread Cert.BigInIdeal.nD Cert.BigInIdeal.τ).loc Cert.BigInIdeal.main_arg6)
      ∧ m' ((c.tc : Thread Cert.BigInRefIdeal.nD Cert.BigInRefIdeal.τ).loc Cert.BigInRefIdeal.main_arg7) = m ((c.tc : Thread Cert.BigInIdeal.nD Cert.BigInIdeal.τ).loc Cert.BigInIdeal.main_arg7)
      ∧ m' ((c.tc : Thread Cert.BigInRefIdeal.nD Cert.BigInRefIdeal.τ).loc Cert.BigInRefIdeal.main_arg8) = m ((c.tc : Thread Cert.BigInIdeal.nD Cert.BigInIdeal.τ).loc Cert.BigInIdeal.main_arg8)) →
    ∃ (v0 : (c : Dev Cert.BigInIdeal.nD) → Buf (Elt Ideal) ((c.tc : Thread Cert.BigInIdeal.nD Cert.BigInIdeal.τ).loc Cert.BigInIdeal.main_v0_0)) (v1 : (c : Dev Cert.BigInIdeal.nD) → Buf (Elt Ideal) ((c.tc : Thread Cert.BigInIdeal.nD Cert.BigInIdeal.τ).loc Cert.BigInIdeal.main_v0_1)) (v2 : (c : Dev Cert.BigInIdeal.nD) → Buf (Elt Ideal) ((c.tc : Thread Cert.BigInIdeal.nD Cert.BigInIdeal.τ).loc Cert.BigInIdeal.main_v0_2)) (v3 : (c : Dev Cert.BigInIdeal.nD) → Buf (Elt Ideal) ((c.tc : Thread Cert.BigInIdeal.nD Cert.BigInIdeal.τ).loc Cert.BigInIdeal.main_v0_3)),
      θ_run (Cert.BigInIdeal.defs (F := Ideal)) (onTc (τ := Cert.BigInIdeal.τ) (Cert.BigInIdeal.main (F := Ideal))) ⟨m, fun _ => 0, g⟩ (fun r => ∀ c : Dev Cert.BigInIdeal.nD,
          r.2.mem ((c.tc : Thread Cert.BigInIdeal.nD Cert.BigInIdeal.τ).loc Cert.BigInIdeal.main_v0_0) = v0 c
          ∧ r.2.mem ((c.tc : Thread Cert.BigInIdeal.nD Cert.BigInIdeal.τ).loc Cert.BigInIdeal.main_v0_1) = v1 c
          ∧ r.2.mem ((c.tc : Thread Cert.BigInIdeal.nD Cert.BigInIdeal.τ).loc Cert.BigInIdeal.main_v0_2) = v2 c
          ∧ r.2.mem ((c.tc : Thread Cert.BigInIdeal.nD Cert.BigInIdeal.τ).loc Cert.BigInIdeal.main_v0_3) = v3 c
          ∧ r.2.mem ((c.tc : Thread Cert.BigInIdeal.nD Cert.BigInIdeal.τ).loc Cert.BigInIdeal.main_arg0) = m ((c.tc : Thread Cert.BigInIdeal.nD Cert.BigInIdeal.τ).loc Cert.BigInIdeal.main_arg0)
          ∧ r.2.mem ((c.tc : Thread Cert.BigInIdeal.nD Cert.BigInIdeal.τ).loc Cert.BigInIdeal.main_arg1) = m ((c.tc : Thread Cert.BigInIdeal.nD Cert.BigInIdeal.τ).loc Cert.BigInIdeal.main_arg1)
          ∧ r.2.mem ((c.tc : Thread Cert.BigInIdeal.nD Cert.BigInIdeal.τ).loc Cert.BigInIdeal.main_arg2) = m ((c.tc : Thread Cert.BigInIdeal.nD Cert.BigInIdeal.τ).loc Cert.BigInIdeal.main_arg2)
          ∧ r.2.mem ((c.tc : Thread Cert.BigInIdeal.nD Cert.BigInIdeal.τ).loc Cert.BigInIdeal.main_arg3) = m ((c.tc : Thread Cert.BigInIdeal.nD Cert.BigInIdeal.τ).loc Cert.BigInIdeal.main_arg3)
          ∧ r.2.mem ((c.tc : Thread Cert.BigInIdeal.nD Cert.BigInIdeal.τ).loc Cert.BigInIdeal.main_arg4) = m ((c.tc : Thread Cert.BigInIdeal.nD Cert.BigInIdeal.τ).loc Cert.BigInIdeal.main_arg4)
          ∧ r.2.mem ((c.tc : Thread Cert.BigInIdeal.nD Cert.BigInIdeal.τ).loc Cert.BigInIdeal.main_arg5) = m ((c.tc : Thread Cert.BigInIdeal.nD Cert.BigInIdeal.τ).loc Cert.BigInIdeal.main_arg5)
          ∧ r.2.mem ((c.tc : Thread Cert.BigInIdeal.nD Cert.BigInIdeal.τ).loc Cert.BigInIdeal.main_arg6) = m ((c.tc : Thread Cert.BigInIdeal.nD Cert.BigInIdeal.τ).loc Cert.BigInIdeal.main_arg6)
          ∧ r.2.mem ((c.tc : Thread Cert.BigInIdeal.nD Cert.BigInIdeal.τ).loc Cert.BigInIdeal.main_arg7) = m ((c.tc : Thread Cert.BigInIdeal.nD Cert.BigInIdeal.τ).loc Cert.BigInIdeal.main_arg7)
          ∧ r.2.mem ((c.tc : Thread Cert.BigInIdeal.nD Cert.BigInIdeal.τ).loc Cert.BigInIdeal.main_arg8) = m ((c.tc : Thread Cert.BigInIdeal.nD Cert.BigInIdeal.τ).loc Cert.BigInIdeal.main_arg8))
      ∧ θ_run (Cert.BigInRefIdeal.defs (F := Ideal)) (onTc (τ := Cert.BigInRefIdeal.τ) (Cert.BigInRefIdeal.main (F := Ideal))) ⟨m', fun _ => 0, g'⟩ (fun r => ∀ c : Dev Cert.BigInRefIdeal.nD,
          r.2.mem ((c.tc : Thread Cert.BigInRefIdeal.nD Cert.BigInRefIdeal.τ).loc Cert.BigInRefIdeal.main_v37) = v0 c
          ∧ r.2.mem ((c.tc : Thread Cert.BigInRefIdeal.nD Cert.BigInRefIdeal.τ).loc Cert.BigInRefIdeal.main_v40) = v1 c
          ∧ r.2.mem ((c.tc : Thread Cert.BigInRefIdeal.nD Cert.BigInRefIdeal.τ).loc Cert.BigInRefIdeal.main_v43) = v2 c
          ∧ r.2.mem ((c.tc : Thread Cert.BigInRefIdeal.nD Cert.BigInRefIdeal.τ).loc Cert.BigInRefIdeal.main_v46) = v3 c
          ∧ r.2.mem ((c.tc : Thread Cert.BigInRefIdeal.nD Cert.BigInRefIdeal.τ).loc Cert.BigInRefIdeal.main_arg0) = m' ((c.tc : Thread Cert.BigInRefIdeal.nD Cert.BigInRefIdeal.τ).loc Cert.BigInRefIdeal.main_arg0)
          ∧ r.2.mem ((c.tc : Thread Cert.BigInRefIdeal.nD Cert.BigInRefIdeal.τ).loc Cert.BigInRefIdeal.main_arg1) = m' ((c.tc : Thread Cert.BigInRefIdeal.nD Cert.BigInRefIdeal.τ).loc Cert.BigInRefIdeal.main_arg1)
          ∧ r.2.mem ((c.tc : Thread Cert.BigInRefIdeal.nD Cert.BigInRefIdeal.τ).loc Cert.BigInRefIdeal.main_arg2) = m' ((c.tc : Thread Cert.BigInRefIdeal.nD Cert.BigInRefIdeal.τ).loc Cert.BigInRefIdeal.main_arg2)
          ∧ r.2.mem ((c.tc : Thread Cert.BigInRefIdeal.nD Cert.BigInRefIdeal.τ).loc Cert.BigInRefIdeal.main_arg3) = m' ((c.tc : Thread Cert.BigInRefIdeal.nD Cert.BigInRefIdeal.τ).loc Cert.BigInRefIdeal.main_arg3)
          ∧ r.2.mem ((c.tc : Thread Cert.BigInRefIdeal.nD Cert.BigInRefIdeal.τ).loc Cert.BigInRefIdeal.main_arg4) = m' ((c.tc : Thread Cert.BigInRefIdeal.nD Cert.BigInRefIdeal.τ).loc Cert.BigInRefIdeal.main_arg4)
          ∧ r.2.mem ((c.tc : Thread Cert.BigInRefIdeal.nD Cert.BigInRefIdeal.τ).loc Cert.BigInRefIdeal.main_arg5) = m' ((c.tc : Thread Cert.BigInRefIdeal.nD Cert.BigInRefIdeal.τ).loc Cert.BigInRefIdeal.main_arg5)
          ∧ r.2.mem ((c.tc : Thread Cert.BigInRefIdeal.nD Cert.BigInRefIdeal.τ).loc Cert.BigInRefIdeal.main_arg6) = m' ((c.tc : Thread Cert.BigInRefIdeal.nD Cert.BigInRefIdeal.τ).loc Cert.BigInRefIdeal.main_arg6)
          ∧ r.2.mem ((c.tc : Thread Cert.BigInRefIdeal.nD Cert.BigInRefIdeal.τ).loc Cert.BigInRefIdeal.main_arg7) = m' ((c.tc : Thread Cert.BigInRefIdeal.nD Cert.BigInRefIdeal.τ).loc Cert.BigInRefIdeal.main_arg7)
          ∧ r.2.mem ((c.tc : Thread Cert.BigInRefIdeal.nD Cert.BigInRefIdeal.τ).loc Cert.BigInRefIdeal.main_arg8) = m' ((c.tc : Thread Cert.BigInRefIdeal.nD Cert.BigInRefIdeal.τ).loc Cert.BigInRefIdeal.main_arg8))

def preserves_BigGlu_BigGluIdeal : Prop :=
  True

def algebraic_BigGluIdeal_BigGluRefIdeal [hBigGluIdeal : Cert.BigGluIdeal.Facts] [hBigGluRefIdeal : Cert.BigGluRefIdeal.Facts] : Prop :=
  ∀ (m : (ℓ : Loc Cert.BigGluIdeal.nD Cert.BigGluIdeal.τ Cert.BigGluIdeal.sig) → Buf (Elt Ideal) ℓ) (g : Dev Cert.BigGluIdeal.nD → PrngReg)
    (m' : (ℓ : Loc Cert.BigGluRefIdeal.nD Cert.BigGluRefIdeal.τ Cert.BigGluRefIdeal.sig) → Buf (Elt Ideal) ℓ) (g' : Dev Cert.BigGluRefIdeal.nD → PrngReg), Pre_BigGluIdeal m →
    (∀ c : Dev Cert.BigGluIdeal.nD,
      m' ((c.tc : Thread Cert.BigGluRefIdeal.nD Cert.BigGluRefIdeal.τ).loc Cert.BigGluRefIdeal.main_arg0) = m ((c.tc : Thread Cert.BigGluIdeal.nD Cert.BigGluIdeal.τ).loc Cert.BigGluIdeal.main_arg0)
      ∧ m' ((c.tc : Thread Cert.BigGluRefIdeal.nD Cert.BigGluRefIdeal.τ).loc Cert.BigGluRefIdeal.main_arg1) = m ((c.tc : Thread Cert.BigGluIdeal.nD Cert.BigGluIdeal.τ).loc Cert.BigGluIdeal.main_arg1)
      ∧ m' ((c.tc : Thread Cert.BigGluRefIdeal.nD Cert.BigGluRefIdeal.τ).loc Cert.BigGluRefIdeal.main_arg2) = m ((c.tc : Thread Cert.BigGluIdeal.nD Cert.BigGluIdeal.τ).loc Cert.BigGluIdeal.main_arg2)
      ∧ m' ((c.tc : Thread Cert.BigGluRefIdeal.nD Cert.BigGluRefIdeal.τ).loc Cert.BigGluRefIdeal.main_arg3) = m ((c.tc : Thread Cert.BigGluIdeal.nD Cert.BigGluIdeal.τ).loc Cert.BigGluIdeal.main_arg3)
      ∧ m' ((c.tc : Thread Cert.BigGluRefIdeal.nD Cert.BigGluRefIdeal.τ).loc Cert.BigGluRefIdeal.main_arg4) = m ((c.tc : Thread Cert.BigGluIdeal.nD Cert.BigGluIdeal.τ).loc Cert.BigGluIdeal.main_arg4)
      ∧ m' ((c.tc : Thread Cert.BigGluRefIdeal.nD Cert.BigGluRefIdeal.τ).loc Cert.BigGluRefIdeal.main_arg5) = m ((c.tc : Thread Cert.BigGluIdeal.nD Cert.BigGluIdeal.τ).loc Cert.BigGluIdeal.main_arg5)
      ∧ m' ((c.tc : Thread Cert.BigGluRefIdeal.nD Cert.BigGluRefIdeal.τ).loc Cert.BigGluRefIdeal.main_arg6) = m ((c.tc : Thread Cert.BigGluIdeal.nD Cert.BigGluIdeal.τ).loc Cert.BigGluIdeal.main_arg6)
      ∧ m' ((c.tc : Thread Cert.BigGluRefIdeal.nD Cert.BigGluRefIdeal.τ).loc Cert.BigGluRefIdeal.main_arg7) = m ((c.tc : Thread Cert.BigGluIdeal.nD Cert.BigGluIdeal.τ).loc Cert.BigGluIdeal.main_arg7)
      ∧ m' ((c.tc : Thread Cert.BigGluRefIdeal.nD Cert.BigGluRefIdeal.τ).loc Cert.BigGluRefIdeal.main_arg8) = m ((c.tc : Thread Cert.BigGluIdeal.nD Cert.BigGluIdeal.τ).loc Cert.BigGluIdeal.main_arg8)) →
    ∃ (v0 : (c : Dev Cert.BigGluIdeal.nD) → Buf (Elt Ideal) ((c.tc : Thread Cert.BigGluIdeal.nD Cert.BigGluIdeal.τ).loc Cert.BigGluIdeal.main_v0_0)) (v1 : (c : Dev Cert.BigGluIdeal.nD) → Buf (Elt Ideal) ((c.tc : Thread Cert.BigGluIdeal.nD Cert.BigGluIdeal.τ).loc Cert.BigGluIdeal.main_v0_1)) (v2 : (c : Dev Cert.BigGluIdeal.nD) → Buf (Elt Ideal) ((c.tc : Thread Cert.BigGluIdeal.nD Cert.BigGluIdeal.τ).loc Cert.BigGluIdeal.main_v0_2)) (v3 : (c : Dev Cert.BigGluIdeal.nD) → Buf (Elt Ideal) ((c.tc : Thread Cert.BigGluIdeal.nD Cert.BigGluIdeal.τ).loc Cert.BigGluIdeal.main_v0_3)),
      θ_run (Cert.BigGluIdeal.defs (F := Ideal)) (onTc (τ := Cert.BigGluIdeal.τ) (Cert.BigGluIdeal.main (F := Ideal))) ⟨m, fun _ => 0, g⟩ (fun r => ∀ c : Dev Cert.BigGluIdeal.nD,
          r.2.mem ((c.tc : Thread Cert.BigGluIdeal.nD Cert.BigGluIdeal.τ).loc Cert.BigGluIdeal.main_v0_0) = v0 c
          ∧ r.2.mem ((c.tc : Thread Cert.BigGluIdeal.nD Cert.BigGluIdeal.τ).loc Cert.BigGluIdeal.main_v0_1) = v1 c
          ∧ r.2.mem ((c.tc : Thread Cert.BigGluIdeal.nD Cert.BigGluIdeal.τ).loc Cert.BigGluIdeal.main_v0_2) = v2 c
          ∧ r.2.mem ((c.tc : Thread Cert.BigGluIdeal.nD Cert.BigGluIdeal.τ).loc Cert.BigGluIdeal.main_v0_3) = v3 c
          ∧ r.2.mem ((c.tc : Thread Cert.BigGluIdeal.nD Cert.BigGluIdeal.τ).loc Cert.BigGluIdeal.main_arg0) = m ((c.tc : Thread Cert.BigGluIdeal.nD Cert.BigGluIdeal.τ).loc Cert.BigGluIdeal.main_arg0)
          ∧ r.2.mem ((c.tc : Thread Cert.BigGluIdeal.nD Cert.BigGluIdeal.τ).loc Cert.BigGluIdeal.main_arg1) = m ((c.tc : Thread Cert.BigGluIdeal.nD Cert.BigGluIdeal.τ).loc Cert.BigGluIdeal.main_arg1)
          ∧ r.2.mem ((c.tc : Thread Cert.BigGluIdeal.nD Cert.BigGluIdeal.τ).loc Cert.BigGluIdeal.main_arg2) = m ((c.tc : Thread Cert.BigGluIdeal.nD Cert.BigGluIdeal.τ).loc Cert.BigGluIdeal.main_arg2)
          ∧ r.2.mem ((c.tc : Thread Cert.BigGluIdeal.nD Cert.BigGluIdeal.τ).loc Cert.BigGluIdeal.main_arg3) = m ((c.tc : Thread Cert.BigGluIdeal.nD Cert.BigGluIdeal.τ).loc Cert.BigGluIdeal.main_arg3)
          ∧ r.2.mem ((c.tc : Thread Cert.BigGluIdeal.nD Cert.BigGluIdeal.τ).loc Cert.BigGluIdeal.main_arg4) = m ((c.tc : Thread Cert.BigGluIdeal.nD Cert.BigGluIdeal.τ).loc Cert.BigGluIdeal.main_arg4)
          ∧ r.2.mem ((c.tc : Thread Cert.BigGluIdeal.nD Cert.BigGluIdeal.τ).loc Cert.BigGluIdeal.main_arg5) = m ((c.tc : Thread Cert.BigGluIdeal.nD Cert.BigGluIdeal.τ).loc Cert.BigGluIdeal.main_arg5)
          ∧ r.2.mem ((c.tc : Thread Cert.BigGluIdeal.nD Cert.BigGluIdeal.τ).loc Cert.BigGluIdeal.main_arg6) = m ((c.tc : Thread Cert.BigGluIdeal.nD Cert.BigGluIdeal.τ).loc Cert.BigGluIdeal.main_arg6)
          ∧ r.2.mem ((c.tc : Thread Cert.BigGluIdeal.nD Cert.BigGluIdeal.τ).loc Cert.BigGluIdeal.main_arg7) = m ((c.tc : Thread Cert.BigGluIdeal.nD Cert.BigGluIdeal.τ).loc Cert.BigGluIdeal.main_arg7)
          ∧ r.2.mem ((c.tc : Thread Cert.BigGluIdeal.nD Cert.BigGluIdeal.τ).loc Cert.BigGluIdeal.main_arg8) = m ((c.tc : Thread Cert.BigGluIdeal.nD Cert.BigGluIdeal.τ).loc Cert.BigGluIdeal.main_arg8))
      ∧ θ_run (Cert.BigGluRefIdeal.defs (F := Ideal)) (onTc (τ := Cert.BigGluRefIdeal.τ) (Cert.BigGluRefIdeal.main (F := Ideal))) ⟨m', fun _ => 0, g'⟩ (fun r => ∀ c : Dev Cert.BigGluRefIdeal.nD,
          r.2.mem ((c.tc : Thread Cert.BigGluRefIdeal.nD Cert.BigGluRefIdeal.τ).loc Cert.BigGluRefIdeal.main_v37) = v0 c
          ∧ r.2.mem ((c.tc : Thread Cert.BigGluRefIdeal.nD Cert.BigGluRefIdeal.τ).loc Cert.BigGluRefIdeal.main_v40) = v1 c
          ∧ r.2.mem ((c.tc : Thread Cert.BigGluRefIdeal.nD Cert.BigGluRefIdeal.τ).loc Cert.BigGluRefIdeal.main_v43) = v2 c
          ∧ r.2.mem ((c.tc : Thread Cert.BigGluRefIdeal.nD Cert.BigGluRefIdeal.τ).loc Cert.BigGluRefIdeal.main_v46) = v3 c
          ∧ r.2.mem ((c.tc : Thread Cert.BigGluRefIdeal.nD Cert.BigGluRefIdeal.τ).loc Cert.BigGluRefIdeal.main_arg0) = m' ((c.tc : Thread Cert.BigGluRefIdeal.nD Cert.BigGluRefIdeal.τ).loc Cert.BigGluRefIdeal.main_arg0)
          ∧ r.2.mem ((c.tc : Thread Cert.BigGluRefIdeal.nD Cert.BigGluRefIdeal.τ).loc Cert.BigGluRefIdeal.main_arg1) = m' ((c.tc : Thread Cert.BigGluRefIdeal.nD Cert.BigGluRefIdeal.τ).loc Cert.BigGluRefIdeal.main_arg1)
          ∧ r.2.mem ((c.tc : Thread Cert.BigGluRefIdeal.nD Cert.BigGluRefIdeal.τ).loc Cert.BigGluRefIdeal.main_arg2) = m' ((c.tc : Thread Cert.BigGluRefIdeal.nD Cert.BigGluRefIdeal.τ).loc Cert.BigGluRefIdeal.main_arg2)
          ∧ r.2.mem ((c.tc : Thread Cert.BigGluRefIdeal.nD Cert.BigGluRefIdeal.τ).loc Cert.BigGluRefIdeal.main_arg3) = m' ((c.tc : Thread Cert.BigGluRefIdeal.nD Cert.BigGluRefIdeal.τ).loc Cert.BigGluRefIdeal.main_arg3)
          ∧ r.2.mem ((c.tc : Thread Cert.BigGluRefIdeal.nD Cert.BigGluRefIdeal.τ).loc Cert.BigGluRefIdeal.main_arg4) = m' ((c.tc : Thread Cert.BigGluRefIdeal.nD Cert.BigGluRefIdeal.τ).loc Cert.BigGluRefIdeal.main_arg4)
          ∧ r.2.mem ((c.tc : Thread Cert.BigGluRefIdeal.nD Cert.BigGluRefIdeal.τ).loc Cert.BigGluRefIdeal.main_arg5) = m' ((c.tc : Thread Cert.BigGluRefIdeal.nD Cert.BigGluRefIdeal.τ).loc Cert.BigGluRefIdeal.main_arg5)
          ∧ r.2.mem ((c.tc : Thread Cert.BigGluRefIdeal.nD Cert.BigGluRefIdeal.τ).loc Cert.BigGluRefIdeal.main_arg6) = m' ((c.tc : Thread Cert.BigGluRefIdeal.nD Cert.BigGluRefIdeal.τ).loc Cert.BigGluRefIdeal.main_arg6)
          ∧ r.2.mem ((c.tc : Thread Cert.BigGluRefIdeal.nD Cert.BigGluRefIdeal.τ).loc Cert.BigGluRefIdeal.main_arg7) = m' ((c.tc : Thread Cert.BigGluRefIdeal.nD Cert.BigGluRefIdeal.τ).loc Cert.BigGluRefIdeal.main_arg7)
          ∧ r.2.mem ((c.tc : Thread Cert.BigGluRefIdeal.nD Cert.BigGluRefIdeal.τ).loc Cert.BigGluRefIdeal.main_arg8) = m' ((c.tc : Thread Cert.BigGluRefIdeal.nD Cert.BigGluRefIdeal.τ).loc Cert.BigGluRefIdeal.main_arg8))

def preserves_BigBranch_BigBranchIdeal : Prop :=
  True

def algebraic_BigBranchIdeal_BigBranchRefIdeal [hBigBranchIdeal : Cert.BigBranchIdeal.Facts] [hBigBranchRefIdeal : Cert.BigBranchRefIdeal.Facts] : Prop :=
  ∀ (m : (ℓ : Loc Cert.BigBranchIdeal.nD Cert.BigBranchIdeal.τ Cert.BigBranchIdeal.sig) → Buf (Elt Ideal) ℓ) (g : Dev Cert.BigBranchIdeal.nD → PrngReg)
    (m' : (ℓ : Loc Cert.BigBranchRefIdeal.nD Cert.BigBranchRefIdeal.τ Cert.BigBranchRefIdeal.sig) → Buf (Elt Ideal) ℓ) (g' : Dev Cert.BigBranchRefIdeal.nD → PrngReg), Pre_BigBranchIdeal m →
    (∀ c : Dev Cert.BigBranchIdeal.nD,
      m' ((c.tc : Thread Cert.BigBranchRefIdeal.nD Cert.BigBranchRefIdeal.τ).loc Cert.BigBranchRefIdeal.main_arg0) = m ((c.tc : Thread Cert.BigBranchIdeal.nD Cert.BigBranchIdeal.τ).loc Cert.BigBranchIdeal.main_arg0)
      ∧ m' ((c.tc : Thread Cert.BigBranchRefIdeal.nD Cert.BigBranchRefIdeal.τ).loc Cert.BigBranchRefIdeal.main_arg1) = m ((c.tc : Thread Cert.BigBranchIdeal.nD Cert.BigBranchIdeal.τ).loc Cert.BigBranchIdeal.main_arg1)
      ∧ m' ((c.tc : Thread Cert.BigBranchRefIdeal.nD Cert.BigBranchRefIdeal.τ).loc Cert.BigBranchRefIdeal.main_arg2) = m ((c.tc : Thread Cert.BigBranchIdeal.nD Cert.BigBranchIdeal.τ).loc Cert.BigBranchIdeal.main_arg2)
      ∧ m' ((c.tc : Thread Cert.BigBranchRefIdeal.nD Cert.BigBranchRefIdeal.τ).loc Cert.BigBranchRefIdeal.main_arg3) = m ((c.tc : Thread Cert.BigBranchIdeal.nD Cert.BigBranchIdeal.τ).loc Cert.BigBranchIdeal.main_arg3)
      ∧ m' ((c.tc : Thread Cert.BigBranchRefIdeal.nD Cert.BigBranchRefIdeal.τ).loc Cert.BigBranchRefIdeal.main_arg4) = m ((c.tc : Thread Cert.BigBranchIdeal.nD Cert.BigBranchIdeal.τ).loc Cert.BigBranchIdeal.main_arg4)
      ∧ m' ((c.tc : Thread Cert.BigBranchRefIdeal.nD Cert.BigBranchRefIdeal.τ).loc Cert.BigBranchRefIdeal.main_arg5) = m ((c.tc : Thread Cert.BigBranchIdeal.nD Cert.BigBranchIdeal.τ).loc Cert.BigBranchIdeal.main_arg5)
      ∧ m' ((c.tc : Thread Cert.BigBranchRefIdeal.nD Cert.BigBranchRefIdeal.τ).loc Cert.BigBranchRefIdeal.main_arg6) = m ((c.tc : Thread Cert.BigBranchIdeal.nD Cert.BigBranchIdeal.τ).loc Cert.BigBranchIdeal.main_arg6)
      ∧ m' ((c.tc : Thread Cert.BigBranchRefIdeal.nD Cert.BigBranchRefIdeal.τ).loc Cert.BigBranchRefIdeal.main_arg7) = m ((c.tc : Thread Cert.BigBranchIdeal.nD Cert.BigBranchIdeal.τ).loc Cert.BigBranchIdeal.main_arg7)
      ∧ m' ((c.tc : Thread Cert.BigBranchRefIdeal.nD Cert.BigBranchRefIdeal.τ).loc Cert.BigBranchRefIdeal.main_arg8) = m ((c.tc : Thread Cert.BigBranchIdeal.nD Cert.BigBranchIdeal.τ).loc Cert.BigBranchIdeal.main_arg8)) →
    ∃ (v0 : (c : Dev Cert.BigBranchIdeal.nD) → Buf (Elt Ideal) ((c.tc : Thread Cert.BigBranchIdeal.nD Cert.BigBranchIdeal.τ).loc Cert.BigBranchIdeal.main_v0_0)) (v1 : (c : Dev Cert.BigBranchIdeal.nD) → Buf (Elt Ideal) ((c.tc : Thread Cert.BigBranchIdeal.nD Cert.BigBranchIdeal.τ).loc Cert.BigBranchIdeal.main_v0_1)) (v2 : (c : Dev Cert.BigBranchIdeal.nD) → Buf (Elt Ideal) ((c.tc : Thread Cert.BigBranchIdeal.nD Cert.BigBranchIdeal.τ).loc Cert.BigBranchIdeal.main_v0_2)) (v3 : (c : Dev Cert.BigBranchIdeal.nD) → Buf (Elt Ideal) ((c.tc : Thread Cert.BigBranchIdeal.nD Cert.BigBranchIdeal.τ).loc Cert.BigBranchIdeal.main_v0_3)),
      θ_run (Cert.BigBranchIdeal.defs (F := Ideal)) (onTc (τ := Cert.BigBranchIdeal.τ) (Cert.BigBranchIdeal.main (F := Ideal))) ⟨m, fun _ => 0, g⟩ (fun r => ∀ c : Dev Cert.BigBranchIdeal.nD,
          r.2.mem ((c.tc : Thread Cert.BigBranchIdeal.nD Cert.BigBranchIdeal.τ).loc Cert.BigBranchIdeal.main_v0_0) = v0 c
          ∧ r.2.mem ((c.tc : Thread Cert.BigBranchIdeal.nD Cert.BigBranchIdeal.τ).loc Cert.BigBranchIdeal.main_v0_1) = v1 c
          ∧ r.2.mem ((c.tc : Thread Cert.BigBranchIdeal.nD Cert.BigBranchIdeal.τ).loc Cert.BigBranchIdeal.main_v0_2) = v2 c
          ∧ r.2.mem ((c.tc : Thread Cert.BigBranchIdeal.nD Cert.BigBranchIdeal.τ).loc Cert.BigBranchIdeal.main_v0_3) = v3 c
          ∧ r.2.mem ((c.tc : Thread Cert.BigBranchIdeal.nD Cert.BigBranchIdeal.τ).loc Cert.BigBranchIdeal.main_arg0) = m ((c.tc : Thread Cert.BigBranchIdeal.nD Cert.BigBranchIdeal.τ).loc Cert.BigBranchIdeal.main_arg0)
          ∧ r.2.mem ((c.tc : Thread Cert.BigBranchIdeal.nD Cert.BigBranchIdeal.τ).loc Cert.BigBranchIdeal.main_arg1) = m ((c.tc : Thread Cert.BigBranchIdeal.nD Cert.BigBranchIdeal.τ).loc Cert.BigBranchIdeal.main_arg1)
          ∧ r.2.mem ((c.tc : Thread Cert.BigBranchIdeal.nD Cert.BigBranchIdeal.τ).loc Cert.BigBranchIdeal.main_arg2) = m ((c.tc : Thread Cert.BigBranchIdeal.nD Cert.BigBranchIdeal.τ).loc Cert.BigBranchIdeal.main_arg2)
          ∧ r.2.mem ((c.tc : Thread Cert.BigBranchIdeal.nD Cert.BigBranchIdeal.τ).loc Cert.BigBranchIdeal.main_arg3) = m ((c.tc : Thread Cert.BigBranchIdeal.nD Cert.BigBranchIdeal.τ).loc Cert.BigBranchIdeal.main_arg3)
          ∧ r.2.mem ((c.tc : Thread Cert.BigBranchIdeal.nD Cert.BigBranchIdeal.τ).loc Cert.BigBranchIdeal.main_arg4) = m ((c.tc : Thread Cert.BigBranchIdeal.nD Cert.BigBranchIdeal.τ).loc Cert.BigBranchIdeal.main_arg4)
          ∧ r.2.mem ((c.tc : Thread Cert.BigBranchIdeal.nD Cert.BigBranchIdeal.τ).loc Cert.BigBranchIdeal.main_arg5) = m ((c.tc : Thread Cert.BigBranchIdeal.nD Cert.BigBranchIdeal.τ).loc Cert.BigBranchIdeal.main_arg5)
          ∧ r.2.mem ((c.tc : Thread Cert.BigBranchIdeal.nD Cert.BigBranchIdeal.τ).loc Cert.BigBranchIdeal.main_arg6) = m ((c.tc : Thread Cert.BigBranchIdeal.nD Cert.BigBranchIdeal.τ).loc Cert.BigBranchIdeal.main_arg6)
          ∧ r.2.mem ((c.tc : Thread Cert.BigBranchIdeal.nD Cert.BigBranchIdeal.τ).loc Cert.BigBranchIdeal.main_arg7) = m ((c.tc : Thread Cert.BigBranchIdeal.nD Cert.BigBranchIdeal.τ).loc Cert.BigBranchIdeal.main_arg7)
          ∧ r.2.mem ((c.tc : Thread Cert.BigBranchIdeal.nD Cert.BigBranchIdeal.τ).loc Cert.BigBranchIdeal.main_arg8) = m ((c.tc : Thread Cert.BigBranchIdeal.nD Cert.BigBranchIdeal.τ).loc Cert.BigBranchIdeal.main_arg8))
      ∧ θ_run (Cert.BigBranchRefIdeal.defs (F := Ideal)) (onTc (τ := Cert.BigBranchRefIdeal.τ) (Cert.BigBranchRefIdeal.main (F := Ideal))) ⟨m', fun _ => 0, g'⟩ (fun r => ∀ c : Dev Cert.BigBranchRefIdeal.nD,
          r.2.mem ((c.tc : Thread Cert.BigBranchRefIdeal.nD Cert.BigBranchRefIdeal.τ).loc Cert.BigBranchRefIdeal.main_v37) = v0 c
          ∧ r.2.mem ((c.tc : Thread Cert.BigBranchRefIdeal.nD Cert.BigBranchRefIdeal.τ).loc Cert.BigBranchRefIdeal.main_v40) = v1 c
          ∧ r.2.mem ((c.tc : Thread Cert.BigBranchRefIdeal.nD Cert.BigBranchRefIdeal.τ).loc Cert.BigBranchRefIdeal.main_v43) = v2 c
          ∧ r.2.mem ((c.tc : Thread Cert.BigBranchRefIdeal.nD Cert.BigBranchRefIdeal.τ).loc Cert.BigBranchRefIdeal.main_v46) = v3 c
          ∧ r.2.mem ((c.tc : Thread Cert.BigBranchRefIdeal.nD Cert.BigBranchRefIdeal.τ).loc Cert.BigBranchRefIdeal.main_arg0) = m' ((c.tc : Thread Cert.BigBranchRefIdeal.nD Cert.BigBranchRefIdeal.τ).loc Cert.BigBranchRefIdeal.main_arg0)
          ∧ r.2.mem ((c.tc : Thread Cert.BigBranchRefIdeal.nD Cert.BigBranchRefIdeal.τ).loc Cert.BigBranchRefIdeal.main_arg1) = m' ((c.tc : Thread Cert.BigBranchRefIdeal.nD Cert.BigBranchRefIdeal.τ).loc Cert.BigBranchRefIdeal.main_arg1)
          ∧ r.2.mem ((c.tc : Thread Cert.BigBranchRefIdeal.nD Cert.BigBranchRefIdeal.τ).loc Cert.BigBranchRefIdeal.main_arg2) = m' ((c.tc : Thread Cert.BigBranchRefIdeal.nD Cert.BigBranchRefIdeal.τ).loc Cert.BigBranchRefIdeal.main_arg2)
          ∧ r.2.mem ((c.tc : Thread Cert.BigBranchRefIdeal.nD Cert.BigBranchRefIdeal.τ).loc Cert.BigBranchRefIdeal.main_arg3) = m' ((c.tc : Thread Cert.BigBranchRefIdeal.nD Cert.BigBranchRefIdeal.τ).loc Cert.BigBranchRefIdeal.main_arg3)
          ∧ r.2.mem ((c.tc : Thread Cert.BigBranchRefIdeal.nD Cert.BigBranchRefIdeal.τ).loc Cert.BigBranchRefIdeal.main_arg4) = m' ((c.tc : Thread Cert.BigBranchRefIdeal.nD Cert.BigBranchRefIdeal.τ).loc Cert.BigBranchRefIdeal.main_arg4)
          ∧ r.2.mem ((c.tc : Thread Cert.BigBranchRefIdeal.nD Cert.BigBranchRefIdeal.τ).loc Cert.BigBranchRefIdeal.main_arg5) = m' ((c.tc : Thread Cert.BigBranchRefIdeal.nD Cert.BigBranchRefIdeal.τ).loc Cert.BigBranchRefIdeal.main_arg5)
          ∧ r.2.mem ((c.tc : Thread Cert.BigBranchRefIdeal.nD Cert.BigBranchRefIdeal.τ).loc Cert.BigBranchRefIdeal.main_arg6) = m' ((c.tc : Thread Cert.BigBranchRefIdeal.nD Cert.BigBranchRefIdeal.τ).loc Cert.BigBranchRefIdeal.main_arg6)
          ∧ r.2.mem ((c.tc : Thread Cert.BigBranchRefIdeal.nD Cert.BigBranchRefIdeal.τ).loc Cert.BigBranchRefIdeal.main_arg7) = m' ((c.tc : Thread Cert.BigBranchRefIdeal.nD Cert.BigBranchRefIdeal.τ).loc Cert.BigBranchRefIdeal.main_arg7)
          ∧ r.2.mem ((c.tc : Thread Cert.BigBranchRefIdeal.nD Cert.BigBranchRefIdeal.τ).loc Cert.BigBranchRefIdeal.main_arg8) = m' ((c.tc : Thread Cert.BigBranchRefIdeal.nD Cert.BigBranchRefIdeal.τ).loc Cert.BigBranchRefIdeal.main_arg8))

def preserves_BigOut_BigOutIdeal : Prop :=
  True

def algebraic_BigOutIdeal_BigOutRefIdeal [hBigOutIdeal : Cert.BigOutIdeal.Facts] [hBigOutRefIdeal : Cert.BigOutRefIdeal.Facts] : Prop :=
  ∀ (m : (ℓ : Loc Cert.BigOutIdeal.nD Cert.BigOutIdeal.τ Cert.BigOutIdeal.sig) → Buf (Elt Ideal) ℓ) (g : Dev Cert.BigOutIdeal.nD → PrngReg)
    (m' : (ℓ : Loc Cert.BigOutRefIdeal.nD Cert.BigOutRefIdeal.τ Cert.BigOutRefIdeal.sig) → Buf (Elt Ideal) ℓ) (g' : Dev Cert.BigOutRefIdeal.nD → PrngReg), Pre_BigOutIdeal m →
    (∀ c : Dev Cert.BigOutIdeal.nD,
      m' ((c.tc : Thread Cert.BigOutRefIdeal.nD Cert.BigOutRefIdeal.τ).loc Cert.BigOutRefIdeal.main_arg0) = m ((c.tc : Thread Cert.BigOutIdeal.nD Cert.BigOutIdeal.τ).loc Cert.BigOutIdeal.main_arg0)
      ∧ m' ((c.tc : Thread Cert.BigOutRefIdeal.nD Cert.BigOutRefIdeal.τ).loc Cert.BigOutRefIdeal.main_arg1) = m ((c.tc : Thread Cert.BigOutIdeal.nD Cert.BigOutIdeal.τ).loc Cert.BigOutIdeal.main_arg1)
      ∧ m' ((c.tc : Thread Cert.BigOutRefIdeal.nD Cert.BigOutRefIdeal.τ).loc Cert.BigOutRefIdeal.main_arg2) = m ((c.tc : Thread Cert.BigOutIdeal.nD Cert.BigOutIdeal.τ).loc Cert.BigOutIdeal.main_arg2)
      ∧ m' ((c.tc : Thread Cert.BigOutRefIdeal.nD Cert.BigOutRefIdeal.τ).loc Cert.BigOutRefIdeal.main_arg3) = m ((c.tc : Thread Cert.BigOutIdeal.nD Cert.BigOutIdeal.τ).loc Cert.BigOutIdeal.main_arg3)
      ∧ m' ((c.tc : Thread Cert.BigOutRefIdeal.nD Cert.BigOutRefIdeal.τ).loc Cert.BigOutRefIdeal.main_arg4) = m ((c.tc : Thread Cert.BigOutIdeal.nD Cert.BigOutIdeal.τ).loc Cert.BigOutIdeal.main_arg4)
      ∧ m' ((c.tc : Thread Cert.BigOutRefIdeal.nD Cert.BigOutRefIdeal.τ).loc Cert.BigOutRefIdeal.main_arg5) = m ((c.tc : Thread Cert.BigOutIdeal.nD Cert.BigOutIdeal.τ).loc Cert.BigOutIdeal.main_arg5)
      ∧ m' ((c.tc : Thread Cert.BigOutRefIdeal.nD Cert.BigOutRefIdeal.τ).loc Cert.BigOutRefIdeal.main_arg6) = m ((c.tc : Thread Cert.BigOutIdeal.nD Cert.BigOutIdeal.τ).loc Cert.BigOutIdeal.main_arg6)
      ∧ m' ((c.tc : Thread Cert.BigOutRefIdeal.nD Cert.BigOutRefIdeal.τ).loc Cert.BigOutRefIdeal.main_arg7) = m ((c.tc : Thread Cert.BigOutIdeal.nD Cert.BigOutIdeal.τ).loc Cert.BigOutIdeal.main_arg7)
      ∧ m' ((c.tc : Thread Cert.BigOutRefIdeal.nD Cert.BigOutRefIdeal.τ).loc Cert.BigOutRefIdeal.main_arg8) = m ((c.tc : Thread Cert.BigOutIdeal.nD Cert.BigOutIdeal.τ).loc Cert.BigOutIdeal.main_arg8)) →
    ∃ (v0 : (c : Dev Cert.BigOutIdeal.nD) → Buf (Elt Ideal) ((c.tc : Thread Cert.BigOutIdeal.nD Cert.BigOutIdeal.τ).loc Cert.BigOutIdeal.main_v0_0)) (v1 : (c : Dev Cert.BigOutIdeal.nD) → Buf (Elt Ideal) ((c.tc : Thread Cert.BigOutIdeal.nD Cert.BigOutIdeal.τ).loc Cert.BigOutIdeal.main_v0_1)) (v2 : (c : Dev Cert.BigOutIdeal.nD) → Buf (Elt Ideal) ((c.tc : Thread Cert.BigOutIdeal.nD Cert.BigOutIdeal.τ).loc Cert.BigOutIdeal.main_v0_2)) (v3 : (c : Dev Cert.BigOutIdeal.nD) → Buf (Elt Ideal) ((c.tc : Thread Cert.BigOutIdeal.nD Cert.BigOutIdeal.τ).loc Cert.BigOutIdeal.main_v0_3)),
      θ_run (Cert.BigOutIdeal.defs (F := Ideal)) (onTc (τ := Cert.BigOutIdeal.τ) (Cert.BigOutIdeal.main (F := Ideal))) ⟨m, fun _ => 0, g⟩ (fun r => ∀ c : Dev Cert.BigOutIdeal.nD,
          r.2.mem ((c.tc : Thread Cert.BigOutIdeal.nD Cert.BigOutIdeal.τ).loc Cert.BigOutIdeal.main_v0_0) = v0 c
          ∧ r.2.mem ((c.tc : Thread Cert.BigOutIdeal.nD Cert.BigOutIdeal.τ).loc Cert.BigOutIdeal.main_v0_1) = v1 c
          ∧ r.2.mem ((c.tc : Thread Cert.BigOutIdeal.nD Cert.BigOutIdeal.τ).loc Cert.BigOutIdeal.main_v0_2) = v2 c
          ∧ r.2.mem ((c.tc : Thread Cert.BigOutIdeal.nD Cert.BigOutIdeal.τ).loc Cert.BigOutIdeal.main_v0_3) = v3 c
          ∧ r.2.mem ((c.tc : Thread Cert.BigOutIdeal.nD Cert.BigOutIdeal.τ).loc Cert.BigOutIdeal.main_arg0) = m ((c.tc : Thread Cert.BigOutIdeal.nD Cert.BigOutIdeal.τ).loc Cert.BigOutIdeal.main_arg0)
          ∧ r.2.mem ((c.tc : Thread Cert.BigOutIdeal.nD Cert.BigOutIdeal.τ).loc Cert.BigOutIdeal.main_arg1) = m ((c.tc : Thread Cert.BigOutIdeal.nD Cert.BigOutIdeal.τ).loc Cert.BigOutIdeal.main_arg1)
          ∧ r.2.mem ((c.tc : Thread Cert.BigOutIdeal.nD Cert.BigOutIdeal.τ).loc Cert.BigOutIdeal.main_arg2) = m ((c.tc : Thread Cert.BigOutIdeal.nD Cert.BigOutIdeal.τ).loc Cert.BigOutIdeal.main_arg2)
          ∧ r.2.mem ((c.tc : Thread Cert.BigOutIdeal.nD Cert.BigOutIdeal.τ).loc Cert.BigOutIdeal.main_arg3) = m ((c.tc : Thread Cert.BigOutIdeal.nD Cert.BigOutIdeal.τ).loc Cert.BigOutIdeal.main_arg3)
          ∧ r.2.mem ((c.tc : Thread Cert.BigOutIdeal.nD Cert.BigOutIdeal.τ).loc Cert.BigOutIdeal.main_arg4) = m ((c.tc : Thread Cert.BigOutIdeal.nD Cert.BigOutIdeal.τ).loc Cert.BigOutIdeal.main_arg4)
          ∧ r.2.mem ((c.tc : Thread Cert.BigOutIdeal.nD Cert.BigOutIdeal.τ).loc Cert.BigOutIdeal.main_arg5) = m ((c.tc : Thread Cert.BigOutIdeal.nD Cert.BigOutIdeal.τ).loc Cert.BigOutIdeal.main_arg5)
          ∧ r.2.mem ((c.tc : Thread Cert.BigOutIdeal.nD Cert.BigOutIdeal.τ).loc Cert.BigOutIdeal.main_arg6) = m ((c.tc : Thread Cert.BigOutIdeal.nD Cert.BigOutIdeal.τ).loc Cert.BigOutIdeal.main_arg6)
          ∧ r.2.mem ((c.tc : Thread Cert.BigOutIdeal.nD Cert.BigOutIdeal.τ).loc Cert.BigOutIdeal.main_arg7) = m ((c.tc : Thread Cert.BigOutIdeal.nD Cert.BigOutIdeal.τ).loc Cert.BigOutIdeal.main_arg7)
          ∧ r.2.mem ((c.tc : Thread Cert.BigOutIdeal.nD Cert.BigOutIdeal.τ).loc Cert.BigOutIdeal.main_arg8) = m ((c.tc : Thread Cert.BigOutIdeal.nD Cert.BigOutIdeal.τ).loc Cert.BigOutIdeal.main_arg8))
      ∧ θ_run (Cert.BigOutRefIdeal.defs (F := Ideal)) (onTc (τ := Cert.BigOutRefIdeal.τ) (Cert.BigOutRefIdeal.main (F := Ideal))) ⟨m', fun _ => 0, g'⟩ (fun r => ∀ c : Dev Cert.BigOutRefIdeal.nD,
          r.2.mem ((c.tc : Thread Cert.BigOutRefIdeal.nD Cert.BigOutRefIdeal.τ).loc Cert.BigOutRefIdeal.main_v37) = v0 c
          ∧ r.2.mem ((c.tc : Thread Cert.BigOutRefIdeal.nD Cert.BigOutRefIdeal.τ).loc Cert.BigOutRefIdeal.main_v40) = v1 c
          ∧ r.2.mem ((c.tc : Thread Cert.BigOutRefIdeal.nD Cert.BigOutRefIdeal.τ).loc Cert.BigOutRefIdeal.main_v43) = v2 c
          ∧ r.2.mem ((c.tc : Thread Cert.BigOutRefIdeal.nD Cert.BigOutRefIdeal.τ).loc Cert.BigOutRefIdeal.main_v46) = v3 c
          ∧ r.2.mem ((c.tc : Thread Cert.BigOutRefIdeal.nD Cert.BigOutRefIdeal.τ).loc Cert.BigOutRefIdeal.main_arg0) = m' ((c.tc : Thread Cert.BigOutRefIdeal.nD Cert.BigOutRefIdeal.τ).loc Cert.BigOutRefIdeal.main_arg0)
          ∧ r.2.mem ((c.tc : Thread Cert.BigOutRefIdeal.nD Cert.BigOutRefIdeal.τ).loc Cert.BigOutRefIdeal.main_arg1) = m' ((c.tc : Thread Cert.BigOutRefIdeal.nD Cert.BigOutRefIdeal.τ).loc Cert.BigOutRefIdeal.main_arg1)
          ∧ r.2.mem ((c.tc : Thread Cert.BigOutRefIdeal.nD Cert.BigOutRefIdeal.τ).loc Cert.BigOutRefIdeal.main_arg2) = m' ((c.tc : Thread Cert.BigOutRefIdeal.nD Cert.BigOutRefIdeal.τ).loc Cert.BigOutRefIdeal.main_arg2)
          ∧ r.2.mem ((c.tc : Thread Cert.BigOutRefIdeal.nD Cert.BigOutRefIdeal.τ).loc Cert.BigOutRefIdeal.main_arg3) = m' ((c.tc : Thread Cert.BigOutRefIdeal.nD Cert.BigOutRefIdeal.τ).loc Cert.BigOutRefIdeal.main_arg3)
          ∧ r.2.mem ((c.tc : Thread Cert.BigOutRefIdeal.nD Cert.BigOutRefIdeal.τ).loc Cert.BigOutRefIdeal.main_arg4) = m' ((c.tc : Thread Cert.BigOutRefIdeal.nD Cert.BigOutRefIdeal.τ).loc Cert.BigOutRefIdeal.main_arg4)
          ∧ r.2.mem ((c.tc : Thread Cert.BigOutRefIdeal.nD Cert.BigOutRefIdeal.τ).loc Cert.BigOutRefIdeal.main_arg5) = m' ((c.tc : Thread Cert.BigOutRefIdeal.nD Cert.BigOutRefIdeal.τ).loc Cert.BigOutRefIdeal.main_arg5)
          ∧ r.2.mem ((c.tc : Thread Cert.BigOutRefIdeal.nD Cert.BigOutRefIdeal.τ).loc Cert.BigOutRefIdeal.main_arg6) = m' ((c.tc : Thread Cert.BigOutRefIdeal.nD Cert.BigOutRefIdeal.τ).loc Cert.BigOutRefIdeal.main_arg6)
          ∧ r.2.mem ((c.tc : Thread Cert.BigOutRefIdeal.nD Cert.BigOutRefIdeal.τ).loc Cert.BigOutRefIdeal.main_arg7) = m' ((c.tc : Thread Cert.BigOutRefIdeal.nD Cert.BigOutRefIdeal.τ).loc Cert.BigOutRefIdeal.main_arg7)
          ∧ r.2.mem ((c.tc : Thread Cert.BigOutRefIdeal.nD Cert.BigOutRefIdeal.τ).loc Cert.BigOutRefIdeal.main_arg8) = m' ((c.tc : Thread Cert.BigOutRefIdeal.nD Cert.BigOutRefIdeal.τ).loc Cert.BigOutRefIdeal.main_arg8))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v9) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Disc_DiscIdeal : Prop :=
  True

def algebraic_DiscIdeal_DiscRefIdeal [hDiscIdeal : Cert.DiscIdeal.Facts] [hDiscRefIdeal : Cert.DiscRefIdeal.Facts] : Prop :=
  ∀ (m : (ℓ : Loc Cert.DiscIdeal.nD Cert.DiscIdeal.τ Cert.DiscIdeal.sig) → Buf (Elt Ideal) ℓ) (g : Dev Cert.DiscIdeal.nD → PrngReg)
    (m' : (ℓ : Loc Cert.DiscRefIdeal.nD Cert.DiscRefIdeal.τ Cert.DiscRefIdeal.sig) → Buf (Elt Ideal) ℓ) (g' : Dev Cert.DiscRefIdeal.nD → PrngReg), Pre_DiscIdeal m →
    (∀ c : Dev Cert.DiscIdeal.nD,
      m' ((c.tc : Thread Cert.DiscRefIdeal.nD Cert.DiscRefIdeal.τ).loc Cert.DiscRefIdeal.main_arg0) = m ((c.tc : Thread Cert.DiscIdeal.nD Cert.DiscIdeal.τ).loc Cert.DiscIdeal.main_arg0)
      ∧ m' ((c.tc : Thread Cert.DiscRefIdeal.nD Cert.DiscRefIdeal.τ).loc Cert.DiscRefIdeal.main_arg1) = m ((c.tc : Thread Cert.DiscIdeal.nD Cert.DiscIdeal.τ).loc Cert.DiscIdeal.main_arg1)
      ∧ m' ((c.tc : Thread Cert.DiscRefIdeal.nD Cert.DiscRefIdeal.τ).loc Cert.DiscRefIdeal.main_arg2) = m ((c.tc : Thread Cert.DiscIdeal.nD Cert.DiscIdeal.τ).loc Cert.DiscIdeal.main_arg2)
      ∧ m' ((c.tc : Thread Cert.DiscRefIdeal.nD Cert.DiscRefIdeal.τ).loc Cert.DiscRefIdeal.main_arg3) = m ((c.tc : Thread Cert.DiscIdeal.nD Cert.DiscIdeal.τ).loc Cert.DiscIdeal.main_arg3)
      ∧ m' ((c.tc : Thread Cert.DiscRefIdeal.nD Cert.DiscRefIdeal.τ).loc Cert.DiscRefIdeal.main_arg4) = m ((c.tc : Thread Cert.DiscIdeal.nD Cert.DiscIdeal.τ).loc Cert.DiscIdeal.main_arg4)
      ∧ m' ((c.tc : Thread Cert.DiscRefIdeal.nD Cert.DiscRefIdeal.τ).loc Cert.DiscRefIdeal.main_arg5) = m ((c.tc : Thread Cert.DiscIdeal.nD Cert.DiscIdeal.τ).loc Cert.DiscIdeal.main_arg5)
      ∧ m' ((c.tc : Thread Cert.DiscRefIdeal.nD Cert.DiscRefIdeal.τ).loc Cert.DiscRefIdeal.main_arg6) = m ((c.tc : Thread Cert.DiscIdeal.nD Cert.DiscIdeal.τ).loc Cert.DiscIdeal.main_arg6)
      ∧ m' ((c.tc : Thread Cert.DiscRefIdeal.nD Cert.DiscRefIdeal.τ).loc Cert.DiscRefIdeal.main_arg7) = m ((c.tc : Thread Cert.DiscIdeal.nD Cert.DiscIdeal.τ).loc Cert.DiscIdeal.main_arg7)
      ∧ m' ((c.tc : Thread Cert.DiscRefIdeal.nD Cert.DiscRefIdeal.τ).loc Cert.DiscRefIdeal.main_arg8) = m ((c.tc : Thread Cert.DiscIdeal.nD Cert.DiscIdeal.τ).loc Cert.DiscIdeal.main_arg8)) →
    ∃ (v0 : (c : Dev Cert.DiscIdeal.nD) → Buf (Elt Ideal) ((c.tc : Thread Cert.DiscIdeal.nD Cert.DiscIdeal.τ).loc Cert.DiscIdeal.main_v22)) (v1 : (c : Dev Cert.DiscIdeal.nD) → Buf (Elt Ideal) ((c.tc : Thread Cert.DiscIdeal.nD Cert.DiscIdeal.τ).loc Cert.DiscIdeal.main_v23)) (v2 : (c : Dev Cert.DiscIdeal.nD) → Buf (Elt Ideal) ((c.tc : Thread Cert.DiscIdeal.nD Cert.DiscIdeal.τ).loc Cert.DiscIdeal.main_v25)) (v3 : (c : Dev Cert.DiscIdeal.nD) → Buf (Elt Ideal) ((c.tc : Thread Cert.DiscIdeal.nD Cert.DiscIdeal.τ).loc Cert.DiscIdeal.main_v28)) (v4 : (c : Dev Cert.DiscIdeal.nD) → Buf (Elt Ideal) ((c.tc : Thread Cert.DiscIdeal.nD Cert.DiscIdeal.τ).loc Cert.DiscIdeal.main_v31)),
      θ_run (Cert.DiscIdeal.defs (F := Ideal)) (onTc (τ := Cert.DiscIdeal.τ) (Cert.DiscIdeal.main (F := Ideal))) ⟨m, fun _ => 0, g⟩ (fun r => ∀ c : Dev Cert.DiscIdeal.nD,
          r.2.mem ((c.tc : Thread Cert.DiscIdeal.nD Cert.DiscIdeal.τ).loc Cert.DiscIdeal.main_v22) = v0 c
          ∧ r.2.mem ((c.tc : Thread Cert.DiscIdeal.nD Cert.DiscIdeal.τ).loc Cert.DiscIdeal.main_v23) = v1 c
          ∧ r.2.mem ((c.tc : Thread Cert.DiscIdeal.nD Cert.DiscIdeal.τ).loc Cert.DiscIdeal.main_v25) = v2 c
          ∧ r.2.mem ((c.tc : Thread Cert.DiscIdeal.nD Cert.DiscIdeal.τ).loc Cert.DiscIdeal.main_v28) = v3 c
          ∧ r.2.mem ((c.tc : Thread Cert.DiscIdeal.nD Cert.DiscIdeal.τ).loc Cert.DiscIdeal.main_v31) = v4 c
          ∧ r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
          ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
          ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
          ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
          ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4)
          ∧ r.2.mem ((c.tc : Thread Cert.DiscIdeal.nD Cert.DiscIdeal.τ).loc Cert.DiscIdeal.main_arg5) = m ((c.tc : Thread Cert.DiscIdeal.nD Cert.DiscIdeal.τ).loc Cert.DiscIdeal.main_arg5)
          ∧ r.2.mem ((c.tc : Thread Cert.DiscIdeal.nD Cert.DiscIdeal.τ).loc Cert.DiscIdeal.main_arg6) = m ((c.tc : Thread Cert.DiscIdeal.nD Cert.DiscIdeal.τ).loc Cert.DiscIdeal.main_arg6)
          ∧ r.2.mem ((c.tc : Thread Cert.DiscIdeal.nD Cert.DiscIdeal.τ).loc Cert.DiscIdeal.main_arg7) = m ((c.tc : Thread Cert.DiscIdeal.nD Cert.DiscIdeal.τ).loc Cert.DiscIdeal.main_arg7)
          ∧ r.2.mem ((c.tc : Thread Cert.DiscIdeal.nD Cert.DiscIdeal.τ).loc Cert.DiscIdeal.main_arg8) = m ((c.tc : Thread Cert.DiscIdeal.nD Cert.DiscIdeal.τ).loc Cert.DiscIdeal.main_arg8))
      ∧ θ_run (Cert.DiscRefIdeal.defs (F := Ideal)) (onTc (τ := Cert.DiscRefIdeal.τ) (Cert.DiscRefIdeal.main (F := Ideal))) ⟨m', fun _ => 0, g'⟩ (fun r => ∀ c : Dev Cert.DiscRefIdeal.nD,
          r.2.mem ((c.tc : Thread Cert.DiscRefIdeal.nD Cert.DiscRefIdeal.τ).loc Cert.DiscRefIdeal.main_v141) = v0 c
          ∧ r.2.mem ((c.tc : Thread Cert.DiscRefIdeal.nD Cert.DiscRefIdeal.τ).loc Cert.DiscRefIdeal.main_v131) = v1 c
          ∧ r.2.mem ((c.tc : Thread Cert.DiscRefIdeal.nD Cert.DiscRefIdeal.τ).loc Cert.DiscRefIdeal.main_v140) = v2 c
          ∧ r.2.mem ((c.tc : Thread Cert.DiscRefIdeal.nD Cert.DiscRefIdeal.τ).loc Cert.DiscRefIdeal.main_v78) = v3 c
          ∧ r.2.mem ((c.tc : Thread Cert.DiscRefIdeal.nD Cert.DiscRefIdeal.τ).loc Cert.DiscRefIdeal.main_v71) = v4 c
          ∧ r.2.mem ((c.tc : Thread Cert.DiscRefIdeal.nD Cert.DiscRefIdeal.τ).loc Cert.DiscRefIdeal.main_arg0) = m' ((c.tc : Thread Cert.DiscRefIdeal.nD Cert.DiscRefIdeal.τ).loc Cert.DiscRefIdeal.main_arg0)
          ∧ r.2.mem ((c.tc : Thread Cert.DiscRefIdeal.nD Cert.DiscRefIdeal.τ).loc Cert.DiscRefIdeal.main_arg1) = m' ((c.tc : Thread Cert.DiscRefIdeal.nD Cert.DiscRefIdeal.τ).loc Cert.DiscRefIdeal.main_arg1)
          ∧ r.2.mem ((c.tc : Thread Cert.DiscRefIdeal.nD Cert.DiscRefIdeal.τ).loc Cert.DiscRefIdeal.main_arg2) = m' ((c.tc : Thread Cert.DiscRefIdeal.nD Cert.DiscRefIdeal.τ).loc Cert.DiscRefIdeal.main_arg2)
          ∧ r.2.mem ((c.tc : Thread Cert.DiscRefIdeal.nD Cert.DiscRefIdeal.τ).loc Cert.DiscRefIdeal.main_arg3) = m' ((c.tc : Thread Cert.DiscRefIdeal.nD Cert.DiscRefIdeal.τ).loc Cert.DiscRefIdeal.main_arg3)
          ∧ r.2.mem ((c.tc : Thread Cert.DiscRefIdeal.nD Cert.DiscRefIdeal.τ).loc Cert.DiscRefIdeal.main_arg4) = m' ((c.tc : Thread Cert.DiscRefIdeal.nD Cert.DiscRefIdeal.τ).loc Cert.DiscRefIdeal.main_arg4)
          ∧ r.2.mem ((c.tc : Thread Cert.DiscRefIdeal.nD Cert.DiscRefIdeal.τ).loc Cert.DiscRefIdeal.main_arg5) = m' ((c.tc : Thread Cert.DiscRefIdeal.nD Cert.DiscRefIdeal.τ).loc Cert.DiscRefIdeal.main_arg5)
          ∧ r.2.mem ((c.tc : Thread Cert.DiscRefIdeal.nD Cert.DiscRefIdeal.τ).loc Cert.DiscRefIdeal.main_arg6) = m' ((c.tc : Thread Cert.DiscRefIdeal.nD Cert.DiscRefIdeal.τ).loc Cert.DiscRefIdeal.main_arg6)
          ∧ r.2.mem ((c.tc : Thread Cert.DiscRefIdeal.nD Cert.DiscRefIdeal.τ).loc Cert.DiscRefIdeal.main_arg7) = m' ((c.tc : Thread Cert.DiscRefIdeal.nD Cert.DiscRefIdeal.τ).loc Cert.DiscRefIdeal.main_arg7)
          ∧ r.2.mem ((c.tc : Thread Cert.DiscRefIdeal.nD Cert.DiscRefIdeal.τ).loc Cert.DiscRefIdeal.main_arg8) = m' ((c.tc : Thread Cert.DiscRefIdeal.nD Cert.DiscRefIdeal.τ).loc Cert.DiscRefIdeal.main_arg8))

def preserves_Tail_TailIdeal : Prop :=
  IdealRules.named_const.Statement Cert.TailIdeal.κ "cubic" .f32 0x3D372713#32 ((8943 / 200000 : ℝ) : EReal)
  ∧ IdealRules.named_const.Statement Cert.TailIdeal.κ "slope" .f32 0x3E095D4F#32 ((26829 / 200000 : ℝ) : EReal)

def algebraic_TailIdeal_TailRefIdeal_pre_tail_finite [hTailIdeal : Cert.TailIdeal.Facts] [hTailRefIdeal : Cert.TailRefIdeal.Facts] [hPre_tail_finite : Cert.Pre_tail_finite.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_tail_finite m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)) →
    ∃ (v0 : (c : Dev Cert.TailIdeal.nD) → Buf (Elt Ideal) ((c.tc : Thread Cert.TailIdeal.nD Cert.TailIdeal.τ).loc Cert.TailIdeal.main_v3_0)) (v1 : (c : Dev Cert.TailIdeal.nD) → Buf (Elt Ideal) ((c.tc : Thread Cert.TailIdeal.nD Cert.TailIdeal.τ).loc Cert.TailIdeal.main_v3_1)) (v2 : (c : Dev Cert.TailIdeal.nD) → Buf (Elt Ideal) ((c.tc : Thread Cert.TailIdeal.nD Cert.TailIdeal.τ).loc Cert.TailIdeal.main_v3_2)) (v3 : (c : Dev Cert.TailIdeal.nD) → Buf (Elt Ideal) ((c.tc : Thread Cert.TailIdeal.nD Cert.TailIdeal.τ).loc Cert.TailIdeal.main_v3_3)) (v4 : (c : Dev Cert.TailIdeal.nD) → Buf (Elt Ideal) ((c.tc : Thread Cert.TailIdeal.nD Cert.TailIdeal.τ).loc Cert.TailIdeal.main_v3_4)) (v5 : (c : Dev Cert.TailIdeal.nD) → Buf (Elt Ideal) ((c.tc : Thread Cert.TailIdeal.nD Cert.TailIdeal.τ).loc Cert.TailIdeal.main_v3_5)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v3_0) = v0 c
          ∧ r.2.mem ((c.tc : Thread Cert.TailIdeal.nD Cert.TailIdeal.τ).loc Cert.TailIdeal.main_v3_1) = v1 c
          ∧ r.2.mem ((c.tc : Thread Cert.TailIdeal.nD Cert.TailIdeal.τ).loc Cert.TailIdeal.main_v3_2) = v2 c
          ∧ r.2.mem ((c.tc : Thread Cert.TailIdeal.nD Cert.TailIdeal.τ).loc Cert.TailIdeal.main_v3_3) = v3 c
          ∧ r.2.mem ((c.tc : Thread Cert.TailIdeal.nD Cert.TailIdeal.τ).loc Cert.TailIdeal.main_v3_4) = v4 c
          ∧ r.2.mem ((c.tc : Thread Cert.TailIdeal.nD Cert.TailIdeal.τ).loc Cert.TailIdeal.main_v3_5) = v5 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v71) = v0 c
          ∧ r.2.mem ((c.tc : Thread Cert.TailRefIdeal.nD Cert.TailRefIdeal.τ).loc Cert.TailRefIdeal.main_v73) = v1 c
          ∧ r.2.mem ((c.tc : Thread Cert.TailRefIdeal.nD Cert.TailRefIdeal.τ).loc Cert.TailRefIdeal.main_v81) = v2 c
          ∧ r.2.mem ((c.tc : Thread Cert.TailRefIdeal.nD Cert.TailRefIdeal.τ).loc Cert.TailRefIdeal.main_v82) = v3 c
          ∧ r.2.mem ((c.tc : Thread Cert.TailRefIdeal.nD Cert.TailRefIdeal.τ).loc Cert.TailRefIdeal.main_v83) = v4 c
          ∧ r.2.mem ((c.tc : Thread Cert.TailRefIdeal.nD Cert.TailRefIdeal.τ).loc Cert.TailRefIdeal.main_v84) = v5 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6))

def Claim : Prop :=
  ∃ (hFwd : Cert.Fwd.Facts) (hFwdIdeal : Cert.FwdIdeal.Facts) (hFwdRefIdeal : Cert.FwdRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hNorm : Cert.Norm.Facts) (hNormIdeal : Cert.NormIdeal.Facts) (hNormRefIdeal : Cert.NormRefIdeal.Facts) (hSmall : Cert.Small.Facts) (hSmallIdeal : Cert.SmallIdeal.Facts) (hSmallRefIdeal : Cert.SmallRefIdeal.Facts) (hBigIn : Cert.BigIn.Facts) (hBigInIdeal : Cert.BigInIdeal.Facts) (hBigInRefIdeal : Cert.BigInRefIdeal.Facts) (hBigGlu : Cert.BigGlu.Facts) (hBigGluIdeal : Cert.BigGluIdeal.Facts) (hBigGluRefIdeal : Cert.BigGluRefIdeal.Facts) (hBigBranch : Cert.BigBranch.Facts) (hBigBranchIdeal : Cert.BigBranchIdeal.Facts) (hBigBranchRefIdeal : Cert.BigBranchRefIdeal.Facts) (hBigOut : Cert.BigOut.Facts) (hBigOutIdeal : Cert.BigOutIdeal.Facts) (hBigOutRefIdeal : Cert.BigOutRefIdeal.Facts) (hLoss : Cert.Loss.Facts) (hLossIdeal : Cert.LossIdeal.Facts) (hLossRefIdeal : Cert.LossRefIdeal.Facts) (hDisc : Cert.Disc.Facts) (hDiscIdeal : Cert.DiscIdeal.Facts) (hDiscRefIdeal : Cert.DiscRefIdeal.Facts) (hTail : Cert.Tail.Facts) (hTailIdeal : Cert.TailIdeal.Facts) (hTailRefIdeal : Cert.TailRefIdeal.Facts) (hPre_merge_finite : Cert.Pre_merge_finite.Facts) (hPre_norm_finite : Cert.Pre_norm_finite.Facts) (hPre_tail_finite : Cert.Pre_tail_finite.Facts),
    quiescent_Fwd (hFwd := hFwd)
    ∧ quiescent_FwdIdeal (hFwdIdeal := hFwdIdeal)
    ∧ quiescent_FwdRefIdeal (hFwdRefIdeal := hFwdRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeIdeal_pre_merge_finite (hMergeIdeal := hMergeIdeal) (hPre_merge_finite := hPre_merge_finite)
    ∧ quiescent_MergeRefIdeal (hMergeRefIdeal := hMergeRefIdeal)
    ∧ quiescent_MergeRefIdeal_pre_merge_finite (hMergeRefIdeal := hMergeRefIdeal) (hPre_merge_finite := hPre_merge_finite)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_Small (hSmall := hSmall)
    ∧ quiescent_SmallIdeal (hSmallIdeal := hSmallIdeal)
    ∧ quiescent_SmallRefIdeal (hSmallRefIdeal := hSmallRefIdeal)
    ∧ quiescent_BigIn (hBigIn := hBigIn)
    ∧ quiescent_BigInIdeal (hBigInIdeal := hBigInIdeal)
    ∧ quiescent_BigInRefIdeal (hBigInRefIdeal := hBigInRefIdeal)
    ∧ quiescent_BigGlu (hBigGlu := hBigGlu)
    ∧ quiescent_BigGluIdeal (hBigGluIdeal := hBigGluIdeal)
    ∧ quiescent_BigGluRefIdeal (hBigGluRefIdeal := hBigGluRefIdeal)
    ∧ quiescent_BigBranch (hBigBranch := hBigBranch)
    ∧ quiescent_BigBranchIdeal (hBigBranchIdeal := hBigBranchIdeal)
    ∧ quiescent_BigBranchRefIdeal (hBigBranchRefIdeal := hBigBranchRefIdeal)
    ∧ quiescent_BigOut (hBigOut := hBigOut)
    ∧ quiescent_BigOutIdeal (hBigOutIdeal := hBigOutIdeal)
    ∧ quiescent_BigOutRefIdeal (hBigOutRefIdeal := hBigOutRefIdeal)
    ∧ quiescent_Loss (hLoss := hLoss)
    ∧ quiescent_LossIdeal (hLossIdeal := hLossIdeal)
    ∧ quiescent_LossRefIdeal (hLossRefIdeal := hLossRefIdeal)
    ∧ quiescent_Disc (hDisc := hDisc)
    ∧ quiescent_DiscIdeal (hDiscIdeal := hDiscIdeal)
    ∧ quiescent_DiscRefIdeal (hDiscRefIdeal := hDiscRefIdeal)
    ∧ quiescent_Tail (hTail := hTail)
    ∧ quiescent_TailIdeal (hTailIdeal := hTailIdeal)
    ∧ quiescent_TailIdeal_pre_tail_finite (hTailIdeal := hTailIdeal) (hPre_tail_finite := hPre_tail_finite)
    ∧ quiescent_TailRefIdeal (hTailRefIdeal := hTailRefIdeal)
    ∧ quiescent_TailRefIdeal_pre_tail_finite (hTailRefIdeal := hTailRefIdeal) (hPre_tail_finite := hPre_tail_finite)
    ∧ preserves_Fwd_FwdIdeal
    ∧ algebraic_FwdIdeal_FwdRefIdeal (hFwdIdeal := hFwdIdeal) (hFwdRefIdeal := hFwdRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal_pre_merge_finite (hMergeIdeal := hMergeIdeal) (hMergeRefIdeal := hMergeRefIdeal) (hPre_merge_finite := hPre_merge_finite)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_Small_SmallIdeal
    ∧ algebraic_SmallIdeal_SmallRefIdeal (hSmallIdeal := hSmallIdeal) (hSmallRefIdeal := hSmallRefIdeal)
    ∧ preserves_BigIn_BigInIdeal
    ∧ algebraic_BigInIdeal_BigInRefIdeal (hBigInIdeal := hBigInIdeal) (hBigInRefIdeal := hBigInRefIdeal)
    ∧ preserves_BigGlu_BigGluIdeal
    ∧ algebraic_BigGluIdeal_BigGluRefIdeal (hBigGluIdeal := hBigGluIdeal) (hBigGluRefIdeal := hBigGluRefIdeal)
    ∧ preserves_BigBranch_BigBranchIdeal
    ∧ algebraic_BigBranchIdeal_BigBranchRefIdeal (hBigBranchIdeal := hBigBranchIdeal) (hBigBranchRefIdeal := hBigBranchRefIdeal)
    ∧ preserves_BigOut_BigOutIdeal
    ∧ algebraic_BigOutIdeal_BigOutRefIdeal (hBigOutIdeal := hBigOutIdeal) (hBigOutRefIdeal := hBigOutRefIdeal)
    ∧ preserves_Loss_LossIdeal
    ∧ algebraic_LossIdeal_LossRefIdeal (hLossIdeal := hLossIdeal) (hLossRefIdeal := hLossRefIdeal)
    ∧ preserves_Disc_DiscIdeal
    ∧ algebraic_DiscIdeal_DiscRefIdeal (hDiscIdeal := hDiscIdeal) (hDiscRefIdeal := hDiscRefIdeal)
    ∧ preserves_Tail_TailIdeal
    ∧ algebraic_TailIdeal_TailRefIdeal_pre_tail_finite (hTailIdeal := hTailIdeal) (hTailRefIdeal := hTailRefIdeal) (hPre_tail_finite := hPre_tail_finite)
-- ==== Pre_merge_finite.lean ====
abbrev S2048x1024 : Shape := ⟨2, ![2048, 1024]⟩
abbrev S2048x512 : Shape := ⟨2, ![2048, 512]⟩
abbrev S2048x8192 : Shape := ⟨2, ![2048, 8192]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S512x1024 .f32) (main_arg6 : FVec F S1024x1024 .f32) (main_arg7 : FVec F S1024 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512x1024 .f32 := Host.absf main_arg5
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S2048x1024 .f32) (main_arg1 : FVec F S2048x512 .f32) (main_arg2 : FVec F S2048x512 .f32) (main_arg3 : FVec F S2048x8192 .f32) (main_arg4 : FVec F S512x1024 .f32) (main_arg5 : FVec F S512x1024 .f32) (main_arg6 : FVec F S1024x1024 .f32) (main_arg7 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S512x1024 .f32 := Host.absf main_arg4
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg5 main_arg6 main_arg7 main_v13 main_v16
-- ==== Pre_norm_finite.lean ====
abbrev S2048x1024 : Shape := ⟨2, ![2048, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2048x1024 .f32) (main_arg1 : FVec F S2048x1024 .f32) (main_arg2 : FVec F S1024 .f32) (main_arg3 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Pre_tail_finite.lean ====
abbrev S2048x512 : Shape := ⟨2, ![2048, 512]⟩
abbrev S2048x8192 : Shape := ⟨2, ![2048, 8192]⟩
abbrev S512 : Shape := ⟨1, ![512]⟩
abbrev S512x512 : Shape := ⟨2, ![512, 512]⟩
abbrev S_ : Shape := ⟨0, ![]⟩
abbrev S2048x1024 : Shape := ⟨2, ![2048, 1024]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  slices_S2048x8192_S2048x1024_0_0 : S2048x8192.Slices ![0, 0] S2048x1024
  bcast_S_S2048x1024 : S_.BroadcastsInDim S2048x1024 (![] : Fin 0 → Fin S2048x1024.rank)
  reducesTo_S2048x1024_S_d0_1 : S2048x1024.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_arg5 : FVec F S512 .f32) (main_v14 : IVec S_ 1) (main_v15 : FVec F S512 .f32) (main_v16 : FVec F S512 .f32) : IVec S_ 1 :=
  let main_v17 : IVec S512 1 := cmpf .olt main_v15 main_v16
  let main_c_5 : IVec S_ 1 := constantI S_ 1 1#1
  let main_v18 : IVec S_ 1 := (fun x v => Host.reduce IntOp.andi x v reducesTo_S512_S_d0 h_S_) main_v17 main_c_5
  let main_v19 : IVec S_ 1 := andi main_v14 main_v18
  let main_v20 : FVec F S512x512 .f32 := Host.absf main_arg4
  let main_cst_6 : FVec F S_ .f32 := constant S_ .f32 0x7F800000#32
  let main_v21 : FVec F S512x512 .f32 := broadcastInDim S512x512 ![] bcast_S_S512x512 main_cst_6
  let main_v22 : IVec S512x512 1 := cmpf .olt main_v20 main_v21
  let main_c_7 : IVec S_ 1 := constantI S_ 1 1#1
  let main_v23 : IVec S_ 1 := (fun x v => Host.reduce IntOp.andi x v reducesTo_S512x512_S_d0_1 h_S_) main_v22 main_c_7
  let main_v24 : IVec S_ 1 := andi main_v19 main_v23
  let main_v25 : FVec F S512 .f32 := Host.absf main_arg5
  let main_cst_8 : FVec F S_ .f32 := constant S_ .f32 0x7F800000#32
  let main_v26 : FVec F S512 .f32 := broadcastInDim S512 ![] bcast_S_S512 main_cst_8
  let main_v27 : IVec S512 1 := cmpf .olt main_v25 main_v26
  let main_c_9 : IVec S_ 1 := constantI S_ 1 1#1
  let main_v28 : IVec S_ 1 := (fun x v => Host.reduce IntOp.andi x v reducesTo_S512_S_d0 h_S_) main_v27 main_c_9
  let main_v29 : IVec S_ 1 := andi main_v24 main_v28
  main_v29

def fn {F : FTy → Type} [FloatOps F] (main_arg0 : FVec F S2048x512 .f32) (main_arg1 : FVec F S2048x512 .f32) (main_arg2 : FVec F S2048x8192 .f32) (main_arg3 : FVec F S512 .f32) (main_arg4 : FVec F S512x512 .f32) (main_arg5 : FVec F S512 .f32) (main_arg6 : FVec F S2048x8192 .bf16) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x1024 .f32 := (extractStridedSlice S2048x1024 ![0, 0] · slices_S2048x8192_S2048x1024_0_0) main_arg2
  let main_v10 : FVec F S2048x1024 .f32 := Host.absf main_v9
  let main_cst_2 : FVec F S_ .f32 := constant S_ .f32 0x7F800000#32
  let main_v11 : FVec F S2048x1024 .f32 := broadcastInDim S2048x1024 ![] bcast_S_S2048x1024 main_cst_2
  let main_v12 : IVec S2048x1024 1 := cmpf .olt main_v10 main_v11
  let main_c_3 : IVec S_ 1 := constantI S_ 1 1#1
  let main_v13 : IVec S_ 1 := (fun x v => Host.reduce IntOp.andi x v reducesTo_S2048x1024_S_d0_1 h_S_) main_v12 main_c_3
  let main_v14 : IVec S_ 1 := andi main_v8 main_v13
  let main_v15 : FVec F S512 .f32 := Host.absf main_arg3
  let main_cst_4 : FVec F S_ .f32 := constant S_ .f32 0x7F800000#32
  let main_v16 : FVec F S512 .f32 := broadcastInDim S512 ![] bcast_S_S512 main_cst_4
  fn_part1 (F := F) main_arg4 main_arg5 main_v14 main_v15 main_v16
-- ==== Fwd.lean ====
abbrev S2048x1024 : Shape := ⟨2, ![2048, 1024]⟩
abbrev S1024 : Shape := ⟨1, ![1024]⟩
abbrev S1024x8192 : Shape := ⟨2, ![1024, 8192]⟩
abbrev S1024x4x2048 : Shape := ⟨3, ![1024, 4, 2048]⟩
abbrev S4x1024x2048 : Shape := ⟨3, ![4, 1024, 2048]⟩
abbrev S1x1024 : Shape := ⟨2, ![1, 1024]⟩
abbrev S2048x8192 : Shape := ⟨2, ![2048, 8192]⟩
abbrev S512x1024 : Shape := ⟨2, ![512, 1024]⟩
abbrev S1x1024x1024 : Shape := ⟨3, ![1, 1024, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x8192, .f32⟩
  | .hbm, ⟨3, _⟩ => ⟨S1024x8192, .bf16⟩
  | .hbm, ⟨4, _⟩ => ⟨S1024x4x2048, .bf16⟩
  | .hbm, ⟨5, _⟩ => ⟨S4x1024x2048, .bf16⟩
  | .hbm, ⟨6, _⟩ => ⟨S1x1024, .f32⟩
  | .hbm, ⟨7, _⟩ => ⟨S2048x8192, .f32⟩
  | .hbm, ⟨8, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S512x1024, .f32⟩
  | .local _ .vmem, ⟨6, _⟩ => ⟨S512x1024, .f32⟩
  | .local _ .vmem, ⟨7, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v28 : Index := Scalar.indexCast v1
  let c0_13 : Index := 0#32
  ![v28.toNat, 0]
def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v5 : Index := Scalar.indexCast v1
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c2_i32_0 : BitVec 32 := 2#32
  let v1 : BitVec 32 := Scalar.remsi arg0 c2_i32_0
  let c0_i32 : BitVec 32 := 0#32
  let c0_i32_1 : BitVec 32 := 0#32
  ![v0.toNat, c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== FwdRefIdeal.lean ====
abbrev S2048x1024 : Shape := ⟨2, ![2048, 1024]⟩
abbrev S1024 : Shape := ⟨1, ![1024]⟩
abbrev S1024x8192 : Shape := ⟨2, ![1024, 8192]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x8192 : Shape := ⟨2, ![2048, 8192]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x8192, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x8192, .f32⟩
  | .hbm, ⟨20, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proj.lean ====
abbrev S2048x8192 : Shape := ⟨2, ![2048, 8192]⟩
abbrev S2048x1024 : Shape := ⟨2, ![2048, 1024]⟩
abbrev S1024x8192 : Shape := ⟨2, ![1024, 8192]⟩
abbrev S1024x4x2048 : Shape := ⟨3, ![1024, 4, 2048]⟩
abbrev S4x1024x2048 : Shape := ⟨3, ![4, 1024, 2048]⟩
abbrev S1x1024x1024 : Shape := ⟨3, ![1, 1024, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2048x8192, .bf16⟩
  | .hbm, ⟨1, _⟩ => ⟨S2048x1024, .bf16⟩
  | .hbm, ⟨2, _⟩ => ⟨S1024x8192, .f32⟩
  | .hbm, ⟨3, _⟩ => ⟨S1024x8192, .bf16⟩
  | .hbm, ⟨4, _⟩ => ⟨S1024x4x2048, .bf16⟩
  | .hbm, ⟨5, _⟩ => ⟨S4x1024x2048, .bf16⟩
  | .hbm, ⟨6, _⟩ => ⟨S2048x1024, .f32⟩
  | .hbm, ⟨7, _⟩ => ⟨S4x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S2048x1024, .f32⟩
  | .local _ .vmem, ⟨6, _⟩ => ⟨S1x1024x1024, .bf16⟩
  | .local _ .vmem, ⟨7, _⟩ => ⟨S1x1024x1024, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c2_i32_0 : BitVec 32 := 2#32
  let v1 : BitVec 32 := Scalar.remsi arg0 c2_i32_0
  let c0_i32 : BitVec 32 := 0#32
  let c0_i32_1 : BitVec 32 := 0#32
  ![v0.toNat, c0_i32.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c2_i32_0 : BitVec 32 := 2#32
  let v1 : BitVec 32 := Scalar.remsi arg0 c2_i32_0
  let c0_i32 : BitVec 32 := 0#32
  let c0_i32_1 : BitVec 32 := 0#32
  ![v0.toNat, c0_i32.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjRefIdeal.lean ====
abbrev S2048x8192 : Shape := ⟨2, ![2048, 8192]⟩
abbrev S2048x1024 : Shape := ⟨2, ![2048, 1024]⟩
abbrev S1024x8192 : Shape := ⟨2, ![1024, 8192]⟩
abbrev S8192x1024 : Shape := ⟨2, ![8192, 1024]⟩
abbrev S1024x4x2048 : Shape := ⟨3, ![1024, 4, 2048]⟩
abbrev S4x1024x2048 : Shape := ⟨3, ![4, 1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x1024, .bf16⟩
  | .hbm, ⟨2, _⟩ => ⟨S1024x8192, .f32⟩
  | .hbm, ⟨3, _⟩ => ⟨S2048x1024, .f32⟩
  | .hbm, ⟨4, _⟩ => ⟨S2048x8192, .f32⟩
  | .hbm, ⟨5, _⟩ => ⟨S2048x8192, .f32⟩
  | .hbm, ⟨6, _⟩ => ⟨S8192x1024, .f32⟩
  | .hbm, ⟨7, _⟩ => ⟨S1024x8192, .f32⟩
  | .hbm, ⟨8, _⟩ => ⟨S2048x1024, .f32⟩
  | .hbm, ⟨9, _⟩ => ⟨S1024x4x2048, .f32⟩
  | .hbm, ⟨10, _⟩ => ⟨S4x1024x2048, .f32⟩
  | .hbm, ⟨11, _⟩ => ⟨S4x1024x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Merge.lean ====
abbrev S2048x1024 : Shape := ⟨2, ![2048, 1024]⟩
abbrev S2048x512 : Shape := ⟨2, ![2048, 512]⟩
abbrev S2048x8192 : Shape := ⟨2, ![2048, 8192]⟩
abbrev S512x1024 : Shape := ⟨2, ![512, 1024]⟩
abbrev S1024x1024 : Shape := ⟨2, ![1024, 1024]⟩
abbrev S1024 : Shape := ⟨1, ![1024]⟩
abbrev S512x4x256 : Shape := ⟨3, ![512, 4, 256]⟩
abbrev S4x512x256 : Shape := ⟨3, ![4, 512, 256]⟩
abbrev S1x1024 : Shape := ⟨2, ![1, 1024]⟩
abbrev S256x1024 : Shape := ⟨2, ![256, 1024]⟩
abbrev S256x512 : Shape := ⟨2, ![256, 512]⟩
abbrev S256x2048 : Shape := ⟨2, ![256, 2048]⟩
abbrev S1x512x256 : Shape := ⟨3, ![1, 512, 256]⟩
abbrev S512x256 : Shape := ⟨2, ![512, 256]⟩
abbrev S256x256 : Shape := ⟨2, ![256, 256]⟩
abbrev S256 : Shape := ⟨1, ![256]⟩
abbrev S256x1 : Shape := ⟨2, ![256, 1]⟩

abbrev nBuf : Space → Nat
  | .hbm => 23
  | .vmem => 27
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x8192, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S512x1024, .bf16⟩
  | .hbm, ⟨9, _⟩ => ⟨S512x4x256, .bf16⟩
  | .hbm, ⟨10, _⟩ => ⟨S4x512x256, .bf16⟩
  | .hbm, ⟨11, _⟩ => ⟨S512x1024, .bf16⟩
  | .hbm, ⟨12, _⟩ => ⟨S512x4x256, .bf16⟩
  | .hbm, ⟨13, _⟩ => ⟨S4x512x256, .bf16⟩
  | .hbm, ⟨14, _⟩ => ⟨S1024x1024, .bf16⟩
  | .hbm, ⟨15, _⟩ => ⟨S1x1024, .f32⟩
  | .hbm, ⟨16, _⟩ => ⟨S2048x512, .f32⟩
  | .hbm, ⟨17, _⟩ => ⟨S2048x512, .f32⟩
  | .hbm, ⟨18, _⟩ => ⟨S2048x8192, .bf16⟩
  | .hbm, ⟨19, _⟩ => ⟨S4x512x256, .bf16⟩
  | .hbm, ⟨20, _⟩ => ⟨S4x512x256, .bf16⟩
  | .hbm, ⟨21, _⟩ => ⟨S1024x1024, .bf16⟩
  | .hbm, ⟨22, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S4x512x256, .bf16⟩
  | .local _ .vmem, ⟨11, _⟩ => ⟨S4x512x256, .bf16⟩
  | .local _ .vmem, ⟨12, _⟩ => ⟨S1024x1024, .bf16⟩
  | .local _ .vmem, ⟨13, _⟩ => ⟨S1x1024, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x2048, .bf16⟩
  | .local _ .vmem, ⟨19, _⟩ => ⟨S256x2048, .bf16⟩
  | .local _ .vmem, ⟨20, _⟩ => ⟨S4x512x256, .bf16⟩
  | .local _ .vmem, ⟨21, _⟩ => ⟨S4x512x256, .bf16⟩
  | .local _ .vmem, ⟨22, _⟩ => ⟨S1024x1024, .bf16⟩
  | .local _ .vmem, ⟨23, _⟩ => ⟨S1x1024, .f32⟩
  | .local _ .vmem, ⟨24, _⟩ => ⟨S4x512x256, .f32⟩
  | .local _ .vmem, ⟨25, _⟩ => ⟨S4x512x256, .f32⟩
  | .local _ .vmem, ⟨26, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v209 : BitVec 1 := Scalar.cmpi .eq arg0 c7_i32
  let v210 : BitVec 32 := Scalar.extui v209
  let c0_i32_158 : BitVec 32 := 0#32
  let v211 : BitVec 1 := Scalar.cmpi .ne v210 c0_i32_158
  v211

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x512x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x512x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MergeRefIdeal.lean ====
abbrev S2048x1024 : Shape := ⟨2, ![2048, 1024]⟩
abbrev S2048x512 : Shape := ⟨2, ![2048, 512]⟩
abbrev S2048x8192 : Shape := ⟨2, ![2048, 8192]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 96
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x8192, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S2048x1024, .f32⟩
  | .hbm, ⟨48, _⟩ => ⟨S2048x1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S2048x1024, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S1024x1024, .f32⟩
  | .hbm, ⟨78, _⟩ => ⟨S1024x1024, .f32⟩
  | .hbm, ⟨79, _⟩ => ⟨S2048x1024, .f32⟩
  | .hbm, ⟨80, _⟩ => ⟨S2048x1024, .f32⟩
  | .hbm, ⟨81, _⟩ => ⟨S1024x512, .f32⟩
  | .hbm, ⟨82, _⟩ => ⟨S512x1024, .f32⟩
  | .hbm, ⟨83, _⟩ => ⟨S2048x512, .f32⟩
  | .hbm, ⟨84, _⟩ => ⟨S2048x1024, .f32⟩
  | .hbm, ⟨85, _⟩ => ⟨S1024x512, .f32⟩
  | .hbm, ⟨86, _⟩ => ⟨S512x1024, .f32⟩
  | .hbm, ⟨87, _⟩ => ⟨S2048x512, .f32⟩
  | .hbm, ⟨88, _⟩ => ⟨S512x4x256, .f32⟩
  | .hbm, ⟨89, _⟩ => ⟨S4x512x256, .f32⟩
  | .hbm, ⟨90, _⟩ => ⟨S4x512x256, .bf16⟩
  | .hbm, ⟨91, _⟩ => ⟨S512x4x256, .f32⟩
  | .hbm, ⟨92, _⟩ => ⟨S4x512x256, .f32⟩
  | .hbm, ⟨93, _⟩ => ⟨S4x512x256, .bf16⟩
  | .hbm, ⟨94, _⟩ => ⟨S1024x1024, .bf16⟩
  | .hbm, ⟨95, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩

abbrev nD : Nat := 1
abbrev τ : Topo := Topo.v7x

variable {F : FTy → Type} [FloatOps F]
-- ==== Norm.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Small.lean ====
abbrev S4608x128 : Shape := ⟨2, ![4608, 128]⟩
abbrev S8x4608x128 : Shape := ⟨3, ![8, 4608, 128]⟩
abbrev S512x128 : Shape := ⟨2, ![512, 128]⟩
abbrev S8x512x128 : Shape := ⟨3, ![8, 512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S4608x128, .f32⟩
  | .hbm, ⟨1, _⟩ => ⟨S8x4608x128, .bf16⟩
  | .hbm, ⟨2, _⟩ => ⟨S4608x128, .f32⟩
  | .hbm, ⟨3, _⟩ => ⟨S4608x128, .f32⟩
  | .hbm, ⟨4, _⟩ => ⟨S4608x128, .f32⟩
  | .hbm, ⟨5, _⟩ => ⟨S4608x128, .f32⟩
  | .hbm, ⟨6, _⟩ => ⟨S4608x128, .f32⟩
  | .hbm, ⟨7, _⟩ => ⟨S4608x128, .f32⟩
  | .local _ .vmem, ⟨0, _⟩ => ⟨S512x128, .f32⟩
  | .local _ .vmem, ⟨1, _⟩ => ⟨S512x128, .f32⟩
  | .local _ .vmem, ⟨2, _⟩ => ⟨S8x512x128, .bf16⟩
  | .local _ .vmem, ⟨3, _⟩ => ⟨S8x512x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S4608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SmallRefIdeal.lean ====
abbrev S4608x128 : Shape := ⟨2, ![4608, 128]⟩
abbrev S8x4608x128 : Shape := ⟨3, ![8, 4608, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4608x128, .f32⟩
  | .hbm, ⟨1, _⟩ => ⟨S8x4608x128, .bf16⟩
  | .hbm, ⟨2, _⟩ => ⟨S4608x128, .f32⟩
  | .hbm, ⟨3, _⟩ => ⟨S4608x128, .f32⟩
  | .hbm, ⟨4, _⟩ => ⟨S8x4608x128, .f32⟩
  | .hbm, ⟨5, _⟩ => ⟨S_, .f32⟩
  | .hbm, ⟨6, _⟩ => ⟨S4608x128, .f32⟩
  | .hbm, ⟨7, _⟩ => ⟨S_, .f32⟩
  | .hbm, ⟨8, _⟩ => ⟨S4608x128, .f32⟩
  | .hbm, ⟨9, _⟩ => ⟨S4608x128, .f32⟩
  | .hbm, ⟨10, _⟩ => ⟨S_, .f32⟩
  | .hbm, ⟨11, _⟩ => ⟨S4608x128, .f32⟩
  | .hbm, ⟨12, _⟩ => ⟨S4608x128, .f32⟩
  | .hbm, ⟨13, _⟩ => ⟨S4608x128, .f32⟩
  | .hbm, ⟨14, _⟩ => ⟨S_, .f32⟩
  | .hbm, ⟨15, _⟩ => ⟨S4608x128, .f32⟩
  | .hbm, ⟨16, _⟩ => ⟨S4608x128, .f32⟩
  | .hbm, ⟨17, _⟩ => ⟨S4608x128, .f32⟩
  | .hbm, ⟨18, _⟩ => ⟨S_, .f32⟩
  | .hbm, ⟨19, _⟩ => ⟨S4608x128, .f32⟩
  | .hbm, ⟨20, _⟩ => ⟨S4608x128, .f32⟩
  | .hbm, ⟨21, _⟩ => ⟨S4608x128, .f32⟩
  | .hbm, ⟨22, _⟩ => ⟨S_, .f32⟩
  | .hbm, ⟨23, _⟩ => ⟨S4608x128, .f32⟩
  | .hbm, ⟨24, _⟩ => ⟨S4608x128, .f32⟩
  | .hbm, ⟨25, _⟩ => ⟨S_, .f32⟩
  | .hbm, ⟨26, _⟩ => ⟨S4608x128, .f32⟩
  | .hbm, ⟨27, _⟩ => ⟨S4608x128, .f32⟩
  | .hbm, ⟨28, _⟩ => ⟨S4608x128, .f32⟩
  | .hbm, ⟨29, _⟩ => ⟨S_, .f32⟩
  | .hbm, ⟨30, _⟩ => ⟨S4608x128, .f32⟩
  | .hbm, ⟨31, _⟩ => ⟨S4608x128, .f32⟩
  | .hbm, ⟨32, _⟩ => ⟨S4608x128, .f32⟩
  | .hbm, ⟨33, _⟩ => ⟨S_, .f32⟩
  | .hbm, ⟨34, _⟩ => ⟨S4608x128, .f32⟩
  | .hbm, ⟨35, _⟩ => ⟨S4608x128, .f32⟩
  | .hbm, ⟨36, _⟩ => ⟨S4608x128, .f32⟩
  | .hbm, ⟨37, _⟩ => ⟨S_, .f32⟩
  | .hbm, ⟨38, _⟩ => ⟨S4608x128, .f32⟩
  | .hbm, ⟨39, _⟩ => ⟨S4608x128, .f32⟩
  | _, _ => ⟨S4608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== BigIn.lean ====
abbrev S4x1024x2048 : Shape := ⟨3, ![4, 1024, 2048]⟩
abbrev S1x128x2048 : Shape := ⟨3, ![1, 128, 2048]⟩
abbrev S4x128x2048 : Shape := ⟨3, ![4, 128, 2048]⟩
abbrev S128x2048 : Shape := ⟨2, ![128, 2048]⟩

abbrev nBuf : Space → Nat
  | .hbm => 13
  | .vmem => 18
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .f32⟩
  | .hbm, ⟨2, _⟩ => ⟨S4x1024x2048, .f32⟩
  | .hbm, ⟨3, _⟩ => ⟨S4x1024x2048, .bf16⟩
  | .hbm, ⟨4, _⟩ => ⟨S4x1024x2048, .bf16⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S4x1024x2048, .f32⟩
  | .hbm, ⟨9, _⟩ => ⟨S4x1024x2048, .f32⟩
  | .hbm, ⟨10, _⟩ => ⟨S4x1024x2048, .f32⟩
  | .hbm, ⟨11, _⟩ => ⟨S4x1024x2048, .f32⟩
  | .hbm, ⟨12, _⟩ => ⟨S4x1024x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S4x128x2048, .bf16⟩
  | .local _ .vmem, ⟨7, _⟩ => ⟨S4x128x2048, .bf16⟩
  | .local _ .vmem, ⟨8, _⟩ => ⟨S4x128x2048, .bf16⟩
  | .local _ .vmem, ⟨9, _⟩ => ⟨S4x128x2048, .bf16⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== BigInIdeal.lean ====
abbrev S4x1024x2048 : Shape := ⟨3, ![4, 1024, 2048]⟩
abbrev S1x128x2048 : Shape := ⟨3, ![1, 128, 2048]⟩
abbrev S4x128x2048 : Shape := ⟨3, ![4, 128, 2048]⟩
abbrev S128x2048 : Shape := ⟨2, ![128, 2048]⟩

abbrev nBuf : Space → Nat
  | .hbm => 13
  | .vmem => 18
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .f32⟩
  | .hbm, ⟨2, _⟩ => ⟨S4x1024x2048, .f32⟩
  | .hbm, ⟨3, _⟩ => ⟨S4x1024x2048, .bf16⟩
  | .hbm, ⟨4, _⟩ => ⟨S4x1024x2048, .bf16⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S4x1024x2048, .f32⟩
  | .hbm, ⟨9, _⟩ => ⟨S4x1024x2048, .f32⟩
  | .hbm, ⟨10, _⟩ => ⟨S4x1024x2048, .f32⟩
  | .hbm, ⟨11, _⟩ => ⟨S4x1024x2048, .f32⟩
  | .hbm, ⟨12, _⟩ => ⟨S4x1024x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S4x128x2048, .bf16⟩
  | .local _ .vmem, ⟨7, _⟩ => ⟨S4x128x2048, .bf16⟩
  | .local _ .vmem, ⟨8, _⟩ => ⟨S4x128x2048, .bf16⟩
  | .local _ .vmem, ⟨9, _⟩ => ⟨S4x128x2048, .bf16⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== BigInRefIdeal.lean ====
abbrev S4x1024x2048 : Shape := ⟨3, ![4, 1024, 2048]⟩
abbrev S_ : Shape := ⟨0, ![]⟩
abbrev S1024x2048 : Shape := ⟨2, ![1024, 2048]⟩
abbrev S1x1024x2048 : Shape := ⟨3, ![1, 1024, 2048]⟩
abbrev S3x1024x2048 : Shape := ⟨3, ![3, 1024, 2048]⟩

abbrev nBuf : Space → Nat
  | .hbm => 67
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .f32⟩
  | .hbm, ⟨2, _⟩ => ⟨S4x1024x2048, .f32⟩
  | .hbm, ⟨3, _⟩ => ⟨S4x1024x2048, .bf16⟩
  | .hbm, ⟨4, _⟩ => ⟨S4x1024x2048, .bf16⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S4x1024x2048, .f32⟩
  | .hbm, ⟨9, _⟩ => ⟨S4x1024x2048, .f32⟩
  | .hbm, ⟨10, _⟩ => ⟨S_, .f32⟩
  | .hbm, ⟨11, _⟩ => ⟨S1024x2048, .f32⟩
  | .hbm, ⟨12, _⟩ => ⟨S4x1024x2048, .f32⟩
  | .hbm, ⟨13, _⟩ => ⟨S_, .f32⟩
  | .hbm, ⟨14, _⟩ => ⟨S1024x2048, .f32⟩
  | .hbm, ⟨15, _⟩ => ⟨S1024x2048, .f32⟩
  | .hbm, ⟨16, _⟩ => ⟨S1x1024x2048, .f32⟩
  | .hbm, ⟨17, _⟩ => ⟨S1024x2048, .f32⟩
  | .hbm, ⟨18, _⟩ => ⟨S1x1024x2048, .f32⟩
  | .hbm, ⟨19, _⟩ => ⟨S1024x2048, .f32⟩
  | .hbm, ⟨20, _⟩ => ⟨S1x1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | .hbm, ⟨40, _⟩ => ⟨S_, .f32⟩
  | .hbm, ⟨41, _⟩ => ⟨S1024x2048, .f32⟩
  | .hbm, ⟨42, _⟩ => ⟨S1024x2048, .f32⟩
  | .hbm, ⟨43, _⟩ => ⟨S1024x2048, .f32⟩
  | .hbm, ⟨44, _⟩ => ⟨S_, .f32⟩
  | .hbm, ⟨45, _⟩ => ⟨S1024x2048, .f32⟩
  | .hbm, ⟨46, _⟩ => ⟨S1024x2048, .f32⟩
  | .hbm, ⟨47, _⟩ => ⟨S1024x2048, .f32⟩
  | .hbm, ⟨48, _⟩ => ⟨S_, .f32⟩
  | .hbm, ⟨49, _⟩ => ⟨S1024x2048, .f32⟩
  | .hbm, ⟨50, _⟩ => ⟨S1024x2048, .f32⟩
  | .hbm, ⟨51, _⟩ => ⟨S1024x2048, .f32⟩
  | .hbm, ⟨52, _⟩ => ⟨S_, .f32⟩
  | .hbm, ⟨53, _⟩ => ⟨S1024x2048, .f32⟩
  | .hbm, ⟨54, _⟩ => ⟨S1024x2048, .f32⟩
  | .hbm, ⟨55, _⟩ => ⟨S1x1024x2048, .f32⟩
  | .hbm, ⟨56, _⟩ => ⟨S3x1024x2048, .f32⟩
  | .hbm, ⟨57, _⟩ => ⟨S4x1024x2048, .f32⟩
  | .hbm, ⟨58, _⟩ => ⟨S1x1024x2048, .f32⟩
  | .hbm, ⟨59, _⟩ => ⟨S3x1024x2048, .f32⟩
  | .hbm, ⟨60, _⟩ => ⟨S4x1024x2048, .f32⟩
  | .hbm, ⟨61, _⟩ => ⟨S1x1024x2048, .f32⟩
  | .hbm, ⟨62, _⟩ => ⟨S3x1024x2048, .f32⟩
  | .hbm, ⟨63, _⟩ => ⟨S4x1024x2048, .f32⟩
  | .hbm, ⟨64, _⟩ => ⟨S1x1024x2048, .f32⟩
  | .hbm, ⟨65, _⟩ => ⟨S3x1024x2048, .f32⟩
  | .hbm, ⟨66, _⟩ => ⟨S4x1024x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== BigGlu.lean ====
abbrev S4x128x512 : Shape := ⟨3, ![4, 128, 512]⟩
abbrev S1x128x512 : Shape := ⟨3, ![1, 128, 512]⟩
abbrev S128x512 : Shape := ⟨2, ![128, 512]⟩

abbrev nBuf : Space → Nat
  | .hbm => 13
  | .vmem => 9
  | .smem => 0
  | _ => 0

abbrev bufTy : (tb : Table) → Fin (tcTables nBuf tb) → BufTy
  | .hbm, ⟨0, _⟩ => ⟨S4x128x512, .f32⟩
  | .hbm, ⟨1, _⟩ => ⟨S4x128x512, .f32⟩
  | .hbm, ⟨2, _⟩ => ⟨S4x128x512, .f32⟩
  | .hbm, ⟨3, _⟩ => ⟨S4x128x512, .bf16⟩
  | .hbm, ⟨4, _⟩ => ⟨S4x128x512, .bf16⟩
  | .hbm, ⟨5, _⟩ => ⟨S4x128x512, .f32⟩
  | .hbm, ⟨6, _⟩ => ⟨S4x128x512, .f32⟩
  | .hbm, ⟨7, _⟩ => ⟨S4x128x512, .f32⟩
  | .hbm, ⟨8, _⟩ => ⟨S4x128x512, .f32⟩
  | .hbm, ⟨9, _⟩ => ⟨S4x128x512, .f32⟩
  | .hbm, ⟨10, _⟩ => ⟨S4x128x512, .f32⟩
  | .hbm, ⟨11, _⟩ => ⟨S4x128x512, .f32⟩
  | .hbm, ⟨12, _⟩ => ⟨S4x128x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S4x128x512, .bf16⟩
  | .local _ .vmem, ⟨4, _⟩ => ⟨S4x128x512, .bf16⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | _, _ => ⟨S4x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== BigGluIdeal.lean ====
abbrev S4x128x512 : Shape := ⟨3, ![4, 128, 512]⟩
abbrev S1x128x512 : Shape := ⟨3, ![1, 128, 512]⟩
abbrev S128x512 : Shape := ⟨2, ![128, 512]⟩

abbrev nBuf : Space → Nat
  | .hbm => 13
  | .vmem => 9
  | .smem => 0
  | _ => 0

abbrev bufTy : (tb : Table) → Fin (tcTables nBuf tb) → BufTy
  | .hbm, ⟨0, _⟩ => ⟨S4x128x512, .f32⟩
  | .hbm, ⟨1, _⟩ => ⟨S4x128x512, .f32⟩
  | .hbm, ⟨2, _⟩ => ⟨S4x128x512, .f32⟩
  | .hbm, ⟨3, _⟩ => ⟨S4x128x512, .bf16⟩
  | .hbm, ⟨4, _⟩ => ⟨S4x128x512, .bf16⟩
  | .hbm, ⟨5, _⟩ => ⟨S4x128x512, .f32⟩
  | .hbm, ⟨6, _⟩ => ⟨S4x128x512, .f32⟩
  | .hbm, ⟨7, _⟩ => ⟨S4x128x512, .f32⟩
  | .hbm, ⟨8, _⟩ => ⟨S4x128x512, .f32⟩
  | .hbm, ⟨9, _⟩ => ⟨S4x128x512, .f32⟩
  | .hbm, ⟨10, _⟩ => ⟨S4x128x512, .f32⟩
  | .hbm, ⟨11, _⟩ => ⟨S4x128x512, .f32⟩
  | .hbm, ⟨12, _⟩ => ⟨S4x128x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S4x128x512, .bf16⟩
  | .local _ .vmem, ⟨4, _⟩ => ⟨S4x128x512, .bf16⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | _, _ => ⟨S4x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== BigGluRefIdeal.lean ====
abbrev S4x128x512 : Shape := ⟨3, ![4, 128, 512]⟩
abbrev S_ : Shape := ⟨0, ![]⟩
abbrev S128x512 : Shape := ⟨2, ![128, 512]⟩
abbrev S1x128x512 : Shape := ⟨3, ![1, 128, 512]⟩
abbrev S3x128x512 : Shape := ⟨3, ![3, 128, 512]⟩

abbrev nBuf : Space → Nat
  | .hbm => 67
  | .vmem => 0
  | .smem => 0
  | _ => 0

abbrev bufTy : (tb : Table) → Fin (tcTables nBuf tb) → BufTy
  | .hbm, ⟨0, _⟩ => ⟨S4x128x512, .f32⟩
  | .hbm, ⟨1, _⟩ => ⟨S4x128x512, .f32⟩
  | .hbm, ⟨2, _⟩ => ⟨S4x128x512, .f32⟩
  | .hbm, ⟨3, _⟩ => ⟨S4x128x512, .bf16⟩
  | .hbm, ⟨4, _⟩ => ⟨S4x128x512, .bf16⟩
  | .hbm, ⟨5, _⟩ => ⟨S4x128x512, .f32⟩
  | .hbm, ⟨6, _⟩ => ⟨S4x128x512, .f32⟩
  | .hbm, ⟨7, _⟩ => ⟨S4x128x512, .f32⟩
  | .hbm, ⟨8, _⟩ => ⟨S4x128x512, .f32⟩
  | .hbm, ⟨9, _⟩ => ⟨S4x128x512, .f32⟩
  | .hbm, ⟨10, _⟩ => ⟨S_, .f32⟩
  | .hbm, ⟨11, _⟩ => ⟨S128x512, .f32⟩
  | .hbm, ⟨12, _⟩ => ⟨S4x128x512, .f32⟩
  | .hbm, ⟨13, _⟩ => ⟨S_, .f32⟩
  | .hbm, ⟨14, _⟩ => ⟨S128x512, .f32⟩
  | .hbm, ⟨15, _⟩ => ⟨S128x512, .f32⟩
  | .hbm, ⟨16, _⟩ => ⟨S1x128x512, .f32⟩
  | .hbm, ⟨17, _⟩ => ⟨S128x512, .f32⟩
  | .hbm, ⟨18, _⟩ => ⟨S1x128x512, .f32⟩
  | .hbm, ⟨19, _⟩ => ⟨S128x512, .f32⟩
  | .hbm, ⟨20, _⟩ => ⟨S1x128x512, .f32⟩
  | .hbm, ⟨21, _⟩ => ⟨S128x512, .f32⟩
  | .hbm, ⟨22, _⟩ => ⟨S_, .f32⟩
  | .hbm, ⟨23, _⟩ => ⟨S128x512, .f32⟩
  | .hbm, ⟨24, _⟩ => ⟨S128x512, .f32⟩
  | .hbm, ⟨25, _⟩ => ⟨S_, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S_, .f32⟩
  | .hbm, ⟨30, _⟩ => ⟨S128x512, .f32⟩
  | .hbm, ⟨31, _⟩ => ⟨S128x512, .f32⟩
  | .hbm, ⟨32, _⟩ => ⟨S128x512, .f32⟩
  | .hbm, ⟨33, _⟩ => ⟨S_, .f32⟩
  | .hbm, ⟨34, _⟩ => ⟨S128x512, .f32⟩
  | .hbm, ⟨35, _⟩ => ⟨S128x512, .f32⟩
  | .hbm, ⟨36, _⟩ => ⟨S128x512, .f32⟩
  | .hbm, ⟨37, _⟩ => ⟨S_, .f32⟩
  | .hbm, ⟨38, _⟩ => ⟨S128x512, .f32⟩
  | .hbm, ⟨39, _⟩ => ⟨S128x512, .f32⟩
  | .hbm, ⟨40, _⟩ => ⟨S_, .f32⟩
  | .hbm, ⟨41, _⟩ => ⟨S128x512, .f32⟩
  | .hbm, ⟨42, _⟩ => ⟨S128x512, .f32⟩
  | .hbm, ⟨43, _⟩ => ⟨S128x512, .f32⟩
  | .hbm, ⟨44, _⟩ => ⟨S_, .f32⟩
  | .hbm, ⟨45, _⟩ => ⟨S128x512, .f32⟩
  | .hbm, ⟨46, _⟩ => ⟨S128x512, .f32⟩
  | .hbm, ⟨47, _⟩ => ⟨S128x512, .f32⟩
  | .hbm, ⟨48, _⟩ => ⟨S_, .f32⟩
  | .hbm, ⟨49, _⟩ => ⟨S128x512, .f32⟩
  | .hbm, ⟨50, _⟩ => ⟨S128x512, .f32⟩
  | .hbm, ⟨51, _⟩ => ⟨S128x512, .f32⟩
  | .hbm, ⟨52, _⟩ => ⟨S_, .f32⟩
  | .hbm, ⟨53, _⟩ => ⟨S128x512, .f32⟩
  | .hbm, ⟨54, _⟩ => ⟨S128x512, .f32⟩
  | .hbm, ⟨55, _⟩ => ⟨S1x128x512, .f32⟩
  | .hbm, ⟨56, _⟩ => ⟨S3x128x512, .f32⟩
  | .hbm, ⟨57, _⟩ => ⟨S4x128x512, .f32⟩
  | .hbm, ⟨58, _⟩ => ⟨S1x128x512, .f32⟩
  | .hbm, ⟨59, _⟩ => ⟨S3x128x512, .f32⟩
  | .hbm, ⟨60, _⟩ => ⟨S4x128x512, .f32⟩
  | .hbm, ⟨61, _⟩ => ⟨S1x128x512, .f32⟩
  | .hbm, ⟨62, _⟩ => ⟨S3x128x512, .f32⟩
  | .hbm, ⟨63, _⟩ => ⟨S4x128x512, .f32⟩
  | .hbm, ⟨64, _⟩ => ⟨S1x128x512, .f32⟩
  | .hbm, ⟨65, _⟩ => ⟨S3x128x512, .f32⟩
  | .hbm, ⟨66, _⟩ => ⟨S4x128x512, .f32⟩
  | _, _ => ⟨S4x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== BigBranch.lean ====
abbrev S4x512x256 : Shape := ⟨3, ![4, 512, 256]⟩
abbrev S1x128x256 : Shape := ⟨3, ![1, 128, 256]⟩
abbrev S4x128x256 : Shape := ⟨3, ![4, 128, 256]⟩
abbrev S128x256 : Shape := ⟨2, ![128, 256]⟩

abbrev nBuf : Space → Nat
  | .hbm => 13
  | .vmem => 18
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .bf16⟩
  | .hbm, ⟨4, _⟩ => ⟨S4x512x256, .bf16⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S4x512x256, .f32⟩
  | .hbm, ⟨12, _⟩ => ⟨S4x512x256, .f32⟩
  | .local _ .vmem, ⟨0, _⟩ => ⟨S1x128x256, .f32⟩
  | .local _ .vmem, ⟨1, _⟩ => ⟨S1x128x256, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S4x128x256, .bf16⟩
  | .local _ .vmem, ⟨7, _⟩ => ⟨S4x128x256, .bf16⟩
  | .local _ .vmem, ⟨8, _⟩ => ⟨S4x128x256, .bf16⟩
  | .local _ .vmem, ⟨9, _⟩ => ⟨S4x128x256, .bf16⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== BigBranchIdeal.lean ====
abbrev S4x512x256 : Shape := ⟨3, ![4, 512, 256]⟩
abbrev S1x128x256 : Shape := ⟨3, ![1, 128, 256]⟩
abbrev S4x128x256 : Shape := ⟨3, ![4, 128, 256]⟩
abbrev S128x256 : Shape := ⟨2, ![128, 256]⟩

abbrev nBuf : Space → Nat
  | .hbm => 13
  | .vmem => 18
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .bf16⟩
  | .hbm, ⟨4, _⟩ => ⟨S4x512x256, .bf16⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S4x512x256, .f32⟩
  | .hbm, ⟨12, _⟩ => ⟨S4x512x256, .f32⟩
  | .local _ .vmem, ⟨0, _⟩ => ⟨S1x128x256, .f32⟩
  | .local _ .vmem, ⟨1, _⟩ => ⟨S1x128x256, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S4x128x256, .bf16⟩
  | .local _ .vmem, ⟨7, _⟩ => ⟨S4x128x256, .bf16⟩
  | .local _ .vmem, ⟨8, _⟩ => ⟨S4x128x256, .bf16⟩
  | .local _ .vmem, ⟨9, _⟩ => ⟨S4x128x256, .bf16⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== BigBranchRefIdeal.lean ====
abbrev S4x512x256 : Shape := ⟨3, ![4, 512, 256]⟩
abbrev S_ : Shape := ⟨0, ![]⟩
abbrev S512x256 : Shape := ⟨2, ![512, 256]⟩
abbrev S1x512x256 : Shape := ⟨3, ![1, 512, 256]⟩
abbrev S3x512x256 : Shape := ⟨3, ![3, 512, 256]⟩

abbrev nBuf : Space → Nat
  | .hbm => 67
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .bf16⟩
  | .hbm, ⟨4, _⟩ => ⟨S4x512x256, .bf16⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S4x512x256, .f32⟩
  | .hbm, ⟨9, _⟩ => ⟨S4x512x256, .f32⟩
  | .hbm, ⟨10, _⟩ => ⟨S_, .f32⟩
  | .hbm, ⟨11, _⟩ => ⟨S512x256, .f32⟩
  | .hbm, ⟨12, _⟩ => ⟨S4x512x256, .f32⟩
  | .hbm, ⟨13, _⟩ => ⟨S_, .f32⟩
  | .hbm, ⟨14, _⟩ => ⟨S512x256, .f32⟩
  | .hbm, ⟨15, _⟩ => ⟨S512x256, .f32⟩
  | .hbm, ⟨16, _⟩ => ⟨S1x512x256, .f32⟩
  | .hbm, ⟨17, _⟩ => ⟨S512x256, .f32⟩
  | .hbm, ⟨18, _⟩ => ⟨S1x512x256, .f32⟩
  | .hbm, ⟨19, _⟩ => ⟨S512x256, .f32⟩
  | .hbm, ⟨20, _⟩ => ⟨S1x512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S_, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S512x256, .f32⟩
  | .hbm, ⟨33, _⟩ => ⟨S_, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S_, .f32⟩
  | .hbm, ⟨38, _⟩ => ⟨S512x256, .f32⟩
  | .hbm, ⟨39, _⟩ => ⟨S512x256, .f32⟩
  | .hbm, ⟨40, _⟩ => ⟨S_, .f32⟩
  | .hbm, ⟨41, _⟩ => ⟨S512x256, .f32⟩
  | .hbm, ⟨42, _⟩ => ⟨S512x256, .f32⟩
  | .hbm, ⟨43, _⟩ => ⟨S512x256, .f32⟩
  | .hbm, ⟨44, _⟩ => ⟨S_, .f32⟩
  | .hbm, ⟨45, _⟩ => ⟨S512x256, .f32⟩
  | .hbm, ⟨46, _⟩ => ⟨S512x256, .f32⟩
  | .hbm, ⟨47, _⟩ => ⟨S512x256, .f32⟩
  | .hbm, ⟨48, _⟩ => ⟨S_, .f32⟩
  | .hbm, ⟨49, _⟩ => ⟨S512x256, .f32⟩
  | .hbm, ⟨50, _⟩ => ⟨S512x256, .f32⟩
  | .hbm, ⟨51, _⟩ => ⟨S512x256, .f32⟩
  | .hbm, ⟨52, _⟩ => ⟨S_, .f32⟩
  | .hbm, ⟨53, _⟩ => ⟨S512x256, .f32⟩
  | .hbm, ⟨54, _⟩ => ⟨S512x256, .f32⟩
  | .hbm, ⟨55, _⟩ => ⟨S1x512x256, .f32⟩
  | .hbm, ⟨56, _⟩ => ⟨S3x512x256, .f32⟩
  | .hbm, ⟨57, _⟩ => ⟨S4x512x256, .f32⟩
  | .hbm, ⟨58, _⟩ => ⟨S1x512x256, .f32⟩
  | .hbm, ⟨59, _⟩ => ⟨S3x512x256, .f32⟩
  | .hbm, ⟨60, _⟩ => ⟨S4x512x256, .f32⟩
  | .hbm, ⟨61, _⟩ => ⟨S1x512x256, .f32⟩
  | .hbm, ⟨62, _⟩ => ⟨S3x512x256, .f32⟩
  | .hbm, ⟨63, _⟩ => ⟨S4x512x256, .f32⟩
  | .hbm, ⟨64, _⟩ => ⟨S1x512x256, .f32⟩
  | .hbm, ⟨65, _⟩ => ⟨S3x512x256, .f32⟩
  | .hbm, ⟨66, _⟩ => ⟨S4x512x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== BigOut.lean ====
abbrev S4x256x1024 : Shape := ⟨3, ![4, 256, 1024]⟩
abbrev S1x128x1024 : Shape := ⟨3, ![1, 128, 1024]⟩
abbrev S4x128x1024 : Shape := ⟨3, ![4, 128, 1024]⟩
abbrev S128x1024 : Shape := ⟨2, ![128, 1024]⟩

abbrev nBuf : Space → Nat
  | .hbm => 13
  | .vmem => 18
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .bf16⟩
  | .hbm, ⟨4, _⟩ => ⟨S4x256x1024, .bf16⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .hbm, ⟨12, _⟩ => ⟨S4x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S4x128x1024, .bf16⟩
  | .local _ .vmem, ⟨7, _⟩ => ⟨S4x128x1024, .bf16⟩
  | .local _ .vmem, ⟨8, _⟩ => ⟨S4x128x1024, .bf16⟩
  | .local _ .vmem, ⟨9, _⟩ => ⟨S4x128x1024, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== BigOutRefIdeal.lean ====
abbrev S4x256x1024 : Shape := ⟨3, ![4, 256, 1024]⟩
abbrev S_ : Shape := ⟨0, ![]⟩
abbrev S256x1024 : Shape := ⟨2, ![256, 1024]⟩
abbrev S1x256x1024 : Shape := ⟨3, ![1, 256, 1024]⟩
abbrev S3x256x1024 : Shape := ⟨3, ![3, 256, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .bf16⟩
  | .hbm, ⟨4, _⟩ => ⟨S4x256x1024, .bf16⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S_, .f32⟩
  | .hbm, ⟨11, _⟩ => ⟨S256x1024, .f32⟩
  | .hbm, ⟨12, _⟩ => ⟨S4x256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S1x256x1024, .f32⟩
  | .hbm, ⟨17, _⟩ => ⟨S256x1024, .f32⟩
  | .hbm, ⟨18, _⟩ => ⟨S1x256x1024, .f32⟩
  | .hbm, ⟨19, _⟩ => ⟨S256x1024, .f32⟩
  | .hbm, ⟨20, _⟩ => ⟨S1x256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S_, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S_, .f32⟩
  | .hbm, ⟨53, _⟩ => ⟨S256x1024, .f32⟩
  | .hbm, ⟨54, _⟩ => ⟨S256x1024, .f32⟩
  | .hbm, ⟨55, _⟩ => ⟨S1x256x1024, .f32⟩
  | .hbm, ⟨56, _⟩ => ⟨S3x256x1024, .f32⟩
  | .hbm, ⟨57, _⟩ => ⟨S4x256x1024, .f32⟩
  | .hbm, ⟨58, _⟩ => ⟨S1x256x1024, .f32⟩
  | .hbm, ⟨59, _⟩ => ⟨S3x256x1024, .f32⟩
  | .hbm, ⟨60, _⟩ => ⟨S4x256x1024, .f32⟩
  | .hbm, ⟨61, _⟩ => ⟨S1x256x1024, .f32⟩
  | .hbm, ⟨62, _⟩ => ⟨S3x256x1024, .f32⟩
  | .hbm, ⟨63, _⟩ => ⟨S4x256x1024, .f32⟩
  | .hbm, ⟨64, _⟩ => ⟨S1x256x1024, .f32⟩
  | .hbm, ⟨65, _⟩ => ⟨S3x256x1024, .f32⟩
  | .hbm, ⟨66, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Loss.lean ====
abbrev S2048x1024 : Shape := ⟨2, ![2048, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S8x128, .f32⟩
  | .hbm, ⟨3, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_9 : BitVec 32 := 0#32
  let v19 : BitVec 1 := Scalar.cmpi .ne v18 c0_i32_9
  v19

def k0_cond2 (i : grid0.Coords) : BitVec 1 :=
  let arg0 : BitVec 32 := BitVec.ofNat 32 (i 0).val
  let c0_i32_10 : BitVec 32 := 0#32
  let v20 : BitVec 1 := Scalar.cmpi .sgt arg0 c0_i32_10
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S2048x1024 : Shape := ⟨2, ![2048, 1024]⟩
abbrev S_ : Shape := ⟨0, ![]⟩
abbrev S2048 : Shape := ⟨1, ![2048]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S2048x1024, .f32⟩
  | .hbm, ⟨25, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Disc.lean ====
abbrev S4x32x64 : Shape := ⟨3, ![4, 32, 64]⟩
abbrev S4x32 : Shape := ⟨2, ![4, 32]⟩
abbrev S4x32x64x16 : Shape := ⟨4, ![4, 32, 64, 16]⟩
abbrev S16x1x512 : Shape := ⟨3, ![16, 1, 512]⟩
abbrev S4x32x1 : Shape := ⟨3, ![4, 32, 1]⟩
abbrev S4x4x8x64x16 : Shape := ⟨5, ![4, 4, 8, 64, 16]⟩
abbrev S4x4x16x8x64 : Shape := ⟨5, ![4, 4, 16, 8, 64]⟩
abbrev S16x16x512 : Shape := ⟨3, ![16, 16, 512]⟩
abbrev S16x1x1024 : Shape := ⟨3, ![16, 1, 1024]⟩
abbrev S16x16x1024 : Shape := ⟨3, ![16, 16, 1024]⟩
abbrev S1x1x512 : Shape := ⟨3, ![1, 1, 512]⟩
abbrev S1x16x512 : Shape := ⟨3, ![1, 16, 512]⟩
abbrev S1x1x1024 : Shape := ⟨3, ![1, 1, 1024]⟩
abbrev S1x16x1024 : Shape := ⟨3, ![1, 16, 1024]⟩
abbrev S1x512 : Shape := ⟨2, ![1, 512]⟩
abbrev S16x512 : Shape := ⟨2, ![16, 512]⟩
abbrev S1x1024 : Shape := ⟨2, ![1, 1024]⟩
abbrev S16x1024 : Shape := ⟨2, ![16, 1024]⟩
abbrev S512 : Shape := ⟨1, ![512]⟩
abbrev S_ : Shape := ⟨0, ![]⟩

abbrev nBuf : Space → Nat
  | .hbm => 46
  | .vmem => 24
  | .smem => 0
  | _ => 0

abbrev bufTy : (tb : Table) → Fin (tcTables nBuf tb) → BufTy
  | .hbm, ⟨0, _⟩ => ⟨S4x32x64, .f32⟩
  | .hbm, ⟨1, _⟩ => ⟨S4x32x64, .f32⟩
  | .hbm, ⟨2, _⟩ => ⟨S4x32, .f32⟩
  | .hbm, ⟨3, _⟩ => ⟨S4x32x64x16, .f32⟩
  | .hbm, ⟨4, _⟩ => ⟨S4x32x64x16, .f32⟩
  | .hbm, ⟨5, _⟩ => ⟨S4x32x64, .f32⟩
  | .hbm, ⟨6, _⟩ => ⟨S4x32x64, .f32⟩
  | .hbm, ⟨7, _⟩ => ⟨S4x32x64x16, .f32⟩
  | .hbm, ⟨8, _⟩ => ⟨S4x32x64x16, .f32⟩
  | .hbm, ⟨9, _⟩ => ⟨S16x1x512, .f32⟩
  | .hbm, ⟨10, _⟩ => ⟨S16x1x512, .f32⟩
  | .hbm, ⟨11, _⟩ => ⟨S4x32x1, .f32⟩
  | .hbm, ⟨12, _⟩ => ⟨S4x32x64, .f32⟩
  | .hbm, ⟨13, _⟩ => ⟨S16x1x512, .f32⟩
  | .hbm, ⟨14, _⟩ => ⟨S4x4x8x64x16, .f32⟩
  | .hbm, ⟨15, _⟩ => ⟨S4x4x16x8x64, .f32⟩
  | .hbm, ⟨16, _⟩ => ⟨S16x16x512, .f32⟩
  | .hbm, ⟨17, _⟩ => ⟨S4x4x8x64x16, .f32⟩
  | .hbm, ⟨18, _⟩ => ⟨S4x4x16x8x64, .f32⟩
  | .hbm, ⟨19, _⟩ => ⟨S16x16x512, .f32⟩
  | .hbm, ⟨20, _⟩ => ⟨S16x1x512, .f32⟩
  | .hbm, ⟨21, _⟩ => ⟨S16x1x512, .f32⟩
  | .hbm, ⟨22, _⟩ => ⟨S16x1x1024, .f32⟩
  | .hbm, ⟨23, _⟩ => ⟨S4x4x8x64x16, .f32⟩
  | .hbm, ⟨24, _⟩ => ⟨S4x4x16x8x64, .f32⟩
  | .hbm, ⟨25, _⟩ => ⟨S16x16x512, .f32⟩
  | .hbm, ⟨26, _⟩ => ⟨S4x4x8x64x16, .f32⟩
  | .hbm, ⟨27, _⟩ => ⟨S4x4x16x8x64, .f32⟩
  | .hbm, ⟨28, _⟩ => ⟨S16x16x512, .f32⟩
  | .hbm, ⟨29, _⟩ => ⟨S16x16x1024, .f32⟩
  | .hbm, ⟨30, _⟩ => ⟨S16x1x512, .f32⟩
  | .hbm, ⟨31, _⟩ => ⟨S16x1x512, .f32⟩
  | .hbm, ⟨32, _⟩ => ⟨S16x1x512, .f32⟩
  | .hbm, ⟨33, _⟩ => ⟨S16x16x512, .f32⟩
  | .hbm, ⟨34, _⟩ => ⟨S16x16x512, .f32⟩
  | .hbm, ⟨35, _⟩ => ⟨S4x32x64, .f32⟩
  | .hbm, ⟨36, _⟩ => ⟨S4x32x64, .f32⟩
  | .hbm, ⟨37, _⟩ => ⟨S4x32x64, .f32⟩
  | .hbm, ⟨38, _⟩ => ⟨S_, .f32⟩
  | .hbm, ⟨39, _⟩ => ⟨S4x32, .f32⟩
  | .hbm, ⟨40, _⟩ => ⟨S4x4x16x8x64, .f32⟩
  | .hbm, ⟨41, _⟩ => ⟨S4x4x8x64x16, .f32⟩
  | .hbm, ⟨42, _⟩ => ⟨S4x32x64x16, .f32⟩
  | .hbm, ⟨43, _⟩ => ⟨S4x4x16x8x64, .f32⟩
  | .hbm, ⟨44, _⟩ => ⟨S4x4x8x64x16, .f32⟩
  | .hbm, ⟨45, _⟩ => ⟨S4x32x64x16, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x16x512, .f32⟩
  | .local _ .vmem, ⟨7, _⟩ => ⟨S1x16x512, .f32⟩
  | .local _ .vmem, ⟨8, _⟩ => ⟨S1x16x512, .f32⟩
  | .local _ .vmem, ⟨9, _⟩ => ⟨S1x16x512, .f32⟩
  | .local _ .vmem, ⟨10, _⟩ => ⟨S1x1x1024, .f32⟩
  | .local _ .vmem, ⟨11, _⟩ => ⟨S1x1x1024, .f32⟩
  | .local _ .vmem, ⟨12, _⟩ => ⟨S1x16x1024, .f32⟩
  | .local _ .vmem, ⟨13, _⟩ => ⟨S1x16x1024, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x1x512, .f32⟩
  | .local _ .vmem, ⟨19, _⟩ => ⟨S1x1x512, .f32⟩
  | .local _ .vmem, ⟨20, _⟩ => ⟨S1x16x512, .f32⟩
  | .local _ .vmem, ⟨21, _⟩ => ⟨S1x16x512, .f32⟩
  | .local _ .vmem, ⟨22, _⟩ => ⟨S1x16x512, .f32⟩
  | .local _ .vmem, ⟨23, _⟩ => ⟨S1x16x512, .f32⟩
  | _, _ => ⟨S4x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== DiscRefIdeal.lean ====
abbrev S4x32x64 : Shape := ⟨3, ![4, 32, 64]⟩
abbrev S4x32 : Shape := ⟨2, ![4, 32]⟩
abbrev S4x32x64x16 : Shape := ⟨4, ![4, 32, 64, 16]⟩
abbrev S_ : Shape := ⟨0, ![]⟩
abbrev S4x32x1 : Shape := ⟨3, ![4, 32, 1]⟩
abbrev S4x32x64x1 : Shape := ⟨4, ![4, 32, 64, 1]⟩

abbrev nBuf : Space → Nat
  | .hbm => 168
  | .vmem => 0
  | .smem => 0
  | _ => 0

abbrev hbmTy0_0 (i : Nat) : BufTy := match i % 128 with
  | 0 => ⟨S4x32x64, .f32⟩
  | 1 => ⟨S4x32x64, .f32⟩
  | 2 => ⟨S4x32, .f32⟩
  | 3 => ⟨S4x32x64x16, .f32⟩
  | 4 => ⟨S4x32x64x16, .f32⟩
  | 5 => ⟨S4x32x64, .f32⟩
  | 6 => ⟨S4x32x64, .f32⟩
  | 7 => ⟨S4x32x64x16, .f32⟩
  | 8 => ⟨S4x32x64x16, .f32⟩
  | 9 => ⟨S_, .f32⟩
  | 10 => ⟨S4x32x64, .f32⟩
  | 11 => ⟨S4x32x64, .f32⟩
  | 12 => ⟨S_, .f32⟩
  | 13 => ⟨S4x32x64, .f32⟩
  | 14 => ⟨S4x32x64, .i1⟩
  | 15 => ⟨S_, .f32⟩
  | 16 => ⟨S4x32x64, .f32⟩
  | 17 => ⟨S4x32x64, .i1⟩
  | 18 => ⟨S_, .f32⟩
  | 19 => ⟨S4x32x64, .f32⟩
  | 20 => ⟨S_, .f32⟩
  | 21 => ⟨S4x32x64, .f32⟩
  | 22 => ⟨S_, .f32⟩
  | 23 => ⟨S4x32x64, .f32⟩
  | 24 => ⟨S4x32x64, .f32⟩
  | 25 => ⟨S4x32x64, .f32⟩
  | 26 => ⟨S4x32x1, .f32⟩
  | 27 => ⟨S4x32x64, .f32⟩
  | 28 => ⟨S4x32x64, .f32⟩
  | 29 => ⟨S4x32x64, .f32⟩
  | 30 => ⟨S4x32x64, .f32⟩
  | 31 => ⟨S4x32x64, .f32⟩
  | 32 => ⟨S4x32x64, .f32⟩
  | 33 => ⟨S4x32x64, .f32⟩
  | 34 => ⟨S4x32x64, .f32⟩
  | 35 => ⟨S4x32x64, .f32⟩
  | 36 => ⟨S4x32x64, .f32⟩
  | 37 => ⟨S4x32x64, .f32⟩
  | 38 => ⟨S4x32x64, .f32⟩
  | 39 => ⟨S_, .f32⟩
  | 40 => ⟨S4x32x64, .f32⟩
  | 41 => ⟨S4x32x64, .f32⟩
  | 42 => ⟨S4x32x64, .f32⟩
  | 43 => ⟨S4x32x64, .f32⟩
  | 44 => ⟨S4x32x64, .f32⟩
  | 45 => ⟨S4x32x64, .f32⟩
  | 46 => ⟨S4x32x64, .f32⟩
  | 47 => ⟨S4x32x64, .f32⟩
  | 48 => ⟨S4x32x64, .f32⟩
  | 49 => ⟨S4x32x64, .f32⟩
  | 50 => ⟨S_, .f32⟩
  | 51 => ⟨S4x32x64, .f32⟩
  | 52 => ⟨S4x32x64, .f32⟩
  | 53 => ⟨S4x32x64, .f32⟩
  | 54 => ⟨S4x32x64, .f32⟩
  | 55 => ⟨S4x32x64, .f32⟩
  | 56 => ⟨S4x32x64, .f32⟩
  | 57 => ⟨S4x32x64, .f32⟩
  | 58 => ⟨S_, .f32⟩
  | 59 => ⟨S4x32x64, .f32⟩
  | 60 => ⟨S4x32x64, .f32⟩
  | 61 => ⟨S4x32x64x1, .f32⟩
  | 62 => ⟨S4x32x64x1, .f32⟩
  | 63 => ⟨S4x32x64x16, .f32⟩
  | 64 => ⟨S4x32x64x16, .f32⟩
  | 65 => ⟨S4x32x64x16, .f32⟩
  | 66 => ⟨S4x32x64x16, .f32⟩
  | 67 => ⟨S4x32x64x16, .f32⟩
  | 68 => ⟨S4x32x64x16, .f32⟩
  | 69 => ⟨S4x32x64x16, .f32⟩
  | 70 => ⟨S4x32x64x16, .f32⟩
  | 71 => ⟨S4x32x64x16, .f32⟩
  | 72 => ⟨S4x32x64x16, .f32⟩
  | 73 => ⟨S4x32x64x16, .f32⟩
  | 74 => ⟨S4x32x64x16, .f32⟩
  | 75 => ⟨S4x32x64x16, .f32⟩
  | 76 => ⟨S4x32x64x16, .f32⟩
  | 77 => ⟨S4x32x64x16, .f32⟩
  | 78 => ⟨S_, .f32⟩
  | 79 => ⟨S4x32x64, .f32⟩
  | 80 => ⟨S4x32x64x1, .f32⟩
  | 81 => ⟨S4x32x64x16, .f32⟩
  | 82 => ⟨S4x32x64x16, .f32⟩
  | 83 => ⟨S4x32x64x16, .f32⟩
  | 84 => ⟨S_, .f32⟩
  | 85 => ⟨S4x32x64, .f32⟩
  | 86 => ⟨S4x32x64x1, .f32⟩
  | 87 => ⟨S4x32x64x16, .f32⟩
  | 88 => ⟨S4x32x64x16, .f32⟩
  | 89 => ⟨S4x32x64x16, .f32⟩
  | 90 => ⟨S4x32x64x16, .f32⟩
  | 91 => ⟨S4x32x64x16, .f32⟩
  | 92 => ⟨S4x32x64x16, .f32⟩
  | 93 => ⟨S_, .f32⟩
  | 94 => ⟨S4x32x64, .f32⟩
  | 95 => ⟨S4x32x64x1, .f32⟩
  | 96 => ⟨S4x32x64x1, .f32⟩
  | 97 => ⟨S4x32x64x16, .f32⟩
  | 98 => ⟨S4x32x64x16, .f32⟩
  | 99 => ⟨S4x32x64x16, .f32⟩
  | 100 => ⟨S4x32x64x16, .f32⟩
  | 101 => ⟨S_, .f32⟩
  | 102 => ⟨S4x32x64, .f32⟩
  | 103 => ⟨S4x32x64x1, .f32⟩
  | 104 => ⟨S4x32x64x1, .f32⟩
  | 105 => ⟨S_, .f32⟩
  | 106 => ⟨S4x32x64, .f32⟩
  | 107 => ⟨S_, .f32⟩
  | 108 => ⟨S4x32x64, .f32⟩
  | 109 => ⟨S4x32x64, .f32⟩
  | 110 => ⟨S4x32x64, .f32⟩
  | 111 => ⟨S4x32x64, .f32⟩
  | 112 => ⟨S4x32x64, .f32⟩
  | 113 => ⟨S4x32x64, .f32⟩
  | 114 => ⟨S4x32x64, .f32⟩
  | 115 => ⟨S4x32x64, .f32⟩
  | 116 => ⟨S4x32x64, .f32⟩
  | 117 => ⟨S4x32x64, .f32⟩
  | 118 => ⟨S4x32x64, .f32⟩
  | 119 => ⟨S4x32x64, .f32⟩
  | 120 => ⟨S4x32x64, .f32⟩
  | 121 => ⟨S4x32x64, .f32⟩
  | 122 => ⟨S4x32x64, .f32⟩
  | 123 => ⟨S4x32x64, .f32⟩
  | 124 => ⟨S4x32x64, .f32⟩
  | 125 => ⟨S4x32x64, .f32⟩
  | 126 => ⟨S4x32x64, .f32⟩
  | 127 => ⟨S4x32x64, .f32⟩
  | _ => ⟨S4x32x64, .f32⟩

abbrev hbmTy0_1 (i : Nat) : BufTy := match i % 128 with
  | 0 => ⟨S4x32x64, .f32⟩
  | 1 => ⟨S4x32x64, .f32⟩
  | 2 => ⟨S4x32x64, .f32⟩
  | 3 => ⟨S4x32x64, .f32⟩
  | 4 => ⟨S4x32x64, .f32⟩
  | 5 => ⟨S4x32x64, .f32⟩
  | 6 => ⟨S4x32x64, .f32⟩
  | 7 => ⟨S4x32x64, .f32⟩
  | 8 => ⟨S4x32x64, .f32⟩
  | 9 => ⟨S4x32x64, .f32⟩
  | 10 => ⟨S4x32x64, .f32⟩
  | 11 => ⟨S4x32x64, .f32⟩
  | 12 => ⟨S4x32x64, .f32⟩
  | 13 => ⟨S4x32x64, .f32⟩
  | 14 => ⟨S4x32x64, .f32⟩
  | 15 => ⟨S4x32x64, .f32⟩
  | 16 => ⟨S4x32x64, .f32⟩
  | 17 => ⟨S4x32x64, .f32⟩
  | 18 => ⟨S4x32x64, .f32⟩
  | 19 => ⟨S4x32x64, .f32⟩
  | 20 => ⟨S4x32x64, .f32⟩
  | 21 => ⟨S4x32x64, .f32⟩
  | 22 => ⟨S4x32x64, .f32⟩
  | 23 => ⟨S4x32x64, .f32⟩
  | 24 => ⟨S4x32x64, .f32⟩
  | 25 => ⟨S4x32x64, .f32⟩
  | 26 => ⟨S4x32x64, .f32⟩
  | 27 => ⟨S4x32x64, .f32⟩
  | 28 => ⟨S4x32x64, .f32⟩
  | 29 => ⟨S4x32x64, .f32⟩
  | 30 => ⟨S4x32x64, .f32⟩
  | 31 => ⟨S4x32x64, .f32⟩
  | 32 => ⟨S4x32x64, .f32⟩
  | 33 => ⟨S4x32x64, .f32⟩
  | 34 => ⟨S_, .f32⟩
  | 35 => ⟨S4x32, .f32⟩
  | 36 => ⟨S4x32x1, .f32⟩
  | 37 => ⟨S_, .f32⟩
  | 38 => ⟨S4x32, .f32⟩
  | 39 => ⟨S4x32x64, .f32⟩
  | _ => ⟨S4x32x64, .f32⟩

abbrev hbmTy (i : Nat) : BufTy := match i / 128 with
  | 0 => hbmTy0_0 i
  | 1 => hbmTy0_1 i
  | _ => ⟨S4x32x64, .f32⟩

abbrev bufTy : (tb : Table) → Fin (tcTables nBuf tb) → BufTy
  | .hbm, ⟨i, _⟩ => hbmTy i
  | _, _ => ⟨S4x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_cst_4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_10 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_11 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_12 : Ref sig .tc := ⟨.hbm, 105, rfl⟩
abbrev main_v83 : Ref sig .tc := ⟨.hbm, 106, rfl⟩
abbrev main_cst_13 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_cst_14 : Ref sig .tc := ⟨.hbm, 162, rfl⟩
abbrev main_v138 : Ref sig .tc := ⟨.hbm, 163, rfl⟩
abbrev main_v139 : Ref sig .tc := ⟨.hbm, 164, rfl⟩
abbrev main_cst_15 : Ref sig .tc := ⟨.hbm, 165, rfl⟩
abbrev main_v140 : Ref sig .tc := ⟨.hbm, 166, rfl⟩
abbrev main_v141 : Ref sig .tc := ⟨.hbm, 167, rfl⟩

abbrev nD : Nat := 1
abbrev τ : Topo := Topo.v7x

variable {F : FTy → Type} [FloatOps F]
-- ==== Tail.lean ====
abbrev S2048x512 : Shape := ⟨2, ![2048, 512]⟩
abbrev S2048x8192 : Shape := ⟨2, ![2048, 8192]⟩
abbrev S512 : Shape := ⟨1, ![512]⟩
abbrev S512x512 : Shape := ⟨2, ![512, 512]⟩
abbrev S1x512 : Shape := ⟨2, ![1, 512]⟩

abbrev nBuf : Space → Nat
  | .hbm => 16
  | .vmem => 21
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x8192, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S2048x8192, .bf16⟩
  | .hbm, ⟨7, _⟩ => ⟨S1x512, .f32⟩
  | .hbm, ⟨8, _⟩ => ⟨S512x512, .bf16⟩
  | .hbm, ⟨9, _⟩ => ⟨S1x512, .f32⟩
  | .hbm, ⟨10, _⟩ => ⟨S2048x512, .f32⟩
  | .hbm, ⟨11, _⟩ => ⟨S2048x512, .f32⟩
  | .hbm, ⟨12, _⟩ => ⟨S2048x8192, .bf16⟩
  | .hbm, ⟨13, _⟩ => ⟨S512x512, .bf16⟩
  | .hbm, ⟨14, _⟩ => ⟨S1x512, .f32⟩
  | .hbm, ⟨15, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S512x512, .bf16⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S1x512, .f32⟩
  | .local _ .vmem, ⟨19, _⟩ => ⟨S1x512, .f32⟩
  | .local _ .vmem, ⟨20, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v102 : BitVec 1 := Scalar.cmpi .eq arg0 c3_i32
  let v103 : BitVec 32 := Scalar.extui v102
  let c0_i32_46 : BitVec 32 := 0#32
  let v104 : BitVec 1 := Scalar.cmpi .ne v103 c0_i32_46
  v104

def k0_cond1 (i : grid0.Coords) : BitVec 1 :=
  let arg0 : BitVec 32 := BitVec.ofNat 32 (i 0).val
  let c0_i32 : BitVec 32 := 0#32
  let v96 : BitVec 1 := Scalar.cmpi .eq arg0 c0_i32
  let v97 : BitVec 32 := Scalar.extui v96
  let c0_i32_43 : BitVec 32 := 0#32
  let v98 : BitVec 1 := Scalar.cmpi .ne v97 c0_i32_43
  v98

def k0_cond2 (i : grid0.Coords) : BitVec 1 :=
  let arg0 : BitVec 32 := BitVec.ofNat 32 (i 0).val
  let c0_i32_44 : BitVec 32 := 0#32
  let v99 : BitVec 1 := Scalar.cmpi .sgt arg0 c0_i32_44
  let v100 : BitVec 32 := Scalar.extui v99
  let c0_i32_45 : BitVec 32 := 0#32
  let v101 : BitVec 1 := Scalar.cmpi .ne v100 c0_i32_45
  v101

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== TailIdeal.lean ====
variable {F : FTy → Type} [FloatOps F] [Named F]
def κ : String → Option EReal := fun
  | "cubic" => some ((8943 / 200000 : ℝ) : EReal)
  | "slope" => some ((26829 / 200000 : ℝ) : EReal)
  | _ => none
-- ==== TailRefIdeal.lean ====
abbrev S2048x512 : Shape := ⟨2, ![2048, 512]⟩
abbrev S2048x8192 : Shape := ⟨2, ![2048, 8192]⟩
abbrev S512 : Shape := ⟨1, ![512]⟩
abbrev S512x512 : Shape := ⟨2, ![512, 512]⟩
abbrev S1x512 : Shape := ⟨2, ![1, 512]⟩
abbrev S_ : Shape := ⟨0, ![]⟩
abbrev S2048x7168 : Shape := ⟨2, ![2048, 7168]⟩

abbrev nBuf : Space → Nat
  | .hbm => 126
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x8192, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S2048x8192, .bf16⟩
  | .hbm, ⟨7, _⟩ => ⟨S2048x512, .f32⟩
  | .hbm, ⟨8, _⟩ => ⟨S2048x512, .f32⟩
  | .hbm, ⟨9, _⟩ => ⟨S1x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S_, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S1x512, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S_, .f32⟩
  | .hbm, ⟨51, _⟩ => ⟨S2048x512, .f32⟩
  | .hbm, ⟨52, _⟩ => ⟨S2048x512, .f32⟩
  | .hbm, ⟨53, _⟩ => ⟨S_, .f32⟩
  | .hbm, ⟨54, _⟩ => ⟨S2048x512, .f32⟩
  | .hbm, ⟨55, _⟩ => ⟨S2048x512, .f32⟩
  | .hbm, ⟨56, _⟩ => ⟨S_, .f32⟩
  | .hbm, ⟨57, _⟩ => ⟨S2048x512, .f32⟩
  | .hbm, ⟨58, _⟩ => ⟨S2048x512, .f32⟩
  | .hbm, ⟨59, _⟩ => ⟨S2048x512, .f32⟩
  | .hbm, ⟨60, _⟩ => ⟨S2048x512, .f32⟩
  | .hbm, ⟨61, _⟩ => ⟨S2048x512, .f32⟩
  | .hbm, ⟨62, _⟩ => ⟨S2048x512, .f32⟩
  | .hbm, ⟨63, _⟩ => ⟨S_, .f32⟩
  | .hbm, ⟨64, _⟩ => ⟨S2048x512, .f32⟩
  | .hbm, ⟨65, _⟩ => ⟨S2048x512, .f32⟩
  | .hbm, ⟨66, _⟩ => ⟨S_, .f32⟩
  | .hbm, ⟨67, _⟩ => ⟨S2048x512, .f32⟩
  | .hbm, ⟨68, _⟩ => ⟨S2048x512, .f32⟩
  | .hbm, ⟨69, _⟩ => ⟨S_, .f32⟩
  | .hbm, ⟨70, _⟩ => ⟨S2048x512, .f32⟩
  | .hbm, ⟨71, _⟩ => ⟨S2048x512, .f32⟩
  | .hbm, ⟨72, _⟩ => ⟨S2048x512, .f32⟩
  | .hbm, ⟨73, _⟩ => ⟨S2048x512, .f32⟩
  | .hbm, ⟨74, _⟩ => ⟨S2048x512, .f32⟩
  | .hbm, ⟨75, _⟩ => ⟨S2048x512, .f32⟩
  | .hbm, ⟨76, _⟩ => ⟨S2048x512, .f32⟩
  | .hbm, ⟨77, _⟩ => ⟨S2048x512, .f32⟩
  | .hbm, ⟨78, _⟩ => ⟨S2048x512, .f32⟩
  | .hbm, ⟨79, _⟩ => ⟨S2048x512, .f32⟩
  | .hbm, ⟨80, _⟩ => ⟨S2048x512, .f32⟩
  | .hbm, ⟨81, _⟩ => ⟨S2048x512, .f32⟩
  | .hbm, ⟨82, _⟩ => ⟨S2048x512, .f32⟩
  | .hbm, ⟨83, _⟩ => ⟨S2048x512, .f32⟩
  | .hbm, ⟨84, _⟩ => ⟨S_, .f32⟩
  | .hbm, ⟨85, _⟩ => ⟨S512, .f32⟩
  | .hbm, ⟨86, _⟩ => ⟨S1x512, .f32⟩
  | .hbm, ⟨87, _⟩ => ⟨S_, .f32⟩
  | .hbm, ⟨88, _⟩ => ⟨S512, .f32⟩
  | .hbm, ⟨89, _⟩ => ⟨S512x512, .f32⟩
  | .hbm, ⟨90, _⟩ => ⟨S512x512, .f32⟩
  | .hbm, ⟨91, _⟩ => ⟨S2048x512, .f32⟩
  | .hbm, ⟨92, _⟩ => ⟨S2048x512, .f32⟩
  | .hbm, ⟨93, _⟩ => ⟨S2048x512, .f32⟩
  | .hbm, ⟨94, _⟩ => ⟨S2048x512, .f32⟩
  | .hbm, ⟨95, _⟩ => ⟨S2048x512, .f32⟩
  | .hbm, ⟨96, _⟩ => ⟨S_, .f32⟩
  | .hbm, ⟨97, _⟩ => ⟨S2048x512, .f32⟩
  | .hbm, ⟨98, _⟩ => ⟨S2048x512, .f32⟩
  | .hbm, ⟨99, _⟩ => ⟨S_, .f32⟩
  | .hbm, ⟨100, _⟩ => ⟨S2048x512, .f32⟩
  | .hbm, ⟨101, _⟩ => ⟨S2048x512, .f32⟩
  | .hbm, ⟨102, _⟩ => ⟨S_, .f32⟩
  | .hbm, ⟨103, _⟩ => ⟨S2048x512, .f32⟩
  | .hbm, ⟨104, _⟩ => ⟨S2048x512, .f32⟩
  | .hbm, ⟨105, _⟩ => ⟨S2048x512, .f32⟩
  | .hbm, ⟨106, _⟩ => ⟨S2048x512, .f32⟩
  | .hbm, ⟨107, _⟩ => ⟨S_, .f32⟩
  | .hbm, ⟨108, _⟩ => ⟨S2048x512, .f32⟩
  | .hbm, ⟨109, _⟩ => ⟨S2048x512, .f32⟩
  | .hbm, ⟨110, _⟩ => ⟨S2048x512, .f32⟩
  | .hbm, ⟨111, _⟩ => ⟨S2048x512, .f32⟩
  | .hbm, ⟨112, _⟩ => ⟨S2048x512, .f32⟩
  | .hbm, ⟨113, _⟩ => ⟨S2048x512, .f32⟩
  | .hbm, ⟨114, _⟩ => ⟨S_, .f32⟩
  | .hbm, ⟨115, _⟩ => ⟨S512, .f32⟩
  | .hbm, ⟨116, _⟩ => ⟨S1x512, .f32⟩
  | .hbm, ⟨117, _⟩ => ⟨S_, .f32⟩
  | .hbm, ⟨118, _⟩ => ⟨S512, .f32⟩
  | .hbm, ⟨119, _⟩ => ⟨S2048x512, .bf16⟩
  | .hbm, ⟨120, _⟩ => ⟨S2048x512, .bf16⟩
  | .hbm, ⟨121, _⟩ => ⟨S2048x7168, .bf16⟩
  | .hbm, ⟨122, _⟩ => ⟨S2048x8192, .bf16⟩
  | .hbm, ⟨123, _⟩ => ⟨S512x512, .bf16⟩
  | .hbm, ⟨124, _⟩ => ⟨S1x512, .f32⟩
  | .hbm, ⟨125, _⟩ => ⟨S1x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_v43_2 : Ref sig .tc := ⟨.hbm, 68, rfl⟩
abbrev main_call0_cst_1 : Ref sig .tc := ⟨.hbm, 69, rfl⟩
abbrev main_call0_v6 : Ref sig .tc := ⟨.hbm, 70, rfl⟩
abbrev main_call0_v7 : Ref sig .tc := ⟨.hbm, 71, rfl⟩
abbrev main_v43_1 : Ref sig .tc := ⟨.hbm, 72, rfl⟩
abbrev main_v43_0 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_10 : Ref sig .tc := ⟨.hbm, 84, rfl⟩
abbrev main_v51 : Ref sig .tc := ⟨.hbm, 85, rfl⟩
abbrev main_v52 : Ref sig .tc := ⟨.hbm, 86, rfl⟩
abbrev main_cst_11 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_12 : Ref sig .tc := ⟨.hbm, 96, rfl⟩
abbrev main_v61 : Ref sig .tc := ⟨.hbm, 97, rfl⟩
abbrev main_v62 : Ref sig .tc := ⟨.hbm, 98, rfl⟩
abbrev main_cst_13 : Ref sig .tc := ⟨.hbm, 99, rfl⟩
abbrev main_v63 : Ref sig .tc := ⟨.hbm, 100, rfl⟩
abbrev main_v64 : Ref sig .tc := ⟨.hbm, 101, rfl⟩
abbrev main_cst_14 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_15 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_16 : Ref sig .tc := ⟨.hbm, 114, rfl⟩
abbrev main_v75 : Ref sig .tc := ⟨.hbm, 115, rfl⟩
abbrev main_v76 : Ref sig .tc := ⟨.hbm, 116, rfl⟩
abbrev main_cst_17 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩

abbrev nD : Nat := 1
abbrev τ : Topo := Topo.v7x

variable {F : FTy → Type} [FloatOps F]
-- ==== Proof.FwdBits.lean ====
/- The forward projection: the norm before it, and its product with the input projection's weight. -/
module

public import proofs.«01_k».proof.Defs
public import proofs.«01_k».proof.Proof.FwdBitsFrame
public import Idealize.ShloMosaic.Lib.Pipeline.ValueKit

@[expose] public section

set_option maxRecDepth 16384

noncomputable section

namespace Cert.Fwd.Step

open Cert.Fwd Cert.Fwd.Gen Cert.Fwd.Tile Idealize.ShloMosaic Idealize.ShloMosaic.TcCoe
open Idealize.SL.Sem

section Frame
variable {F : FTy → Type} [FloatOps F] (m : (ℓ : Loc nD τ sig) → Buf (Elt F) ℓ) (ρ : Dev nD → PrngReg)

theorem args_of_post (r : PUnit × MemSt nD τ sig (Elt F)) (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(Pipeline.RDat.FramePost.arr_in h c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨args_of_post m r h.1, h.2⟩) (run_main m ρ)

end Frame

end Cert.Fwd.Step
-- ==== Proof.FwdRun.lean ====
/- The runs of the forward projection's body. -/
module

public import proofs.«01_k».proof.Proof.Gen.FwdIdeal.Frame
public import proofs.«01_k».proof.Proof.Gen.FwdIdeal.Skeleton
public import Idealize.ShloMosaic.Lib.Pipeline.FrameBody
public import Idealize.ShloMosaic.Lib.Tactic
public import Idealize.ShloMosaic.Lib.VecWindow
public import Idealize.ShloMosaic.Lib.WritesUnit
public import Idealize.ShloMosaic.Lib.WordCmp
public import Idealize.ShloMosaic.Lib.Pipeline.DatRel
public import Idealize.ShloMosaic.Lib.Pipeline.ArrRel

@[expose] public section

set_option maxRecDepth 16384

noncomputable section

namespace Cert.FwdIdeal.Tile

open Cert.FwdIdeal Cert.FwdIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- After the first column's body: the projected tile, and the rows of the normalised block written over what the buffer held. -/
structure StepA (i : grid0.Coords) (x0 : Vec F S512x1024 .f32) (x1 : Vec F S1x1024 .f32) (x2 : Vec F S1x1024x1024 .bf16) (x4 : Vec F S2048x1024 .bf16)
    (y3 : Vec F S512x1024 .f32) (y4 : Vec F S2048x1024 .bf16) : Prop where
  out : y3 = k0_pay2 (k0_pay1 x0 x1) x2
  hit : ∀ (y : S2048x1024.Idx) (x : S512x1024.Idx), (y (0 : Fin 2)).val = 512 * (i 1).val + (x (0 : Fin 2)).val →
    (y (1 : Fin 2)).val = (x (1 : Fin 2)).val → y4 y = k0_pay1 x0 x1 x
  miss : ∀ y : S2048x1024.Idx, (y (0 : Fin 2)).val < 512 * (i 1).val ∨ 512 * (i 1).val + 512 ≤ (y (0 : Fin 2)).val → y4 y = x4 y

/-- The rows the body multiplies, out of the held normalised array. -/
def heldRows (i : grid0.Coords) (x4 : Vec F S2048x1024 .bf16) : Vec F S512x1024 .bf16 :=
  View.ld x4 (Rect.unit (s := S2048x1024) (k0_off2 i) S512x1024.size (k0_off2_inb i))

theorem off_eq (i : grid0.Coords) : k0_off1 i = k0_off2 i := rfl

set_option maxHeartbeats 800000 in
/-- The body at a point of the first column, the normalised array's buffer holding anything. -/
theorem runA (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1024 .bf16) (harg4 : arg4.IsWhole)
    (arg5 : Memref sig .tc .vmem S512x1024 .f32) (harg5 : arg5.IsWhole) (arg6 : Memref sig .tc .vmem S2048x1024 .bf16) (harg6 : arg6.IsWhole) (hc0 : k0_cond1 i = 1#1)
    (x0 : Vec F S512x1024 .f32) (x1 : Vec F S1x1024 .f32) (x2 : Vec F S1x1024x1024 .bf16) (x4 : Vec F S2048x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4
            ∗ (iprop(owns (c : Thread nD τ) arg2 fullShare x0 ∗ owns (c : Thread nD τ) arg3 fullShare x1 ∗ owns (c : Thread nD τ) arg4 fullShare x2
                ∗ (∃ y3 y4, ⌜StepA i x0 x1 x2 x4 y3 y4⌝ ∗ owns (c : Thread nD τ) arg5 fullShare y3 ∗ owns (c : Thread nD τ) arg6 fullShare y4)) -∗ K ⟨⟩))
          ⊢ wp frame (wpE (defs₀ (F := F)) Variants.none c none) E (cc0_rms_proj_fwd i arg2 harg2 arg3 harg3 arg4 harg4 arg5 harg5 arg6 harg6) K := by
    intro E K
    simp only [cc0_rms_proj_fwd_eq_skeleton]; unfold cc0_rms_proj_fwd_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2
    obtain rfl := harg6.eq_unread hf4
    sl_exec (disch := first | sl_exact hc0)
    sl_step
    have e0 : View.readAt (Elt F) arg2.view (Rect.unit (s := S512x1024) ![0, 0] S512x1024.size inb_S512x1024_S512x1024_0_0).toLoadRect (harg2.unread x0) = x0 :=
      (View.readAt_full _ _ _).trans (harg2.read_unread x0)
    have e1 : View.readAt (Elt F) arg3.view (Rect.unit (s := S1x1024) ![0, 0] S1x1024.size inb_S1x1024_S1x1024_0_0).toLoadRect (harg3.unread x1) = x1 :=
      (View.readAt_full _ _ _).trans (harg3.read_unread x1)
    have e2 : View.readAt (Elt F) arg4.view (Rect.unit (s := S1x1024x1024) ![0, 0, 0] S1x1024x1024.size inb_S1x1024x1024_S1x1024x1024_0_0_0).toLoadRect (harg4.unread x2) = x2 :=
      (View.readAt_full _ _ _).trans (harg4.read_unread x2)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _, _
    isplitr
    swap
    · isplitl [H3]
      · iexists _; isplitr; swap; · iexact H3
        ipureintro; rfl
      iexists _; isplitr; swap; · iexact H4
      ipureintro; rfl
    ipureintro
    refine ⟨?_, ?_, ?_⟩
    · refine (View.read_writes_full _ _ _ _ _).trans ?_
      rw [e2]
      refine congrArg (fun z => k0_pay2 z x2) (funext fun x => ?_)
      refine (View.read_writes_cons_unit_of_mem _ _ _ _ _ _ x (off_eq i) fun a => congrArg (k0_off2 i a + ·) (Nat.one_mul _)).trans ?_
      rw [e0, e1]
    · intro y x h0 h1
      refine (View.read_writes_cons_rows_of_mem _ _ _ _ _ y x (k0_off1_eq i) h0 h1).trans ?_
      rw [e0, e1]
    · intro y h
      refine (View.read_writes_cons_rows_of_not_mem _ _ _ _ _ y (k0_off1_eq i) rfl h).trans ?_
      exact congrFun (harg6.read_unread x4) y

set_option maxHeartbeats 800000 in
/-- The body at a point of a later column: the held rows are multiplied and the array stays. -/
theorem runB (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1024 .bf16) (harg4 : arg4.IsWhole)
    (arg5 : Memref sig .tc .vmem S512x1024 .f32) (harg5 : arg5.IsWhole) (arg6 : Memref sig .tc .vmem S2048x1024 .bf16) (harg6 : arg6.IsWhole) (hc0 : ¬ k0_cond1 i = 1#1)
    (x0 : Vec F S512x1024 .f32) (x1 : Vec F S1x1024 .f32) (x2 : Vec F S1x1024x1024 .bf16) (x4 : Vec F S2048x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4
            ∗ (iprop(owns (c : Thread nD τ) arg2 fullShare x0 ∗ owns (c : Thread nD τ) arg3 fullShare x1 ∗ owns (c : Thread nD τ) arg4 fullShare x2
                ∗ owns (c : Thread nD τ) arg5 fullShare (k0_pay2 (heldRows i x4) x2) ∗ owns (c : Thread nD τ) arg6 fullShare x4) -∗ K ⟨⟩))
          ⊢ wp frame (wpE (defs₀ (F := F)) Variants.none c none) E (cc0_rms_proj_fwd i arg2 harg2 arg3 harg3 arg4 harg4 arg5 harg5 arg6 harg6) K := by
    intro E K
    simp only [cc0_rms_proj_fwd_eq_skeleton]; unfold cc0_rms_proj_fwd_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2
    obtain rfl := harg6.eq_unread hf4
    sl_exec (disch := first | sl_exact hc0)
    sl_step
    have e2 : View.readAt (Elt F) arg4.view (Rect.unit (s := S1x1024x1024) ![0, 0, 0] S1x1024x1024.size inb_S1x1024x1024_S1x1024x1024_0_0_0).toLoadRect (harg4.unread x2) = x2 :=
      (View.readAt_full _ _ _).trans (harg4.read_unread x2)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (View.read_writes_full _ _ _ _ _).trans ?_
      rw [e2]
      refine congrArg (fun z => k0_pay2 z x2) (funext fun x => ?_)
      exact congrFun (harg6.read_unread x4) _
    iexists _; isplitr; swap; · iexact H4
    ipureintro; exact harg6.read_unread _

end Cert.FwdIdeal.Tile
-- ==== Proof.FwdFrame.lean ====
/- What the forward projection's buffers hold at every point of the grid, and its launch. -/
module

public import proofs.«01_k».proof.Proof.FwdRun
public import proofs.«01_k».proof.Proof.Gen.FwdIdeal.Points

@[expose] public section

set_option maxRecDepth 16384

noncomputable section

namespace Cert.FwdIdeal.Tile

open Cert.FwdIdeal Cert.FwdIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .bf16 := win0_4.stage (cfg0.slots t 4)
abbrev hs0_4 (t : Fin cfg0.N) : (ms0_4 t).IsWhole := hstage0_4 ((cfg0.slots t 4).cast nbuf0_4)

theorem lt_N (t : Fin cfg0.N) : t.val < 32 := lt_of_lt_of_eq t.isLt N_0

/-- The row block of a point, and whether it lies in the first column. -/
theorem coords1 (t : Fin cfg0.N) : ((grid0.coords t) 1).val = t.val % 4 := by
  have e : (grid0.coords t 1).val = t.val / 1 % 4 := Pipeline.Grid.coords_val t 1 (by decide) rfl
  rw [e, Nat.div_one]

theorem cond_iff (t : Fin cfg0.N) : k0_cond1 (grid0.coords t) = 1#1 ↔ t.val < 4 := by
  have hN := lt_N t
  have e0 : (grid0.coords t 0).val = t.val / 4 % 8 := Pipeline.Grid.coords_val t 0 (by decide) rfl
  simp only [k0_cond1, e0]
  word_cmp

/-- The point of the first column at row block `i`. -/
def colPt (i : ℕ) (hi : i < 4) : Fin cfg0.N := ⟨i, lt_of_lt_of_eq (by omega : i < 32) N_0.symm⟩

/-- Row block `i` of the normalised array. -/
def hblk (c : Dev nD) (i : ℕ) (hi : i < 4) : Vec F S512x1024 .bf16 :=
  k0_pay1 (iblk m c 0 (colPt i hi)) (iblk m c 1 (colPt i hi))

/-- The product a point computes: its row block of the normalised array by its weight block. -/
def prodBlk (c : Dev nD) (t : Fin cfg0.N) : Vec F S512x1024 .f32 :=
  k0_pay2 (hblk m c (t.val % 4) (Nat.mod_lt _ (by decide))) (iblk m c 2 t)

/-- The normalised array up to point `t`: every row block of the first column already visited. -/
def Held (c : Dev nD) (t : ℕ) (X : Vec F S2048x1024 .bf16) : Prop :=
  ∀ (i : ℕ) (hi : i < 4), i ≤ t → ∀ (y : S2048x1024.Idx) (x : S512x1024.Idx),
    (y (0 : Fin 2)).val = 512 * i + (x (0 : Fin 2)).val → (y (1 : Fin 2)).val = (x (1 : Fin 2)).val → X y = hblk m c i hi x

abbrev fgt0 : Fin cfg0.W → Bool := fun w => w.val == 3 || w.val == 4

/-- What the two outputs' buffers hold after a point. -/
def Rl (c : Dev nD) (w : Fin cfg0.W) (t : Fin cfg0.N) : ((cfg0.win w).block.Idx → Elt F (cfg0.win w).elt) → Prop :=
  match w with
  | ⟨3, _⟩ => fun X => (X : Vec F S512x1024 .f32) = prodBlk m c t
  | ⟨4, _⟩ => fun X => Held m c t.val (X : Vec F S2048x1024 .bf16)
  | _ => fun _ => True

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

abbrev rdat (c : Dev nD) := (dats m 0 c).toRRel fgt0 (Rl m c)

/-- What the array's buffer may hold when a point later than the first begins. -/
theorem held_of_finds (c : Dev nD) (t : Fin cfg0.N) (Y : Vec F S2048x1024 .bf16) (h : (rdat m c).Finds 4 t Y) (ht : t.val ≠ 0) :
    Held m c (t.val - 1) Y := by
  have hN := lt_N t
  rcases ((rdat m c).finds_of_pos (w := 4) (t := t) rfl ht Y).mp h with h | h
  · have := (flush0_4 _).mp h
    simp only at this
    omega
  · exact (dats m 0 c).toRRel_leaves (fgt := fgt0) (Rl := Rl m c) (w := 4) rfl h

theorem held_stepA (c : Dev nD) (t : Fin cfg0.N) (h4 : t.val < 4) (x4 : Vec F S2048x1024 .bf16) (y3 : Vec F S512x1024 .f32) (y4 : Vec F S2048x1024 .bf16)
    (hs : StepA (grid0.coords t) (iblk m c 0 t) (iblk m c 1 t) (iblk m c 2 t) x4 y3 y4) (hx : t.val ≠ 0 → Held m c (t.val - 1) x4) :
    y3 = prodBlk m c t ∧ Held m c t.val y4 := by
  have ec := coords1 t
  have hm : t.val % 4 = t.val := Nat.mod_eq_of_lt h4
  have et : ∀ i (hi : i < 4), i = t.val → colPt i hi = t := fun i hi e => Fin.ext e
  have hh : ∀ i (hi : i < 4), i = t.val → hblk m c i hi = k0_pay1 (iblk m c 0 t) (iblk m c 1 t) := fun i hi e => by
    unfold hblk; rw [et i hi e]
  refine ⟨?_, ?_⟩
  · rw [hs.out]; unfold prodBlk; rw [hh _ _ hm]
  · intro i hi hit y x h0 h1
    have hx0 : (x (0 : Fin 2)).val < 512 := (x (0 : Fin 2)).isLt
    rcases Nat.lt_or_eq_of_le hit with hlt | he
    · rw [hs.miss y (by left; rw [ec, hm]; omega)]
      exact hx (by omega) i hi (by omega) y x h0 h1
    · rw [hh i hi he]
      exact hs.hit y x (by rw [ec, hm, ← he]; exact h0) h1

theorem held_rows (c : Dev nD) (t : Fin cfg0.N) (h4 : ¬ t.val < 4) (x4 : Vec F S2048x1024 .bf16) (hx : Held m c (t.val - 1) x4) :
    heldRows (grid0.coords t) x4 = hblk m c (t.val % 4) (Nat.mod_lt _ (by decide)) := by
  funext x
  have ec := coords1 t
  have eo := k0_off2_eq (grid0.coords t)
  refine hx (t.val % 4) _ (by have := Nat.mod_lt t.val (show 4 > 0 by decide); omega) _ x ?_ ?_
  · show k0_off2 (grid0.coords t) 0 + 1 * (x (0 : Fin 2)).val = _
    rw [eo, Nat.one_mul, ← ec]; rfl
  · show k0_off2 (grid0.coords t) 1 + 1 * (x (1 : Fin 2)).val = _
    rw [eo, Nat.one_mul]; exact Nat.zero_add _

theorem held_stay (c : Dev nD) (t : Fin cfg0.N) (h4 : ¬ t.val < 4) (x4 : Vec F S2048x1024 .bf16) (hx : Held m c (t.val - 1) x4) :
    Held m c t.val x4 := fun i hi hit => hx i hi (by omega)

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ Y, ⌜(rdat m c).Finds 3 t Y⌝ ∗ owns (c : Thread nD τ) (ms0_3 t) fullShare Y)
    ∗ (∃ Y, ⌜(rdat m c).Finds 4 t Y⌝ ∗ owns (c : Thread nD τ) (ms0_4 t) fullShare Y))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ X, ⌜Rl m c 3 t X⌝ ∗ owns (c : Thread nD τ) (ms0_3 t) fullShare X)
    ∗ (∃ X, ⌜Rl m c 4 t X⌝ ∗ owns (c : Thread nD τ) (ms0_4 t) fullShare X))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, after0_0, after0_1, after0_2]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, -, H3⟩, ⟨%d4, %h4, H4⟩⟩
  by_cases h0 : t.val < 4
  · iapply (runA c (grid0.coords t) _ _ _ _ _ _ _ _ _ _ ((cond_iff t).mpr h0) (iblk m c 0 t) (iblk m c 1 t) (iblk m c 2 t) d4 Set.univ _)
    isplitl [H0]; · iexact H0
    isplitl [H1]; · iexact H1
    isplitl [H2]; · iexact H2
    isplitl [H3]; · iexists _; iexact H3
    isplitl [H4]; · iexact H4
    iintro ⟨H0, H1, H2, ⟨%y3, %y4, %hs, H3, H4⟩⟩
    have hst := held_stepA m c t h0 d4 y3 y4 hs fun ht => held_of_finds m c t d4 h4 ht
    isplitl [HΦ]; · iexact HΦ
    isplitl [Ho]; · iexact Ho
    isplitl [H0]; · iexact H0
    isplitl [H1]; · iexact H1
    isplitl [H2]; · iexact H2
    isplitl [H3]
    · iexists y3; isplitr; · ipureintro; exact hst.1
      iexact H3
    iexists y4; isplitr; · ipureintro; exact hst.2
    iexact H4
  · have hx := held_of_finds m c t d4 h4 (by omega)
    iapply (runB c (grid0.coords t) _ _ _ _ _ _ _ _ _ _ (fun h => h0 ((cond_iff t).mp h)) (iblk m c 0 t) (iblk m c 1 t) (iblk m c 2 t) d4 Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iexists _; isplitr
      swap
      · iexact H3
      ipureintro
      show k0_pay2 _ _ = prodBlk m c t
      rw [held_rows m c t h0 d4 hx]; rfl
    iexists d4; isplitr; · ipureintro; exact held_stay m c t h0 d4 hx
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ fgt0 (Rl m c) := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := fun _ => .rfl) (hout := fun _ => .rfl)

end Cert.FwdIdeal.Tile
-- ==== Proof.Fwd.lean ====
/- The forward projection: the norm before it, and its product with the input projection's weight. -/
module

public import proofs.«01_k».proof.Defs
public import proofs.«01_k».proof.Proof.FwdFrame
public import proofs.«01_k».proof.Proof.Gen.FwdRefIdeal.Run
public import Idealize.ShloMosaic.Lib.Pipeline.ValueKit

@[expose] public section

set_option maxRecDepth 16384

noncomputable section

namespace Cert.FwdIdeal.Step

open Cert.FwdIdeal Cert.FwdIdeal.Gen Cert.FwdIdeal.Tile Idealize.ShloMosaic Idealize.ShloMosaic.TcCoe
open Idealize.SL.Sem

section Frame
variable {F : FTy → Type} [FloatOps F] (m : (ℓ : Loc nD τ sig) → Buf (Elt F) ℓ) (ρ : Dev nD → PrngReg)

theorem args_of_post (r : PUnit × MemSt nD τ sig (Elt F)) (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(Pipeline.RDat.FramePost.arr_in h c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨args_of_post m r h.1, h.2⟩) (run_main m ρ)

end Frame

variable (m : (ℓ : Loc nD τ sig) → Buf (Elt Ideal) ℓ) (ρ : Dev nD → PrngReg)

theorem tiles : ∀ t : Fin cfg0.N, (t.val < 4 → win0_0.index t = ![t.val, 0]) ∧ win0_1.index t = ![0, 0]
    ∧ win0_2.index t = ![t.val / 8, 0, t.val / 4 % 2] ∧ win0_3.index t = ![t.val % 4, t.val / 4]
    ∧ win0_4.index t = ![0, 0] ∧ t.val < 32 :=
  (by decide +kernel : ∀ t : Fin grid0.N, _)

abbrev X (c : Dev nD) : FVec Ideal S2048x1024 .f32 := m ((c.tc : Thread nD τ).loc main_arg0)
abbrev G (c : Dev nD) : FVec Ideal S1024 .f32 := m ((c.tc : Thread nD τ).loc main_arg1)
abbrev W (c : Dev nD) : FVec Ideal S1024x8192 .f32 := m ((c.tc : Thread nD τ).loc main_arg2)

/-- The normalised array at row `i`, column `k`. -/
def hAt (x : FVec Ideal S2048x1024 .f32) (g : FVec Ideal S1024 .f32) (i : Fin 2048) (k : Fin 1024) : EReal :=
  x (ix2 i k) * Ideal.rsqrt (Ideal.div (∑ l : Fin 1024, (x (ix2 i l) * x (ix2 i l) : EReal)) (Ideal.ofBits .f32 0x44800000#32)
    + Ideal.ofBits .f32 0x358637BD#32) * g (ix1 k)

def hArr (x : FVec Ideal S2048x1024 .f32) (g : FVec Ideal S1024 .f32) : FVec Ideal S2048x1024 .bf16 := fun i => hAt x g (i 0) (i 1)

def projArr (x : FVec Ideal S2048x1024 .f32) (g : FVec Ideal S1024 .f32) (w : FVec Ideal S1024x8192 .f32) : FVec Ideal S2048x8192 .f32 :=
  fun i => (∑ k : Fin 1024, hAt x g (i 0) k * w (ix2 k (i 1)) : EReal)

theorem tileH (x g j) : k0_pay1 (F := Ideal) x g j =
    (x j * Ideal.rsqrt (Ideal.div (∑ l : Fin 1024, (x (ix2 (j 0) l) * x (ix2 (j 0) l) : EReal)) (Ideal.ofBits .f32 0x44800000#32)
      + Ideal.ofBits .f32 0x358637BD#32) * g (ix2 0 (j 1)) : EReal) := by pointwise [k0_pay1]

theorem tileP (h w j) : k0_pay2 (F := Ideal) h w j = (∑ k : Fin 1024, h (ix2 (j 0) k) * w (ix3 0 k (j 1)) : EReal) := by
  pointwise [k0_pay2]

/-- The row of the array that row `a` of block `i` is, and the column that column `b` of point `t`'s product is. -/
def row (i : ℕ) (hi : i < 4) (a : Fin 512) : Fin 2048 := ⟨i * 512 + a.val, by omega⟩
def col (t : Fin cfg0.N) (b : Fin 1024) : Fin 8192 := ⟨t.val / 4 * 1024 + b.val, by have := lt_N t; omega⟩

theorem blk0 (c : Dev nD) (i : ℕ) (hi : i < 4) (a : Fin 512) (k : Fin 1024) :
    iblk m c 0 (colPt i hi) (ix2 a k) = X m c (ix2 (row i hi a) k) := by
  obtain ⟨t, rfl⟩ : ∃ t : Fin cfg0.N, t.val = i := ⟨colPt i hi, rfl⟩
  have e := (tiles t).1 hi
  show iblk m c 0 t (ix2 a k) = _
  blk_point [iblk, V, e, row]

theorem blk1 (c : Dev nD) (t : Fin cfg0.N) (k : Fin 1024) : iblk m c 1 t (ix2 0 k) = G m c (ix1 k) := by
  blk_point [iblk, V, tiles t]

theorem blk2 (c : Dev nD) (t : Fin cfg0.N) (k b : Fin 1024) : iblk m c 2 t (ix3 0 k b) = W m c (ix2 k (col t b)) := by
  blk_point [iblk, V, tiles t, col]

theorem emb3 (t : Fin cfg0.N) (a : Fin 512) (b : Fin 1024) :
    (win0_3.blk t).view.emb (ix2 a b) = ix2 (row (t.val % 4) (Nat.mod_lt _ (by decide)) a) (col t b) := by blk_ext [tiles t, row, col]

theorem hblk_at (c : Dev nD) (i : ℕ) (hi : i < 4) (a : Fin 512) (k : Fin 1024) :
    hblk m c i hi (ix2 a k) = hAt (X m c) (G m c) (row i hi a) k := by
  have e1 (l : Fin 1024) := blk0 m c i hi a l
  have e2 := blk1 m c (colPt i hi) k
  unfold hblk
  rw [tileH]
  generalize iblk m c 0 (colPt i hi) = b0, iblk m c 1 (colPt i hi) = b1 at *
  simp only [ix2_0, ix2_1, e1, e2]
  rfl

theorem prodBlk_at (c : Dev nD) (t : Fin cfg0.N) (a : Fin 512) (b : Fin 1024) :
    prodBlk m c t (ix2 a b) = projArr (X m c) (G m c) (W m c) (ix2 (row (t.val % 4) (Nat.mod_lt _ (by decide)) a) (col t b)) := by
  have e1 (k : Fin 1024) := hblk_at m c (t.val % 4) (Nat.mod_lt _ (by decide)) a k
  have e2 (k : Fin 1024) := blk2 m c t k b
  unfold prodBlk
  rw [tileP]
  generalize hblk m c (t.val % 4) (Nat.mod_lt _ (by decide)) = b0, iblk m c 2 t = b1 at *
  simp only [ix2_0, ix2_1, e1, e2]
  rfl

abbrev T31 : Fin cfg0.N := ⟨31, lt_of_lt_of_eq (by decide : 31 < 32) N_0.symm⟩

theorem held_all (c : Dev nD) (A : FVec Ideal S2048x1024 .bf16) (h : Held m c 31 A) : A = hArr (X m c) (G m c) := by
  funext y
  have hy : (y (0 : Fin 2)).val < 2048 := (y (0 : Fin 2)).isLt
  have e := h ((y (0 : Fin 2)).val / 512) (by omega) (by omega) y
    (ix2 ⟨(y (0 : Fin 2)).val % 512, Nat.mod_lt _ (by decide)⟩ (y 1)) (by show _ = _ + (y (0 : Fin 2)).val % 512; omega) rfl
  refine (e.trans (hblk_at m c _ _ _ _)).trans ?_
  exact congrArg (fun i => hAt (X m c) (G m c) i (y 1)) (Fin.ext (by show _ * 512 + _ % 512 = _; omega))

theorem proj_final (c : Dev nD) (after : (w : Fin cfg0.W) → Fin cfg0.N → (cfg0.win w).block.Idx → Elt Ideal (cfg0.win w).elt)
    (h : ∀ t, (after 3 t : Vec Ideal S512x1024 .f32) = prodBlk m c t) :
    ((rdat m c).withAfter after).arrAt 3 cfg0.N = projArr (X m c) (G m c) (W m c) := by
  refine ((rdat m c).withAfter after).arrAt_eq_of_covers 3 _ (by decide +kernel) fun t hf y => ?_
  blk_simp
  rw [Pipeline.RDat.withAfter_after, h]
  obtain ⟨a, b, rfl⟩ : ∃ (a : Fin 512) (b : Fin 1024), y = ix2 a b := ⟨y 0, y 1, by funext i; fin_cases i <;> rfl⟩
  rw [prodBlk_at]
  exact congrArg _ (emb3 t a b).symm

theorem h_final (c : Dev nD) (after : (w : Fin cfg0.W) → Fin cfg0.N → (cfg0.win w).block.Idx → Elt Ideal (cfg0.win w).elt)
    (h : Held m c 31 (after 4 T31 : Vec Ideal S2048x1024 .bf16)) :
    ((rdat m c).withAfter after).arrAt 4 cfg0.N = hArr (X m c) (G m c) := by
  refine ((rdat m c).withAfter after).arrAt_eq_of_after_last 4 T31 (by decide +kernel) _ fun j => ?_
  blk_simp
  rw [Pipeline.RDat.withAfter_after, held_all m c _ h]

theorem run : θ_run defs (onTc (τ := τ) (main (F := Ideal))) ⟨m, fun _ => 0, ρ⟩ (fun r => ∀ c : Dev nD,
      r.2.mem ((c.tc : Thread nD τ).loc main_v4_0) = projArr (X m c) (G m c) (W m c)
      ∧ r.2.mem ((c.tc : Thread nD τ).loc main_v4_1) = hArr (X m c) (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  obtain ⟨after, hL, hA⟩ := Pipeline.RDat.FramePost.exists_exact h.1 c
  refine ⟨(hA 3).trans (proj_final m c after fun t => ?_), (hA 4).trans (h_final m c after ?_), args_of_post m r h.1 c⟩
  · exact (dats m 0 c).toRRel_leaves (fgt := fgt0) (Rl := Rl m c) (w := 3) rfl (hL 3 t (flush0_3 t))
  · exact (dats m 0 c).toRRel_leaves (fgt := fgt0) (Rl := Rl m c) (w := 4) rfl (hL 4 T31 ((flush0_4 T31).mpr (by decide)))

/-- The call's projection and normalised array are the reference's. -/
theorem claim : Cert.algebraic_FwdIdeal_FwdRefIdeal := by
  intro m ρ m' ρ' _ agree
  refine ⟨_, _, run m ρ, ?_⟩
  refine (θ_run _ _ _).mono (fun r h c => ?_) (Cert.FwdRefIdeal.Value.run m' ρ')
  obtain ⟨h0, h1, h2⟩ := h c
  obtain ⟨a0, a1, a2⟩ := agree c
  refine ⟨h0.trans ?_, h1.trans ?_, h2⟩
  · clear h0 h1
    rw [a0, a1, a2]
    funext i; pointwise [projArr, hAt, X, G, W]
  · clear h0 h1
    rw [a0, a1]
    funext i; pointwise [hArr, hAt, X, G]

end Cert.FwdIdeal.Step
-- ==== Proof.ProjBwd.lean ====
/- The gradient of the input projection: what the kernel's two result arrays hold at the end, as the
   reference's own products. The activation gradient is a sum over the eight column tiles of the projection,
   which is the contraction over all 8192 columns cut into tiles. The weight gradient is written tile by tile,
   each tile the product of the saved activations with the tile's cotangents. -/
module

public import proofs.«01_k».proof.Proof.Gen.ProjIdeal.Value
public import proofs.«01_k».proof.Proof.Gen.ProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjIdeal.ProjBwd

open Cert.ProjIdeal Cert.ProjIdeal.Gen

variable (m : (ℓ : Loc nD τ sig) → Buf (Elt Ideal) ℓ)

/-- The reference's activation gradient. -/
abbrev refDh (dp : FVec Ideal S2048x8192 .bf16) (w : FVec Ideal S1024x8192 .f32) : FVec Ideal S2048x1024 .f32 :=
  Host.dotGeneral Cert.ProjRefIdeal.dot_S2048x8192_S1024x8192_S2048x1024_1_1_0_0_n_n none
    (extf .f32 dp Cert.ProjRefIdeal.Gen.bitsLt_bf16_f32) w

/-- The reference's weight gradient, in the layout in which it is exchanged. -/
abbrev refDw (dp : FVec Ideal S2048x8192 .bf16) (h : FVec Ideal S2048x1024 .bf16) : FVec Ideal S4x1024x2048 .bf16 :=
  truncf .bf16 (transpose Cert.ProjRefIdeal.S4x1024x2048 [1, 0, 2] (shapeCast _ (transpose Cert.ProjRefIdeal.S1024x8192 [1, 0]
    (Host.dotGeneral Cert.ProjRefIdeal.dot_S2048x8192_S2048x1024_S8192x1024_0_0_1_1_n_n none
      (extf .f32 dp Cert.ProjRefIdeal.Gen.bitsLt_bf16_f32) (extf .f32 h Cert.ProjRefIdeal.Gen.bitsLt_bf16_f32))
    Cert.ProjRefIdeal.Gen.transposes_S8192x1024_S1024x8192_1_0) Cert.ProjRefIdeal.Gen.shapeCasts_S1024x8192_S1024x4x2048)
    Cert.ProjRefIdeal.Gen.transposes_S1024x4x2048_S4x1024x2048_1_0_2) Cert.ProjRefIdeal.Gen.bitsLt_bf16_f32

/-- The block each window stages at grid point `t`. -/
theorem tiles : ∀ t : Fin cfg0.N, win0_0.index t = ![0, t.val] ∧ win0_1.index t = ![0, 0]
    ∧ win0_2.index t = ![t.val / 2, 0, t.val % 2] ∧ win0_3.index t = ![0, 0]
    ∧ win0_4.index t = ![t.val / 2, 0, t.val % 2] ∧ t.val < 8 :=
  (by decide +kernel : ∀ t : Fin grid0.N, _)

theorem zeroFill (j) : k0_pay1 (F := Ideal) j = 0 := by pointwise [k0_pay1]

theorem addPart (acc x w j) : k0_pay3 (F := Ideal) acc x w j
    = acc j + ∑ k : Fin 1024, x (ix2 (j 0) k) * w (ix3 0 (j 1) k) := by pointwise [k0_pay3]

theorem refDh_at (dp w j) : refDh dp w j = ∑ a : Fin 1, ∑ l : Fin 8192, dp (ix2 (j 0) l) * w (ix2 (j 1) l) := by
  pointwise [refDh]
  simp

/-- A tile of the weight gradient, the cotangent written first as the reference writes it. -/
theorem tileDw (h dp y) : k0_pay2 (F := Ideal) h dp y
    = ∑ k : Fin 2048, dp (ix2 k (y 2)) * h (ix2 k (y 1)) := by
  pointwise [k0_pay2]
  exact Finset.sum_congr rfl fun k _ => mul_comm _ _

theorem dh_final (c : Dev nD) : (dats m 0 c).arrAt 3 (cfgs 0).N
    = refDh (m ((c : Thread nD τ).loc main_arg0)) (m ((c : Thread nD τ).loc main_arg2)) := by
  refine (dats m 0 c).arrAt_eq_of_after_last 3 t0_7 (by decide +kernel) _ fun j => ?_
  blk_simp
  rw [after0_3, Pipeline.eq_sum_fin_of_reset_step_apply_last (fun n h => (outsAt0 m c n h).1) 8 (fun _ => 0) _
    (fun t h j => by rw [outsAt0_A m c t h]; frame_out; rw [addPart, zeroFill])
    (fun t h j => by rw [outsAt0_B m c t h]; frame_out; rw [addPart])
    (le_of_eq N_0) t0_7 rfl j, zero_add, refDh_at]
  refine Fin.sum_points_lanes_congr 8 fun t k ha hl => ?_
  blk_point [iblk, V, tiles t]

theorem dw_final (c : Dev nD) : (dats m 0 c).arrAt 4 (cfgs 0).N
    = refDw (m ((c : Thread nD τ).loc main_arg0)) (m ((c : Thread nD τ).loc main_arg1)) := by
  refine (dats m 0 c).arrAt_eq_of_covers 4 _ (by decide +kernel) fun t hf y => ?_
  blk_simp
  rw [after0_4]
  have out : (outsAt0 m c t.val t.isLt).2 y = k0_pay2 (F := Ideal) (iblk m c 1 t) (iblk m c 0 t) y := by
    by_cases h : t.val % 8 = 0
    · rw [outsAt0_A m c t h]; frame_out
    · rw [outsAt0_B m c t h]; frame_out
  rw [out, tileDw]
  pointwise [refDw]
  blk_point [iblk, V, tiles t]

end Cert.ProjIdeal.ProjBwd

end
-- ==== Proof.Finite.lean ====
/- Finite operands: a precondition read back, literals as real numbers, and the norm's gradient over the reals. -/
module

public import Idealize.ShloMosaic.PureOps.Ideal
public import Idealize.ShloMosaic.Lib.ReduceAll
public import Idealize.ShloMosaic.Lib.IdealHost
public import Idealize.ShloMosaic.Lib.Pipeline.ValueKit

@[expose] public section

set_option maxRecDepth 16384

noncomputable section

namespace Cert.Finite

open Idealize.ShloMosaic Idealize.ShloMosaic.Ideal

theorem lit_inf : Ideal.ofBits .f32 0x7F800000#32 = ⊤ := by simp [Ideal.ofBits, Ideal.ieee]

theorem lit_1024 : Ideal.ofBits .f32 0x44800000#32 = ((1024 : ℝ) : EReal) := by
  simp [Ideal.ofBits, Ideal.ieee]; rw [← EReal.coe_mul]; norm_num

theorem lit_neg_half : Ideal.ofBits .f32 0xBF000000#32 = ((-(1 / 2) : ℝ) : EReal) := by
  simp [Ideal.ofBits, Ideal.ieee]; rw [← EReal.coe_mul]; norm_num

theorem lit_eps : ∃ e : ℝ, 0 < e ∧ Ideal.ofBits .f32 0x358637BD#32 = (e : EReal) := by
  refine ⟨8796093 * (1 / 8796093022208), by norm_num, ?_⟩
  simp [Ideal.ofBits, Ideal.ieee]
  rw [← EReal.coe_mul]
  exact congrArg _ (by norm_num)

/-- An extended real below infinity in magnitude is a real. -/
theorem real_of_abs_lt (x : EReal) (h : max x (-x) < ⊤) : ∃ r : ℝ, x = (r : EReal) := by
  induction x using EReal.rec with
  | bot => simp at h
  | coe r => exact ⟨r, rfl⟩
  | top => simp at h

/-- An array every element of which is finite is an array of reals. -/
theorem reals {s : Shape} (x : FVec Ideal s .f32) (b : FVec Ideal s .f32) (hb : b = fun _ => Ideal.ofBits .f32 0x7F800000#32)
    (h : ∀ i, cmpf .olt (Host.absf x) b i = 1#1) : ∃ r : s.Idx → ℝ, x = fun i => ((r i : ℝ) : EReal) := by
  subst hb
  have h' : ∀ i, ∃ r : ℝ, x i = (r : EReal) := fun i => by
    have := h i
    pointwise at this
    rw [lit_inf] at this
    refine real_of_abs_lt (x i) (by_contra fun hn => ?_)
    rw [show FloatOps.absf (x i) = max (x i) (-x i) from rfl, decide_eq_false hn] at this
    exact absurd this (by decide)
  choose r hr using h'
  exact ⟨r, funext hr⟩

theorem coe_sum {ι : Type} (s : Finset ι) (f : ι → ℝ) : ∑ i ∈ s, (f i : EReal) = ((∑ i ∈ s, f i : ℝ) : EReal) := by
  induction s using Finset.cons_induction with
  | empty => simp
  | cons a s ha ih => rw [Finset.sum_cons, Finset.sum_cons, ih, EReal.coe_add]

/-- A norm's reciprocal root, over reals. -/
theorem rsqrt_mean {n : ℕ} (x : Fin n → ℝ) (N e : ℝ) (hN : 0 < N) (he : 0 < e) :
    ∃ v s : ℝ, 0 < v ∧ s * s = 1 / v ∧ Ideal.div (∑ k, (x k : EReal) * (x k : EReal)) (N : EReal) + (e : EReal) = (v : EReal)
      ∧ Ideal.rsqrt (v : EReal) = (s : EReal) := by
  have hv : 0 < (∑ k, x k * x k) * (1 / N) + e :=
    add_pos_of_nonneg_of_pos (mul_nonneg (Finset.sum_nonneg fun k _ => mul_self_nonneg _) (by positivity)) he
  refine ⟨(∑ k, x k * x k) * (1 / N) + e, (√((∑ k, x k * x k) * (1 / N) + e))⁻¹, hv, ?_, ?_, ?_⟩
  · simp only [one_div] at hv ⊢
    rw [← mul_inv, Real.mul_self_sqrt hv.le]
  · simp only [← EReal.coe_mul, coe_sum]
    rw [Ideal.div_coe hN.ne']
    norm_cast
  · rw [Ideal.rsqrt_coe, if_neg (not_lt.2 hv.le), if_neg hv.ne']

/-- The norm's gradient: the derivative of the reciprocal root taken by the chain rule, or the projection onto the
    normalised row's complement. -/
theorem norm_grad {n : ℕ} (x dh g : Fin n → ℝ) (xi di gi N e : ℝ) (hN : 0 < N) (he : 0 < e) (v : EReal)
    (hv : v = Ideal.div (∑ k, (x k : EReal) * (x k : EReal)) (N : EReal) + (e : EReal)) (S : EReal)
    (hS : S = ∑ _k : Fin 1, Ideal.div ((∑ k, (x k : EReal) * ((dh k : EReal) * (g k : EReal)))
      * (((-(1 / 2) : ℝ) : EReal) * Ideal.div (Ideal.rsqrt v) v)) (N : EReal)) :
    (di : EReal) * (gi : EReal) * Ideal.rsqrt v + (xi : EReal) * S + S * (xi : EReal)
      = Ideal.rsqrt v * ((di : EReal) * (gi : EReal) - (xi : EReal) * Ideal.rsqrt v
        * Ideal.div (∑ k, (dh k : EReal) * (g k : EReal) * ((x k : EReal) * Ideal.rsqrt v)) (N : EReal)) := by
  obtain ⟨w, s, hw, hs, e1, e2⟩ := rsqrt_mean x N e hN he
  have e3 : v = (w : EReal) := hv.trans e1
  have hS' : S = (((∑ k, x k * (dh k * g k)) * (-(1 / 2) * (s * (1 / w))) * (1 / N) : ℝ) : EReal) := by
    rw [hS, Fin.sum_univ_one, e3, e2, Ideal.div_coe hw.ne', Ideal.div_coe hN.ne']
    simp only [← EReal.coe_mul, coe_sum]
  rw [hS', e3, e2, Ideal.div_coe hN.ne']
  simp only [← EReal.coe_mul, coe_sum, ← EReal.coe_add, ← EReal.coe_sub]
  refine congrArg _ ?_
  have e4 : ∑ k, dh k * g k * (x k * s) = s * ∑ k, x k * (dh k * g k) := by
    rw [Finset.mul_sum]
    exact Finset.sum_congr rfl fun k _ => by ring
  rw [e4]
  linear_combination (xi * s * (∑ k, x k * (dh k * g k)) * (1 / N)) * hs

theorem lit_one : Ideal.ofBits .f32 0x3F800000#32 = ((1 : ℝ) : EReal) := by
  simp [Ideal.ofBits, Ideal.ieee]
  rw [← EReal.coe_mul]
  norm_num

/-- The logistic of anything is a real number. -/
theorem logistic_real (x : EReal) : ∃ r : ℝ, Ideal.logistic x = (r : EReal) := by
  induction x using EReal.rec with
  | bot =>
    have h : Ideal.exp (-(⊥ : EReal)) = ⊤ := rfl
    exact ⟨0, by unfold Ideal.logistic; rw [h, EReal.add_top_of_ne_bot (by decide)]; simp [Ideal.div]⟩
  | top =>
    have h : Ideal.exp (-(⊤ : EReal)) = 0 := rfl
    exact ⟨1, by unfold Ideal.logistic; rw [h]; simp [Ideal.div]⟩
  | coe r => exact ⟨_, Ideal.logistic_coe r⟩

end Cert.Finite
-- ==== Proof.MergeTile.lean ====
/- The gradients of the gated merge and of the projection after it. -/
module

public import proofs.«01_k».proof.Defs
public import proofs.«01_k».proof.Proof.Finite
public import proofs.«01_k».proof.Proof.Gen.Pre_merge_finite
public import proofs.«01_k».proof.Proof.Gen.MergeIdeal.Value
public import proofs.«01_k».proof.Proof.Gen.MergeRefIdeal.Run
public import Idealize.ShloMosaic.Lib.Pipeline.ValueKit

@[expose] public section

set_option maxRecDepth 16384

noncomputable section

namespace Cert.MergeIdeal.Step

open Cert.MergeIdeal Cert.MergeIdeal.Gen Cert.MergeIdeal.Value Idealize.ShloMosaic Idealize.ShloMosaic.TcCoe
open Idealize.SL.Sem

/-- One row of the arrays the gradients are taken along. -/
structure Row where
  ys : Fin 512 → EReal
  ya : Fin 512 → EReal
  gs : Fin 1024 → EReal
  ga : Fin 1024 → EReal
  dxn : Fin 1024 → EReal

/-- The weights: both branches', the output projection's and the norm's. -/
structure Wts where
  ws : Fin 512 → Fin 1024 → EReal
  wa : Fin 512 → Fin 1024 → EReal
  wo : Fin 1024 → Fin 1024 → EReal
  g : Fin 1024 → EReal

namespace Row

def bs (R : Row) (W : Wts) (n : Fin 1024) : EReal := ∑ k : Fin 512, R.ys k * W.ws k n
def ba (R : Row) (W : Wts) (n : Fin 1024) : EReal := ∑ k : Fin 512, R.ya k * W.wa k n
/-- The two branches' outputs, each under its gate. -/
def mrg (R : Row) (W : Wts) (n : Fin 1024) : EReal :=
  Ideal.logistic (R.gs n) * R.bs W n + Ideal.logistic (R.ga n) * R.ba W n
def out (R : Row) (W : Wts) (n : Fin 1024) : EReal := ∑ k : Fin 1024, R.mrg W k * W.wo k n
def ms (R : Row) (W : Wts) : EReal :=
  Ideal.div (∑ k : Fin 1024, R.out W k * R.out W k) (Ideal.ofBits .f32 0x44800000#32) + Ideal.ofBits .f32 0x358637BD#32
def inv (R : Row) (W : Wts) : EReal := Ideal.rsqrt (R.ms W)
def nrm (R : Row) (W : Wts) (n : Fin 1024) : EReal := R.out W n * R.inv W
/-- The gradient behind the norm. -/
def dout (R : Row) (W : Wts) (n : Fin 1024) : EReal :=
  R.inv W * (R.dxn n * W.g n - R.nrm W n * Ideal.div (∑ k : Fin 1024, R.dxn k * W.g k * R.nrm W k) (Ideal.ofBits .f32 0x44800000#32))
def dm (R : Row) (W : Wts) (n : Fin 1024) : EReal := ∑ k : Fin 1024, R.dout W k * W.wo n k
def dbs (R : Row) (W : Wts) (n : Fin 1024) : EReal := R.dm W n * Ideal.logistic (R.gs n)
def dba (R : Row) (W : Wts) (n : Fin 1024) : EReal := R.dm W n * Ideal.logistic (R.ga n)
def dys (R : Row) (W : Wts) (k : Fin 512) : EReal := ∑ n : Fin 1024, R.dbs W n * W.ws k n
def dya (R : Row) (W : Wts) (k : Fin 512) : EReal := ∑ n : Fin 1024, R.dba W n * W.wa k n

end Row

/-! The weights of a branch lie in four pieces of 256 columns each. -/

def hi (n : Fin 1024) : Fin 4 := ⟨n.val / 256, by omega⟩
def lo (n : Fin 1024) : Fin 256 := ⟨n.val % 256, by omega⟩
def col (s : Fin 4) (c : Fin 256) : Fin 1024 := ⟨s.val * 256 + c.val, by omega⟩

abbrev ld0 (x : Vec Ideal S4x512x256 .bf16) : Vec Ideal S1x512x256 .bf16 := View.ld x (Rect.unit ![0, 0, 0] ![1, 512, 256] inb_S4x512x256_S1x512x256_0_0_0)
abbrev ld1 (x : Vec Ideal S4x512x256 .bf16) : Vec Ideal S1x512x256 .bf16 := View.ld x (Rect.unit ![1, 0, 0] ![1, 512, 256] inb_S4x512x256_S1x512x256_1_0_0)
abbrev ld2 (x : Vec Ideal S4x512x256 .bf16) : Vec Ideal S1x512x256 .bf16 := View.ld x (Rect.unit ![2, 0, 0] ![1, 512, 256] inb_S4x512x256_S1x512x256_2_0_0)
abbrev ld3 (x : Vec Ideal S4x512x256 .bf16) : Vec Ideal S1x512x256 .bf16 := View.ld x (Rect.unit ![3, 0, 0] ![1, 512, 256] inb_S4x512x256_S1x512x256_3_0_0)

section Tile

variable (x0 : Vec Ideal S256x1024 .f32) (x1 x2 : Vec Ideal S256x512 .f32) (x3 x4 : Vec Ideal S256x1024 .f32)
  (x5 x6 : Vec Ideal S4x512x256 .bf16) (x7 : Vec Ideal S1024x1024 .bf16) (x8 : Vec Ideal S1x1024 .f32)

def tr (a : Fin 256) : Row := ⟨fun k => x1 (ix2 a k), fun k => x2 (ix2 a k), fun n => x3 (ix2 a n), fun n => x4 (ix2 a n), fun n => x0 (ix2 a n)⟩
def tw : Wts := ⟨fun k n => x5 (ix3 (hi n) k (lo n)), fun k n => x6 (ix3 (hi n) k (lo n)), fun k n => x7 (ix2 k n), fun n => x8 (ix2 0 n)⟩

abbrev tBs : FVec Ideal S256x1024 .f32 := k0_pay12 x1 (ld0 x5) (ld1 x5) (ld2 x5) (ld3 x5)
abbrev tMrg : FVec Ideal S256x1024 .f32 :=
  k0_pay17 (k0_pay11 x2) x3 x4 (tBs x1 x5) (k0_pay13 x2 (ld0 x6)) (ld1 x6) (ld2 x6) (ld3 x6)
abbrev tInv : FVec Ideal S256x1 .f32 :=
  k0_pay19 (k0_pay11 x2) x3 x4 (tBs x1 x5) (k0_pay13 x2 (ld0 x6)) (ld1 x6) (ld2 x6) (ld3 x6) x7
abbrev tNrm : FVec Ideal S256x1024 .f32 :=
  k0_pay20 (k0_pay11 x2) x3 x4 (tBs x1 x5) (k0_pay13 x2 (ld0 x6)) (ld1 x6) (ld2 x6) (ld3 x6) x7
abbrev tDbs : FVec Ideal S256x1024 .f32 :=
  k0_pay25 (k0_pay15 x3) (tInv x1 x2 x3 x4 x5 x6 x7) (tNrm x1 x2 x3 x4 x5 x6 x7) x0 x8 x7
abbrev tDba : FVec Ideal S256x1024 .f32 :=
  k0_pay26 (k0_pay16 x4) (tInv x1 x2 x3 x4 x5 x6 x7) (tNrm x1 x2 x3 x4 x5 x6 x7) x0 x8 x7

/-- A load of one piece, at coordinates. -/
theorem ldAt (w : Vec Ideal S4x512x256 .bf16) (k : Fin 512) (n : Fin 1024) (s : Fin 4) (c : Fin 256)
    (h : n.val = s.val * 256 + c.val) : w (ix3 s k c) = w (ix3 (hi n) k (lo n)) := by
  have e1 : hi n = s := Fin.ext (show n.val / 256 = s.val by omega)
  have e2 : lo n = c := Fin.ext (show n.val % 256 = c.val by omega)
  rw [e1, e2]

theorem ld0At (w : Vec Ideal S4x512x256 .bf16) (k : Fin 512) (c : Fin 256) : ld0 w (ix3 0 k c) = w (ix3 0 k c) := by
  refine congrArg w ?_
  funext a; fin_cases a <;> exact Fin.ext (by simp [ix3])
theorem ld1At (w : Vec Ideal S4x512x256 .bf16) (k : Fin 512) (c : Fin 256) : ld1 w (ix3 0 k c) = w (ix3 1 k c) := by
  refine congrArg w ?_
  funext a; fin_cases a <;> exact Fin.ext (by simp [ix3])
theorem ld2At (w : Vec Ideal S4x512x256 .bf16) (k : Fin 512) (c : Fin 256) : ld2 w (ix3 0 k c) = w (ix3 2 k c) := by
  refine congrArg w ?_
  funext a; fin_cases a <;> exact Fin.ext (by simp [ix3])
theorem ld3At (w : Vec Ideal S4x512x256 .bf16) (k : Fin 512) (c : Fin 256) : ld3 w (ix3 0 k c) = w (ix3 3 k c) := by
  refine congrArg w ?_
  funext a; fin_cases a <;> exact Fin.ext (by simp [ix3])

theorem bsT (j) : tBs x1 x5 j = (tr x0 x1 x2 x3 x4 (j 0)).bs (tw x5 x6 x7 x8) (j 1) := by
  show _ = ∑ k : Fin 512, (x1 (ix2 (j 0) k) : EReal) * x5 (ix3 (hi (j 1)) k (lo (j 1)))
  pointwise [k0_pay12, k0_pay10]
  have hj : (j 1).val < 1024 := (j 1).isLt
  split
  · refine Fin.sum_fin_congr fun k => congrArg (fun b : EReal => (x1 (ix2 (j 0) k) : EReal) * b) ?_
    rw [ld0At]; exact ldAt x5 k (j 1) 0 _ (by show (j 1).val = 0 * 256 + ((j 1).val); omega)
  split
  · refine Fin.sum_fin_congr fun k => congrArg (fun b : EReal => (x1 (ix2 (j 0) k) : EReal) * b) ?_
    rw [ld1At]; exact ldAt x5 k (j 1) 1 _ (by show (j 1).val = 1 * 256 + ((j 1).val - 256); omega)
  split
  · refine Fin.sum_fin_congr fun k => congrArg (fun b : EReal => (x1 (ix2 (j 0) k) : EReal) * b) ?_
    rw [ld2At]; exact ldAt x5 k (j 1) 2 _ (by show (j 1).val = 2 * 256 + ((j 1).val - 256 - 256); omega)
  · refine Fin.sum_fin_congr fun k => congrArg (fun b : EReal => (x1 (ix2 (j 0) k) : EReal) * b) ?_
    rw [ld3At]; exact ldAt x5 k (j 1) 3 _ (by show (j 1).val = 3 * 256 + ((j 1).val - 256 - 256 - 256); omega)

theorem baT (j) : k0_pay14 (k0_pay11 x2) (k0_pay13 x2 (ld0 x6)) (ld1 x6) (ld2 x6) (ld3 x6) j
    = (tr x0 x1 x2 x3 x4 (j 0)).ba (tw x5 x6 x7 x8) (j 1) := by
  show _ = ∑ k : Fin 512, (x2 (ix2 (j 0) k) : EReal) * x6 (ix3 (hi (j 1)) k (lo (j 1)))
  pointwise [k0_pay14, k0_pay13, k0_pay11]
  have hj : (j 1).val < 1024 := (j 1).isLt
  split
  · refine Fin.sum_fin_congr fun k => congrArg (fun b : EReal => (x2 (ix2 (j 0) k) : EReal) * b) ?_
    rw [ld0At]; exact ldAt x6 k (j 1) 0 _ (by show (j 1).val = 0 * 256 + ((j 1).val); omega)
  split
  · refine Fin.sum_fin_congr fun k => congrArg (fun b : EReal => (x2 (ix2 (j 0) k) : EReal) * b) ?_
    rw [ld1At]; exact ldAt x6 k (j 1) 1 _ (by show (j 1).val = 1 * 256 + ((j 1).val - 256); omega)
  split
  · refine Fin.sum_fin_congr fun k => congrArg (fun b : EReal => (x2 (ix2 (j 0) k) : EReal) * b) ?_
    rw [ld2At]; exact ldAt x6 k (j 1) 2 _ (by show (j 1).val = 2 * 256 + ((j 1).val - 256 - 256); omega)
  · refine Fin.sum_fin_congr fun k => congrArg (fun b : EReal => (x2 (ix2 (j 0) k) : EReal) * b) ?_
    rw [ld3At]; exact ldAt x6 k (j 1) 3 _ (by show (j 1).val = 3 * 256 + ((j 1).val - 256 - 256 - 256); omega)

theorem mrgT (j) : tMrg x1 x2 x3 x4 x5 x6 j = (tr x0 x1 x2 x3 x4 (j 0)).mrg (tw x5 x6 x7 x8) (j 1) := by
  refine Eq.trans (b := (Ideal.logistic (x3 j) * tBs x1 x5 j
    + Ideal.logistic (x4 j) * k0_pay14 (k0_pay11 x2) (k0_pay13 x2 (ld0 x6)) (ld1 x6) (ld2 x6) (ld3 x6) j : EReal)) ?_ ?_
  · pointwise [k0_pay17, k0_pay15, k0_pay16]
  · rw [bsT x0 x1 x2 x3 x4 x5 x6 x7 x8, baT x0 x1 x2 x3 x4 x5 x6 x7 x8]
    obtain ⟨a, n, rfl⟩ : ∃ (a : Fin 256) (n : Fin 1024), j = ix2 a n := ⟨j 0, j 1, by funext i; fin_cases i <;> rfl⟩
    rfl

theorem outT (j) : k0_pay18 (k0_pay11 x2) x3 x4 (tBs x1 x5) (k0_pay13 x2 (ld0 x6)) (ld1 x6) (ld2 x6) (ld3 x6) x7 j
    = (tr x0 x1 x2 x3 x4 (j 0)).out (tw x5 x6 x7 x8) (j 1) := by
  refine Eq.trans (b := (∑ k : Fin 1024, (tMrg x1 x2 x3 x4 x5 x6 (ix2 (j 0) k) * x7 (ix2 k (j 1)) : EReal))) ?_ ?_
  · pointwise [k0_pay18]
  · exact Fin.sum_fin_congr fun k => congrArg (fun b : EReal => b * (x7 (ix2 k (j 1)) : EReal)) (mrgT x0 x1 x2 x3 x4 x5 x6 x7 x8 _)

theorem invT (j) : tInv x1 x2 x3 x4 x5 x6 x7 j = (tr x0 x1 x2 x3 x4 (j 0)).inv (tw x5 x6 x7 x8) := by
  have h (k : Fin 1024) := outT x0 x1 x2 x3 x4 x5 x6 x7 x8 (ix2 (j 0) k)
  unfold tInv
  revert h
  generalize tBs x1 x5 = y1
  generalize k0_pay13 x2 (ld0 x6) = y2
  intro h
  pointwise [k0_pay19]
  simp only [h]
  rfl

theorem nrmT (j) : tNrm x1 x2 x3 x4 x5 x6 x7 j = (tr x0 x1 x2 x3 x4 (j 0)).nrm (tw x5 x6 x7 x8) (j 1) := by
  have h := outT x0 x1 x2 x3 x4 x5 x6 x7 x8 j
  have h' := invT x0 x1 x2 x3 x4 x5 x6 x7 x8 (ix2 (j 0) 0)
  unfold tInv at h'
  unfold tNrm
  revert h h'
  generalize tBs x1 x5 = y1
  generalize k0_pay13 x2 (ld0 x6) = y2
  intro h h'
  pointwise [k0_pay20]
  rw [h, h']
  rfl

theorem doutT (j) : k0_pay22 (tInv x1 x2 x3 x4 x5 x6 x7) (tNrm x1 x2 x3 x4 x5 x6 x7) x0 x8 j
    = (tr x0 x1 x2 x3 x4 (j 0)).dout (tw x5 x6 x7 x8) (j 1) := by
  have h (k) := nrmT x0 x1 x2 x3 x4 x5 x6 x7 x8 (ix2 (j 0) k)
  have h' := invT x0 x1 x2 x3 x4 x5 x6 x7 x8 (ix2 (j 0) 0)
  revert h h'
  generalize tInv x1 x2 x3 x4 x5 x6 x7 = y1
  generalize tNrm x1 x2 x3 x4 x5 x6 x7 = y2
  intro h h'
  obtain ⟨a, n, rfl⟩ : ∃ (a : Fin 256) (n : Fin 1024), j = ix2 a n := ⟨j 0, j 1, by funext i; fin_cases i <;> rfl⟩
  pointwise [k0_pay22]
  simp only [ix2_0, ix2_1] at h h' ⊢
  simp only [h, h']
  rfl

theorem dmT (j) : k0_pay24 (tInv x1 x2 x3 x4 x5 x6 x7) (tNrm x1 x2 x3 x4 x5 x6 x7) x0 x8 x7 j
    = (tr x0 x1 x2 x3 x4 (j 0)).dm (tw x5 x6 x7 x8) (j 1) := by
  have h (k) := doutT x0 x1 x2 x3 x4 x5 x6 x7 x8 (ix2 (j 0) k)
  revert h
  generalize tInv x1 x2 x3 x4 x5 x6 x7 = y1
  generalize tNrm x1 x2 x3 x4 x5 x6 x7 = y2
  intro h
  pointwise [k0_pay24]
  simp only [h]
  rfl

theorem dbsT (j) : tDbs x0 x1 x2 x3 x4 x5 x6 x7 x8 j = (tr x0 x1 x2 x3 x4 (j 0)).dbs (tw x5 x6 x7 x8) (j 1) := by
  have h := dmT x0 x1 x2 x3 x4 x5 x6 x7 x8 j
  obtain ⟨a, n, rfl⟩ : ∃ (a : Fin 256) (n : Fin 1024), j = ix2 a n := ⟨j 0, j 1, by funext i; fin_cases i <;> rfl⟩
  unfold tDbs
  revert h
  generalize tInv x1 x2 x3 x4 x5 x6 x7 = y1
  generalize tNrm x1 x2 x3 x4 x5 x6 x7 = y2
  intro h
  pointwise [k0_pay25, k0_pay15]
  rw [h]
  rfl

theorem dbaT (j) : tDba x0 x1 x2 x3 x4 x5 x6 x7 x8 j = (tr x0 x1 x2 x3 x4 (j 0)).dba (tw x5 x6 x7 x8) (j 1) := by
  have h := dmT x0 x1 x2 x3 x4 x5 x6 x7 x8 j
  obtain ⟨a, n, rfl⟩ : ∃ (a : Fin 256) (n : Fin 1024), j = ix2 a n := ⟨j 0, j 1, by funext i; fin_cases i <;> rfl⟩
  unfold tDba
  revert h
  generalize tInv x1 x2 x3 x4 x5 x6 x7 = y1
  generalize tNrm x1 x2 x3 x4 x5 x6 x7 = y2
  intro h
  pointwise [k0_pay26, k0_pay16]
  rw [h]
  rfl

/-- A sum over the columns, as the four pieces' sums. -/
theorem sum4 (f : Fin 1024 → EReal) : ((∑ c : Fin 256, f (col 0 c)) + (∑ c : Fin 256, f (col 1 c)) + (∑ c : Fin 256, f (col 2 c))
    + ∑ c : Fin 256, f (col 3 c)) = ∑ n : Fin 1024, f n := by
  refine Eq.trans (b := ∑ s : Fin 4, ∑ c : Fin 256, f (col s c)) ?_ ?_
  · rw [Fin.sum_univ_four]
  · rw [← Fintype.sum_prod_type' (f := fun (s : Fin 4) (c : Fin 256) => f (col s c))]
    refine Fintype.sum_equiv (finProdFinEquiv (m := 4) (n := 256)) _ _ fun p => congrArg f (Fin.ext ?_)
    show p.1.val * 256 + p.2.val = p.2.val + 256 * p.1.val
    omega

theorem dysSum (d : FVec Ideal S256x1024 .f32) (j) : k0_pay42 (k0_pay29 d) (k0_pay38 (k0_pay29 d) (k0_pay31 d (ld0 x5)) (k0_pay35 d (ld1 x5)) (ld2 x5)) (ld3 x5) j
    = ∑ n : Fin 1024, (d (ix2 (j 0) n) : EReal) * x5 (ix3 (hi n) (j 1) (lo n)) := by
  rw [← sum4]
  pointwise [k0_pay42, k0_pay38, k0_pay31, k0_pay35, k0_pay29]
  refine congrArg₂ (fun a b : EReal => a + b) (congrArg₂ (fun a b : EReal => a + b) (congrArg₂ (fun a b : EReal => a + b) (Fin.sum_fin_congr fun c => ?_) (Fin.sum_fin_congr fun c => ?_))
    (Fin.sum_fin_congr fun c => ?_)) (Fin.sum_fin_congr fun c => ?_)
  · exact congrArg₂ (fun a b : EReal => a * b) (congrArg (fun n => d (ix2 (j 0) n)) (Fin.ext (by show c.val = 0 * 256 + c.val; omega))) ((ld0At x5 _ c).trans (ldAt x5 _ (col 0 c) 0 c rfl))
  · exact congrArg₂ (fun a b : EReal => a * b) (congrArg (fun n => d (ix2 (j 0) n)) (Fin.ext (by show 256 + c.val = 1 * 256 + c.val; omega))) ((ld1At x5 _ c).trans (ldAt x5 _ (col 1 c) 1 c rfl))
  · exact congrArg₂ (fun a b : EReal => a * b) (congrArg (fun n => d (ix2 (j 0) n)) (Fin.ext (by show 512 + c.val = 2 * 256 + c.val; omega))) ((ld2At x5 _ c).trans (ldAt x5 _ (col 2 c) 2 c rfl))
  · exact congrArg₂ (fun a b : EReal => a * b) (congrArg (fun n => d (ix2 (j 0) n)) (Fin.ext (by show 768 + c.val = 3 * 256 + c.val; omega))) ((ld3At x5 _ c).trans (ldAt x5 _ (col 3 c) 3 c rfl))

theorem dyaSum (d : FVec Ideal S256x1024 .f32) (j) : k0_pay43 (k0_pay30 d) (k0_pay39 (k0_pay30 d) (k0_pay32 d (ld0 x6)) (ld1 x6) (ld2 x6)) (ld3 x6) j
    = ∑ n : Fin 1024, (d (ix2 (j 0) n) : EReal) * x6 (ix3 (hi n) (j 1) (lo n)) := by
  rw [← sum4]
  pointwise [k0_pay43, k0_pay39, k0_pay32, k0_pay30]
  refine congrArg₂ (fun a b : EReal => a + b) (congrArg₂ (fun a b : EReal => a + b) (congrArg₂ (fun a b : EReal => a + b) (Fin.sum_fin_congr fun c => ?_) (Fin.sum_fin_congr fun c => ?_))
    (Fin.sum_fin_congr fun c => ?_)) (Fin.sum_fin_congr fun c => ?_)
  · exact congrArg₂ (fun a b : EReal => a * b) (congrArg (fun n => d (ix2 (j 0) n)) (Fin.ext (by show c.val = 0 * 256 + c.val; omega))) ((ld0At x6 _ c).trans (ldAt x6 _ (col 0 c) 0 c rfl))
  · exact congrArg₂ (fun a b : EReal => a * b) (congrArg (fun n => d (ix2 (j 0) n)) (Fin.ext (by show 256 + c.val = 1 * 256 + c.val; omega))) ((ld1At x6 _ c).trans (ldAt x6 _ (col 1 c) 1 c rfl))
  · exact congrArg₂ (fun a b : EReal => a * b) (congrArg (fun n => d (ix2 (j 0) n)) (Fin.ext (by show 512 + c.val = 2 * 256 + c.val; omega))) ((ld2At x6 _ c).trans (ldAt x6 _ (col 2 c) 2 c rfl))
  · exact congrArg₂ (fun a b : EReal => a * b) (congrArg (fun n => d (ix2 (j 0) n)) (Fin.ext (by show 768 + c.val = 3 * 256 + c.val; omega))) ((ld3At x6 _ c).trans (ldAt x6 _ (col 3 c) 3 c rfl))

end Tile

section Pieces

variable {e : EltTy} [∀ e, Nonempty (Elt Ideal e)]

theorem pieceIdx (o : ℕ) (ho : o < 4) (inb) (k : Fin 512) (c : Fin 256) :
    (Rect.unit (s := S4x512x256) ![o, 0, 0] ![1, 512, 256] inb).emb (ix3 (0 : Fin 1) k c) = ix3 (⟨o, ho⟩ : Fin 4) k c := by
  funext a; fin_cases a <;> exact Fin.ext (by simp [ix3])

theorem hit (o : ℕ) (ho : o < 4) (inb) (p : Vec Ideal S1x512x256 e) (L : List (View.Piece (Elt Ideal) S4x512x256 e)) (k : Fin 512) (c : Fin 256) :
    View.canon (⟨Rect.unit ![o, 0, 0] ![1, 512, 256] inb, p⟩ :: L) (ix3 (⟨o, ho⟩ : Fin 4) k c) = p (ix3 0 k c) := by
  rw [← pieceIdx o ho inb k c]
  exact View.canon_cons_emb _ _ L _

theorem miss (o : ℕ) (inb) (p : Vec Ideal S1x512x256 e) (L : List (View.Piece (Elt Ideal) S4x512x256 e)) (s : Fin 4) (h : s.val ≠ o) (k : Fin 512) (c : Fin 256) :
    View.canon (⟨Rect.unit ![o, 0, 0] ![1, 512, 256] inb, p⟩ :: L) (ix3 s k c) = View.canon L (ix3 s k c) := by
  refine View.canon_cons_of_not_mem _ _ fun hx => h ?_
  have h0 := (Rect.mem_set_unit (s := S4x512x256) (inb := inb)).1 hx 0
  have h1 : o ≤ s.val := h0.1
  have h2 : s.val < o + 1 := h0.2
  omega

theorem ldP (o : ℕ) (ho : o < 4) (inb) (X : Vec Ideal S4x512x256 e) (k : Fin 512) (c : Fin 256) :
    View.ld X (Rect.unit ![o, 0, 0] ![1, 512, 256] inb) (ix3 (0 : Fin 1) k c) = X (ix3 (⟨o, ho⟩ : Fin 4) k c) :=
  congrArg X (pieceIdx o ho inb k c)

theorem rcP {sig : RefSig} {κ : Kind} {sp : Space} (v : View sig κ sp S4x512x256 e) (o : ℕ) (ho : o < 4) (inb) (L : List (View.Piece (Elt Ideal) S4x512x256 e))
    (k : Fin 512) (c : Fin 256) :
    v.readCov L (Rect.unit (s := S4x512x256) ![o, 0, 0] ![1, 512, 256] inb).toLoadRect (ix3 (0 : Fin 1) k c) = View.canon L (ix3 (⟨o, ho⟩ : Fin 4) k c) := by
  rw [View.readCov_eq_canon']
  exact congrArg (View.canon L) (pieceIdx o ho inb k c)

theorem wholeP (inb) (p : Vec Ideal S4x512x256 e) (L : List (View.Piece (Elt Ideal) S4x512x256 e)) :
    View.canon (⟨Rect.unit ![0, 0, 0] ![4, 512, 256] inb, p⟩ :: L) = p := by
  exact View.canon_cons_unit_zero (by funext a; fin_cases a <;> rfl) _ _ _

end Pieces

section Acc

variable (y : Vec Ideal S256x512 .f32) (d : FVec Ideal S256x1024 .f32) (a : Vec Ideal S1x512x256 .f32) (k : Fin 512) (c : Fin 256)

theorem accS0 : k0_pay33 (k0_pay10 y) d a (ix3 0 k c) = (a (ix3 0 k c) + ∑ r : Fin 256, y (ix2 r k) * d (ix2 r (col (⟨0, by omega⟩ : Fin 4) c)) : EReal) := by
  pointwise [k0_pay33, k0_pay10]
  refine congrArg (fun s : EReal => (a (ix3 0 k c) : EReal) + s) (Fin.sum_fin_congr fun r => congrArg (fun n => (y (ix2 r k) * d (ix2 r n) : EReal)) (Fin.ext ?_))
  show c.val = 0 * 256 + c.val
  omega

theorem accS1 : k0_pay36 (k0_pay10 y) (k0_pay29 d) a (ix3 0 k c) = (a (ix3 0 k c) + ∑ r : Fin 256, y (ix2 r k) * d (ix2 r (col (⟨1, by omega⟩ : Fin 4) c)) : EReal) := by
  pointwise [k0_pay36, k0_pay29, k0_pay10]
  refine congrArg (fun s : EReal => (a (ix3 0 k c) : EReal) + s) (Fin.sum_fin_congr fun r => congrArg (fun n => (y (ix2 r k) * d (ix2 r n) : EReal)) (Fin.ext ?_))
  show 256 + c.val = 1 * 256 + c.val
  omega

theorem accS2 : k0_pay40 (k0_pay10 y) (k0_pay29 d) a (ix3 0 k c) = (a (ix3 0 k c) + ∑ r : Fin 256, y (ix2 r k) * d (ix2 r (col (⟨2, by omega⟩ : Fin 4) c)) : EReal) := by
  pointwise [k0_pay40, k0_pay29, k0_pay10]
  refine congrArg (fun s : EReal => (a (ix3 0 k c) : EReal) + s) (Fin.sum_fin_congr fun r => congrArg (fun n => (y (ix2 r k) * d (ix2 r n) : EReal)) (Fin.ext ?_))
  show 512 + c.val = 2 * 256 + c.val
  omega

theorem accS3 : k0_pay1 (k0_pay44 (k0_pay10 y) (k0_pay29 d) a) (ix3 0 k c) = (a (ix3 0 k c) + ∑ r : Fin 256, y (ix2 r k) * d (ix2 r (col (⟨3, by omega⟩ : Fin 4) c)) : EReal) := by
  pointwise [k0_pay1, k0_pay44, k0_pay29, k0_pay10]
  refine congrArg (fun s : EReal => (a (ix3 0 k c) : EReal) + s) (Fin.sum_fin_congr fun r => congrArg (fun n => (y (ix2 r k) * d (ix2 r n) : EReal)) (Fin.ext ?_))
  show 768 + c.val = 3 * 256 + c.val
  omega

theorem accA0 : k0_pay34 (k0_pay11 y) d a (ix3 0 k c) = (a (ix3 0 k c) + ∑ r : Fin 256, y (ix2 r k) * d (ix2 r (col (⟨0, by omega⟩ : Fin 4) c)) : EReal) := by
  pointwise [k0_pay34, k0_pay11]
  refine congrArg (fun s : EReal => (a (ix3 0 k c) : EReal) + s) (Fin.sum_fin_congr fun r => congrArg (fun n => (y (ix2 r k) * d (ix2 r n) : EReal)) (Fin.ext ?_))
  show c.val = 0 * 256 + c.val
  omega

theorem accA1 : k0_pay37 (k0_pay11 y) (k0_pay30 d) a (ix3 0 k c) = (a (ix3 0 k c) + ∑ r : Fin 256, y (ix2 r k) * d (ix2 r (col (⟨1, by omega⟩ : Fin 4) c)) : EReal) := by
  pointwise [k0_pay37, k0_pay30, k0_pay11]
  refine congrArg (fun s : EReal => (a (ix3 0 k c) : EReal) + s) (Fin.sum_fin_congr fun r => congrArg (fun n => (y (ix2 r k) * d (ix2 r n) : EReal)) (Fin.ext ?_))
  show 256 + c.val = 1 * 256 + c.val
  omega

theorem accA2 : k0_pay41 (k0_pay11 y) (k0_pay30 d) a (ix3 0 k c) = (a (ix3 0 k c) + ∑ r : Fin 256, y (ix2 r k) * d (ix2 r (col (⟨2, by omega⟩ : Fin 4) c)) : EReal) := by
  pointwise [k0_pay41, k0_pay30, k0_pay11]
  refine congrArg (fun s : EReal => (a (ix3 0 k c) : EReal) + s) (Fin.sum_fin_congr fun r => congrArg (fun n => (y (ix2 r k) * d (ix2 r n) : EReal)) (Fin.ext ?_))
  show 512 + c.val = 2 * 256 + c.val
  omega

theorem accA3 : k0_pay2 (k0_pay11 y) (k0_pay30 d) a (ix3 0 k c) = (a (ix3 0 k c) + ∑ r : Fin 256, y (ix2 r k) * d (ix2 r (col (⟨3, by omega⟩ : Fin 4) c)) : EReal) := by
  pointwise [k0_pay2, k0_pay30, k0_pay11]
  refine congrArg (fun s : EReal => (a (ix3 0 k c) : EReal) + s) (Fin.sum_fin_congr fun r => congrArg (fun n => (y (ix2 r k) * d (ix2 r n) : EReal)) (Fin.ext ?_))
  show 768 + c.val = 3 * 256 + c.val
  omega

theorem zeroS (j) : k0_pay6 (F := Ideal) j = (0 : EReal) := by pointwise [k0_pay6]
theorem zeroA (j) : k0_pay7 (F := Ideal) j = (0 : EReal) := by pointwise [k0_pay7]
theorem outS (x j) : k0_pay3 (F := Ideal) x j = x j := by pointwise [k0_pay3]
theorem outA (x j) : k0_pay4 (F := Ideal) x j = x j := by pointwise [k0_pay4]

end Acc

variable (m : (ℓ : Loc nD τ sig) → Buf (Elt Ideal) ℓ)

abbrev B0 (c : Dev nD) (t : Fin cfg0.N) : Vec Ideal S256x1024 .f32 := iblk m c 0 t
abbrev B1 (c : Dev nD) (t : Fin cfg0.N) : Vec Ideal S256x512 .f32 := iblk m c 1 t
abbrev B2 (c : Dev nD) (t : Fin cfg0.N) : Vec Ideal S256x512 .f32 := iblk m c 2 t
abbrev B3 (c : Dev nD) (t : Fin cfg0.N) : Vec Ideal S256x1024 .f32 := iblk m c 3 t
abbrev B4 (c : Dev nD) (t : Fin cfg0.N) : Vec Ideal S256x1024 .f32 := iblk m c 4 t
abbrev B5 (c : Dev nD) (t : Fin cfg0.N) : Vec Ideal S4x512x256 .bf16 := iblk m c 5 t
abbrev B6 (c : Dev nD) (t : Fin cfg0.N) : Vec Ideal S4x512x256 .bf16 := iblk m c 6 t
abbrev B7 (c : Dev nD) (t : Fin cfg0.N) : Vec Ideal S1024x1024 .bf16 := iblk m c 7 t
abbrev B8 (c : Dev nD) (t : Fin cfg0.N) : Vec Ideal S1x1024 .f32 := iblk m c 8 t
abbrev rowT (c : Dev nD) (t : Fin cfg0.N) : Fin 256 → Row := tr (B0 m c t) (B1 m c t) (B2 m c t) (B3 m c t) (B4 m c t)
abbrev wtsT (c : Dev nD) (t : Fin cfg0.N) : Wts := tw (B5 m c t) (B6 m c t) (B7 m c t) (B8 m c t)

theorem o9 (c : Dev nD) (t : Fin cfg0.N) (j) : (outsAt0 m c t.val t.isLt).1 j = (rowT m c t (j 0)).dys (wtsT m c t) (j 1) := by
  have e : (outsAt0 m c t.val t.isLt).1 = (let d := tDbs (B0 m c t) (B1 m c t) (B2 m c t) (B3 m c t) (B4 m c t) (B5 m c t) (B6 m c t) (B7 m c t) (B8 m c t)
      k0_pay42 (k0_pay29 d) (k0_pay38 (k0_pay29 d) (k0_pay31 d (ld0 (B5 m c t))) (k0_pay35 d (ld1 (B5 m c t))) (ld2 (B5 m c t))) (ld3 (B5 m c t))) := by
    by_cases h : t.val % 8 = 0
    · rw [outsAt0_A m c t h (by omega)]; frame_out
    · by_cases h1 : t.val % 8 = 7
      · rw [outsAt0_C m c t h h1]; frame_out
      · rw [outsAt0_B m c t h h1]; frame_out
  rw [e, dysSum]
  exact Fin.sum_fin_congr fun n => congrArg (fun b : EReal => b * _) (dbsT _ _ _ _ _ _ _ _ _ _)

theorem o10 (c : Dev nD) (t : Fin cfg0.N) (j) : (outsAt0 m c t.val t.isLt).2.1 j = (rowT m c t (j 0)).dya (wtsT m c t) (j 1) := by
  have e : (outsAt0 m c t.val t.isLt).2.1 = (let d := tDba (B0 m c t) (B1 m c t) (B2 m c t) (B3 m c t) (B4 m c t) (B5 m c t) (B6 m c t) (B7 m c t) (B8 m c t)
      k0_pay43 (k0_pay30 d) (k0_pay39 (k0_pay30 d) (k0_pay32 d (ld0 (B6 m c t))) (ld1 (B6 m c t)) (ld2 (B6 m c t))) (ld3 (B6 m c t))) := by
    by_cases h : t.val % 8 = 0
    · rw [outsAt0_A m c t h (by omega)]; frame_out
    · by_cases h1 : t.val % 8 = 7
      · rw [outsAt0_C m c t h h1]; frame_out
      · rw [outsAt0_B m c t h h1]; frame_out
  rw [e, dyaSum]
  exact Fin.sum_fin_congr fun n => congrArg (fun b : EReal => b * _) (dbaT _ _ _ _ _ _ _ _ _ _)

/-- What a point adds to a branch weight's gradient. -/
def partS (c : Dev nD) (t : Fin cfg0.N) (s : Fin 4) (k : Fin 512) (l : Fin 256) : EReal :=
  ∑ r : Fin 256, (rowT m c t r).ys k * (rowT m c t r).dbs (wtsT m c t) (col s l)
def partA (c : Dev nD) (t : Fin cfg0.N) (s : Fin 4) (k : Fin 512) (l : Fin 256) : EReal :=
  ∑ r : Fin 256, (rowT m c t r).ya k * (rowT m c t r).dba (wtsT m c t) (col s l)

theorem four (s : Fin 4) : s = ⟨0, by omega⟩ ∨ s = ⟨1, by omega⟩ ∨ s = ⟨2, by omega⟩ ∨ s = ⟨3, by omega⟩ := by
  revert s; decide

theorem accS_A (c : Dev nD) (t : Fin cfg0.N) (h : t.val % 8 = 0) (s : Fin 4) (k : Fin 512) (l : Fin 256) :
    (outsAt0 m c t.val t.isLt).2.2.2.2.2.2.2.1 (ix3 s k l) = (0 + partS m c t s k l : EReal) := by
  rw [outsAt0_A m c t h (by omega)]; frame_out
  rcases four s with rfl | rfl | rfl | rfl
  · rw [miss 3 _ _ _ _ (by simp), miss 2 _ _ _ _ (by simp), miss 1 _ _ _ _ (by simp), hit 0, accS0, rcP _ 0 (by omega), wholeP, zeroS]
    exact congrArg₂ (fun a b : EReal => a + b) rfl (Fin.sum_fin_congr fun r => congrArg (fun b : EReal => _ * b) (dbsT _ _ _ _ _ _ _ _ _ _))
  · rw [miss 3 _ _ _ _ (by simp), miss 2 _ _ _ _ (by simp), hit 1, accS1, rcP _ 1 (by omega), miss 0 _ _ _ _ (by simp), wholeP, zeroS]
    exact congrArg₂ (fun a b : EReal => a + b) rfl (Fin.sum_fin_congr fun r => congrArg (fun b : EReal => _ * b) (dbsT _ _ _ _ _ _ _ _ _ _))
  · rw [miss 3 _ _ _ _ (by simp), hit 2, accS2, rcP _ 2 (by omega), miss 1 _ _ _ _ (by simp), miss 0 _ _ _ _ (by simp), wholeP, zeroS]
    exact congrArg₂ (fun a b : EReal => a + b) rfl (Fin.sum_fin_congr fun r => congrArg (fun b : EReal => _ * b) (dbsT _ _ _ _ _ _ _ _ _ _))
  · rw [hit 3, accS3, rcP _ 3 (by omega), miss 2 _ _ _ _ (by simp), miss 1 _ _ _ _ (by simp), miss 0 _ _ _ _ (by simp), wholeP, zeroS]
    exact congrArg₂ (fun a b : EReal => a + b) rfl (Fin.sum_fin_congr fun r => congrArg (fun b : EReal => _ * b) (dbsT _ _ _ _ _ _ _ _ _ _))

theorem accS_B (c : Dev nD) (t : Fin cfg0.N) (h : ¬ t.val % 8 = 0) (h1 : ¬ t.val % 8 = 7) (s : Fin 4) (k : Fin 512) (l : Fin 256) :
    (outsAt0 m c t.val t.isLt).2.2.2.2.2.2.2.1 (ix3 s k l)
      = ((outsAt0 m c (t.val - 1) (by omega)).2.2.2.2.2.2.2.1 (ix3 s k l) + partS m c t s k l : EReal) := by
  rw [outsAt0_B m c t h h1]; frame_out
  rcases four s with rfl | rfl | rfl | rfl
  · rw [miss 3 _ _ _ _ (by simp), miss 2 _ _ _ _ (by simp), miss 1 _ _ _ _ (by simp), hit 0, accS0, ldP 0 (by omega)]
    exact congrArg₂ (fun a b : EReal => a + b) (congrFun (Memref.IsWhole.read_unread (Memref.isWhole_whole _) _) _) (Fin.sum_fin_congr fun r => congrArg (fun b : EReal => _ * b) (dbsT _ _ _ _ _ _ _ _ _ _))
  · rw [miss 3 _ _ _ _ (by simp), miss 2 _ _ _ _ (by simp), hit 1, accS1, ldP 1 (by omega)]
    exact congrArg₂ (fun a b : EReal => a + b) (congrFun (Memref.IsWhole.read_unread (Memref.isWhole_whole _) _) _) (Fin.sum_fin_congr fun r => congrArg (fun b : EReal => _ * b) (dbsT _ _ _ _ _ _ _ _ _ _))
  · rw [miss 3 _ _ _ _ (by simp), hit 2, accS2, ldP 2 (by omega)]
    exact congrArg₂ (fun a b : EReal => a + b) (congrFun (Memref.IsWhole.read_unread (Memref.isWhole_whole _) _) _) (Fin.sum_fin_congr fun r => congrArg (fun b : EReal => _ * b) (dbsT _ _ _ _ _ _ _ _ _ _))
  · rw [hit 3, accS3, ldP 3 (by omega)]
    exact congrArg₂ (fun a b : EReal => a + b) (congrFun (Memref.IsWhole.read_unread (Memref.isWhole_whole _) _) _) (Fin.sum_fin_congr fun r => congrArg (fun b : EReal => _ * b) (dbsT _ _ _ _ _ _ _ _ _ _))

theorem accS_C (c : Dev nD) (t : Fin cfg0.N) (h : ¬ t.val % 8 = 0) (h1 : t.val % 8 = 7) (s : Fin 4) (k : Fin 512) (l : Fin 256) :
    (outsAt0 m c t.val t.isLt).2.2.2.2.2.2.2.1 (ix3 s k l)
      = ((outsAt0 m c (t.val - 1) (by omega)).2.2.2.2.2.2.2.1 (ix3 s k l) + partS m c t s k l : EReal) := by
  rw [outsAt0_C m c t h h1]; frame_out
  rcases four s with rfl | rfl | rfl | rfl
  · rw [miss 3 _ _ _ _ (by simp), miss 2 _ _ _ _ (by simp), miss 1 _ _ _ _ (by simp), hit 0, accS0, ldP 0 (by omega)]
    exact congrArg₂ (fun a b : EReal => a + b) (congrFun (Memref.IsWhole.read_unread (Memref.isWhole_whole _) _) _) (Fin.sum_fin_congr fun r => congrArg (fun b : EReal => _ * b) (dbsT _ _ _ _ _ _ _ _ _ _))
  · rw [miss 3 _ _ _ _ (by simp), miss 2 _ _ _ _ (by simp), hit 1, accS1, ldP 1 (by omega)]
    exact congrArg₂ (fun a b : EReal => a + b) (congrFun (Memref.IsWhole.read_unread (Memref.isWhole_whole _) _) _) (Fin.sum_fin_congr fun r => congrArg (fun b : EReal => _ * b) (dbsT _ _ _ _ _ _ _ _ _ _))
  · rw [miss 3 _ _ _ _ (by simp), hit 2, accS2, ldP 2 (by omega)]
    exact congrArg₂ (fun a b : EReal => a + b) (congrFun (Memref.IsWhole.read_unread (Memref.isWhole_whole _) _) _) (Fin.sum_fin_congr fun r => congrArg (fun b : EReal => _ * b) (dbsT _ _ _ _ _ _ _ _ _ _))
  · rw [hit 3, accS3, ldP 3 (by omega)]
    exact congrArg₂ (fun a b : EReal => a + b) (congrFun (Memref.IsWhole.read_unread (Memref.isWhole_whole _) _) _) (Fin.sum_fin_congr fun r => congrArg (fun b : EReal => _ * b) (dbsT _ _ _ _ _ _ _ _ _ _))

theorem accA_A (c : Dev nD) (t : Fin cfg0.N) (h : t.val % 8 = 0) (s : Fin 4) (k : Fin 512) (l : Fin 256) :
    (outsAt0 m c t.val t.isLt).2.2.2.2.2.2.2.2.1 (ix3 s k l) = (0 + partA m c t s k l : EReal) := by
  rw [outsAt0_A m c t h (by omega)]; frame_out
  rcases four s with rfl | rfl | rfl | rfl
  · rw [miss 3 _ _ _ _ (by simp), miss 2 _ _ _ _ (by simp), miss 1 _ _ _ _ (by simp), hit 0, accA0, rcP _ 0 (by omega), wholeP, zeroA]
    exact congrArg₂ (fun a b : EReal => a + b) rfl (Fin.sum_fin_congr fun r => congrArg (fun b : EReal => _ * b) (dbaT _ _ _ _ _ _ _ _ _ _))
  · rw [miss 3 _ _ _ _ (by simp), miss 2 _ _ _ _ (by simp), hit 1, accA1, rcP _ 1 (by omega), miss 0 _ _ _ _ (by simp), wholeP, zeroA]
    exact congrArg₂ (fun a b : EReal => a + b) rfl (Fin.sum_fin_congr fun r => congrArg (fun b : EReal => _ * b) (dbaT _ _ _ _ _ _ _ _ _ _))
  · rw [miss 3 _ _ _ _ (by simp), hit 2, accA2, rcP _ 2 (by omega), miss 1 _ _ _ _ (by simp), miss 0 _ _ _ _ (by simp), wholeP, zeroA]
    exact congrArg₂ (fun a b : EReal => a + b) rfl (Fin.sum_fin_congr fun r => congrArg (fun b : EReal => _ * b) (dbaT _ _ _ _ _ _ _ _ _ _))
  · rw [hit 3, accA3, rcP _ 3 (by omega), miss 2 _ _ _ _ (by simp), miss 1 _ _ _ _ (by simp), miss 0 _ _ _ _ (by simp), wholeP, zeroA]
    exact congrArg₂ (fun a b : EReal => a + b) rfl (Fin.sum_fin_congr fun r => congrArg (fun b : EReal => _ * b) (dbaT _ _ _ _ _ _ _ _ _ _))

theorem accA_B (c : Dev nD) (t : Fin cfg0.N) (h : ¬ t.val % 8 = 0) (h1 : ¬ t.val % 8 = 7) (s : Fin 4) (k : Fin 512) (l : Fin 256) :
    (outsAt0 m c t.val t.isLt).2.2.2.2.2.2.2.2.1 (ix3 s k l)
      = ((outsAt0 m c (t.val - 1) (by omega)).2.2.2.2.2.2.2.2.1 (ix3 s k l) + partA m c t s k l : EReal) := by
  rw [outsAt0_B m c t h h1]; frame_out
  rcases four s with rfl | rfl | rfl | rfl
  · rw [miss 3 _ _ _ _ (by simp), miss 2 _ _ _ _ (by simp), miss 1 _ _ _ _ (by simp), hit 0, accA0, ldP 0 (by omega)]
    exact congrArg₂ (fun a b : EReal => a + b) (congrFun (Memref.IsWhole.read_unread (Memref.isWhole_whole _) _) _) (Fin.sum_fin_congr fun r => congrArg (fun b : EReal => _ * b) (dbaT _ _ _ _ _ _ _ _ _ _))
  · rw [miss 3 _ _ _ _ (by simp), miss 2 _ _ _ _ (by simp), hit 1, accA1, ldP 1 (by omega)]
    exact congrArg₂ (fun a b : EReal => a + b) (congrFun (Memref.IsWhole.read_unread (Memref.isWhole_whole _) _) _) (Fin.sum_fin_congr fun r => congrArg (fun b : EReal => _ * b) (dbaT _ _ _ _ _ _ _ _ _ _))
  · rw [miss 3 _ _ _ _ (by simp), hit 2, accA2, ldP 2 (by omega)]
    exact congrArg₂ (fun a b : EReal => a + b) (congrFun (Memref.IsWhole.read_unread (Memref.isWhole_whole _) _) _) (Fin.sum_fin_congr fun r => congrArg (fun b : EReal => _ * b) (dbaT _ _ _ _ _ _ _ _ _ _))
  · rw [hit 3, accA3, ldP 3 (by omega)]
    exact congrArg₂ (fun a b : EReal => a + b) (congrFun (Memref.IsWhole.read_unread (Memref.isWhole_whole _) _) _) (Fin.sum_fin_congr fun r => congrArg (fun b : EReal => _ * b) (dbaT _ _ _ _ _ _ _ _ _ _))

theorem accA_C (c : Dev nD) (t : Fin cfg0.N) (h : ¬ t.val % 8 = 0) (h1 : t.val % 8 = 7) (s : Fin 4) (k : Fin 512) (l : Fin 256) :
    (outsAt0 m c t.val t.isLt).2.2.2.2.2.2.2.2.1 (ix3 s k l)
      = ((outsAt0 m c (t.val - 1) (by omega)).2.2.2.2.2.2.2.2.1 (ix3 s k l) + partA m c t s k l : EReal) := by
  rw [outsAt0_C m c t h h1]; frame_out
  rcases four s with rfl | rfl | rfl | rfl
  · rw [miss 3 _ _ _ _ (by simp), miss 2 _ _ _ _ (by simp), miss 1 _ _ _ _ (by simp), hit 0, accA0, ldP 0 (by omega)]
    exact congrArg₂ (fun a b : EReal => a + b) (congrFun (Memref.IsWhole.read_unread (Memref.isWhole_whole _) _) _) (Fin.sum_fin_congr fun r => congrArg (fun b : EReal => _ * b) (dbaT _ _ _ _ _ _ _ _ _ _))
  · rw [miss 3 _ _ _ _ (by simp), miss 2 _ _ _ _ (by simp), hit 1, accA1, ldP 1 (by omega)]
    exact congrArg₂ (fun a b : EReal => a + b) (congrFun (Memref.IsWhole.read_unread (Memref.isWhole_whole _) _) _) (Fin.sum_fin_congr fun r => congrArg (fun b : EReal => _ * b) (dbaT _ _ _ _ _ _ _ _ _ _))
  · rw [miss 3 _ _ _ _ (by simp), hit 2, accA2, ldP 2 (by omega)]
    exact congrArg₂ (fun a b : EReal => a + b) (congrFun (Memref.IsWhole.read_unread (Memref.isWhole_whole _) _) _) (Fin.sum_fin_congr fun r => congrArg (fun b : EReal => _ * b) (dbaT _ _ _ _ _ _ _ _ _ _))
  · rw [hit 3, accA3, ldP 3 (by omega)]
    exact congrArg₂ (fun a b : EReal => a + b) (congrFun (Memref.IsWhole.read_unread (Memref.isWhole_whole _) _) _) (Fin.sum_fin_congr fun r => congrArg (fun b : EReal => _ * b) (dbaT _ _ _ _ _ _ _ _ _ _))

end Cert.MergeIdeal.Step
-- ==== Proof.Merge.lean ====
/- The gradients of the gated merge and of the projection after it, as arrays, and the claim on the call. -/
module

public import proofs.«01_k».proof.Proof.MergeTile

@[expose] public section

set_option maxRecDepth 16384

noncomputable section

namespace Cert.MergeIdeal.Step

open Cert.MergeIdeal Cert.MergeIdeal.Gen Cert.MergeIdeal.Value Idealize.ShloMosaic Idealize.ShloMosaic.TcCoe
open Idealize.SL.Sem

variable (m : (ℓ : Loc nD τ sig) → Buf (Elt Ideal) ℓ)

theorem woutT (x0 : Vec Ideal S256x1024 .f32) (x1 x2 : Vec Ideal S256x512 .f32) (x3 x4 : Vec Ideal S256x1024 .f32)
    (x5 x6 : Vec Ideal S4x512x256 .bf16) (x7 : Vec Ideal S1024x1024 .bf16) (x8 : Vec Ideal S1x1024 .f32) (a j) :
    k0_pay23 (tMrg x1 x2 x3 x4 x5 x6) (tInv x1 x2 x3 x4 x5 x6 x7) (tNrm x1 x2 x3 x4 x5 x6 x7) x0 x8 a j
      = (a j + ∑ r : Fin 256, (tr x0 x1 x2 x3 x4 r).mrg (tw x5 x6 x7 x8) (j 0) * (tr x0 x1 x2 x3 x4 r).dout (tw x5 x6 x7 x8) (j 1) : EReal) := by
  have h (r : Fin 256) : k0_pay22 (tInv x1 x2 x3 x4 x5 x6 x7) (tNrm x1 x2 x3 x4 x5 x6 x7) x0 x8 (ix2 r (j 1))
      = (tr x0 x1 x2 x3 x4 r).dout (tw x5 x6 x7 x8) (j 1) := doutT x0 x1 x2 x3 x4 x5 x6 x7 x8 (ix2 r (j 1))
  have h' (r : Fin 256) : tMrg x1 x2 x3 x4 x5 x6 (ix2 r (j 0)) = (tr x0 x1 x2 x3 x4 r).mrg (tw x5 x6 x7 x8) (j 0) :=
    mrgT x0 x1 x2 x3 x4 x5 x6 x7 x8 (ix2 r (j 0))
  revert h h'
  generalize tInv x1 x2 x3 x4 x5 x6 x7 = y1
  generalize tNrm x1 x2 x3 x4 x5 x6 x7 = y2
  generalize tMrg x1 x2 x3 x4 x5 x6 = y3
  intro h h'
  refine Eq.trans (b := (a j + ∑ r : Fin 256, y3 (ix2 r (j 0)) * k0_pay22 y1 y2 x0 x8 (ix2 r (j 1)) : EReal)) ?_ ?_
  · pointwise [k0_pay23]
  · exact congrArg (fun s : EReal => (a j : EReal) + s) (Fin.sum_fin_congr fun r => congrArg₂ (fun a b : EReal => a * b) (h' r) (h r))

theorem dg2T (x0 : Vec Ideal S256x1024 .f32) (x1 x2 : Vec Ideal S256x512 .f32) (x3 x4 : Vec Ideal S256x1024 .f32)
    (x5 x6 : Vec Ideal S4x512x256 .bf16) (x7 : Vec Ideal S1024x1024 .bf16) (x8 : Vec Ideal S1x1024 .f32) (a j) :
    k0_pay21 (k0_pay11 x2) x3 x4 (tBs x1 x5) (k0_pay13 x2 (ld0 x6)) (ld1 x6) (ld2 x6) (ld3 x6) x7 x0 a j
      = (a j + ∑ r : Fin 256, x0 (ix2 r (j 1)) * (tr x0 x1 x2 x3 x4 r).nrm (tw x5 x6 x7 x8) (j 1) : EReal) := by
  have h (r : Fin 256) : k0_pay20 (k0_pay11 x2) x3 x4 (tBs x1 x5) (k0_pay13 x2 (ld0 x6)) (ld1 x6) (ld2 x6) (ld3 x6) x7 (ix2 r (j 1))
      = (tr x0 x1 x2 x3 x4 r).nrm (tw x5 x6 x7 x8) (j 1) := nrmT x0 x1 x2 x3 x4 x5 x6 x7 x8 (ix2 r (j 1))
  revert h
  generalize tBs x1 x5 = y1
  generalize k0_pay13 x2 (ld0 x6) = y2
  intro h
  refine Eq.trans (b := (a j + ∑ r : Fin 256, x0 (ix2 r (j 1)) * k0_pay20 (k0_pay11 x2) x3 x4 y1 y2 (ld1 x6) (ld2 x6) (ld3 x6) x7 (ix2 r (j 1)) : EReal)) ?_ ?_
  · pointwise [k0_pay21]
  · exact congrArg (fun s : EReal => (a j : EReal) + s) (Fin.sum_fin_congr fun r => congrArg (fun b : EReal => (x0 (ix2 r (j 1)) : EReal) * b) (h r))

theorem zeroW (j) : k0_pay8 (F := Ideal) j = (0 : EReal) := by pointwise [k0_pay8]
theorem zeroG (j) : k0_pay9 (F := Ideal) j = (0 : EReal) := by pointwise [k0_pay9]
theorem outW (x j) : k0_pay5 (F := Ideal) x j = x j := by pointwise [k0_pay5]

def partW (c : Dev nD) (t : Fin cfg0.N) (k n : Fin 1024) : EReal :=
  ∑ r : Fin 256, (rowT m c t r).mrg (wtsT m c t) k * (rowT m c t r).dout (wtsT m c t) n
def partG (c : Dev nD) (t : Fin cfg0.N) (n : Fin 1024) : EReal :=
  ∑ r : Fin 256, (rowT m c t r).dxn n * (rowT m c t r).nrm (wtsT m c t) n

theorem accW_A (c : Dev nD) (t : Fin cfg0.N) (h : t.val % 8 = 0) (j) :
    (outsAt0 m c t.val t.isLt).2.2.2.2.2.2.2.2.2 j = (0 + partW m c t (j 0) (j 1) : EReal) := by
  rw [outsAt0_A m c t h (by omega)]; frame_out
  rw [woutT, zeroW]
  rfl

theorem accW_B (c : Dev nD) (t : Fin cfg0.N) (h : ¬ t.val % 8 = 0) (j) :
    (outsAt0 m c t.val t.isLt).2.2.2.2.2.2.2.2.2 j
      = ((outsAt0 m c (t.val - 1) (by omega)).2.2.2.2.2.2.2.2.2 j + partW m c t (j 0) (j 1) : EReal) := by
  by_cases h1 : t.val % 8 = 7
  · rw [outsAt0_C m c t h h1]; frame_out
    rw [woutT]
    exact congrArg₂ (fun a b : EReal => a + b) (congrFun (Memref.IsWhole.read_unread (Memref.isWhole_whole _) _) _) rfl
  · rw [outsAt0_B m c t h h1]; frame_out
    rw [woutT]
    exact congrArg₂ (fun a b : EReal => a + b) (congrFun (Memref.IsWhole.read_unread (Memref.isWhole_whole _) _) _) rfl

theorem accG_A (c : Dev nD) (t : Fin cfg0.N) (h : t.val % 8 = 0) (j) :
    (outsAt0 m c t.val t.isLt).2.2.2.2.2.2.1 j = (0 + partG m c t (j 1) : EReal) := by
  rw [outsAt0_A m c t h (by omega)]; frame_out
  rw [dg2T _ _ _ _ _ _ _ _ (B8 m c t), zeroG]
  rfl

theorem accG_B (c : Dev nD) (t : Fin cfg0.N) (h : ¬ t.val % 8 = 0) (j) :
    (outsAt0 m c t.val t.isLt).2.2.2.2.2.2.1 j
      = ((outsAt0 m c (t.val - 1) (by omega)).2.2.2.2.2.2.1 j + partG m c t (j 1) : EReal) := by
  by_cases h1 : t.val % 8 = 7
  · rw [outsAt0_C m c t h h1]; frame_out
    rw [dg2T _ _ _ _ _ _ _ _ (B8 m c t)]
    rfl
  · rw [outsAt0_B m c t h h1]; frame_out
    rw [dg2T _ _ _ _ _ _ _ _ (B8 m c t)]
    rfl

theorem wholeIdx (inb) (j : S4x512x256.Idx) : (Rect.unit (s := S4x512x256) ![0, 0, 0] ![4, 512, 256] inb).toLoadRect.idx j = j := by
  funext a; fin_cases a <;> exact Fin.ext (by simp [Rect.toLoadRect, LoadRect.idx])

theorem last12 (c : Dev nD) (t : Fin cfg0.N) (h : ¬ t.val % 8 = 0) (h1 : t.val % 8 = 7) (j) :
    (outsAt0 m c t.val t.isLt).2.2.2.1 j = (outsAt0 m c t.val t.isLt).2.2.2.2.2.2.2.1 j := by
  rw [outsAt0_C m c t h h1]; frame_out
  rw [outS, View.readCov_eq_canon']
  exact congrArg (View.canon _) (wholeIdx _ j)

theorem last13 (c : Dev nD) (t : Fin cfg0.N) (h : ¬ t.val % 8 = 0) (h1 : t.val % 8 = 7) (j) :
    (outsAt0 m c t.val t.isLt).2.2.2.2.1 j = (outsAt0 m c t.val t.isLt).2.2.2.2.2.2.2.2.1 j := by
  rw [outsAt0_C m c t h h1]; frame_out
  rw [outA, View.readCov_eq_canon']
  exact congrArg (View.canon _) (wholeIdx _ j)

theorem last14 (c : Dev nD) (t : Fin cfg0.N) (h : ¬ t.val % 8 = 0) (h1 : t.val % 8 = 7) (j) :
    (outsAt0 m c t.val t.isLt).2.2.2.2.2.1 j = (outsAt0 m c t.val t.isLt).2.2.2.2.2.2.2.2.2 j := by
  rw [outsAt0_C m c t h h1]; frame_out
  rw [outW]

/-! ## The tiles' rows and weights as the arrays' -/

theorem tiles : ∀ t : Fin cfg0.N, win0_0.index t = ![t.val, 0] ∧ win0_1.index t = ![t.val, 0] ∧ win0_2.index t = ![t.val, 0]
    ∧ win0_3.index t = ![t.val, 6] ∧ win0_4.index t = ![t.val, 7] ∧ win0_5.index t = ![0, 0, 0] ∧ win0_6.index t = ![0, 0, 0]
    ∧ win0_7.index t = ![0, 0] ∧ win0_8.index t = ![0, 0] ∧ win0_9.index t = ![t.val, 0] ∧ win0_10.index t = ![t.val, 0]
    ∧ win0_12.index t = ![0, 0, 0] ∧ win0_13.index t = ![0, 0, 0] ∧ win0_14.index t = ![0, 0] ∧ win0_15.index t = ![0, 0]
    ∧ t.val < 8 :=
  (by decide +kernel : ∀ t : Fin grid0.N, _)

theorem tlt (t : Fin cfg0.N) : t.val < 8 := (tiles t).2.2.2.2.2.2.2.2.2.2.2.2.2.2.2

/-- The row of the array that row `a` of block `t` is. -/
def row (t : Fin cfg0.N) (a : Fin 256) : Fin 2048 := ⟨t.val * 256 + a.val, by
  have := tlt t
  omega⟩

abbrev DXN (c : Dev nD) : FVec Ideal S2048x1024 .f32 := m ((c.tc : Thread nD τ).loc main_arg0)
abbrev YS (c : Dev nD) : FVec Ideal S2048x512 .f32 := m ((c.tc : Thread nD τ).loc main_arg1)
abbrev YA (c : Dev nD) : FVec Ideal S2048x512 .f32 := m ((c.tc : Thread nD τ).loc main_arg2)
abbrev PR (c : Dev nD) : FVec Ideal S2048x8192 .f32 := m ((c.tc : Thread nD τ).loc main_arg3)
abbrev WS (c : Dev nD) : FVec Ideal S512x1024 .f32 := m ((c.tc : Thread nD τ).loc main_arg4)
abbrev WA (c : Dev nD) : FVec Ideal S512x1024 .f32 := m ((c.tc : Thread nD τ).loc main_arg5)
abbrev WO (c : Dev nD) : FVec Ideal S1024x1024 .f32 := m ((c.tc : Thread nD τ).loc main_arg6)
abbrev GN (c : Dev nD) : FVec Ideal S1024 .f32 := m ((c.tc : Thread nD τ).loc main_arg7)

def gRow (c : Dev nD) (i : Fin 2048) : Row :=
  ⟨fun k => YS m c (ix2 i k), fun k => YA m c (ix2 i k), fun n => PR m c (ix2 i (⟨6144 + n.val, by omega⟩ : Fin 8192)),
    fun n => PR m c (ix2 i (⟨7168 + n.val, by omega⟩ : Fin 8192)), fun n => DXN m c (ix2 i n)⟩
def gWts (c : Dev nD) : Wts :=
  ⟨fun k n => WS m c (ix2 k n), fun k n => WA m c (ix2 k n), fun k n => WO m c (ix2 k n), fun n => GN m c (ix1 n)⟩

theorem blk0 (c : Dev nD) (t : Fin cfg0.N) (a : Fin 256) (k : Fin 1024) : B0 m c t (ix2 a k) = DXN m c (ix2 (row t a) k) := by
  blk_point [iblk, V, tiles t, row]
theorem blk1 (c : Dev nD) (t : Fin cfg0.N) (a : Fin 256) (k : Fin 512) : B1 m c t (ix2 a k) = YS m c (ix2 (row t a) k) := by
  blk_point [iblk, V, tiles t, row]
theorem blk2 (c : Dev nD) (t : Fin cfg0.N) (a : Fin 256) (k : Fin 512) : B2 m c t (ix2 a k) = YA m c (ix2 (row t a) k) := by
  blk_point [iblk, V, tiles t, row]
theorem blk3 (c : Dev nD) (t : Fin cfg0.N) (a : Fin 256) (k : Fin 1024) :
    B3 m c t (ix2 a k) = PR m c (ix2 (row t a) (⟨6144 + k.val, by omega⟩ : Fin 8192)) := by blk_point [iblk, V, tiles t, row]
theorem blk4 (c : Dev nD) (t : Fin cfg0.N) (a : Fin 256) (k : Fin 1024) :
    B4 m c t (ix2 a k) = PR m c (ix2 (row t a) (⟨7168 + k.val, by omega⟩ : Fin 8192)) := by blk_point [iblk, V, tiles t, row]
theorem blk5 (c : Dev nD) (t : Fin cfg0.N) (s : Fin 4) (k : Fin 512) (l : Fin 256) : B5 m c t (ix3 s k l) = WS m c (ix2 k (col s l)) := by
  blk_point [iblk, V, tiles t, col]
theorem blk6 (c : Dev nD) (t : Fin cfg0.N) (s : Fin 4) (k : Fin 512) (l : Fin 256) : B6 m c t (ix3 s k l) = WA m c (ix2 k (col s l)) := by
  blk_point [iblk, V, tiles t, col]
theorem blk7 (c : Dev nD) (t : Fin cfg0.N) (k n : Fin 1024) : B7 m c t (ix2 k n) = WO m c (ix2 k n) := by
  blk_point [iblk, V, tiles t]
theorem blk8 (c : Dev nD) (t : Fin cfg0.N) (n : Fin 1024) : B8 m c t (ix2 0 n) = GN m c (ix1 n) := by
  blk_point [iblk, V, tiles t]

theorem colEq (n : Fin 1024) : col (hi n) (lo n) = n :=
  Fin.ext (show n.val / 256 * 256 + n.val % 256 = n.val by omega)

theorem rowEq (c : Dev nD) (t : Fin cfg0.N) (a : Fin 256) : rowT m c t a = gRow m c (row t a) := by
  unfold rowT tr gRow
  simp only [blk0, blk1, blk2, blk3, blk4]

theorem wtsEq (c : Dev nD) (t : Fin cfg0.N) : wtsT m c t = gWts m c := by
  unfold wtsT tw gWts
  simp only [blk5, blk6, blk7, blk8, colEq]

/-! ## The results -/

def dysArr (c : Dev nD) : FVec Ideal S2048x512 .f32 := fun i => (gRow m c (i 0)).dys (gWts m c) (i 1)
def dyaArr (c : Dev nD) : FVec Ideal S2048x512 .f32 := fun i => (gRow m c (i 0)).dya (gWts m c) (i 1)
def dwsArr (c : Dev nD) : FVec Ideal S4x512x256 .bf16 :=
  fun j => (∑ i : Fin 2048, (gRow m c i).ys (j 1) * (gRow m c i).dbs (gWts m c) (col (j 0) (j 2)) : EReal)
def dwaArr (c : Dev nD) : FVec Ideal S4x512x256 .bf16 :=
  fun j => (∑ i : Fin 2048, (gRow m c i).ya (j 1) * (gRow m c i).dba (gWts m c) (col (j 0) (j 2)) : EReal)
def dwoArr (c : Dev nD) : FVec Ideal S1024x1024 .bf16 :=
  fun j => (∑ i : Fin 2048, (gRow m c i).mrg (gWts m c) (j 0) * (gRow m c i).dout (gWts m c) (j 1) : EReal)
def dgArr (c : Dev nD) : FVec Ideal S1x1024 .f32 :=
  fun j => (∑ i : Fin 2048, (gRow m c i).dxn (j 1) * (gRow m c i).nrm (gWts m c) (j 1) : EReal)

theorem emb9 (t : Fin cfg0.N) (a : Fin 256) (k : Fin 512) :
    (win0_9.blk t).view.emb (ix2 a k) = ix2 (row t a) k := by blk_ext [tiles t, row]
theorem emb10 (t : Fin cfg0.N) (a : Fin 256) (k : Fin 512) :
    (win0_10.blk t).view.emb (ix2 a k) = ix2 (row t a) k := by blk_ext [tiles t, row]

theorem dys_final (c : Dev nD) : (dats m 0 c).arrAt 9 cfg0.N = dysArr m c := by
  refine (dats m 0 c).arrAt_eq_of_covers 9 _ (by decide +kernel) fun t hf y => ?_
  blk_simp
  rw [after0_9]
  obtain ⟨a, k, rfl⟩ : ∃ (a : Fin 256) (k : Fin 512), y = ix2 a k := ⟨y 0, y 1, by funext i; fin_cases i <;> rfl⟩
  rw [emb9]
  refine (o9 m c t (ix2 a k)).trans ?_
  show (rowT m c t a).dys (wtsT m c t) k = (gRow m c (row t a)).dys (gWts m c) k
  rw [rowEq, wtsEq]

theorem dya_final (c : Dev nD) : (dats m 0 c).arrAt 10 cfg0.N = dyaArr m c := by
  refine (dats m 0 c).arrAt_eq_of_covers 10 _ (by decide +kernel) fun t hf y => ?_
  blk_simp
  rw [after0_10]
  obtain ⟨a, k, rfl⟩ : ∃ (a : Fin 256) (k : Fin 512), y = ix2 a k := ⟨y 0, y 1, by funext i; fin_cases i <;> rfl⟩
  rw [emb10]
  refine (o10 m c t (ix2 a k)).trans ?_
  show (rowT m c t a).dya (wtsT m c t) k = (gRow m c (row t a)).dya (gWts m c) k
  rw [rowEq, wtsEq]

/-- A sum over the blocks and their rows is the sum over all rows. -/
theorem rowsSum (f : Fin 2048 → EReal) : (∑ t : Fin cfg0.N, ∑ r : Fin 256, f (row t r)) = ∑ i : Fin 2048, f i := by
  refine Eq.trans (Fin.sum_points_lanes_congr (A := 1) (L := 2048) (M := EReal) 8 (g := fun _ l => f l) fun t k ha hl => ?_) (Fin.sum_univ_one _)
  refine congrArg f (Fin.ext ?_)
  have := tlt t
  show t.val * 256 + k.val = t.val % 8 * 256 + k.val
  omega

theorem dws_final (c : Dev nD) : (dats m 0 c).arrAt 12 cfg0.N = dwsArr m c := by
  refine (dats m 0 c).arrAt_eq_of_after_last 12 t0_7 (by decide +kernel) _ fun j => ?_
  blk_simp
  rw [after0_12]
  obtain ⟨s, k, l, rfl⟩ : ∃ (s : Fin 4) (k : Fin 512) (l : Fin 256), j = ix3 s k l := ⟨j 0, j 1, j 2, by funext i; fin_cases i <;> rfl⟩
  refine (last12 m c t0_7 (by decide) (by decide) _).trans ?_
  rw [Pipeline.eq_sum_fin_of_reset_step_apply_last (fun n h => (outsAt0 m c n h).2.2.2.2.2.2.2.1) 8 (fun _ => (0 : EReal))
    (fun t (j : S4x512x256.Idx) => partS m c t (j 0) (j 1) (j 2))
    (fun t h j => by
      obtain ⟨s, k, l, rfl⟩ : ∃ (s : Fin 4) (k : Fin 512) (l : Fin 256), j = ix3 s k l := ⟨j 0, j 1, j 2, by funext i; fin_cases i <;> rfl⟩
      exact accS_A m c t h s k l)
    (fun t h j => by
      obtain ⟨s, k, l, rfl⟩ : ∃ (s : Fin 4) (k : Fin 512) (l : Fin 256), j = ix3 s k l := ⟨j 0, j 1, j 2, by funext i; fin_cases i <;> rfl⟩
      by_cases h1 : t.val % 8 = 7
      · exact accS_C m c t (by omega) h1 s k l
      · exact accS_B m c t (by omega) h1 s k l)
    (le_of_eq N_0) t0_7 rfl (ix3 s k l)]
  refine (zero_add (M := EReal) _).trans ?_
  refine Eq.trans ?_ (rowsSum (fun i => (gRow m c i).ys k * (gRow m c i).dbs (gWts m c) (col s l)))
  refine Fin.sum_fin_congr fun t => ?_
  show partS m c t s k l = _
  unfold partS
  exact Fin.sum_fin_congr fun r => by rw [rowEq, wtsEq]

theorem dwa_final (c : Dev nD) : (dats m 0 c).arrAt 13 cfg0.N = dwaArr m c := by
  refine (dats m 0 c).arrAt_eq_of_after_last 13 t0_7 (by decide +kernel) _ fun j => ?_
  blk_simp
  rw [after0_13]
  obtain ⟨s, k, l, rfl⟩ : ∃ (s : Fin 4) (k : Fin 512) (l : Fin 256), j = ix3 s k l := ⟨j 0, j 1, j 2, by funext i; fin_cases i <;> rfl⟩
  refine (last13 m c t0_7 (by decide) (by decide) _).trans ?_
  rw [Pipeline.eq_sum_fin_of_reset_step_apply_last (fun n h => (outsAt0 m c n h).2.2.2.2.2.2.2.2.1) 8 (fun _ => (0 : EReal))
    (fun t (j : S4x512x256.Idx) => partA m c t (j 0) (j 1) (j 2))
    (fun t h j => by
      obtain ⟨s, k, l, rfl⟩ : ∃ (s : Fin 4) (k : Fin 512) (l : Fin 256), j = ix3 s k l := ⟨j 0, j 1, j 2, by funext i; fin_cases i <;> rfl⟩
      exact accA_A m c t h s k l)
    (fun t h j => by
      obtain ⟨s, k, l, rfl⟩ : ∃ (s : Fin 4) (k : Fin 512) (l : Fin 256), j = ix3 s k l := ⟨j 0, j 1, j 2, by funext i; fin_cases i <;> rfl⟩
      by_cases h1 : t.val % 8 = 7
      · exact accA_C m c t (by omega) h1 s k l
      · exact accA_B m c t (by omega) h1 s k l)
    (le_of_eq N_0) t0_7 rfl (ix3 s k l)]
  refine (zero_add (M := EReal) _).trans ?_
  refine Eq.trans ?_ (rowsSum (fun i => (gRow m c i).ya k * (gRow m c i).dba (gWts m c) (col s l)))
  refine Fin.sum_fin_congr fun t => ?_
  show partA m c t s k l = _
  unfold partA
  exact Fin.sum_fin_congr fun r => by rw [rowEq, wtsEq]

theorem dwo_final (c : Dev nD) : (dats m 0 c).arrAt 14 cfg0.N = dwoArr m c := by
  refine (dats m 0 c).arrAt_eq_of_after_last 14 t0_7 (by decide +kernel) _ fun j => ?_
  blk_simp
  rw [after0_14]
  obtain ⟨k, n, rfl⟩ : ∃ (k n : Fin 1024), j = ix2 k n := ⟨j 0, j 1, by funext i; fin_cases i <;> rfl⟩
  refine (last14 m c t0_7 (by decide) (by decide) _).trans ?_
  rw [Pipeline.eq_sum_fin_of_reset_step_apply_last (fun n h => (outsAt0 m c n h).2.2.2.2.2.2.2.2.2) 8 (fun _ => (0 : EReal))
    (fun t (j : S1024x1024.Idx) => partW m c t (j 0) (j 1)) (fun t h j => accW_A m c t h j) (fun t h j => accW_B m c t h j)
    (le_of_eq N_0) t0_7 rfl (ix2 k n)]
  refine (zero_add (M := EReal) _).trans ?_
  refine Eq.trans ?_ (rowsSum (fun i => (gRow m c i).mrg (gWts m c) k * (gRow m c i).dout (gWts m c) n))
  refine Fin.sum_fin_congr fun t => ?_
  show partW m c t k n = _
  unfold partW
  exact Fin.sum_fin_congr fun r => by rw [rowEq, wtsEq]

theorem dg_final (c : Dev nD) : (dats m 0 c).arrAt 15 cfg0.N = dgArr m c := by
  refine (dats m 0 c).arrAt_eq_of_after_last 15 t0_7 (by decide +kernel) _ fun j => ?_
  blk_simp
  rw [after0_15]
  obtain ⟨k, n, rfl⟩ : ∃ (k : Fin 1) (n : Fin 1024), j = ix2 k n := ⟨j 0, j 1, by funext i; fin_cases i <;> rfl⟩
  rw [Pipeline.eq_sum_fin_of_reset_step_apply_last (fun n h => (outsAt0 m c n h).2.2.2.2.2.2.1) 8 (fun _ => (0 : EReal))
    (fun t (j : S1x1024.Idx) => partG m c t (j 1)) (fun t h j => accG_A m c t h j) (fun t h j => accG_B m c t h j)
    (le_of_eq N_0) t0_7 rfl (ix2 k n)]
  refine (zero_add (M := EReal) _).trans ?_
  refine Eq.trans ?_ (rowsSum (fun i => (gRow m c i).dxn n * (gRow m c i).nrm (gWts m c) n))
  refine Fin.sum_fin_congr fun t => ?_
  show partG m c t n = _
  unfold partG
  exact Fin.sum_fin_congr fun r => by rw [rowEq, wtsEq]

end Cert.MergeIdeal.Step
-- ==== Proof.MergeRef.lean ====
/- The reference of the gated merge's gradients, at coordinates. -/
module

public import proofs.«01_k».proof.Proof.Finite
public import proofs.«01_k».proof.Proof.MergeTile
public import proofs.«01_k».proof.Proof.Gen.MergeRefIdeal.Run
public import Idealize.ShloMosaic.Lib.Pipeline.ValueKit

@[expose] public section

set_option maxRecDepth 16384

noncomputable section

namespace Cert.MergeRefIdeal.Stage

open Cert.MergeRefIdeal Cert.MergeRefIdeal.Gen Cert.MergeRefIdeal.Value Idealize.ShloMosaic Idealize.ShloMosaic.TcCoe
open Idealize.SL.Sem
open Cert.MergeIdeal.Step (Row Wts)

abbrev ones : FVec Ideal S2048x1024 .f32 := broadcastInDim S2048x1024 ![] bcast_S_S2048x1024 (constant S_ .f32 0x3F800000#32)
def gateS (pr : FVec Ideal S2048x8192 .f32) : FVec Ideal S2048x1024 .f32 :=
  Host.divf ones (addf ones (Host.exp (Host.negf (extractStridedSlice S2048x1024 ![0, 6144] pr slices_S2048x8192_S2048x1024_0_6144))))
def gateA (pr : FVec Ideal S2048x8192 .f32) : FVec Ideal S2048x1024 .f32 :=
  Host.divf ones (addf ones (Host.exp (Host.negf (extractStridedSlice S2048x1024 ![0, 7168] pr slices_S2048x8192_S2048x1024_0_7168))))
def mrg (ys ya : FVec Ideal S2048x512 .f32) (pr : FVec Ideal S2048x8192 .f32) (ws wa : FVec Ideal S512x1024 .f32) : FVec Ideal S2048x1024 .f32 :=
  addf (mulf (gateS pr) (Host.dotGeneral dot_S2048x512_S512x1024_S2048x1024_1_0_0_1_n_n none ys ws))
    (mulf (gateA pr) (Host.dotGeneral dot_S2048x512_S512x1024_S2048x1024_1_0_0_1_n_n none ya wa))
def out (x : FVec Ideal S2048x1024 .f32) (wo : FVec Ideal S1024x1024 .f32) : FVec Ideal S2048x1024 .f32 :=
  Host.dotGeneral dot_S2048x1024_S1024x1024_S2048x1024_1_0_0_1_n_n none x wo
def ms (o : FVec Ideal S2048x1024 .f32) : FVec Ideal S2048x1 .f32 :=
  addf (Host.divf (broadcastInDim S2048x1 ![0] bcast_S2048_S2048x1_0
    (Host.reduceAdd (F := Ideal) (mulf o o) (constant S_ .f32 0x00000000#32) reducesTo_S2048x1024_S2048_d1 h_S_))
    (broadcastInDim S2048x1 ![] bcast_S_S2048x1 (constant S_ .f32 0x44800000#32))) (broadcastInDim S2048x1 ![] bcast_S_S2048x1 (constant S_ .f32 0x358637BD#32))
def nrm (o : FVec Ideal S2048x1024 .f32) : FVec Ideal S2048x1024 .f32 :=
  mulf o (broadcastInDim S2048x1024 ![0, 1] bcast_S2048x1_S2048x1024_0_1 (Host.rsqrt (ms o)))
def dn (dxn : FVec Ideal S2048x1024 .f32) (g : FVec Ideal S1024 .f32) : FVec Ideal S2048x1024 .f32 :=
  mulf dxn (broadcastInDim S2048x1024 ![0, 1] bcast_S1x1024_S2048x1024_0_1 (broadcastInDim S1x1024 ![1] bcast_S1024_S1x1024_1 g))
def cor (o d : FVec Ideal S2048x1024 .f32) : FVec Ideal S2048x1024 .f32 :=
  broadcastInDim S2048x1024 ![0] bcast_S2048_S2048x1024_0 (Host.reduceAdd (F := Ideal) (Host.divf (mulf (shapeCast _
    (Host.reduceAdd (F := Ideal) (mulf o d) (constant S_ .f32 0x00000000#32) reducesTo_S2048x1024_S2048_d1 h_S_) shapeCasts_S2048_S2048x1)
    (mulf (broadcastInDim S2048x1 ![] bcast_S_S2048x1 (constant S_ .f32 0xBF000000#32)) (Host.divf (Host.rsqrt (ms o)) (ms o))))
    (broadcastInDim S2048x1 ![] bcast_S_S2048x1 (constant S_ .f32 0x44800000#32))) (constant S_ .f32 0x00000000#32) reducesTo_S2048x1_S2048_d1 h_S_)
def dout (o d : FVec Ideal S2048x1024 .f32) : FVec Ideal S2048x1024 .f32 :=
  addf (addf (mulf d (broadcastInDim S2048x1024 ![0, 1] bcast_S2048x1_S2048x1024_0_1 (Host.rsqrt (ms o)))) (mulf o (cor o d))) (mulf (cor o d) o)
def dm (x : FVec Ideal S2048x1024 .f32) (wo : FVec Ideal S1024x1024 .f32) : FVec Ideal S2048x1024 .f32 :=
  Host.dotGeneral dot_S2048x1024_S1024x1024_S2048x1024_1_1_0_0_n_n none x wo
def dw (d : FVec Ideal S2048x1024 .f32) (y : FVec Ideal S2048x512 .f32) : FVec Ideal S4x512x256 .bf16 :=
  truncf .bf16 (transpose S4x512x256 [1, 0, 2] (shapeCast _ (transpose S512x1024 [1, 0] (Host.dotGeneral dot_S2048x1024_S2048x512_S1024x512_0_0_1_1_n_n none d y)
    transposes_S1024x512_S512x1024_1_0) shapeCasts_S512x1024_S512x4x256) transposes_S512x4x256_S4x512x256_1_0_2) bitsLt_bf16_f32
def dy (d : FVec Ideal S2048x1024 .f32) (w : FVec Ideal S512x1024 .f32) : FVec Ideal S2048x512 .f32 :=
  Host.dotGeneral dot_S2048x1024_S512x1024_S2048x512_1_1_0_0_n_n none d w
def dwo (d x : FVec Ideal S2048x1024 .f32) : FVec Ideal S1024x1024 .bf16 :=
  truncf .bf16 (transpose S1024x1024 [1, 0] (Host.dotGeneral dot_S2048x1024_S2048x1024_S1024x1024_0_0_1_1_n_n none d x) transposes_S1024x1024_S1024x1024_1_0) bitsLt_bf16_f32
def dg (o dxn : FVec Ideal S2048x1024 .f32) : FVec Ideal S1x1024 .f32 :=
  shapeCast _ (Host.reduceAdd (F := Ideal) (shapeCast _ (Host.reduceAdd (F := Ideal) (mulf (nrm o) dxn) (constant S_ .f32 0x00000000#32)
    reducesTo_S2048x1024_S1024_d0 h_S_) shapeCasts_S1024_S1x1024) (constant S_ .f32 0x00000000#32) reducesTo_S1x1024_S1024_d0 h_S_) shapeCasts_S1024_S1x1024

section Named

variable (m : (ℓ : Loc nD τ sig) → Buf (Elt Ideal) ℓ) (c : Dev nD)

abbrev DXN : FVec Ideal S2048x1024 .f32 := m ((c.tc : Thread nD τ).loc main_arg0)
abbrev YS : FVec Ideal S2048x512 .f32 := m ((c.tc : Thread nD τ).loc main_arg1)
abbrev YA : FVec Ideal S2048x512 .f32 := m ((c.tc : Thread nD τ).loc main_arg2)
abbrev PR : FVec Ideal S2048x8192 .f32 := m ((c.tc : Thread nD τ).loc main_arg3)
abbrev WS : FVec Ideal S512x1024 .f32 := m ((c.tc : Thread nD τ).loc main_arg4)
abbrev WA : FVec Ideal S512x1024 .f32 := m ((c.tc : Thread nD τ).loc main_arg5)
abbrev WO : FVec Ideal S1024x1024 .f32 := m ((c.tc : Thread nD τ).loc main_arg6)
abbrev GN : FVec Ideal S1024 .f32 := m ((c.tc : Thread nD τ).loc main_arg7)

abbrev rMrg : FVec Ideal S2048x1024 .f32 := mrg (YS m c) (YA m c) (PR m c) (WS m c) (WA m c)
abbrev rOut : FVec Ideal S2048x1024 .f32 := out (rMrg m c) (WO m c)
abbrev rDout : FVec Ideal S2048x1024 .f32 := dout (rOut m c) (dn (DXN m c) (GN m c))
abbrev rDs : FVec Ideal S2048x1024 .f32 := mulf (gateS (PR m c)) (dm (rDout m c) (WO m c))
abbrev rDa : FVec Ideal S2048x1024 .f32 := mulf (gateA (PR m c)) (dm (rDout m c) (WO m c))

theorem res0 : res_main_v66 (F := Ideal) m c = dy (rDs m c) (WS m c) := rfl
theorem res1 : res_main_v62 (F := Ideal) m c = dy (rDa m c) (WA m c) := rfl
theorem res2 : res_main_v69 (F := Ideal) m c = dw (rDs m c) (YS m c) := rfl
theorem res3 : res_main_v72 (F := Ideal) m c = dw (rDa m c) (YA m c) := rfl
theorem res4 : res_main_v73 (F := Ideal) m c = dwo (rDout m c) (rMrg m c) := rfl

end Named

section Points

variable (ys ya : FVec Ideal S2048x512 .f32) (pr : FVec Ideal S2048x8192 .f32) (ws wa : FVec Ideal S512x1024 .f32)
  (wo : FVec Ideal S1024x1024 .f32) (g : FVec Ideal S1024 .f32) (dxn : FVec Ideal S2048x1024 .f32)

def aRow (i : Fin 2048) : Row :=
  ⟨fun k => ys (ix2 i k), fun k => ya (ix2 i k), fun n => pr (ix2 i (⟨6144 + n.val, by omega⟩ : Fin 8192)),
    fun n => pr (ix2 i (⟨7168 + n.val, by omega⟩ : Fin 8192)), fun n => dxn (ix2 i n)⟩
def aWts : Wts := ⟨fun k n => ws (ix2 k n), fun k n => wa (ix2 k n), fun k n => wo (ix2 k n), fun n => g (ix1 n)⟩

theorem gateS_at (i n) : gateS pr (ix2 i n) = Ideal.logistic (pr (ix2 i (⟨6144 + n.val, by omega⟩ : Fin 8192))) := by
  pointwise [gateS, Ideal.logistic]
theorem gateA_at (i n) : gateA pr (ix2 i n) = Ideal.logistic (pr (ix2 i (⟨7168 + n.val, by omega⟩ : Fin 8192))) := by
  pointwise [gateA, Ideal.logistic]

theorem mrg_at (i n) : mrg ys ya pr ws wa (ix2 i n) = (aRow ys ya pr dxn i).mrg (aWts ws wa wo g) n := by
  unfold mrg
  pointwise [gateS_at, gateA_at]
  rfl
theorem out_at (x : FVec Ideal S2048x1024 .f32) (i n) : out x wo (ix2 i n) = ∑ k : Fin 1024, (x (ix2 i k) * wo (ix2 k n) : EReal) := by
  pointwise [out]
theorem dm_at (x : FVec Ideal S2048x1024 .f32) (i n) : dm x wo (ix2 i n) = ∑ k : Fin 1024, (x (ix2 i k) * wo (ix2 n k) : EReal) := by
  pointwise [dm]
theorem dw_at (d : FVec Ideal S2048x1024 .f32) (s k l) : dw d ys (ix3 s k l) = ∑ i : Fin 2048, (d (ix2 i (Cert.MergeIdeal.Step.col s l)) * ys (ix2 i k) : EReal) := by
  pointwise [dw]
  rfl
theorem dy_at (d : FVec Ideal S2048x1024 .f32) (i k) : dy d ws (ix2 i k) = ∑ n : Fin 1024, (d (ix2 i n) * ws (ix2 k n) : EReal) := by
  pointwise [dy]
theorem dwo_at (d x : FVec Ideal S2048x1024 .f32) (k n) : dwo d x (ix2 k n) = ∑ i : Fin 2048, (d (ix2 i n) * x (ix2 i k) : EReal) := by
  pointwise [dwo]
theorem dg_at (o : FVec Ideal S2048x1024 .f32) (n) : dg o dxn (ix2 0 n) = ∑ i : Fin 2048, (nrm o (ix2 i n) * dxn (ix2 i n) : EReal) := by
  unfold dg
  pointwise
  exact Fin.sum_univ_one _
theorem nrm_at (o : FVec Ideal S2048x1024 .f32) (i n) : nrm o (ix2 i n)
    = (o (ix2 i n) * Ideal.rsqrt (Ideal.div (∑ k : Fin 1024, (o (ix2 i k) * o (ix2 i k) : EReal)) (Ideal.ofBits .f32 0x44800000#32) + Ideal.ofBits .f32 0x358637BD#32) : EReal) := by
  pointwise [nrm, ms]
theorem dout_at (o : FVec Ideal S2048x1024 .f32) (R : Row) (W : Wts) (i : Fin 2048) (n : Fin 1024)
    (ho : ∀ k, o (ix2 i k) = R.out W k) (hd : ∀ k, dxn (ix2 i k) = R.dxn k) (hg : ∀ k, g (ix1 k) = W.g k)
    (x dh γ : Fin 1024 → ℝ) (e1 : ∀ k, R.out W k = ((x k : ℝ) : EReal)) (e2 : ∀ k, R.dxn k = ((dh k : ℝ) : EReal))
    (e3 : ∀ k, W.g k = ((γ k : ℝ) : EReal)) : dout o (dn dxn g) (ix2 i n) = R.dout W n := by
  pointwise [dout, dn, cor, ms]
  unfold Row.dout Row.nrm Row.inv Row.ms
  simp only [ho, hd, hg, e1, e2, e3]
  obtain ⟨e, he, le⟩ := Finite.lit_eps
  refine Eq.trans ?_ (Eq.trans (Finite.norm_grad x dh γ (x n) (dh n) (γ n) 1024 e (by norm_num) he _ rfl _ rfl) ?_)
  · simp only [Finite.lit_1024, Finite.lit_neg_half, le]
  · simp only [Finite.lit_1024, le]

end Points

end Cert.MergeRefIdeal.Stage
-- ==== Proof.MergeClaim.lean ====
/- The gated merge's gradients are those of its reference. -/
module

public import proofs.«01_k».proof.Proof.Merge
public import proofs.«01_k».proof.Proof.MergeRef
public import proofs.«01_k».proof.Proof.Gen.Pre_merge_finite
public import proofs.«01_k».proof.Defs

@[expose] public section

set_option maxRecDepth 16384

noncomputable section

namespace Cert.MergeRefIdeal.Stage

open Cert.MergeRefIdeal Cert.MergeRefIdeal.Gen Cert.MergeRefIdeal.Value Idealize.ShloMosaic Idealize.ShloMosaic.TcCoe
open Idealize.SL.Sem
open Cert.MergeIdeal.Step (Row Wts col)

/-- A product's sum of real numbers is real. -/
theorem sum_real {n : ℕ} (f g : Fin n → EReal) (hf : ∀ k, ∃ r : ℝ, f k = (r : EReal)) (hg : ∀ k, ∃ r : ℝ, g k = (r : EReal)) :
    ∃ r : ℝ, (∑ k, f k * g k) = (r : EReal) := by
  choose a ha using hf
  choose b hb using hg
  refine ⟨∑ k, a k * b k, ?_⟩
  refine Eq.trans (Finset.sum_congr rfl fun k _ => ?_) (Finite.coe_sum _ _)
  rw [ha, hb, EReal.coe_mul]

theorem out_real (R : Row) (W : Wts) (h1 : ∀ k, ∃ r : ℝ, R.ys k = (r : EReal)) (h2 : ∀ k, ∃ r : ℝ, R.ya k = (r : EReal))
    (h3 : ∀ k n, ∃ r : ℝ, W.ws k n = (r : EReal)) (h4 : ∀ k n, ∃ r : ℝ, W.wa k n = (r : EReal))
    (h5 : ∀ k n, ∃ r : ℝ, W.wo k n = (r : EReal)) (n : Fin 1024) : ∃ r : ℝ, R.out W n = (r : EReal) := by
  refine sum_real _ _ (fun k => ?_) fun k => h5 k n
  obtain ⟨a, ha⟩ := sum_real R.ys (fun j => W.ws j k) h1 fun j => h3 j k
  obtain ⟨b, hb⟩ := sum_real R.ya (fun j => W.wa j k) h2 fun j => h4 j k
  obtain ⟨x, hx⟩ := Finite.logistic_real (R.gs k)
  obtain ⟨y, hy⟩ := Finite.logistic_real (R.ga k)
  refine ⟨x * a + y * b, ?_⟩
  unfold Row.mrg Row.bs Row.ba
  rw [ha, hb, hx, hy, EReal.coe_add, EReal.coe_mul, EReal.coe_mul]

section Whole

variable (ys ya : FVec Ideal S2048x512 .f32) (pr : FVec Ideal S2048x8192 .f32) (ws wa : FVec Ideal S512x1024 .f32)
  (wo : FVec Ideal S1024x1024 .f32) (g : FVec Ideal S1024 .f32) (dxn : FVec Ideal S2048x1024 .f32)

/-- Every array but the gates' is real. -/
structure Reals : Prop where
  ys : ∀ i, ∃ r : ℝ, ys i = (r : EReal)
  ya : ∀ i, ∃ r : ℝ, ya i = (r : EReal)
  ws : ∀ i, ∃ r : ℝ, ws i = (r : EReal)
  wa : ∀ i, ∃ r : ℝ, wa i = (r : EReal)
  wo : ∀ i, ∃ r : ℝ, wo i = (r : EReal)
  g : ∀ i, ∃ r : ℝ, g i = (r : EReal)
  dxn : ∀ i, ∃ r : ℝ, dxn i = (r : EReal)

abbrev aOut : FVec Ideal S2048x1024 .f32 := out (mrg ys ya pr ws wa) wo
abbrev aDout : FVec Ideal S2048x1024 .f32 := dout (aOut ys ya pr ws wa wo) (dn dxn g)
abbrev R (i : Fin 2048) : Row := aRow ys ya pr dxn i
abbrev W : Wts := aWts ws wa wo g

theorem aOut_at (i n) : aOut ys ya pr ws wa wo (ix2 i n) = (R ys ya pr dxn i).out (W ws wa wo g) n := by
  refine (out_at wo _ i n).trans ?_
  refine Fin.sum_fin_congr fun k => ?_
  rw [mrg_at ys ya pr ws wa wo g dxn]
  rfl

variable (h : Reals ys ya ws wa wo g dxn)
include h

theorem aDout_at (i n) : aDout ys ya pr ws wa wo g dxn (ix2 i n) = (R ys ya pr dxn i).dout (W ws wa wo g) n := by
  have ho := fun k => out_real (R ys ya pr dxn i) (W ws wa wo g) (fun k => h.ys _) (fun k => h.ya _) (fun k n => h.ws _) (fun k n => h.wa _)
    (fun k n => h.wo _) k
  choose x hx using ho
  choose dh hdh using fun k : Fin 1024 => h.dxn (ix2 i k)
  choose γ hγ using fun k : Fin 1024 => h.g (ix1 k)
  exact dout_at g dxn _ (R ys ya pr dxn i) (W ws wa wo g) i n (fun k => aOut_at ys ya pr ws wa wo g dxn i k) (fun k => rfl) (fun k => rfl) x dh γ
    hx hdh hγ

theorem aDm_at (i n) : dm (aDout ys ya pr ws wa wo g dxn) wo (ix2 i n) = (R ys ya pr dxn i).dm (W ws wa wo g) n := by
  refine (dm_at wo _ i n).trans (Fin.sum_fin_congr fun k => ?_)
  rw [aDout_at ys ya pr ws wa wo g dxn h]
  rfl

theorem aDs_at (i n) : mulf (gateS pr) (dm (aDout ys ya pr ws wa wo g dxn) wo) (ix2 i n) = (R ys ya pr dxn i).dbs (W ws wa wo g) n := by
  pointwise [gateS_at, aDm_at ys ya pr ws wa wo g dxn h]
  exact mul_comm (G := EReal) _ _

theorem aDa_at (i n) : mulf (gateA pr) (dm (aDout ys ya pr ws wa wo g dxn) wo) (ix2 i n) = (R ys ya pr dxn i).dba (W ws wa wo g) n := by
  pointwise [gateA_at, aDm_at ys ya pr ws wa wo g dxn h]
  exact mul_comm (G := EReal) _ _

theorem e0 (i k) : dy (mulf (gateS pr) (dm (aDout ys ya pr ws wa wo g dxn) wo)) ws (ix2 i k) = (R ys ya pr dxn i).dys (W ws wa wo g) k := by
  refine (dy_at ws _ i k).trans (Fin.sum_fin_congr fun n => ?_)
  rw [aDs_at ys ya pr ws wa wo g dxn h]
  rfl
theorem e1 (i k) : dy (mulf (gateA pr) (dm (aDout ys ya pr ws wa wo g dxn) wo)) wa (ix2 i k) = (R ys ya pr dxn i).dya (W ws wa wo g) k := by
  refine (dy_at wa _ i k).trans (Fin.sum_fin_congr fun n => ?_)
  rw [aDa_at ys ya pr ws wa wo g dxn h]
  rfl
theorem e2 (s k l) : dw (mulf (gateS pr) (dm (aDout ys ya pr ws wa wo g dxn) wo)) ys (ix3 s k l)
    = (∑ i : Fin 2048, (R ys ya pr dxn i).ys k * (R ys ya pr dxn i).dbs (W ws wa wo g) (col s l) : EReal) := by
  refine (dw_at ys _ s k l).trans (Fin.sum_fin_congr fun i => ?_)
  rw [aDs_at ys ya pr ws wa wo g dxn h]
  exact mul_comm (G := EReal) _ _
theorem e3 (s k l) : dw (mulf (gateA pr) (dm (aDout ys ya pr ws wa wo g dxn) wo)) ya (ix3 s k l)
    = (∑ i : Fin 2048, (R ys ya pr dxn i).ya k * (R ys ya pr dxn i).dba (W ws wa wo g) (col s l) : EReal) := by
  refine (dw_at ya _ s k l).trans (Fin.sum_fin_congr fun i => ?_)
  rw [aDa_at ys ya pr ws wa wo g dxn h]
  exact mul_comm (G := EReal) _ _
theorem e4 (k n) : dwo (aDout ys ya pr ws wa wo g dxn) (mrg ys ya pr ws wa) (ix2 k n)
    = (∑ i : Fin 2048, (R ys ya pr dxn i).mrg (W ws wa wo g) k * (R ys ya pr dxn i).dout (W ws wa wo g) n : EReal) := by
  refine (dwo_at _ _ k n).trans (Fin.sum_fin_congr fun i => ?_)
  rw [aDout_at ys ya pr ws wa wo g dxn h, mrg_at ys ya pr ws wa wo g dxn]
  exact mul_comm (G := EReal) _ _

omit h in
theorem e5 (n) : dg (aOut ys ya pr ws wa wo) dxn (ix2 0 n)
    = (∑ i : Fin 2048, (R ys ya pr dxn i).dxn n * (R ys ya pr dxn i).nrm (W ws wa wo g) n : EReal) := by
  refine (dg_at dxn _ n).trans (Fin.sum_fin_congr fun i => ?_)
  rw [nrm_at]
  simp only [aOut_at ys ya pr ws wa wo g dxn]
  exact mul_comm (G := EReal) _ _

end Whole

end Cert.MergeRefIdeal.Stage

namespace Cert.MergeIdeal.Step

open Cert.MergeIdeal Cert.MergeIdeal.Gen Idealize.ShloMosaic Idealize.ShloMosaic.TcCoe
open Idealize.SL.Sem
open Cert.MergeRefIdeal (Stage.Reals)

variable (m : (ℓ : Loc nD τ sig) → Buf (Elt Ideal) ℓ)

theorem reals_of_pre (pre : Cert.Pre_MergeIdeal_merge_finite m) (c : Dev nD) :
    Cert.MergeRefIdeal.Stage.Reals (YS m c) (YA m c) (WS m c) (WA m c) (WO m c) (GN m c) (DXN m c) := by
  have h := congrFun (pre c) ix0
  unfold Cert.Pre_merge_finite.fn Cert.Pre_merge_finite.fn_part1 at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  haveI : Subsingleton Cert.Pre_merge_finite.S_.Idx := ⟨fun a b => funext fun i => i.elim0⟩
  obtain ⟨r0, q0⟩ := Finite.reals _ _ rfl (Host.reduce_andi_all _ _ _ _ _ h0)
  obtain ⟨r1, q1⟩ := Finite.reals _ _ rfl (Host.reduce_andi_all _ _ _ _ _ h1)
  obtain ⟨r2, q2⟩ := Finite.reals _ _ rfl (Host.reduce_andi_all _ _ _ _ _ h2)
  obtain ⟨r3, q3⟩ := Finite.reals _ _ rfl (Host.reduce_andi_all _ _ _ _ _ h3)
  obtain ⟨r4, q4⟩ := Finite.reals _ _ rfl (Host.reduce_andi_all _ _ _ _ _ h4)
  obtain ⟨r5, q5⟩ := Finite.reals _ _ rfl (Host.reduce_andi_all _ _ _ _ _ h5)
  obtain ⟨r6, q6⟩ := Finite.reals _ _ rfl (Host.reduce_andi_all _ _ _ _ _ h6)
  exact ⟨fun i => ⟨_, congrFun q1 i⟩, fun i => ⟨_, congrFun q2 i⟩, fun i => ⟨_, congrFun q3 i⟩, fun i => ⟨_, congrFun q4 i⟩,
    fun i => ⟨_, congrFun q5 i⟩, fun i => ⟨_, congrFun q6 i⟩, fun i => ⟨_, congrFun q0 i⟩⟩

/-- The call's gradients are the reference's. -/
theorem claim : Cert.algebraic_MergeIdeal_MergeRefIdeal_pre_merge_finite := by
  intro m ρ m' ρ' pre agree
  refine ⟨_, _, _, _, _, _, (θ_run _ _ _).mono (fun r h c => ⟨(h c).1, (h c).2.1, (h c).2.2.2.1, (h c).2.2.2.2.1, (h c).2.2.2.2.2.1,
    (h c).2.2.2.2.2.2.1, (h c).2.2.2.2.2.2.2⟩) (Cert.MergeIdeal.Value.run_blocks m ρ), ?_⟩
  refine (θ_run _ _ _).mono (fun r h c => ?_) (Cert.MergeRefIdeal.Value.run m' ρ')
  obtain ⟨h0, h1, h2, h3, h4, h5, h6⟩ := h c
  obtain ⟨a0, a1, a2, a3, a4, a5, a6, a7⟩ := agree c
  have real := reals_of_pre m pre c
  refine ⟨h0.trans ?_, h1.trans ?_, h2.trans ?_, h3.trans ?_, h4.trans ?_, h5.trans ?_, h6⟩
  · rw [Cert.MergeRefIdeal.Stage.res0]
    refine Eq.trans ?_ (dys_final m c).symm
    simp only [Cert.MergeRefIdeal.Stage.rDs, Cert.MergeRefIdeal.Stage.rDa, Cert.MergeRefIdeal.Stage.rDout, Cert.MergeRefIdeal.Stage.rOut,
      Cert.MergeRefIdeal.Stage.rMrg, a0, a1, a2, a3, a4, a5, a6, a7]
    funext j
    obtain ⟨i, k, rfl⟩ : ∃ (i : Fin 2048) (k : Fin 512), j = ix2 i k := ⟨j 0, j 1, by funext i; fin_cases i <;> rfl⟩
    exact Cert.MergeRefIdeal.Stage.e0 _ _ (PR m c) _ _ _ _ _ real i k
  · rw [Cert.MergeRefIdeal.Stage.res1]
    refine Eq.trans ?_ (dya_final m c).symm
    simp only [Cert.MergeRefIdeal.Stage.rDs, Cert.MergeRefIdeal.Stage.rDa, Cert.MergeRefIdeal.Stage.rDout, Cert.MergeRefIdeal.Stage.rOut,
      Cert.MergeRefIdeal.Stage.rMrg, a0, a1, a2, a3, a4, a5, a6, a7]
    funext j
    obtain ⟨i, k, rfl⟩ : ∃ (i : Fin 2048) (k : Fin 512), j = ix2 i k := ⟨j 0, j 1, by funext i; fin_cases i <;> rfl⟩
    exact Cert.MergeRefIdeal.Stage.e1 _ _ (PR m c) _ _ _ _ _ real i k
  · rw [Cert.MergeRefIdeal.Stage.res2]
    refine Eq.trans ?_ (dws_final m c).symm
    simp only [Cert.MergeRefIdeal.Stage.rDs, Cert.MergeRefIdeal.Stage.rDa, Cert.MergeRefIdeal.Stage.rDout, Cert.MergeRefIdeal.Stage.rOut,
      Cert.MergeRefIdeal.Stage.rMrg, a0, a1, a2, a3, a4, a5, a6, a7]
    funext j
    obtain ⟨s, k, l, rfl⟩ : ∃ (s : Fin 4) (k : Fin 512) (l : Fin 256), j = ix3 s k l := ⟨j 0, j 1, j 2, by funext i; fin_cases i <;> rfl⟩
    exact Cert.MergeRefIdeal.Stage.e2 _ _ (PR m c) _ _ _ _ _ real s k l
  · rw [Cert.MergeRefIdeal.Stage.res3]
    refine Eq.trans ?_ (dwa_final m c).symm
    simp only [Cert.MergeRefIdeal.Stage.rDs, Cert.MergeRefIdeal.Stage.rDa, Cert.MergeRefIdeal.Stage.rDout, Cert.MergeRefIdeal.Stage.rOut,
      Cert.MergeRefIdeal.Stage.rMrg, a0, a1, a2, a3, a4, a5, a6, a7]
    funext j
    obtain ⟨s, k, l, rfl⟩ : ∃ (s : Fin 4) (k : Fin 512) (l : Fin 256), j = ix3 s k l := ⟨j 0, j 1, j 2, by funext i; fin_cases i <;> rfl⟩
    exact Cert.MergeRefIdeal.Stage.e3 _ _ (PR m c) _ _ _ _ _ real s k l
  · rw [Cert.MergeRefIdeal.Stage.res4]
    refine Eq.trans ?_ (dwo_final m c).symm
    simp only [Cert.MergeRefIdeal.Stage.rDs, Cert.MergeRefIdeal.Stage.rDa, Cert.MergeRefIdeal.Stage.rDout, Cert.MergeRefIdeal.Stage.rOut,
      Cert.MergeRefIdeal.Stage.rMrg, a0, a1, a2, a3, a4, a5, a6, a7]
    funext j
    obtain ⟨k, n, rfl⟩ : ∃ (k n : Fin 1024), j = ix2 k n := ⟨j 0, j 1, by funext i; fin_cases i <;> rfl⟩
    exact Cert.MergeRefIdeal.Stage.e4 _ _ (PR m c) _ _ _ _ _ real k n
  · refine (show _ = Cert.MergeRefIdeal.Stage.dg (Cert.MergeRefIdeal.Stage.rOut m' c) (Cert.MergeRefIdeal.Stage.DXN m' c) from rfl).trans ?_
    refine Eq.trans ?_ (dg_final m c).symm
    simp only [Cert.MergeRefIdeal.Stage.rDs, Cert.MergeRefIdeal.Stage.rDa, Cert.MergeRefIdeal.Stage.rDout, Cert.MergeRefIdeal.Stage.rOut,
      Cert.MergeRefIdeal.Stage.rMrg, a0, a1, a2, a3, a4, a5, a6, a7]
    funext j
    obtain ⟨k, n, rfl⟩ : ∃ (k : Fin 1) (n : Fin 1024), j = ix2 k n := ⟨j 0, j 1, by funext i; fin_cases i <;> rfl⟩
    obtain rfl : k = 0 := Subsingleton.elim _ _
    exact Cert.MergeRefIdeal.Stage.e5 _ _ (PR m c) _ _ _ (GN m c) _ n

end Cert.MergeIdeal.Step
-- ==== Proof.Norm.lean ====
/- The gradient of the norm before the projection. -/
module

public import proofs.«01_k».proof.Defs
public import proofs.«01_k».proof.Proof.Finite
public import proofs.«01_k».proof.Proof.Gen.Pre_norm_finite
public import proofs.«01_k».proof.Proof.Gen.NormIdeal.Value
public import proofs.«01_k».proof.Proof.Gen.NormRefIdeal.Run
public import Idealize.ShloMosaic.Lib.Pipeline.ValueKit

@[expose] public section

set_option maxRecDepth 16384

noncomputable section

namespace Cert.NormIdeal.Step

open Cert.NormIdeal Cert.NormIdeal.Gen Cert.NormIdeal.Value Idealize.ShloMosaic Idealize.ShloMosaic.TcCoe
open Idealize.SL.Sem

variable (m : (ℓ : Loc nD τ sig) → Buf (Elt Ideal) ℓ)

theorem tiles : ∀ t : Fin cfg0.N, win0_0.index t = ![t.val, 0] ∧ win0_1.index t = ![t.val, 0]
    ∧ win0_2.index t = ![0, 0] ∧ win0_3.index t = ![t.val, 0] ∧ win0_4.index t = ![t.val, 0]
    ∧ win0_5.index t = ![0, 0] ∧ t.val < 4 :=
  (by decide +kernel : ∀ t : Fin grid0.N, _)

abbrev DH (c : Dev nD) : FVec Ideal S2048x1024 .f32 := m ((c.tc : Thread nD τ).loc main_arg0)
abbrev X (c : Dev nD) : FVec Ideal S2048x1024 .f32 := m ((c.tc : Thread nD τ).loc main_arg1)
abbrev G (c : Dev nD) : FVec Ideal S1024 .f32 := m ((c.tc : Thread nD τ).loc main_arg2)
abbrev DXN (c : Dev nD) : FVec Ideal S2048x1024 .f32 := m ((c.tc : Thread nD τ).loc main_arg3)

/-- The reciprocal root mean square of row `i`. -/
def inv (x : FVec Ideal S2048x1024 .f32) (i : Fin 2048) : EReal :=
  Ideal.rsqrt (Ideal.div (∑ k : Fin 1024, (x (ix2 i k) * x (ix2 i k) : EReal)) (Ideal.ofBits .f32 0x44800000#32)
    + Ideal.ofBits .f32 0x358637BD#32)

/-- The norm's gradient at row `i`, column `j`, as the call writes it. -/
def dNorm (dh x : FVec Ideal S2048x1024 .f32) (g : FVec Ideal S1024 .f32) (i : Fin 2048) (j : Fin 1024) : EReal :=
  inv x i * ((dh (ix2 i j) * g (ix1 j) : EReal) - x (ix2 i j) * inv x i
    * Ideal.div (∑ k : Fin 1024, (dh (ix2 i k) * g (ix1 k) * (x (ix2 i k) * inv x i) : EReal)) (Ideal.ofBits .f32 0x44800000#32))

def dxArr (dh x : FVec Ideal S2048x1024 .f32) (g : FVec Ideal S1024 .f32) (dxn : FVec Ideal S2048x1024 .f32) :
    FVec Ideal S2048x1024 .f32 :=
  fun i => (dxn i + dNorm dh x g (i 0) (i 1) : EReal)

def dgArr (dh x : FVec Ideal S2048x1024 .f32) : FVec Ideal S1x1024 .f32 :=
  fun j => (∑ l : Fin 2048, (dh (ix2 l (j 1)) * (x (ix2 l (j 1)) * inv x l)) : EReal)

theorem tileInv (x j) : k0_pay2 (F := Ideal) x j =
    Ideal.rsqrt (Ideal.div (∑ k : Fin 1024, (x (ix2 (j 0) k) * x (ix2 (j 0) k) : EReal)) (Ideal.ofBits .f32 0x44800000#32)
      + Ideal.ofBits .f32 0x358637BD#32) := by
  pointwise [k0_pay2]

theorem tileDx (x dh g dx j) : k0_pay4 (F := Ideal) x dh g dx j = (dx j +
      k0_pay2 x (ix2 (j 0) 0) * (dh j * g (ix2 0 (j 1)) - x j * k0_pay2 x (ix2 (j 0) 0) *
            Ideal.div (∑ k : Fin 1024, (dh (ix2 (j 0) k) * g (ix2 0 k) * (x (ix2 (j 0) k) * k0_pay2 x (ix2 (j 0) 0)) : EReal))
              (Ideal.ofBits .f32 0x44800000#32)) : EReal) := by
  pointwise [k0_pay4, k0_pay3]

theorem tileDg (x dh j) : k0_pay5 (F := Ideal) x dh j =
    (∑ l : Fin 512, dh (ix2 l (j 1)) * (x (ix2 l (j 1)) * k0_pay2 x (ix2 l 0)) : EReal) := by
  pointwise [k0_pay5, k0_pay3]

theorem addPart (p a j) : k0_pay1 (F := Ideal) p a j = (a j + p j : EReal) := by pointwise [k0_pay1]

theorem one (t : Fin cfg0.N) (h : t.val % 4 = 0) : ¬1 ≤ t.val := by
  have := (tiles t).2.2.2.2.2.2
  omega

/-- The row of the array that row `a` of block `t` is. -/
def row (t : Fin cfg0.N) (a : Fin 512) : Fin 2048 := ⟨t.val * 512 + a.val, by
  have := (tiles t).2.2.2.2.2.2
  omega⟩

theorem blk0 (c : Dev nD) (t : Fin cfg0.N) (a : Fin 512) (k : Fin 1024) :
    iblk m c 0 t (ix2 a k) = DH m c (ix2 (row t a) k) := by blk_point [iblk, V, tiles t, row]

theorem blk1 (c : Dev nD) (t : Fin cfg0.N) (a : Fin 512) (k : Fin 1024) :
    iblk m c 1 t (ix2 a k) = X m c (ix2 (row t a) k) := by blk_point [iblk, V, tiles t, row]

theorem blk3 (c : Dev nD) (t : Fin cfg0.N) (a : Fin 512) (k : Fin 1024) :
    iblk m c 3 t (ix2 a k) = DXN m c (ix2 (row t a) k) := by blk_point [iblk, V, tiles t, row]

theorem blk2 (c : Dev nD) (t : Fin cfg0.N) (k : Fin 1024) : iblk m c 2 t (ix2 0 k) = G m c (ix1 k) := by
  blk_point [iblk, V, tiles t]

theorem emb4 (t : Fin cfg0.N) (a : Fin 512) (k : Fin 1024) :
    (win0_4.blk t).view.emb (ix2 a k) = ix2 (row t a) k := by blk_ext [tiles t, row]

/-- A tile's reciprocal root is the array's, at the row the tile's row lies on. -/
theorem invBlk (c : Dev nD) (t : Fin cfg0.N) (a : Fin 512) (i : Fin 2048)
    (h : ∀ k : Fin 1024, iblk m c 1 t (ix2 a k) = X m c (ix2 i k)) : k0_pay2 (iblk m c 1 t) (ix2 a 0) = inv (X m c) i := by
  rw [tileInv]
  unfold inv
  exact congrArg (fun s => Ideal.rsqrt (Ideal.div s _ + _)) (Fin.sum_fin_congr fun k => congrArg₂ (fun a b : EReal => a * b) (h k) (h k))

theorem dg_final (c : Dev nD) : (dats m 0 c).arrAt 5 cfg0.N = dgArr (DH m c) (X m c) := by
  refine (dats m 0 c).arrAt_eq_of_after_last 5 t0_3 (by decide +kernel) _ fun j => ?_
  blk_simp
  rw [after0_5, Pipeline.eq_sum_fin_of_reset_step_apply_last (fun n h => (outsAt0 m c n h).2) 4 (fun _ => (0 : EReal)) _
    (fun t h j => by rw [outsAt0_A m c t h (one t h)]; frame_out; rw [tileDg]; exact (zero_add (M := EReal) _).symm)
    (fun t h j => by rw [outsAt0_B m c t h (by omega)]; frame_out; rw [addPart, tileDg])
    (le_of_eq N_0) t0_3 rfl j]
  refine (zero_add (M := EReal) _).trans ?_
  unfold dgArr
  refine Eq.trans (Fin.sum_points_lanes_congr (A := 1) (L := 2048) (M := EReal) 4
    (g := fun _ l => DH m c (ix2 l (j 1)) * (X m c (ix2 l (j 1)) * inv (X m c) l)) fun t k ha hl => ?_) (Fin.sum_univ_one _)
  have hr : (⟨t.val % 4 * 512 + k.val, hl⟩ : Fin 2048) = row t k := by
    have := (tiles t).2.2.2.2.2.2
    refine Fin.ext ?_
    show t.val % 4 * 512 + k.val = t.val * 512 + k.val
    omega
  rw [hr, invBlk m c t k (row t k) (blk1 m c t k)]
  exact congrArg₂ (fun a b : EReal => a * (b * _)) (blk0 m c t k _) (blk1 m c t k _)

theorem dx_final (c : Dev nD) : (dats m 0 c).arrAt 4 cfg0.N = dxArr (DH m c) (X m c) (G m c) (DXN m c) := by
  refine (dats m 0 c).arrAt_eq_of_covers 4 _ (by decide +kernel) fun t hf y => ?_
  blk_simp
  rw [after0_4]
  have e : (outsAt0 m c t.val t.isLt).1 = k0_pay4 (iblk m c 1 t) (iblk m c 0 t) (iblk m c 2 t) (iblk m c 3 t) := by
    by_cases h : t.val % 4 = 0
    · rw [outsAt0_A m c t h (one t h)]; frame_out
    · rw [outsAt0_B m c t h (by omega)]; frame_out
  rw [e, tileDx]
  obtain ⟨a, k, rfl⟩ : ∃ (a : Fin 512) (k : Fin 1024), y = ix2 a k := ⟨y 0, y 1, by funext i; fin_cases i <;> rfl⟩
  show (_ : EReal) = _
  rw [emb4]
  have e1 := invBlk m c t a (row t a) (blk1 m c t a)
  have e2 (l : Fin 1024) := blk0 m c t a l
  have e3 (l : Fin 1024) := blk1 m c t a l
  have e4 := blk2 m c t
  have e5 := blk3 m c t a k
  generalize iblk m c 0 t = b0, iblk m c 1 t = b1, iblk m c 2 t = b2, iblk m c 3 t = b3 at *
  simp only [ix2_0, ix2_1, e1, e2, e3, e4, e5]
  rfl

/-- The precondition's arrays are arrays of reals. -/
theorem reals_of_pre (pre : Cert.Pre_NormIdeal_norm_finite m) (c : Dev nD) :
    (∃ r : S2048x1024.Idx → ℝ, DH m c = fun i => ((r i : ℝ) : EReal)) ∧ (∃ r : S2048x1024.Idx → ℝ, X m c = fun i => ((r i : ℝ) : EReal))
      ∧ ∃ r : S1024.Idx → ℝ, G m c = fun i => ((r i : ℝ) : EReal) := by
  have h := congrFun (pre c) ix0
  unfold Cert.Pre_norm_finite.fn at h
  obtain ⟨h, h3⟩ := IntOp.andi_eq_one.1 h
  obtain ⟨h1, h2⟩ := IntOp.andi_eq_one.1 h
  haveI : Subsingleton Cert.Pre_norm_finite.S_.Idx := ⟨fun a b => funext fun i => i.elim0⟩
  exact ⟨Finite.reals _ _ rfl (Host.reduce_andi_all _ _ _ _ _ h1), Finite.reals _ _ rfl (Host.reduce_andi_all _ _ _ _ _ h2),
    Finite.reals _ _ rfl (Host.reduce_andi_all _ _ _ _ _ h3)⟩

/-- The call's gradients are the reference's. -/
theorem claim : Cert.algebraic_NormIdeal_NormRefIdeal_pre_norm_finite := by
  intro m ρ m' ρ' pre agree
  refine ⟨_, _, Cert.NormIdeal.Value.run_blocks m ρ, ?_⟩
  refine (θ_run _ _ _).mono (fun r h c => ?_) (Cert.NormRefIdeal.Value.run m' ρ')
  obtain ⟨h0, h1, h2⟩ := h c
  obtain ⟨a0, a1, a2, a3⟩ := agree c
  refine ⟨h0.trans ?_, h1.trans ?_, h2⟩
  · clear h0 h1
    rw [a0, a1, a2, a3]
    refine Eq.trans ?_ (dx_final m c).symm
    obtain ⟨⟨dh, e1⟩, ⟨x, e2⟩, ⟨g, e3⟩⟩ := reals_of_pre m pre c
    change m (c.tc.loc main_arg0) = _ at e1
    change m (c.tc.loc main_arg1) = _ at e2
    change m (c.tc.loc main_arg2) = _ at e3
    funext i; pointwise [dxArr, dNorm]
    simp only [e1, e2, e3]
    refine congrArg (@HAdd.hAdd EReal EReal EReal _ (m (c.tc.loc main_arg3) i)) ?_
    obtain ⟨e, he, le⟩ := Finite.lit_eps
    refine Eq.trans ?_ (Eq.trans (Finite.norm_grad (fun k : Fin 1024 => x (ix2 (i 0) k)) (fun k => dh (ix2 (i 0) k)) (fun k => g (ix1 k))
      (x i) (dh i) (g (ix1 (i 1))) 1024 e (by norm_num) he _ rfl _ rfl) ?_)
    · simp only [Finite.lit_1024, Finite.lit_neg_half, le]
    · unfold inv
      simp only [Finite.lit_1024, le]
  · clear h0 h1
    rw [a0, a1]
    refine Eq.trans ?_ (dg_final m c).symm
    funext i; pointwise [dgArr]
    refine (Fin.sum_univ_one _).trans (Fin.sum_fin_congr fun l => mul_comm _ _)

end Cert.NormIdeal.Step
-- ==== Proof.Small.lean ====
/- The AdamW step of the small weights. -/
module

public import proofs.«01_k».proof.Defs
public import proofs.«01_k».proof.Proof.Gen.SmallIdeal.Value
public import proofs.«01_k».proof.Proof.Gen.SmallRefIdeal.Run
public import Idealize.ShloMosaic.Lib.Pipeline.ValueKit

@[expose] public section

set_option maxRecDepth 16384

noncomputable section

namespace Cert.SmallIdeal.Step

open Cert.SmallIdeal Cert.SmallIdeal.Gen Cert.SmallIdeal.Value Idealize.ShloMosaic Idealize.ShloMosaic.TcCoe
open Idealize.SL.Sem

variable (m : (ℓ : Loc nD τ sig) → Buf (Elt Ideal) ℓ)

abbrev W (c : Dev nD) : Vec Ideal S4608x128 .f32 := m ((c.tc : Thread nD τ).loc main_arg0)
abbrev P (c : Dev nD) : Vec Ideal S8x4608x128 .bf16 := m ((c.tc : Thread nD τ).loc main_arg1)
abbrev M (c : Dev nD) : Vec Ideal S4608x128 .f32 := m ((c.tc : Thread nD τ).loc main_arg2)
abbrev N (c : Dev nD) : Vec Ideal S4608x128 .f32 := m ((c.tc : Thread nD τ).loc main_arg3)

theorem tiles : ∀ t : Fin cfg0.N, win0_0.index t = ![t.val, 0] ∧ win0_1.index t = ![0, t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ t.val < 9 :=
  (by decide +kernel : ∀ t : Fin grid0.N, _)

theorem tile (p w a b j) : k0_pay5 (F := Ideal) w p a b j = ∑ d : Fin 8, p (ix3 d (j 0) (j 1)) := by
  pointwise [k0_pay5, k0_pay4]
  exact (Fin.sum_univ_eight fun d => p (ix3 d (j 0) (j 1))).symm

def gSum (p : Vec Ideal S8x4608x128 .bf16) : Vec Ideal S4608x128 .f32 :=
  fun i => (∑ d : Fin 8, p (ix3 d (i 0) (i 1)) : EReal)

theorem g_final (c : Dev nD) : (dats m 0 c).arrAt 4 cfg0.N = gSum (P m c) := by
  refine (dats m 0 c).arrAt_eq_of_covers 4 _ (by decide +kernel) fun t hf y => ?_
  blk_simp
  rw [after0_4]
  frame_out
  rw [tile]
  unfold gSum
  refine Fin.sum_fin_congr fun d => ?_
  blk_point [iblk, V, tiles t]

/-- The first moment's update. -/
def mNew (m g : EReal) : EReal := Ideal.ofBits .f32 0x3F666666#32 * m + Ideal.ofBits .f32 0x3DCCCCCD#32 * g

/-- The second moment's update. -/
def vNew (v g : EReal) : EReal := Ideal.ofBits .f32 0x3F7FBE77#32 * v + Ideal.ofBits .f32 0x3A83126F#32 * (g * g)

/-- The weight's step. -/
def delta (w m v : EReal) : EReal :=
  Ideal.ofBits .f32 0xBA83126F#32
    * (Ideal.div (Ideal.div m (Ideal.ofBits .f32 0x3F26BD02#32))
        (Ideal.sqrt (Ideal.div v (Ideal.ofBits .f32 0x3C231ACC#32)) + Ideal.ofBits .f32 0x322BCC77#32)
      + Ideal.ofBits .f32 0x3C23D70A#32 * w)

def mArr (p : Vec Ideal S8x4608x128 .bf16) (a : Vec Ideal S4608x128 .f32) : Vec Ideal S4608x128 .f32 :=
  fun i => mNew (a i) (gSum p i)

def vArr (p : Vec Ideal S8x4608x128 .bf16) (b : Vec Ideal S4608x128 .f32) : Vec Ideal S4608x128 .f32 :=
  fun i => vNew (b i) (gSum p i)

def dArr (p : Vec Ideal S8x4608x128 .bf16) (w a b : Vec Ideal S4608x128 .f32) : Vec Ideal S4608x128 .f32 :=
  fun i => delta (w i) (mArr p a i) (vArr p b i)

theorem tileM (g a j) : k0_pay1 (F := Ideal) g a j = mNew (a j) (g j) := by pointwise [k0_pay1, mNew]

theorem tileV (g b j) : k0_pay2 (F := Ideal) g b j = vNew (b j) (g j) := by pointwise [k0_pay2, vNew]

theorem tileD (g w a b j) : k0_pay3 (F := Ideal) g w a b j = delta (w j) (mNew (a j) (g j)) (vNew (b j) (g j)) := by
  pointwise [k0_pay3, k0_pay1, k0_pay2, delta, mNew, vNew]

/-- A tile of the summed gradient, at the array's index. -/
theorem gBlk (c : Dev nD) (t : Fin cfg0.N) (y : S512x128.Idx) (i : S4608x128.Idx)
    (h : ∀ d : Fin 8, iblk m c 1 t (ix3 d (y 0) (y 1)) = P m c (ix3 d (i 0) (i 1))) :
    k0_pay5 (iblk m c 0 t) (iblk m c 1 t) (iblk m c 2 t) (iblk m c 3 t) y = gSum (P m c) i := by
  rw [tile]
  exact Fin.sum_fin_congr h

theorem m_final (c : Dev nD) : (dats m 0 c).arrAt 6 cfg0.N = mArr (P m c) (M m c) := by
  refine (dats m 0 c).arrAt_eq_of_covers 6 _ (by decide +kernel) fun t hf y => ?_
  blk_simp
  rw [after0_6]
  frame_out
  rw [tileM]
  refine congrArg₂ mNew ?_ (gBlk m c t _ _ fun d => ?_) <;> blk_point [iblk, V, tiles t]

theorem v_final (c : Dev nD) : (dats m 0 c).arrAt 7 cfg0.N = vArr (P m c) (N m c) := by
  refine (dats m 0 c).arrAt_eq_of_covers 7 _ (by decide +kernel) fun t hf y => ?_
  blk_simp
  rw [after0_7]
  frame_out
  rw [tileV]
  refine congrArg₂ vNew ?_ (gBlk m c t _ _ fun d => ?_) <;> blk_point [iblk, V, tiles t]

theorem d_final (c : Dev nD) : (dats m 0 c).arrAt 5 cfg0.N = dArr (P m c) (W m c) (M m c) (N m c) := by
  refine (dats m 0 c).arrAt_eq_of_covers 5 _ (by decide +kernel) fun t hf y => ?_
  blk_simp
  rw [after0_5]
  frame_out
  rw [tileD]
  have h1 : iblk m c 0 t y = W m c (((View.whole main_v0_1).slice (win0_5.rect t)).emb y) := by blk_point [iblk, V, tiles t]
  have h2 : iblk m c 2 t y = M m c (((View.whole main_v0_1).slice (win0_5.rect t)).emb y) := by blk_point [iblk, V, tiles t]
  have h3 : iblk m c 3 t y = N m c (((View.whole main_v0_1).slice (win0_5.rect t)).emb y) := by blk_point [iblk, V, tiles t]
  rw [gBlk m c t y (((View.whole main_v0_1).slice (win0_5.rect t)).emb y) fun d => ?_, h1, h2, h3]
  · rfl
  · blk_point [iblk, V, tiles t]

/-- The step of the small weights is the reference's. -/
theorem claim : Cert.algebraic_SmallIdeal_SmallRefIdeal := by
  intro m ρ m' ρ' _ agree
  refine ⟨_, _, _, _, Cert.SmallIdeal.Value.run_blocks m ρ, ?_⟩
  refine (θ_run _ _ _).mono (fun r h c => ?_) (Cert.SmallRefIdeal.Value.run m' ρ')
  obtain ⟨h0, h1, h2, h3, h4⟩ := h c
  obtain ⟨a0, a1, a2, a3⟩ := agree c
  refine ⟨h0.trans ?_, h1.trans ?_, h2.trans ?_, h3.trans ?_, h4⟩
  · rw [a1]; refine Eq.trans ?_ (g_final m c).symm; funext i; pointwise [gSum]
  · rw [a0, a1, a2, a3]; refine Eq.trans ?_ (d_final m c).symm; funext i; pointwise [dArr, delta, mArr, vArr, mNew, vNew, gSum]
  · rw [a1, a2]; refine Eq.trans ?_ (m_final m c).symm; funext i; pointwise [mArr, mNew, gSum]
  · rw [a1, a3]; refine Eq.trans ?_ (v_final m c).symm; funext i; pointwise [vArr, vNew, gSum]

end Cert.SmallIdeal.Step
-- ==== Proof.AdamW.lean ====
/- The AdamW lines at one element. -/
module

public import proofs.«01_k».proof.Defs
public import Idealize.ShloMosaic.Lib.Pipeline.ValueKit

@[expose] public section

noncomputable section

namespace Cert.AdamW

open Idealize.ShloMosaic

/-- The first moment's update. -/
def mNew (m g : EReal) : EReal := Ideal.ofBits .f32 0x3F666666#32 * m + Ideal.ofBits .f32 0x3DCCCCCD#32 * g

/-- The second moment's update. -/
def vNew (v g : EReal) : EReal := Ideal.ofBits .f32 0x3F7FBE77#32 * v + Ideal.ofBits .f32 0x3A83126F#32 * (g * g)

/-- The weight's step, from the updated moments. -/
def delta (w m v : EReal) : EReal :=
  Ideal.ofBits .f32 0xBA83126F#32
    * (Ideal.div (Ideal.div m (Ideal.ofBits .f32 0x3F26BD02#32))
        (Ideal.sqrt (Ideal.div v (Ideal.ofBits .f32 0x3C231ACC#32)) + Ideal.ofBits .f32 0x322BCC77#32)
      + Ideal.ofBits .f32 0x3C23D70A#32 * w)

/-- The weight's step, from the moments before the update. -/
def step (w m v g : EReal) : EReal := delta w (mNew m g) (vNew v g)

end Cert.AdamW
-- ==== Proof.BigIn.lean ====
/- The AdamW step of a large weight, one layer's call (BigIn). -/
module

public import proofs.«01_k».proof.Defs
public import proofs.«01_k».proof.Proof.AdamW
public import proofs.«01_k».proof.Proof.Gen.BigInIdeal.Value
public import proofs.«01_k».proof.Proof.Gen.BigInRefIdeal.Run
public import Idealize.ShloMosaic.Lib.Pipeline.ValueKit

@[expose] public section

set_option maxRecDepth 16384

noncomputable section

namespace Cert.BigInIdeal.Step

open Cert.BigInIdeal Cert.BigInIdeal.Gen Cert.BigInIdeal.Value Cert.AdamW Idealize.ShloMosaic Idealize.ShloMosaic.TcCoe
open Idealize.SL.Sem

variable (m : (ℓ : Loc nD τ sig) → Buf (Elt Ideal) ℓ)

abbrev W (c : Dev nD) : Vec Ideal S4x1024x2048 .f32 := m ((c.tc : Thread nD τ).loc main_arg0)
abbrev M (c : Dev nD) : Vec Ideal S4x1024x2048 .f32 := m ((c.tc : Thread nD τ).loc main_arg1)
abbrev N (c : Dev nD) : Vec Ideal S4x1024x2048 .f32 := m ((c.tc : Thread nD τ).loc main_arg2)
abbrev Own (c : Dev nD) : Vec Ideal S4x1024x2048 .bf16 := m ((c.tc : Thread nD τ).loc main_arg3)
abbrev Sib (c : Dev nD) : Vec Ideal S4x1024x2048 .bf16 := m ((c.tc : Thread nD τ).loc main_arg4)

theorem tiles : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] ∧ win0_8.index t = ![0, t.val, 0] ∧ t.val < 8 :=
  (by decide +kernel : ∀ t : Fin grid0.N, _)

/-- The layer's gradient: the sum of the slots of both cores. -/
def gSum (own sib : Vec Ideal S4x1024x2048 .bf16) (a : Fin 1024) (b : Fin 2048) : EReal :=
  (∑ s : Fin 4, own (ix3 s a b)) + ∑ s : Fin 4, sib (ix3 s a b)

def gArr (own sib : Vec Ideal S4x1024x2048 .bf16) (old : Vec Ideal S4x1024x2048 .f32) : Vec Ideal S4x1024x2048 .f32 :=
  fun i => if (i 0).val = 0 then gSum own sib (i 1) (i 2) else old i
def mArr (own sib : Vec Ideal S4x1024x2048 .bf16) (p old : Vec Ideal S4x1024x2048 .f32) : Vec Ideal S4x1024x2048 .f32 :=
  fun i => if (i 0).val = 0 then mNew (p (ix3 0 (i 1) (i 2))) (gSum own sib (i 1) (i 2)) else old i
def vArr (own sib : Vec Ideal S4x1024x2048 .bf16) (q old : Vec Ideal S4x1024x2048 .f32) : Vec Ideal S4x1024x2048 .f32 :=
  fun i => if (i 0).val = 0 then vNew (q (ix3 0 (i 1) (i 2))) (gSum own sib (i 1) (i 2)) else old i
def dArr (own sib : Vec Ideal S4x1024x2048 .bf16) (w p q old : Vec Ideal S4x1024x2048 .f32) : Vec Ideal S4x1024x2048 .f32 :=
  fun i => if (i 0).val = 0 then step (w (ix3 0 (i 1) (i 2))) (p (ix3 0 (i 1) (i 2))) (q (ix3 0 (i 1) (i 2))) (gSum own sib (i 1) (i 2)) else old i

theorem tileG (a0 b0 a1 b1 a2 b2 a3 b3 j) : k0_pay3 (F := Ideal) a0 b0 a1 b1 a2 b2 a3 b3 j =
    (a0 (ix3 0 (j 0) (j 1)) + a1 (ix3 0 (j 0) (j 1)) + a2 (ix3 0 (j 0) (j 1)) + a3 (ix3 0 (j 0) (j 1))
      + (b0 (ix3 0 (j 0) (j 1)) + b1 (ix3 0 (j 0) (j 1)) + b2 (ix3 0 (j 0) (j 1)) + b3 (ix3 0 (j 0) (j 1))) : EReal) := by
  pointwise [k0_pay3]

theorem tileM (g p j) : k0_pay4 (F := Ideal) g p j = mNew (p (ix3 0 (j 0) (j 1))) (g j) := by pointwise [k0_pay4, mNew]
theorem tileV (g q j) : k0_pay5 (F := Ideal) g q j = vNew (q (ix3 0 (j 0) (j 1))) (g j) := by pointwise [k0_pay5, vNew]
theorem castM (x j) : k0_pay1 (F := Ideal) x j = x (ix2 (j 1) (j 2)) := by pointwise [k0_pay1]
theorem castV (x j) : k0_pay2 (F := Ideal) x j = x (ix2 (j 1) (j 2)) := by pointwise [k0_pay2]
theorem castG (x j) : k0_pay6 (F := Ideal) x j = x (ix2 (j 1) (j 2)) := by pointwise [k0_pay6]
theorem tileD (g w p q) (a : Fin 128) (b : Fin 2048) : k0_pay7 (F := Ideal) g w p q (ix3 0 a b) =
    step (w (ix3 0 a b)) (p (ix3 0 a b)) (q (ix3 0 a b)) (g (ix2 a b)) := by
  pointwise [k0_pay7, k0_pay4, k0_pay5, step, delta, mNew, vNew]

def row (t : Fin cfg0.N) (a : Fin 128) : Fin 1024 := ⟨t.val * 128 + a.val, by have := (tiles t).2.2.2.2.2.2.2.2.2; omega⟩

theorem blk0 (c : Dev nD) (t : Fin cfg0.N) (a : Fin 128) (b : Fin 2048) : iblk m c 0 t (ix3 0 a b) = W m c (ix3 0 (row t a) b) := by
  blk_point [iblk, V, tiles t, row]
theorem blk1 (c : Dev nD) (t : Fin cfg0.N) (a : Fin 128) (b : Fin 2048) : iblk m c 1 t (ix3 0 a b) = M m c (ix3 0 (row t a) b) := by
  blk_point [iblk, V, tiles t, row]
theorem blk2 (c : Dev nD) (t : Fin cfg0.N) (a : Fin 128) (b : Fin 2048) : iblk m c 2 t (ix3 0 a b) = N m c (ix3 0 (row t a) b) := by
  blk_point [iblk, V, tiles t, row]
theorem blk3 (c : Dev nD) (t : Fin cfg0.N) (s : Fin 4) (a : Fin 128) (b : Fin 2048) : iblk m c 3 t (ix3 s a b) = Own m c (ix3 s (row t a) b) := by
  blk_point [iblk, V, tiles t, row]
theorem blk4 (c : Dev nD) (t : Fin cfg0.N) (s : Fin 4) (a : Fin 128) (b : Fin 2048) : iblk m c 4 t (ix3 s a b) = Sib m c (ix3 s (row t a) b) := by
  blk_point [iblk, V, tiles t, row]
theorem emb5 (t : Fin cfg0.N) (a : Fin 128) (b : Fin 2048) : (win0_5.blk t).view.emb (ix3 0 a b) = ix3 0 (row t a) b := by blk_ext [tiles t, row]
theorem emb6 (t : Fin cfg0.N) (a : Fin 128) (b : Fin 2048) : (win0_6.blk t).view.emb (ix3 0 a b) = ix3 0 (row t a) b := by blk_ext [tiles t, row]
theorem emb7 (t : Fin cfg0.N) (a : Fin 128) (b : Fin 2048) : (win0_7.blk t).view.emb (ix3 0 a b) = ix3 0 (row t a) b := by blk_ext [tiles t, row]
theorem emb8 (t : Fin cfg0.N) (a : Fin 128) (b : Fin 2048) : (win0_8.blk t).view.emb (ix3 0 a b) = ix3 0 (row t a) b := by blk_ext [tiles t, row]

theorem ix3_of (y : S1x128x2048.Idx) : ∃ (a : Fin 128) (b : Fin 2048), y = ix3 0 a b :=
  ⟨y 1, y 2, by funext i; fin_cases i <;> first | rfl | exact Subsingleton.elim (α := Fin 1) _ _⟩

theorem ld_slot (X : Vec Ideal S4x128x2048 .bf16) {o : ℕ} (inb) (ho : o < 4) (a : Fin 128) (b : Fin 2048) :
    View.ld X (Rect.unit ![o, 0, 0] ![1, 128, 2048] inb) (ix3 (0 : Fin 1) a b) = X (ix3 (⟨o, ho⟩ : Fin 4) a b) :=
  congrArg X (by
    funext i
    fin_cases i
    · exact Fin.ext (show o + 1 * 0 = o by omega)
    · exact Fin.ext (show 0 + 1 * a.val = a.val by omega)
    · exact Fin.ext (show 0 + 1 * b.val = b.val by omega))

/-- A tile of the gradient. -/
theorem gAt (c : Dev nD) (t : Fin cfg0.N) (a : Fin 128) (b : Fin 2048) :
    k0_pay3 (View.ld (iblk m c 3 t) (Rect.unit ![0, 0, 0] ![1, 128, 2048] inb_S4x128x2048_S1x128x2048_0_0_0)) (View.ld (iblk m c 4 t) (Rect.unit ![0, 0, 0] ![1, 128, 2048] inb_S4x128x2048_S1x128x2048_0_0_0)) (View.ld (iblk m c 3 t) (Rect.unit ![1, 0, 0] ![1, 128, 2048] inb_S4x128x2048_S1x128x2048_1_0_0)) (View.ld (iblk m c 4 t) (Rect.unit ![1, 0, 0] ![1, 128, 2048] inb_S4x128x2048_S1x128x2048_1_0_0)) (View.ld (iblk m c 3 t) (Rect.unit ![2, 0, 0] ![1, 128, 2048] inb_S4x128x2048_S1x128x2048_2_0_0)) (View.ld (iblk m c 4 t) (Rect.unit ![2, 0, 0] ![1, 128, 2048] inb_S4x128x2048_S1x128x2048_2_0_0)) (View.ld (iblk m c 3 t) (Rect.unit ![3, 0, 0] ![1, 128, 2048] inb_S4x128x2048_S1x128x2048_3_0_0)) (View.ld (iblk m c 4 t) (Rect.unit ![3, 0, 0] ![1, 128, 2048] inb_S4x128x2048_S1x128x2048_3_0_0)) (ix2 a b) = gSum (Own m c) (Sib m c) (row t a) b := by
  rw [tileG]
  unfold gSum
  rw [Fin.sum_univ_four, Fin.sum_univ_four, ← blk3, ← blk3, ← blk3, ← blk3, ← blk4, ← blk4, ← blk4, ← blk4]
  exact congrArg₂ (· + ·) (congrArg₂ (· + ·) (congrArg₂ (· + ·) (congrArg₂ (· + ·) (ld_slot _ _ (by decide) a b) (ld_slot _ _ (by decide) a b)) (ld_slot _ _ (by decide) a b)) (ld_slot _ _ (by decide) a b))
    (congrArg₂ (· + ·) (congrArg₂ (· + ·) (congrArg₂ (· + ·) (ld_slot _ _ (by decide) a b) (ld_slot _ _ (by decide) a b)) (ld_slot _ _ (by decide) a b)) (ld_slot _ _ (by decide) a b))

theorem g_final (c : Dev nD) : (dats m 0 c).arrAt 5 cfg0.N = gArr (Own m c) (Sib m c) (m ((c.tc : Thread nD τ).loc main_arg5)) := by
  refine (dats m 0 c).arrAt_eq_of_coversWhere_of_agree 5 _ (fun β => β (0 : Fin _) = 0) (by decide +kernel) (fun t hf y => ?_) (fun j hj => ?_)
  · blk_simp
    rw [after0_5]
    simp only [outsAt0]
    frame_out
    obtain ⟨a, b, rfl⟩ : ∃ (a : Fin 128) (b : Fin 2048), y = ix3 0 a b := ix3_of y
    refine (?_ : _ = gArr (Own m c) (Sib m c) (m ((c.tc : Thread nD τ).loc main_arg5)) (ix3 0 (row t a) b)).trans (congrArg (gArr (Own m c) (Sib m c) (m ((c.tc : Thread nD τ).loc main_arg5))) (emb5 t a b).symm)
    rw [castG]
    exact gAt m c t a b
  · blk_simp [Pipeline.Window.cell_apply] at hj
    have h : ¬ (j 0).val = 0 := fun h => hj (by omega)
    exact (if_neg h).symm

theorem d_final (c : Dev nD) : (dats m 0 c).arrAt 6 cfg0.N = dArr (Own m c) (Sib m c) (W m c) (M m c) (N m c) (m ((c.tc : Thread nD τ).loc main_arg6)) := by
  refine (dats m 0 c).arrAt_eq_of_coversWhere_of_agree 6 _ (fun β => β (0 : Fin _) = 0) (by decide +kernel) (fun t hf y => ?_) (fun j hj => ?_)
  · blk_simp
    rw [after0_6]
    simp only [outsAt0]
    frame_out
    obtain ⟨a, b, rfl⟩ : ∃ (a : Fin 128) (b : Fin 2048), y = ix3 0 a b := ix3_of y
    refine (?_ : _ = dArr (Own m c) (Sib m c) (W m c) (M m c) (N m c) (m ((c.tc : Thread nD τ).loc main_arg6)) (ix3 0 (row t a) b)).trans (congrArg (dArr (Own m c) (Sib m c) (W m c) (M m c) (N m c) (m ((c.tc : Thread nD τ).loc main_arg6))) (emb6 t a b).symm)
    refine (tileD _ _ _ _ a b).trans ?_
    have e : ∀ w p q g w' p' q' g' : EReal, w = w' → p = p' → q = q' → g = g' → step w p q g = step w' p' q' g' := by
      rintro _ _ _ _ _ _ _ _ rfl rfl rfl rfl; rfl
    exact e _ _ _ _ _ _ _ _ (blk0 m c t a b) (blk1 m c t a b) (blk2 m c t a b) (gAt m c t a b)
  · blk_simp [Pipeline.Window.cell_apply] at hj
    have h : ¬ (j 0).val = 0 := fun h => hj (by omega)
    exact (if_neg h).symm

theorem m_final (c : Dev nD) : (dats m 0 c).arrAt 7 cfg0.N = mArr (Own m c) (Sib m c) (M m c) (m ((c.tc : Thread nD τ).loc main_arg7)) := by
  refine (dats m 0 c).arrAt_eq_of_coversWhere_of_agree 7 _ (fun β => β (0 : Fin _) = 0) (by decide +kernel) (fun t hf y => ?_) (fun j hj => ?_)
  · blk_simp
    rw [after0_7]
    simp only [outsAt0]
    frame_out
    obtain ⟨a, b, rfl⟩ : ∃ (a : Fin 128) (b : Fin 2048), y = ix3 0 a b := ix3_of y
    refine (?_ : _ = mArr (Own m c) (Sib m c) (M m c) (m ((c.tc : Thread nD τ).loc main_arg7)) (ix3 0 (row t a) b)).trans (congrArg (mArr (Own m c) (Sib m c) (M m c) (m ((c.tc : Thread nD τ).loc main_arg7))) (emb7 t a b).symm)
    rw [castM, tileM]
    exact congrArg₂ mNew (blk1 m c t a b) (gAt m c t a b)
  · blk_simp [Pipeline.Window.cell_apply] at hj
    have h : ¬ (j 0).val = 0 := fun h => hj (by omega)
    exact (if_neg h).symm

theorem v_final (c : Dev nD) : (dats m 0 c).arrAt 8 cfg0.N = vArr (Own m c) (Sib m c) (N m c) (m ((c.tc : Thread nD τ).loc main_arg8)) := by
  refine (dats m 0 c).arrAt_eq_of_coversWhere_of_agree 8 _ (fun β => β (0 : Fin _) = 0) (by decide +kernel) (fun t hf y => ?_) (fun j hj => ?_)
  · blk_simp
    rw [after0_8]
    simp only [outsAt0]
    frame_out
    obtain ⟨a, b, rfl⟩ : ∃ (a : Fin 128) (b : Fin 2048), y = ix3 0 a b := ix3_of y
    refine (?_ : _ = vArr (Own m c) (Sib m c) (N m c) (m ((c.tc : Thread nD τ).loc main_arg8)) (ix3 0 (row t a) b)).trans (congrArg (vArr (Own m c) (Sib m c) (N m c) (m ((c.tc : Thread nD τ).loc main_arg8))) (emb8 t a b).symm)
    rw [castV, tileV]
    exact congrArg₂ vNew (blk2 m c t a b) (gAt m c t a b)
  · blk_simp [Pipeline.Window.cell_apply] at hj
    have h : ¬ (j 0).val = 0 := fun h => hj (by omega)
    exact (if_neg h).symm

/-- An array whose first layer is new and whose other layers are the old one's. -/
theorem pick (i : S4x1024x2048.Idx) (x : EReal) (old : S4x1024x2048.Idx → EReal) :
    (if h : (i 0).val < 1 then x else old (ix3 ⟨1 + ((i 0).val - 1), by have : (i 0).val < 4 := (i 0).isLt; omega⟩ (i 1) (i 2))) = if (i 0).val = 0 then x else old i := by
  by_cases h : (i 0).val = 0
  · rw [dif_pos (by omega), if_pos h]
  · rw [dif_neg (by omega), if_neg h]
    refine congrArg old ?_
    funext k
    fin_cases k
    · exact Fin.ext (show 1 + ((i 0).val - 1) = (i 0).val by omega)
    · rfl
    · rfl

/-- The step of this weight is the reference's. -/
theorem claim : Cert.algebraic_BigInIdeal_BigInRefIdeal := by
  intro m ρ m' ρ' _ agree
  refine ⟨_, _, _, _, Cert.BigInIdeal.Value.run_blocks m ρ, ?_⟩
  refine (θ_run _ _ _).mono (fun r h c => ?_) (Cert.BigInRefIdeal.Value.run m' ρ')
  obtain ⟨h0, h1, h2, h3, h4⟩ := h c
  obtain ⟨a0, a1, a2, a3, a4, a5, a6, a7, a8⟩ := agree c
  refine ⟨h0.trans ?_, h1.trans ?_, h2.trans ?_, h3.trans ?_, h4⟩
  · rw [a3, a4, a5]; refine Eq.trans ?_ (g_final m c).symm; funext i; pointwise [gArr, gSum]
    exact pick _ _ _
  · rw [a0, a1, a2, a3, a4, a6]; refine Eq.trans ?_ (d_final m c).symm; funext i; pointwise [dArr, step, delta, mNew, vNew, gSum]
    exact pick _ _ _
  · rw [a1, a3, a4, a7]; refine Eq.trans ?_ (m_final m c).symm; funext i; pointwise [mArr, mNew, gSum]
    exact pick _ _ _
  · rw [a2, a3, a4, a8]; refine Eq.trans ?_ (v_final m c).symm; funext i; pointwise [vArr, vNew, gSum]
    exact pick _ _ _

end Cert.BigInIdeal.Step
-- ==== Proof.BigGlu.lean ====
/- The AdamW step of a large weight, one layer's call (BigGlu). -/
module

public import proofs.«01_k».proof.Defs
public import proofs.«01_k».proof.Proof.AdamW
public import proofs.«01_k».proof.Proof.Gen.BigGluIdeal.Value
public import proofs.«01_k».proof.Proof.Gen.BigGluRefIdeal.Run
public import Idealize.ShloMosaic.Lib.Pipeline.ValueKit

@[expose] public section

set_option maxRecDepth 16384

noncomputable section

namespace Cert.BigGluIdeal.Step

open Cert.BigGluIdeal Cert.BigGluIdeal.Gen Cert.BigGluIdeal.Value Cert.AdamW Idealize.ShloMosaic Idealize.ShloMosaic.TcCoe
open Idealize.SL.Sem

variable (m : (ℓ : Loc nD τ sig) → Buf (Elt Ideal) ℓ)

abbrev W (c : Dev nD) : Vec Ideal S4x128x512 .f32 := m ((c.tc : Thread nD τ).loc main_arg0)
abbrev M (c : Dev nD) : Vec Ideal S4x128x512 .f32 := m ((c.tc : Thread nD τ).loc main_arg1)
abbrev N (c : Dev nD) : Vec Ideal S4x128x512 .f32 := m ((c.tc : Thread nD τ).loc main_arg2)
abbrev Own (c : Dev nD) : Vec Ideal S4x128x512 .bf16 := m ((c.tc : Thread nD τ).loc main_arg3)
abbrev Sib (c : Dev nD) : Vec Ideal S4x128x512 .bf16 := m ((c.tc : Thread nD τ).loc main_arg4)

theorem tiles : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] ∧ win0_8.index t = ![0, t.val, 0] ∧ t.val < 1 :=
  (by decide +kernel : ∀ t : Fin grid0.N, _)

/-- The layer's gradient: the sum of the slots of both cores. -/
def gSum (own sib : Vec Ideal S4x128x512 .bf16) (a : Fin 128) (b : Fin 512) : EReal :=
  (∑ s : Fin 4, own (ix3 s a b)) + ∑ s : Fin 4, sib (ix3 s a b)

def gArr (own sib : Vec Ideal S4x128x512 .bf16) (old : Vec Ideal S4x128x512 .f32) : Vec Ideal S4x128x512 .f32 :=
  fun i => if (i 0).val = 0 then gSum own sib (i 1) (i 2) else old i
def mArr (own sib : Vec Ideal S4x128x512 .bf16) (p old : Vec Ideal S4x128x512 .f32) : Vec Ideal S4x128x512 .f32 :=
  fun i => if (i 0).val = 0 then mNew (p (ix3 0 (i 1) (i 2))) (gSum own sib (i 1) (i 2)) else old i
def vArr (own sib : Vec Ideal S4x128x512 .bf16) (q old : Vec Ideal S4x128x512 .f32) : Vec Ideal S4x128x512 .f32 :=
  fun i => if (i 0).val = 0 then vNew (q (ix3 0 (i 1) (i 2))) (gSum own sib (i 1) (i 2)) else old i
def dArr (own sib : Vec Ideal S4x128x512 .bf16) (w p q old : Vec Ideal S4x128x512 .f32) : Vec Ideal S4x128x512 .f32 :=
  fun i => if (i 0).val = 0 then step (w (ix3 0 (i 1) (i 2))) (p (ix3 0 (i 1) (i 2))) (q (ix3 0 (i 1) (i 2))) (gSum own sib (i 1) (i 2)) else old i

theorem tileG (a0 b0 a1 b1 a2 b2 a3 b3 j) : k0_pay3 (F := Ideal) a0 b0 a1 b1 a2 b2 a3 b3 j =
    (a0 (ix3 0 (j 0) (j 1)) + a1 (ix3 0 (j 0) (j 1)) + a2 (ix3 0 (j 0) (j 1)) + a3 (ix3 0 (j 0) (j 1))
      + (b0 (ix3 0 (j 0) (j 1)) + b1 (ix3 0 (j 0) (j 1)) + b2 (ix3 0 (j 0) (j 1)) + b3 (ix3 0 (j 0) (j 1))) : EReal) := by
  pointwise [k0_pay3]

theorem tileM (g p j) : k0_pay4 (F := Ideal) g p j = mNew (p (ix3 0 (j 0) (j 1))) (g j) := by pointwise [k0_pay4, mNew]
theorem tileV (g q j) : k0_pay5 (F := Ideal) g q j = vNew (q (ix3 0 (j 0) (j 1))) (g j) := by pointwise [k0_pay5, vNew]
theorem castM (x j) : k0_pay1 (F := Ideal) x j = x (ix2 (j 1) (j 2)) := by pointwise [k0_pay1]
theorem castV (x j) : k0_pay2 (F := Ideal) x j = x (ix2 (j 1) (j 2)) := by pointwise [k0_pay2]
theorem castG (x j) : k0_pay6 (F := Ideal) x j = x (ix2 (j 1) (j 2)) := by pointwise [k0_pay6]
theorem tileD (g w p q) (a : Fin 128) (b : Fin 512) : k0_pay7 (F := Ideal) g w p q (ix3 0 a b) =
    step (w (ix3 0 a b)) (p (ix3 0 a b)) (q (ix3 0 a b)) (g (ix2 a b)) := by
  pointwise [k0_pay7, k0_pay4, k0_pay5, step, delta, mNew, vNew]

def row (t : Fin cfg0.N) (a : Fin 128) : Fin 128 := ⟨t.val * 128 + a.val, by have := (tiles t).2.2.2.2.2.2.2.2.2; omega⟩

theorem blk0 (c : Dev nD) (t : Fin cfg0.N) (a : Fin 128) (b : Fin 512) : iblk m c 0 t (ix3 0 a b) = W m c (ix3 0 (row t a) b) := by
  blk_point [iblk, V, tiles t, row]
theorem blk1 (c : Dev nD) (t : Fin cfg0.N) (a : Fin 128) (b : Fin 512) : iblk m c 1 t (ix3 0 a b) = M m c (ix3 0 (row t a) b) := by
  blk_point [iblk, V, tiles t, row]
theorem blk2 (c : Dev nD) (t : Fin cfg0.N) (a : Fin 128) (b : Fin 512) : iblk m c 2 t (ix3 0 a b) = N m c (ix3 0 (row t a) b) := by
  blk_point [iblk, V, tiles t, row]
theorem blk3 (c : Dev nD) (t : Fin cfg0.N) (s : Fin 4) (a : Fin 128) (b : Fin 512) : iblk m c 3 t (ix3 s a b) = Own m c (ix3 s (row t a) b) := by
  blk_point [iblk, V, tiles t, row]
theorem blk4 (c : Dev nD) (t : Fin cfg0.N) (s : Fin 4) (a : Fin 128) (b : Fin 512) : iblk m c 4 t (ix3 s a b) = Sib m c (ix3 s (row t a) b) := by
  blk_point [iblk, V, tiles t, row]
theorem emb5 (t : Fin cfg0.N) (a : Fin 128) (b : Fin 512) : (win0_5.blk t).view.emb (ix3 0 a b) = ix3 0 (row t a) b := by blk_ext [tiles t, row]
theorem emb6 (t : Fin cfg0.N) (a : Fin 128) (b : Fin 512) : (win0_6.blk t).view.emb (ix3 0 a b) = ix3 0 (row t a) b := by blk_ext [tiles t, row]
theorem emb7 (t : Fin cfg0.N) (a : Fin 128) (b : Fin 512) : (win0_7.blk t).view.emb (ix3 0 a b) = ix3 0 (row t a) b := by blk_ext [tiles t, row]
theorem emb8 (t : Fin cfg0.N) (a : Fin 128) (b : Fin 512) : (win0_8.blk t).view.emb (ix3 0 a b) = ix3 0 (row t a) b := by blk_ext [tiles t, row]

theorem ix3_of (y : S1x128x512.Idx) : ∃ (a : Fin 128) (b : Fin 512), y = ix3 0 a b :=
  ⟨y 1, y 2, by funext i; fin_cases i <;> first | rfl | exact Subsingleton.elim (α := Fin 1) _ _⟩

theorem ld_slot (X : Vec Ideal S4x128x512 .bf16) {o : ℕ} (inb) (ho : o < 4) (a : Fin 128) (b : Fin 512) :
    View.ld X (Rect.unit ![o, 0, 0] ![1, 128, 512] inb) (ix3 (0 : Fin 1) a b) = X (ix3 (⟨o, ho⟩ : Fin 4) a b) :=
  congrArg X (by
    funext i
    fin_cases i
    · exact Fin.ext (show o + 1 * 0 = o by omega)
    · exact Fin.ext (show 0 + 1 * a.val = a.val by omega)
    · exact Fin.ext (show 0 + 1 * b.val = b.val by omega))

/-- A tile of the gradient. -/
theorem gAt (c : Dev nD) (t : Fin cfg0.N) (a : Fin 128) (b : Fin 512) :
    k0_pay3 (View.ld (iblk m c 3 t) (Rect.unit ![0, 0, 0] ![1, 128, 512] inb_S4x128x512_S1x128x512_0_0_0)) (View.ld (iblk m c 4 t) (Rect.unit ![0, 0, 0] ![1, 128, 512] inb_S4x128x512_S1x128x512_0_0_0)) (View.ld (iblk m c 3 t) (Rect.unit ![1, 0, 0] ![1, 128, 512] inb_S4x128x512_S1x128x512_1_0_0)) (View.ld (iblk m c 4 t) (Rect.unit ![1, 0, 0] ![1, 128, 512] inb_S4x128x512_S1x128x512_1_0_0)) (View.ld (iblk m c 3 t) (Rect.unit ![2, 0, 0] ![1, 128, 512] inb_S4x128x512_S1x128x512_2_0_0)) (View.ld (iblk m c 4 t) (Rect.unit ![2, 0, 0] ![1, 128, 512] inb_S4x128x512_S1x128x512_2_0_0)) (View.ld (iblk m c 3 t) (Rect.unit ![3, 0, 0] ![1, 128, 512] inb_S4x128x512_S1x128x512_3_0_0)) (View.ld (iblk m c 4 t) (Rect.unit ![3, 0, 0] ![1, 128, 512] inb_S4x128x512_S1x128x512_3_0_0)) (ix2 a b) = gSum (Own m c) (Sib m c) (row t a) b := by
  rw [tileG]
  unfold gSum
  rw [Fin.sum_univ_four, Fin.sum_univ_four, ← blk3, ← blk3, ← blk3, ← blk3, ← blk4, ← blk4, ← blk4, ← blk4]
  exact congrArg₂ (· + ·) (congrArg₂ (· + ·) (congrArg₂ (· + ·) (congrArg₂ (· + ·) (ld_slot _ _ (by decide) a b) (ld_slot _ _ (by decide) a b)) (ld_slot _ _ (by decide) a b)) (ld_slot _ _ (by decide) a b))
    (congrArg₂ (· + ·) (congrArg₂ (· + ·) (congrArg₂ (· + ·) (ld_slot _ _ (by decide) a b) (ld_slot _ _ (by decide) a b)) (ld_slot _ _ (by decide) a b)) (ld_slot _ _ (by decide) a b))

theorem g_final (c : Dev nD) : (dats m 0 c).arrAt 5 cfg0.N = gArr (Own m c) (Sib m c) (m ((c.tc : Thread nD τ).loc main_arg5)) := by
  refine (dats m 0 c).arrAt_eq_of_coversWhere_of_agree 5 _ (fun β => β (0 : Fin _) = 0) (by decide +kernel) (fun t hf y => ?_) (fun j hj => ?_)
  · blk_simp
    rw [after0_5]
    simp only [outsAt0]
    frame_out
    obtain ⟨a, b, rfl⟩ : ∃ (a : Fin 128) (b : Fin 512), y = ix3 0 a b := ix3_of y
    refine (?_ : _ = gArr (Own m c) (Sib m c) (m ((c.tc : Thread nD τ).loc main_arg5)) (ix3 0 (row t a) b)).trans (congrArg (gArr (Own m c) (Sib m c) (m ((c.tc : Thread nD τ).loc main_arg5))) (emb5 t a b).symm)
    rw [castG]
    exact gAt m c t a b
  · blk_simp [Pipeline.Window.cell_apply] at hj
    have h : ¬ (j 0).val = 0 := fun h => hj (by omega)
    exact (if_neg h).symm

theorem d_final (c : Dev nD) : (dats m 0 c).arrAt 6 cfg0.N = dArr (Own m c) (Sib m c) (W m c) (M m c) (N m c) (m ((c.tc : Thread nD τ).loc main_arg6)) := by
  refine (dats m 0 c).arrAt_eq_of_coversWhere_of_agree 6 _ (fun β => β (0 : Fin _) = 0) (by decide +kernel) (fun t hf y => ?_) (fun j hj => ?_)
  · blk_simp
    rw [after0_6]
    simp only [outsAt0]
    frame_out
    obtain ⟨a, b, rfl⟩ : ∃ (a : Fin 128) (b : Fin 512), y = ix3 0 a b := ix3_of y
    refine (?_ : _ = dArr (Own m c) (Sib m c) (W m c) (M m c) (N m c) (m ((c.tc : Thread nD τ).loc main_arg6)) (ix3 0 (row t a) b)).trans (congrArg (dArr (Own m c) (Sib m c) (W m c) (M m c) (N m c) (m ((c.tc : Thread nD τ).loc main_arg6))) (emb6 t a b).symm)
    refine (tileD _ _ _ _ a b).trans ?_
    have e : ∀ w p q g w' p' q' g' : EReal, w = w' → p = p' → q = q' → g = g' → step w p q g = step w' p' q' g' := by
      rintro _ _ _ _ _ _ _ _ rfl rfl rfl rfl; rfl
    exact e _ _ _ _ _ _ _ _ (blk0 m c t a b) (blk1 m c t a b) (blk2 m c t a b) (gAt m c t a b)
  · blk_simp [Pipeline.Window.cell_apply] at hj
    have h : ¬ (j 0).val = 0 := fun h => hj (by omega)
    exact (if_neg h).symm

theorem m_final (c : Dev nD) : (dats m 0 c).arrAt 7 cfg0.N = mArr (Own m c) (Sib m c) (M m c) (m ((c.tc : Thread nD τ).loc main_arg7)) := by
  refine (dats m 0 c).arrAt_eq_of_coversWhere_of_agree 7 _ (fun β => β (0 : Fin _) = 0) (by decide +kernel) (fun t hf y => ?_) (fun j hj => ?_)
  · blk_simp
    rw [after0_7]
    simp only [outsAt0]
    frame_out
    obtain ⟨a, b, rfl⟩ : ∃ (a : Fin 128) (b : Fin 512), y = ix3 0 a b := ix3_of y
    refine (?_ : _ = mArr (Own m c) (Sib m c) (M m c) (m ((c.tc : Thread nD τ).loc main_arg7)) (ix3 0 (row t a) b)).trans (congrArg (mArr (Own m c) (Sib m c) (M m c) (m ((c.tc : Thread nD τ).loc main_arg7))) (emb7 t a b).symm)
    rw [castM, tileM]
    exact congrArg₂ mNew (blk1 m c t a b) (gAt m c t a b)
  · blk_simp [Pipeline.Window.cell_apply] at hj
    have h : ¬ (j 0).val = 0 := fun h => hj (by omega)
    exact (if_neg h).symm

theorem v_final (c : Dev nD) : (dats m 0 c).arrAt 8 cfg0.N = vArr (Own m c) (Sib m c) (N m c) (m ((c.tc : Thread nD τ).loc main_arg8)) := by
  refine (dats m 0 c).arrAt_eq_of_coversWhere_of_agree 8 _ (fun β => β (0 : Fin _) = 0) (by decide +kernel) (fun t hf y => ?_) (fun j hj => ?_)
  · blk_simp
    rw [after0_8]
    simp only [outsAt0]
    frame_out
    obtain ⟨a, b, rfl⟩ : ∃ (a : Fin 128) (b : Fin 512), y = ix3 0 a b := ix3_of y
    refine (?_ : _ = vArr (Own m c) (Sib m c) (N m c) (m ((c.tc : Thread nD τ).loc main_arg8)) (ix3 0 (row t a) b)).trans (congrArg (vArr (Own m c) (Sib m c) (N m c) (m ((c.tc : Thread nD τ).loc main_arg8))) (emb8 t a b).symm)
    rw [castV, tileV]
    exact congrArg₂ vNew (blk2 m c t a b) (gAt m c t a b)
  · blk_simp [Pipeline.Window.cell_apply] at hj
    have h : ¬ (j 0).val = 0 := fun h => hj (by omega)
    exact (if_neg h).symm

/-- An array whose first layer is new and whose other layers are the old one's. -/
theorem pick (i : S4x128x512.Idx) (x : EReal) (old : S4x128x512.Idx → EReal) :
    (if h : (i 0).val < 1 then x else old (ix3 ⟨1 + ((i 0).val - 1), by have : (i 0).val < 4 := (i 0).isLt; omega⟩ (i 1) (i 2))) = if (i 0).val = 0 then x else old i := by
  by_cases h : (i 0).val = 0
  · rw [dif_pos (by omega), if_pos h]
  · rw [dif_neg (by omega), if_neg h]
    refine congrArg old ?_
    funext k
    fin_cases k
    · exact Fin.ext (show 1 + ((i 0).val - 1) = (i 0).val by omega)
    · rfl
    · rfl

/-- The step of this weight is the reference's. -/
theorem claim : Cert.algebraic_BigGluIdeal_BigGluRefIdeal := by
  intro m ρ m' ρ' _ agree
  refine ⟨_, _, _, _, Cert.BigGluIdeal.Value.run_blocks m ρ, ?_⟩
  refine (θ_run _ _ _).mono (fun r h c => ?_) (Cert.BigGluRefIdeal.Value.run m' ρ')
  obtain ⟨h0, h1, h2, h3, h4⟩ := h c
  obtain ⟨a0, a1, a2, a3, a4, a5, a6, a7, a8⟩ := agree c
  refine ⟨h0.trans ?_, h1.trans ?_, h2.trans ?_, h3.trans ?_, h4⟩
  · rw [a3, a4, a5]; refine Eq.trans ?_ (g_final m c).symm; funext i; pointwise [gArr, gSum]
    exact pick _ _ _
  · rw [a0, a1, a2, a3, a4, a6]; refine Eq.trans ?_ (d_final m c).symm; funext i; pointwise [dArr, step, delta, mNew, vNew, gSum]
    exact pick _ _ _
  · rw [a1, a3, a4, a7]; refine Eq.trans ?_ (m_final m c).symm; funext i; pointwise [mArr, mNew, gSum]
    exact pick _ _ _
  · rw [a2, a3, a4, a8]; refine Eq.trans ?_ (v_final m c).symm; funext i; pointwise [vArr, vNew, gSum]
    exact pick _ _ _

end Cert.BigGluIdeal.Step
-- ==== Proof.BigBranch.lean ====
/- The AdamW step of a large weight, one layer's call (BigBranch). -/
module

public import proofs.«01_k».proof.Defs
public import proofs.«01_k».proof.Proof.AdamW
public import proofs.«01_k».proof.Proof.Gen.BigBranchIdeal.Value
public import proofs.«01_k».proof.Proof.Gen.BigBranchRefIdeal.Run
public import Idealize.ShloMosaic.Lib.Pipeline.ValueKit

@[expose] public section

set_option maxRecDepth 16384

noncomputable section

namespace Cert.BigBranchIdeal.Step

open Cert.BigBranchIdeal Cert.BigBranchIdeal.Gen Cert.BigBranchIdeal.Value Cert.AdamW Idealize.ShloMosaic Idealize.ShloMosaic.TcCoe
open Idealize.SL.Sem

variable (m : (ℓ : Loc nD τ sig) → Buf (Elt Ideal) ℓ)

abbrev W (c : Dev nD) : Vec Ideal S4x512x256 .f32 := m ((c.tc : Thread nD τ).loc main_arg0)
abbrev M (c : Dev nD) : Vec Ideal S4x512x256 .f32 := m ((c.tc : Thread nD τ).loc main_arg1)
abbrev N (c : Dev nD) : Vec Ideal S4x512x256 .f32 := m ((c.tc : Thread nD τ).loc main_arg2)
abbrev Own (c : Dev nD) : Vec Ideal S4x512x256 .bf16 := m ((c.tc : Thread nD τ).loc main_arg3)
abbrev Sib (c : Dev nD) : Vec Ideal S4x512x256 .bf16 := m ((c.tc : Thread nD τ).loc main_arg4)

theorem tiles : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] ∧ win0_8.index t = ![0, t.val, 0] ∧ t.val < 4 :=
  (by decide +kernel : ∀ t : Fin grid0.N, _)

/-- The layer's gradient: the sum of the slots of both cores. -/
def gSum (own sib : Vec Ideal S4x512x256 .bf16) (a : Fin 512) (b : Fin 256) : EReal :=
  (∑ s : Fin 4, own (ix3 s a b)) + ∑ s : Fin 4, sib (ix3 s a b)

def gArr (own sib : Vec Ideal S4x512x256 .bf16) (old : Vec Ideal S4x512x256 .f32) : Vec Ideal S4x512x256 .f32 :=
  fun i => if (i 0).val = 0 then gSum own sib (i 1) (i 2) else old i
def mArr (own sib : Vec Ideal S4x512x256 .bf16) (p old : Vec Ideal S4x512x256 .f32) : Vec Ideal S4x512x256 .f32 :=
  fun i => if (i 0).val = 0 then mNew (p (ix3 0 (i 1) (i 2))) (gSum own sib (i 1) (i 2)) else old i
def vArr (own sib : Vec Ideal S4x512x256 .bf16) (q old : Vec Ideal S4x512x256 .f32) : Vec Ideal S4x512x256 .f32 :=
  fun i => if (i 0).val = 0 then vNew (q (ix3 0 (i 1) (i 2))) (gSum own sib (i 1) (i 2)) else old i
def dArr (own sib : Vec Ideal S4x512x256 .bf16) (w p q old : Vec Ideal S4x512x256 .f32) : Vec Ideal S4x512x256 .f32 :=
  fun i => if (i 0).val = 0 then step (w (ix3 0 (i 1) (i 2))) (p (ix3 0 (i 1) (i 2))) (q (ix3 0 (i 1) (i 2))) (gSum own sib (i 1) (i 2)) else old i

theorem tileG (a0 b0 a1 b1 a2 b2 a3 b3 j) : k0_pay3 (F := Ideal) a0 b0 a1 b1 a2 b2 a3 b3 j =
    (a0 (ix3 0 (j 0) (j 1)) + a1 (ix3 0 (j 0) (j 1)) + a2 (ix3 0 (j 0) (j 1)) + a3 (ix3 0 (j 0) (j 1))
      + (b0 (ix3 0 (j 0) (j 1)) + b1 (ix3 0 (j 0) (j 1)) + b2 (ix3 0 (j 0) (j 1)) + b3 (ix3 0 (j 0) (j 1))) : EReal) := by
  pointwise [k0_pay3]

theorem tileM (g p j) : k0_pay4 (F := Ideal) g p j = mNew (p (ix3 0 (j 0) (j 1))) (g j) := by pointwise [k0_pay4, mNew]
theorem tileV (g q j) : k0_pay5 (F := Ideal) g q j = vNew (q (ix3 0 (j 0) (j 1))) (g j) := by pointwise [k0_pay5, vNew]
theorem castM (x j) : k0_pay1 (F := Ideal) x j = x (ix2 (j 1) (j 2)) := by pointwise [k0_pay1]
theorem castV (x j) : k0_pay2 (F := Ideal) x j = x (ix2 (j 1) (j 2)) := by pointwise [k0_pay2]
theorem castG (x j) : k0_pay6 (F := Ideal) x j = x (ix2 (j 1) (j 2)) := by pointwise [k0_pay6]
theorem tileD (g w p q) (a : Fin 128) (b : Fin 256) : k0_pay7 (F := Ideal) g w p q (ix3 0 a b) =
    step (w (ix3 0 a b)) (p (ix3 0 a b)) (q (ix3 0 a b)) (g (ix2 a b)) := by
  pointwise [k0_pay7, k0_pay4, k0_pay5, step, delta, mNew, vNew]

def row (t : Fin cfg0.N) (a : Fin 128) : Fin 512 := ⟨t.val * 128 + a.val, by have := (tiles t).2.2.2.2.2.2.2.2.2; omega⟩

theorem blk0 (c : Dev nD) (t : Fin cfg0.N) (a : Fin 128) (b : Fin 256) : iblk m c 0 t (ix3 0 a b) = W m c (ix3 0 (row t a) b) := by
  blk_point [iblk, V, tiles t, row]
theorem blk1 (c : Dev nD) (t : Fin cfg0.N) (a : Fin 128) (b : Fin 256) : iblk m c 1 t (ix3 0 a b) = M m c (ix3 0 (row t a) b) := by
  blk_point [iblk, V, tiles t, row]
theorem blk2 (c : Dev nD) (t : Fin cfg0.N) (a : Fin 128) (b : Fin 256) : iblk m c 2 t (ix3 0 a b) = N m c (ix3 0 (row t a) b) := by
  blk_point [iblk, V, tiles t, row]
theorem blk3 (c : Dev nD) (t : Fin cfg0.N) (s : Fin 4) (a : Fin 128) (b : Fin 256) : iblk m c 3 t (ix3 s a b) = Own m c (ix3 s (row t a) b) := by
  blk_point [iblk, V, tiles t, row]
theorem blk4 (c : Dev nD) (t : Fin cfg0.N) (s : Fin 4) (a : Fin 128) (b : Fin 256) : iblk m c 4 t (ix3 s a b) = Sib m c (ix3 s (row t a) b) := by
  blk_point [iblk, V, tiles t, row]
theorem emb5 (t : Fin cfg0.N) (a : Fin 128) (b : Fin 256) : (win0_5.blk t).view.emb (ix3 0 a b) = ix3 0 (row t a) b := by blk_ext [tiles t, row]
theorem emb6 (t : Fin cfg0.N) (a : Fin 128) (b : Fin 256) : (win0_6.blk t).view.emb (ix3 0 a b) = ix3 0 (row t a) b := by blk_ext [tiles t, row]
theorem emb7 (t : Fin cfg0.N) (a : Fin 128) (b : Fin 256) : (win0_7.blk t).view.emb (ix3 0 a b) = ix3 0 (row t a) b := by blk_ext [tiles t, row]
theorem emb8 (t : Fin cfg0.N) (a : Fin 128) (b : Fin 256) : (win0_8.blk t).view.emb (ix3 0 a b) = ix3 0 (row t a) b := by blk_ext [tiles t, row]

theorem ix3_of (y : S1x128x256.Idx) : ∃ (a : Fin 128) (b : Fin 256), y = ix3 0 a b :=
  ⟨y 1, y 2, by funext i; fin_cases i <;> first | rfl | exact Subsingleton.elim (α := Fin 1) _ _⟩

theorem ld_slot (X : Vec Ideal S4x128x256 .bf16) {o : ℕ} (inb) (ho : o < 4) (a : Fin 128) (b : Fin 256) :
    View.ld X (Rect.unit ![o, 0, 0] ![1, 128, 256] inb) (ix3 (0 : Fin 1) a b) = X (ix3 (⟨o, ho⟩ : Fin 4) a b) :=
  congrArg X (by
    funext i
    fin_cases i
    · exact Fin.ext (show o + 1 * 0 = o by omega)
    · exact Fin.ext (show 0 + 1 * a.val = a.val by omega)
    · exact Fin.ext (show 0 + 1 * b.val = b.val by omega))

/-- A tile of the gradient. -/
theorem gAt (c : Dev nD) (t : Fin cfg0.N) (a : Fin 128) (b : Fin 256) :
    k0_pay3 (View.ld (iblk m c 3 t) (Rect.unit ![0, 0, 0] ![1, 128, 256] inb_S4x128x256_S1x128x256_0_0_0)) (View.ld (iblk m c 4 t) (Rect.unit ![0, 0, 0] ![1, 128, 256] inb_S4x128x256_S1x128x256_0_0_0)) (View.ld (iblk m c 3 t) (Rect.unit ![1, 0, 0] ![1, 128, 256] inb_S4x128x256_S1x128x256_1_0_0)) (View.ld (iblk m c 4 t) (Rect.unit ![1, 0, 0] ![1, 128, 256] inb_S4x128x256_S1x128x256_1_0_0)) (View.ld (iblk m c 3 t) (Rect.unit ![2, 0, 0] ![1, 128, 256] inb_S4x128x256_S1x128x256_2_0_0)) (View.ld (iblk m c 4 t) (Rect.unit ![2, 0, 0] ![1, 128, 256] inb_S4x128x256_S1x128x256_2_0_0)) (View.ld (iblk m c 3 t) (Rect.unit ![3, 0, 0] ![1, 128, 256] inb_S4x128x256_S1x128x256_3_0_0)) (View.ld (iblk m c 4 t) (Rect.unit ![3, 0, 0] ![1, 128, 256] inb_S4x128x256_S1x128x256_3_0_0)) (ix2 a b) = gSum (Own m c) (Sib m c) (row t a) b := by
  rw [tileG]
  unfold gSum
  rw [Fin.sum_univ_four, Fin.sum_univ_four, ← blk3, ← blk3, ← blk3, ← blk3, ← blk4, ← blk4, ← blk4, ← blk4]
  exact congrArg₂ (· + ·) (congrArg₂ (· + ·) (congrArg₂ (· + ·) (congrArg₂ (· + ·) (ld_slot _ _ (by decide) a b) (ld_slot _ _ (by decide) a b)) (ld_slot _ _ (by decide) a b)) (ld_slot _ _ (by decide) a b))
    (congrArg₂ (· + ·) (congrArg₂ (· + ·) (congrArg₂ (· + ·) (ld_slot _ _ (by decide) a b) (ld_slot _ _ (by decide) a b)) (ld_slot _ _ (by decide) a b)) (ld_slot _ _ (by decide) a b))

theorem g_final (c : Dev nD) : (dats m 0 c).arrAt 5 cfg0.N = gArr (Own m c) (Sib m c) (m ((c.tc : Thread nD τ).loc main_arg5)) := by
  refine (dats m 0 c).arrAt_eq_of_coversWhere_of_agree 5 _ (fun β => β (0 : Fin _) = 0) (by decide +kernel) (fun t hf y => ?_) (fun j hj => ?_)
  · blk_simp
    rw [after0_5]
    simp only [outsAt0]
    frame_out
    obtain ⟨a, b, rfl⟩ : ∃ (a : Fin 128) (b : Fin 256), y = ix3 0 a b := ix3_of y
    refine (?_ : _ = gArr (Own m c) (Sib m c) (m ((c.tc : Thread nD τ).loc main_arg5)) (ix3 0 (row t a) b)).trans (congrArg (gArr (Own m c) (Sib m c) (m ((c.tc : Thread nD τ).loc main_arg5))) (emb5 t a b).symm)
    rw [castG]
    exact gAt m c t a b
  · blk_simp [Pipeline.Window.cell_apply] at hj
    have h : ¬ (j 0).val = 0 := fun h => hj (by omega)
    exact (if_neg h).symm

theorem d_final (c : Dev nD) : (dats m 0 c).arrAt 6 cfg0.N = dArr (Own m c) (Sib m c) (W m c) (M m c) (N m c) (m ((c.tc : Thread nD τ).loc main_arg6)) := by
  refine (dats m 0 c).arrAt_eq_of_coversWhere_of_agree 6 _ (fun β => β (0 : Fin _) = 0) (by decide +kernel) (fun t hf y => ?_) (fun j hj => ?_)
  · blk_simp
    rw [after0_6]
    simp only [outsAt0]
    frame_out
    obtain ⟨a, b, rfl⟩ : ∃ (a : Fin 128) (b : Fin 256), y = ix3 0 a b := ix3_of y
    refine (?_ : _ = dArr (Own m c) (Sib m c) (W m c) (M m c) (N m c) (m ((c.tc : Thread nD τ).loc main_arg6)) (ix3 0 (row t a) b)).trans (congrArg (dArr (Own m c) (Sib m c) (W m c) (M m c) (N m c) (m ((c.tc : Thread nD τ).loc main_arg6))) (emb6 t a b).symm)
    refine (tileD _ _ _ _ a b).trans ?_
    have e : ∀ w p q g w' p' q' g' : EReal, w = w' → p = p' → q = q' → g = g' → step w p q g = step w' p' q' g' := by
      rintro _ _ _ _ _ _ _ _ rfl rfl rfl rfl; rfl
    exact e _ _ _ _ _ _ _ _ (blk0 m c t a b) (blk1 m c t a b) (blk2 m c t a b) (gAt m c t a b)
  · blk_simp [Pipeline.Window.cell_apply] at hj
    have h : ¬ (j 0).val = 0 := fun h => hj (by omega)
    exact (if_neg h).symm

theorem m_final (c : Dev nD) : (dats m 0 c).arrAt 7 cfg0.N = mArr (Own m c) (Sib m c) (M m c) (m ((c.tc : Thread nD τ).loc main_arg7)) := by
  refine (dats m 0 c).arrAt_eq_of_coversWhere_of_agree 7 _ (fun β => β (0 : Fin _) = 0) (by decide +kernel) (fun t hf y => ?_) (fun j hj => ?_)
  · blk_simp
    rw [after0_7]
    simp only [outsAt0]
    frame_out
    obtain ⟨a, b, rfl⟩ : ∃ (a : Fin 128) (b : Fin 256), y = ix3 0 a b := ix3_of y
    refine (?_ : _ = mArr (Own m c) (Sib m c) (M m c) (m ((c.tc : Thread nD τ).loc main_arg7)) (ix3 0 (row t a) b)).trans (congrArg (mArr (Own m c) (Sib m c) (M m c) (m ((c.tc : Thread nD τ).loc main_arg7))) (emb7 t a b).symm)
    rw [castM, tileM]
    exact congrArg₂ mNew (blk1 m c t a b) (gAt m c t a b)
  · blk_simp [Pipeline.Window.cell_apply] at hj
    have h : ¬ (j 0).val = 0 := fun h => hj (by omega)
    exact (if_neg h).symm

theorem v_final (c : Dev nD) : (dats m 0 c).arrAt 8 cfg0.N = vArr (Own m c) (Sib m c) (N m c) (m ((c.tc : Thread nD τ).loc main_arg8)) := by
  refine (dats m 0 c).arrAt_eq_of_coversWhere_of_agree 8 _ (fun β => β (0 : Fin _) = 0) (by decide +kernel) (fun t hf y => ?_) (fun j hj => ?_)
  · blk_simp
    rw [after0_8]
    simp only [outsAt0]
    frame_out
    obtain ⟨a, b, rfl⟩ : ∃ (a : Fin 128) (b : Fin 256), y = ix3 0 a b := ix3_of y
    refine (?_ : _ = vArr (Own m c) (Sib m c) (N m c) (m ((c.tc : Thread nD τ).loc main_arg8)) (ix3 0 (row t a) b)).trans (congrArg (vArr (Own m c) (Sib m c) (N m c) (m ((c.tc : Thread nD τ).loc main_arg8))) (emb8 t a b).symm)
    rw [castV, tileV]
    exact congrArg₂ vNew (blk2 m c t a b) (gAt m c t a b)
  · blk_simp [Pipeline.Window.cell_apply] at hj
    have h : ¬ (j 0).val = 0 := fun h => hj (by omega)
    exact (if_neg h).symm

/-- An array whose first layer is new and whose other layers are the old one's. -/
theorem pick (i : S4x512x256.Idx) (x : EReal) (old : S4x512x256.Idx → EReal) :
    (if h : (i 0).val < 1 then x else old (ix3 ⟨1 + ((i 0).val - 1), by have : (i 0).val < 4 := (i 0).isLt; omega⟩ (i 1) (i 2))) = if (i 0).val = 0 then x else old i := by
  by_cases h : (i 0).val = 0
  · rw [dif_pos (by omega), if_pos h]
  · rw [dif_neg (by omega), if_neg h]
    refine congrArg old ?_
    funext k
    fin_cases k
    · exact Fin.ext (show 1 + ((i 0).val - 1) = (i 0).val by omega)
    · rfl
    · rfl

/-- The step of this weight is the reference's. -/
theorem claim : Cert.algebraic_BigBranchIdeal_BigBranchRefIdeal := by
  intro m ρ m' ρ' _ agree
  refine ⟨_, _, _, _, Cert.BigBranchIdeal.Value.run_blocks m ρ, ?_⟩
  refine (θ_run _ _ _).mono (fun r h c => ?_) (Cert.BigBranchRefIdeal.Value.run m' ρ')
  obtain ⟨h0, h1, h2, h3, h4⟩ := h c
  obtain ⟨a0, a1, a2, a3, a4, a5, a6, a7, a8⟩ := agree c
  refine ⟨h0.trans ?_, h1.trans ?_, h2.trans ?_, h3.trans ?_, h4⟩
  · rw [a3, a4, a5]; refine Eq.trans ?_ (g_final m c).symm; funext i; pointwise [gArr, gSum]
    exact pick _ _ _
  · rw [a0, a1, a2, a3, a4, a6]; refine Eq.trans ?_ (d_final m c).symm; funext i; pointwise [dArr, step, delta, mNew, vNew, gSum]
    exact pick _ _ _
  · rw [a1, a3, a4, a7]; refine Eq.trans ?_ (m_final m c).symm; funext i; pointwise [mArr, mNew, gSum]
    exact pick _ _ _
  · rw [a2, a3, a4, a8]; refine Eq.trans ?_ (v_final m c).symm; funext i; pointwise [vArr, vNew, gSum]
    exact pick _ _ _

end Cert.BigBranchIdeal.Step
-- ==== Proof.BigOut.lean ====
/- The AdamW step of a large weight, one layer's call (BigOut). -/
module

public import proofs.«01_k».proof.Defs
public import proofs.«01_k».proof.Proof.AdamW
public import proofs.«01_k».proof.Proof.Gen.BigOutIdeal.Value
public import proofs.«01_k».proof.Proof.Gen.BigOutRefIdeal.Run
public import Idealize.ShloMosaic.Lib.Pipeline.ValueKit

@[expose] public section

set_option maxRecDepth 16384

noncomputable section

namespace Cert.BigOutIdeal.Step

open Cert.BigOutIdeal Cert.BigOutIdeal.Gen Cert.BigOutIdeal.Value Cert.AdamW Idealize.ShloMosaic Idealize.ShloMosaic.TcCoe
open Idealize.SL.Sem

variable (m : (ℓ : Loc nD τ sig) → Buf (Elt Ideal) ℓ)

abbrev W (c : Dev nD) : Vec Ideal S4x256x1024 .f32 := m ((c.tc : Thread nD τ).loc main_arg0)
abbrev M (c : Dev nD) : Vec Ideal S4x256x1024 .f32 := m ((c.tc : Thread nD τ).loc main_arg1)
abbrev N (c : Dev nD) : Vec Ideal S4x256x1024 .f32 := m ((c.tc : Thread nD τ).loc main_arg2)
abbrev Own (c : Dev nD) : Vec Ideal S4x256x1024 .bf16 := m ((c.tc : Thread nD τ).loc main_arg3)
abbrev Sib (c : Dev nD) : Vec Ideal S4x256x1024 .bf16 := m ((c.tc : Thread nD τ).loc main_arg4)

theorem tiles : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] ∧ win0_8.index t = ![0, t.val, 0] ∧ t.val < 2 :=
  (by decide +kernel : ∀ t : Fin grid0.N, _)

/-- The layer's gradient: the sum of the slots of both cores. -/
def gSum (own sib : Vec Ideal S4x256x1024 .bf16) (a : Fin 256) (b : Fin 1024) : EReal :=
  (∑ s : Fin 4, own (ix3 s a b)) + ∑ s : Fin 4, sib (ix3 s a b)

def gArr (own sib : Vec Ideal S4x256x1024 .bf16) (old : Vec Ideal S4x256x1024 .f32) : Vec Ideal S4x256x1024 .f32 :=
  fun i => if (i 0).val = 0 then gSum own sib (i 1) (i 2) else old i
def mArr (own sib : Vec Ideal S4x256x1024 .bf16) (p old : Vec Ideal S4x256x1024 .f32) : Vec Ideal S4x256x1024 .f32 :=
  fun i => if (i 0).val = 0 then mNew (p (ix3 0 (i 1) (i 2))) (gSum own sib (i 1) (i 2)) else old i
def vArr (own sib : Vec Ideal S4x256x1024 .bf16) (q old : Vec Ideal S4x256x1024 .f32) : Vec Ideal S4x256x1024 .f32 :=
  fun i => if (i 0).val = 0 then vNew (q (ix3 0 (i 1) (i 2))) (gSum own sib (i 1) (i 2)) else old i
def dArr (own sib : Vec Ideal S4x256x1024 .bf16) (w p q old : Vec Ideal S4x256x1024 .f32) : Vec Ideal S4x256x1024 .f32 :=
  fun i => if (i 0).val = 0 then step (w (ix3 0 (i 1) (i 2))) (p (ix3 0 (i 1) (i 2))) (q (ix3 0 (i 1) (i 2))) (gSum own sib (i 1) (i 2)) else old i

theorem tileG (a0 b0 a1 b1 a2 b2 a3 b3 j) : k0_pay3 (F := Ideal) a0 b0 a1 b1 a2 b2 a3 b3 j =
    (a0 (ix3 0 (j 0) (j 1)) + a1 (ix3 0 (j 0) (j 1)) + a2 (ix3 0 (j 0) (j 1)) + a3 (ix3 0 (j 0) (j 1))
      + (b0 (ix3 0 (j 0) (j 1)) + b1 (ix3 0 (j 0) (j 1)) + b2 (ix3 0 (j 0) (j 1)) + b3 (ix3 0 (j 0) (j 1))) : EReal) := by
  pointwise [k0_pay3]

theorem tileM (g p j) : k0_pay4 (F := Ideal) g p j = mNew (p (ix3 0 (j 0) (j 1))) (g j) := by pointwise [k0_pay4, mNew]
theorem tileV (g q j) : k0_pay5 (F := Ideal) g q j = vNew (q (ix3 0 (j 0) (j 1))) (g j) := by pointwise [k0_pay5, vNew]
theorem castM (x j) : k0_pay1 (F := Ideal) x j = x (ix2 (j 1) (j 2)) := by pointwise [k0_pay1]
theorem castV (x j) : k0_pay2 (F := Ideal) x j = x (ix2 (j 1) (j 2)) := by pointwise [k0_pay2]
theorem castG (x j) : k0_pay6 (F := Ideal) x j = x (ix2 (j 1) (j 2)) := by pointwise [k0_pay6]
theorem tileD (g w p q) (a : Fin 128) (b : Fin 1024) : k0_pay7 (F := Ideal) g w p q (ix3 0 a b) =
    step (w (ix3 0 a b)) (p (ix3 0 a b)) (q (ix3 0 a b)) (g (ix2 a b)) := by
  pointwise [k0_pay7, k0_pay4, k0_pay5, step, delta, mNew, vNew]

def row (t : Fin cfg0.N) (a : Fin 128) : Fin 256 := ⟨t.val * 128 + a.val, by have := (tiles t).2.2.2.2.2.2.2.2.2; omega⟩

theorem blk0 (c : Dev nD) (t : Fin cfg0.N) (a : Fin 128) (b : Fin 1024) : iblk m c 0 t (ix3 0 a b) = W m c (ix3 0 (row t a) b) := by
  blk_point [iblk, V, tiles t, row]
theorem blk1 (c : Dev nD) (t : Fin cfg0.N) (a : Fin 128) (b : Fin 1024) : iblk m c 1 t (ix3 0 a b) = M m c (ix3 0 (row t a) b) := by
  blk_point [iblk, V, tiles t, row]
theorem blk2 (c : Dev nD) (t : Fin cfg0.N) (a : Fin 128) (b : Fin 1024) : iblk m c 2 t (ix3 0 a b) = N m c (ix3 0 (row t a) b) := by
  blk_point [iblk, V, tiles t, row]
theorem blk3 (c : Dev nD) (t : Fin cfg0.N) (s : Fin 4) (a : Fin 128) (b : Fin 1024) : iblk m c 3 t (ix3 s a b) = Own m c (ix3 s (row t a) b) := by
  blk_point [iblk, V, tiles t, row]
theorem blk4 (c : Dev nD) (t : Fin cfg0.N) (s : Fin 4) (a : Fin 128) (b : Fin 1024) : iblk m c 4 t (ix3 s a b) = Sib m c (ix3 s (row t a) b) := by
  blk_point [iblk, V, tiles t, row]
theorem emb5 (t : Fin cfg0.N) (a : Fin 128) (b : Fin 1024) : (win0_5.blk t).view.emb (ix3 0 a b) = ix3 0 (row t a) b := by blk_ext [tiles t, row]
theorem emb6 (t : Fin cfg0.N) (a : Fin 128) (b : Fin 1024) : (win0_6.blk t).view.emb (ix3 0 a b) = ix3 0 (row t a) b := by blk_ext [tiles t, row]
theorem emb7 (t : Fin cfg0.N) (a : Fin 128) (b : Fin 1024) : (win0_7.blk t).view.emb (ix3 0 a b) = ix3 0 (row t a) b := by blk_ext [tiles t, row]
theorem emb8 (t : Fin cfg0.N) (a : Fin 128) (b : Fin 1024) : (win0_8.blk t).view.emb (ix3 0 a b) = ix3 0 (row t a) b := by blk_ext [tiles t, row]

theorem ix3_of (y : S1x128x1024.Idx) : ∃ (a : Fin 128) (b : Fin 1024), y = ix3 0 a b :=
  ⟨y 1, y 2, by funext i; fin_cases i <;> first | rfl | exact Subsingleton.elim (α := Fin 1) _ _⟩

theorem ld_slot (X : Vec Ideal S4x128x1024 .bf16) {o : ℕ} (inb) (ho : o < 4) (a : Fin 128) (b : Fin 1024) :
    View.ld X (Rect.unit ![o, 0, 0] ![1, 128, 1024] inb) (ix3 (0 : Fin 1) a b) = X (ix3 (⟨o, ho⟩ : Fin 4) a b) :=
  congrArg X (by
    funext i
    fin_cases i
    · exact Fin.ext (show o + 1 * 0 = o by omega)
    · exact Fin.ext (show 0 + 1 * a.val = a.val by omega)
    · exact Fin.ext (show 0 + 1 * b.val = b.val by omega))

/-- A tile of the gradient. -/
theorem gAt (c : Dev nD) (t : Fin cfg0.N) (a : Fin 128) (b : Fin 1024) :
    k0_pay3 (View.ld (iblk m c 3 t) (Rect.unit ![0, 0, 0] ![1, 128, 1024] inb_S4x128x1024_S1x128x1024_0_0_0)) (View.ld (iblk m c 4 t) (Rect.unit ![0, 0, 0] ![1, 128, 1024] inb_S4x128x1024_S1x128x1024_0_0_0)) (View.ld (iblk m c 3 t) (Rect.unit ![1, 0, 0] ![1, 128, 1024] inb_S4x128x1024_S1x128x1024_1_0_0)) (View.ld (iblk m c 4 t) (Rect.unit ![1, 0, 0] ![1, 128, 1024] inb_S4x128x1024_S1x128x1024_1_0_0)) (View.ld (iblk m c 3 t) (Rect.unit ![2, 0, 0] ![1, 128, 1024] inb_S4x128x1024_S1x128x1024_2_0_0)) (View.ld (iblk m c 4 t) (Rect.unit ![2, 0, 0] ![1, 128, 1024] inb_S4x128x1024_S1x128x1024_2_0_0)) (View.ld (iblk m c 3 t) (Rect.unit ![3, 0, 0] ![1, 128, 1024] inb_S4x128x1024_S1x128x1024_3_0_0)) (View.ld (iblk m c 4 t) (Rect.unit ![3, 0, 0] ![1, 128, 1024] inb_S4x128x1024_S1x128x1024_3_0_0)) (ix2 a b) = gSum (Own m c) (Sib m c) (row t a) b := by
  rw [tileG]
  unfold gSum
  rw [Fin.sum_univ_four, Fin.sum_univ_four, ← blk3, ← blk3, ← blk3, ← blk3, ← blk4, ← blk4, ← blk4, ← blk4]
  exact congrArg₂ (· + ·) (congrArg₂ (· + ·) (congrArg₂ (· + ·) (congrArg₂ (· + ·) (ld_slot _ _ (by decide) a b) (ld_slot _ _ (by decide) a b)) (ld_slot _ _ (by decide) a b)) (ld_slot _ _ (by decide) a b))
    (congrArg₂ (· + ·) (congrArg₂ (· + ·) (congrArg₂ (· + ·) (ld_slot _ _ (by decide) a b) (ld_slot _ _ (by decide) a b)) (ld_slot _ _ (by decide) a b)) (ld_slot _ _ (by decide) a b))

theorem g_final (c : Dev nD) : (dats m 0 c).arrAt 5 cfg0.N = gArr (Own m c) (Sib m c) (m ((c.tc : Thread nD τ).loc main_arg5)) := by
  refine (dats m 0 c).arrAt_eq_of_coversWhere_of_agree 5 _ (fun β => β (0 : Fin _) = 0) (by decide +kernel) (fun t hf y => ?_) (fun j hj => ?_)
  · blk_simp
    rw [after0_5]
    simp only [outsAt0]
    frame_out
    obtain ⟨a, b, rfl⟩ : ∃ (a : Fin 128) (b : Fin 1024), y = ix3 0 a b := ix3_of y
    refine (?_ : _ = gArr (Own m c) (Sib m c) (m ((c.tc : Thread nD τ).loc main_arg5)) (ix3 0 (row t a) b)).trans (congrArg (gArr (Own m c) (Sib m c) (m ((c.tc : Thread nD τ).loc main_arg5))) (emb5 t a b).symm)
    rw [castG]
    exact gAt m c t a b
  · blk_simp [Pipeline.Window.cell_apply] at hj
    have h : ¬ (j 0).val = 0 := fun h => hj (by omega)
    exact (if_neg h).symm

theorem d_final (c : Dev nD) : (dats m 0 c).arrAt 6 cfg0.N = dArr (Own m c) (Sib m c) (W m c) (M m c) (N m c) (m ((c.tc : Thread nD τ).loc main_arg6)) := by
  refine (dats m 0 c).arrAt_eq_of_coversWhere_of_agree 6 _ (fun β => β (0 : Fin _) = 0) (by decide +kernel) (fun t hf y => ?_) (fun j hj => ?_)
  · blk_simp
    rw [after0_6]
    simp only [outsAt0]
    frame_out
    obtain ⟨a, b, rfl⟩ : ∃ (a : Fin 128) (b : Fin 1024), y = ix3 0 a b := ix3_of y
    refine (?_ : _ = dArr (Own m c) (Sib m c) (W m c) (M m c) (N m c) (m ((c.tc : Thread nD τ).loc main_arg6)) (ix3 0 (row t a) b)).trans (congrArg (dArr (Own m c) (Sib m c) (W m c) (M m c) (N m c) (m ((c.tc : Thread nD τ).loc main_arg6))) (emb6 t a b).symm)
    refine (tileD _ _ _ _ a b).trans ?_
    have e : ∀ w p q g w' p' q' g' : EReal, w = w' → p = p' → q = q' → g = g' → step w p q g = step w' p' q' g' := by
      rintro _ _ _ _ _ _ _ _ rfl rfl rfl rfl; rfl
    exact e _ _ _ _ _ _ _ _ (blk0 m c t a b) (blk1 m c t a b) (blk2 m c t a b) (gAt m c t a b)
  · blk_simp [Pipeline.Window.cell_apply] at hj
    have h : ¬ (j 0).val = 0 := fun h => hj (by omega)
    exact (if_neg h).symm

theorem m_final (c : Dev nD) : (dats m 0 c).arrAt 7 cfg0.N = mArr (Own m c) (Sib m c) (M m c) (m ((c.tc : Thread nD τ).loc main_arg7)) := by
  refine (dats m 0 c).arrAt_eq_of_coversWhere_of_agree 7 _ (fun β => β (0 : Fin _) = 0) (by decide +kernel) (fun t hf y => ?_) (fun j hj => ?_)
  · blk_simp
    rw [after0_7]
    simp only [outsAt0]
    frame_out
    obtain ⟨a, b, rfl⟩ : ∃ (a : Fin 128) (b : Fin 1024), y = ix3 0 a b := ix3_of y
    refine (?_ : _ = mArr (Own m c) (Sib m c) (M m c) (m ((c.tc : Thread nD τ).loc main_arg7)) (ix3 0 (row t a) b)).trans (congrArg (mArr (Own m c) (Sib m c) (M m c) (m ((c.tc : Thread nD τ).loc main_arg7))) (emb7 t a b).symm)
    rw [castM, tileM]
    exact congrArg₂ mNew (blk1 m c t a b) (gAt m c t a b)
  · blk_simp [Pipeline.Window.cell_apply] at hj
    have h : ¬ (j 0).val = 0 := fun h => hj (by omega)
    exact (if_neg h).symm

theorem v_final (c : Dev nD) : (dats m 0 c).arrAt 8 cfg0.N = vArr (Own m c) (Sib m c) (N m c) (m ((c.tc : Thread nD τ).loc main_arg8)) := by
  refine (dats m 0 c).arrAt_eq_of_coversWhere_of_agree 8 _ (fun β => β (0 : Fin _) = 0) (by decide +kernel) (fun t hf y => ?_) (fun j hj => ?_)
  · blk_simp
    rw [after0_8]
    simp only [outsAt0]
    frame_out
    obtain ⟨a, b, rfl⟩ : ∃ (a : Fin 128) (b : Fin 1024), y = ix3 0 a b := ix3_of y
    refine (?_ : _ = vArr (Own m c) (Sib m c) (N m c) (m ((c.tc : Thread nD τ).loc main_arg8)) (ix3 0 (row t a) b)).trans (congrArg (vArr (Own m c) (Sib m c) (N m c) (m ((c.tc : Thread nD τ).loc main_arg8))) (emb8 t a b).symm)
    rw [castV, tileV]
    exact congrArg₂ vNew (blk2 m c t a b) (gAt m c t a b)
  · blk_simp [Pipeline.Window.cell_apply] at hj
    have h : ¬ (j 0).val = 0 := fun h => hj (by omega)
    exact (if_neg h).symm

/-- An array whose first layer is new and whose other layers are the old one's. -/
theorem pick (i : S4x256x1024.Idx) (x : EReal) (old : S4x256x1024.Idx → EReal) :
    (if h : (i 0).val < 1 then x else old (ix3 ⟨1 + ((i 0).val - 1), by have : (i 0).val < 4 := (i 0).isLt; omega⟩ (i 1) (i 2))) = if (i 0).val = 0 then x else old i := by
  by_cases h : (i 0).val = 0
  · rw [dif_pos (by omega), if_pos h]
  · rw [dif_neg (by omega), if_neg h]
    refine congrArg old ?_
    funext k
    fin_cases k
    · exact Fin.ext (show 1 + ((i 0).val - 1) = (i 0).val by omega)
    · rfl
    · rfl

/-- The step of this weight is the reference's. -/
theorem claim : Cert.algebraic_BigOutIdeal_BigOutRefIdeal := by
  intro m ρ m' ρ' _ agree
  refine ⟨_, _, _, _, Cert.BigOutIdeal.Value.run_blocks m ρ, ?_⟩
  refine (θ_run _ _ _).mono (fun r h c => ?_) (Cert.BigOutRefIdeal.Value.run m' ρ')
  obtain ⟨h0, h1, h2, h3, h4⟩ := h c
  obtain ⟨a0, a1, a2, a3, a4, a5, a6, a7, a8⟩ := agree c
  refine ⟨h0.trans ?_, h1.trans ?_, h2.trans ?_, h3.trans ?_, h4⟩
  · rw [a3, a4, a5]; refine Eq.trans ?_ (g_final m c).symm; funext i; pointwise [gArr, gSum]
    exact pick _ _ _
  · rw [a0, a1, a2, a3, a4, a6]; refine Eq.trans ?_ (d_final m c).symm; funext i; pointwise [dArr, step, delta, mNew, vNew, gSum]
    exact pick _ _ _
  · rw [a1, a3, a4, a7]; refine Eq.trans ?_ (m_final m c).symm; funext i; pointwise [mArr, mNew, gSum]
    exact pick _ _ _
  · rw [a2, a3, a4, a8]; refine Eq.trans ?_ (v_final m c).symm; funext i; pointwise [vArr, vNew, gSum]
    exact pick _ _ _

end Cert.BigOutIdeal.Step
-- ==== Proof.Loss.lean ====
/- The loss head: the loss and the gradient it starts the backward pass with. -/
module

public import proofs.«01_k».proof.Defs
public import proofs.«01_k».proof.Proof.Finite
public import proofs.«01_k».proof.Proof.Gen.LossIdeal.Frame
public import proofs.«01_k».proof.Proof.Gen.LossRefIdeal.Run
public import Idealize.ShloMosaic.Lib.Pipeline.ValueKit

@[expose] public section

set_option maxRecDepth 16384

noncomputable section

namespace Cert.LossIdeal.Step

open Cert.LossIdeal Cert.LossIdeal.Gen Idealize.ShloMosaic Idealize.ShloMosaic.TcCoe
open Idealize.SL.Sem

variable (m : (ℓ : Loc nD τ sig) → Buf (Elt Ideal) ℓ) (ρ : Dev nD → PrngReg)

abbrev Y (c : Dev nD) : Vec Ideal S2048x1024 .f32 := m ((c.tc : Thread nD τ).loc main_arg0)
abbrev T (c : Dev nD) : Vec Ideal S2048x1024 .f32 := m ((c.tc : Thread nD τ).loc main_arg1)

theorem tiles : ∀ t : Fin cfg0.N, win0_0.index t = ![t.val, 0] ∧ win0_1.index t = ![t.val, 0]
    ∧ win0_2.index t = ![0, 0] ∧ win0_3.index t = ![t.val, 0] ∧ t.val < 4 :=
  (by decide +kernel : ∀ t : Fin grid0.N, _)

/-- A row's mean square error. -/
def mse (y t : Vec Ideal S2048x1024 .f32) (i : Fin 2048) : EReal :=
  Ideal.div (∑ k : Fin 1024, (y (ix2 i k) - t (ix2 i k)) * (y (ix2 i k) - t (ix2 i k))) (Ideal.ofBits .f32 0x44800000#32)

def lossArr (y t : Vec Ideal S2048x1024 .f32) : Vec Ideal S8x128 .f32 :=
  fun _ => Ideal.ofBits .f32 0x3F000000#32 * ∑ i : Fin 2048, mse y t i

def dyArr (y t : Vec Ideal S2048x1024 .f32) : Vec Ideal S2048x1024 .f32 :=
  fun i => Ideal.div (y i - t i) (Ideal.ofBits .f32 0x44800000#32)

theorem tileDy (y t j) : k0_pay2 (F := Ideal) y t j = (Ideal.div (y j - t j : EReal) (Ideal.ofBits .f32 0x44800000#32) : EReal) := by
  pointwise [k0_pay2, k0_pay1]

theorem tilePart (y t j) : k0_pay3 (F := Ideal) y t j = (Ideal.ofBits .f32 0x3F000000#32 * ∑ a : Fin 512,
    Ideal.div (∑ k : Fin 1024, (y (ix2 a k) - t (ix2 a k)) * (y (ix2 a k) - t (ix2 a k)) : EReal) (Ideal.ofBits .f32 0x44800000#32) : EReal) := by
  pointwise [k0_pay3, k0_pay1]

theorem addPart (y t a j) : k0_pay4 (F := Ideal) y t a j = (a j + k0_pay3 (F := Ideal) y t j : EReal) := by pointwise [k0_pay4]

theorem one (t : Fin cfg0.N) (h : t.val % 4 = 0) : ¬1 ≤ t.val := by
  have := (tiles t).2.2.2.2
  omega

def row (t : Fin cfg0.N) (a : Fin 512) : Fin 2048 := ⟨t.val * 512 + a.val, by
  have := (tiles t).2.2.2.2
  omega⟩

theorem blk0 (c : Dev nD) (t : Fin cfg0.N) (a : Fin 512) (k : Fin 1024) :
    iblk m c 0 t (ix2 a k) = Y m c (ix2 (row t a) k) := by blk_point [iblk, V, tiles t, row]

theorem blk1 (c : Dev nD) (t : Fin cfg0.N) (a : Fin 512) (k : Fin 1024) :
    iblk m c 1 t (ix2 a k) = T m c (ix2 (row t a) k) := by blk_point [iblk, V, tiles t, row]

theorem emb3 (t : Fin cfg0.N) (a : Fin 512) (k : Fin 1024) :
    (win0_3.blk t).view.emb (ix2 a k) = ix2 (row t a) k := by blk_ext [tiles t, row]

theorem dy_final (c : Dev nD) : (dats m 0 c).arrAt 3 cfg0.N = dyArr (Y m c) (T m c) := by
  refine (dats m 0 c).arrAt_eq_of_covers 3 _ (by decide +kernel) fun t hf y => ?_
  blk_simp
  rw [after0_3]
  have e : (outsAt0 m c t.val t.isLt).2 = k0_pay2 (iblk m c 0 t) (iblk m c 1 t) := by
    by_cases h : t.val % 4 = 0
    · rw [outsAt0_A m c t h (one t h)]; frame_out
    · rw [outsAt0_B m c t h (by omega)]; frame_out
  rw [e, tileDy]
  obtain ⟨a, k, rfl⟩ : ∃ (a : Fin 512) (k : Fin 1024), y = ix2 a k := ⟨y 0, y 1, by funext i; fin_cases i <;> rfl⟩
  rw [blk0, blk1]
  exact (congrArg (dyArr (Y m c) (T m c)) (emb3 t a k)).symm

/-- A positive constant times a sum of numbers that are not negative is the sum of its products. -/
theorem mul_sum_nonneg {ι : Type} [Fintype ι] (s : EReal) (h0 : 0 ≤ s) (ht : s ≠ ⊤) (f : ι → EReal) (hf : ∀ i, 0 ≤ f i) :
    s * ∑ i, f i = ∑ i, s * f i := by
  classical
  have : ∀ S : Finset ι, s * ∑ i ∈ S, f i = ∑ i ∈ S, s * f i := fun S => by
    induction S using Finset.induction_on with
    | empty => rw [Finset.sum_empty, Finset.sum_empty, mul_zero]
    | insert a S ha ih => rw [Finset.sum_insert ha, Finset.sum_insert ha, ← ih]; exact EReal.left_distrib_of_nonneg_of_ne_top h0 ht _ _
  exact this _

theorem half : Ideal.ofBits .f32 0x3F000000#32 = (((1 / 2 : ℝ)) : EReal) := by
  simp [Ideal.ofBits, Ideal.ieee]; rw [← EReal.coe_mul]; norm_num

theorem two : Ideal.ofBits .f32 0x40000000#32 = ((2 : ℝ) : EReal) := by
  simp [Ideal.ofBits, Ideal.ieee]; rw [← EReal.coe_mul]; norm_num

theorem sq_nonneg (x : EReal) : 0 ≤ x * x := by
  rcases le_total 0 x with h | h
  · exact EReal.mul_nonneg h h
  · rw [← neg_mul_neg]
    have h' : 0 ≤ -x := EReal.neg_nonneg.mpr h
    exact EReal.mul_nonneg h' h'

theorem mse_nonneg (y t i) : 0 ≤ mse y t i := by
  unfold mse
  rw [Finite.lit_1024, Ideal.div_coe (by norm_num)]
  exact EReal.mul_nonneg (Finset.sum_nonneg fun k _ => sq_nonneg _) (EReal.coe_nonneg.mpr (by norm_num))

theorem loss_final (c : Dev nD) : (dats m 0 c).arrAt 2 cfg0.N = lossArr (Y m c) (T m c) := by
  refine (dats m 0 c).arrAt_eq_of_after_last 2 t0_3 (by decide +kernel) _ fun j => ?_
  blk_simp
  rw [after0_2, Pipeline.eq_sum_fin_of_reset_step_apply_last (fun n h => (outsAt0 m c n h).1) 4 (fun _ => (0 : EReal)) _
    (fun t h j => by rw [outsAt0_A m c t h (one t h)]; frame_out; rw [tilePart]; exact (zero_add (M := EReal) _).symm)
    (fun t h j => by rw [outsAt0_B m c t h (by omega)]; frame_out; rw [addPart, tilePart])
    (le_of_eq N_0) t0_3 rfl j]
  refine (zero_add (M := EReal) _).trans ?_
  unfold lossArr
  rw [half, mul_sum_nonneg _ (EReal.coe_nonneg.mpr (by norm_num)) (EReal.coe_ne_top _) _ (mse_nonneg _ _)]
  refine Eq.trans ?_ (Eq.trans (Fin.sum_points_lanes_congr (A := 1) (L := 2048) (M := EReal) 4
    (n := 512) (F := fun (t : Fin cfg0.N) a => (((1 / 2 : ℝ)) : EReal) * mse (Y m c) (T m c) (row t a))
    (g := fun _ l => (((1 / 2 : ℝ)) : EReal) * mse (Y m c) (T m c) l) fun t k ha hl => ?_) (Fin.sum_univ_one _))
  · refine Fin.sum_fin_congr fun t => ?_
    rw [← mul_sum_nonneg _ (EReal.coe_nonneg.mpr (by norm_num)) (EReal.coe_ne_top _) _ fun a => mse_nonneg _ _ (row t a)]
    refine congrArg _ (Fin.sum_fin_congr fun a => ?_)
    unfold mse
    have e0 := fun k => blk0 m c t a k
    have e1 := fun k => blk1 m c t a k
    generalize iblk m c 0 t = b0, iblk m c 1 t = b1 at *
    simp only [e0, e1]
  · have hr : (⟨t.val % 4 * 512 + k.val, hl⟩ : Fin 2048) = row t k := by
      have := (tiles t).2.2.2.2
      refine Fin.ext ?_
      show t.val % 4 * 512 + k.val = t.val * 512 + k.val
      omega
    rw [hr]

theorem run : θ_run defs (onTc (τ := τ) (main (F := Ideal))) ⟨m, fun _ => 0, ρ⟩ fun r => ∀ c : Dev nD,
      r.2.mem ((c : Thread nD τ).loc main_v0_0) = lossArr (Y m c) (T m c)
      ∧ r.2.mem ((c : Thread nD τ).loc main_v0_1) = dyArr (Y m c) (T m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (loss_final m c), ((h c).1 3).trans (dy_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

theorem claim : Cert.algebraic_LossIdeal_LossRefIdeal := by
  intro m ρ m' ρ' _ agree
  refine ⟨_, _, run m ρ, ?_⟩
  refine (θ_run _ _ _).mono (fun r h c => ?_) (Cert.LossRefIdeal.Value.run m' ρ')
  obtain ⟨h0, h1, h2⟩ := h c
  obtain ⟨a0, a1⟩ := agree c
  refine ⟨h0.trans ?_, h1.trans ?_, h2⟩
  · rw [a0, a1]; funext i; pointwise [lossArr, mse]
  · rw [a0, a1]; funext i; pointwise [dyArr]
    rw [half, two, Finite.lit_1024, Ideal.div_coe (by norm_num), Ideal.div_coe (by norm_num), ← mul_assoc, mul_comm]
    refine congrArg _ ?_
    rw [← EReal.coe_mul, ← EReal.coe_mul]
    norm_num

end Cert.LossIdeal.Step
-- ==== Proof.Disc.lean ====
/- The gradient of the state-space layer's discretisation. -/
module

public import proofs.«01_k».proof.Defs
public import proofs.«01_k».proof.Proof.Gen.DiscIdeal.Frame
public import proofs.«01_k».proof.Proof.Gen.DiscRefIdeal.Run
public import Idealize.ShloMosaic.Lib.Pipeline.ValueKit

@[expose] public section

set_option maxRecDepth 16384

noncomputable section

namespace Cert.DiscIdeal.Step

open Cert.DiscIdeal Cert.DiscIdeal.Gen Idealize.ShloMosaic Idealize.ShloMosaic.TcCoe
open Idealize.SL.Sem
open Cert.DiscRefIdeal.Value

variable (m' : (ℓ : Loc DiscRefIdeal.nD DiscRefIdeal.τ DiscRefIdeal.sig) → Buf (Elt Ideal) ℓ)

abbrev R0 (c : Dev DiscRefIdeal.nD) : Vec Ideal S4x32x64 .f32 := m' ((c.tc : Thread DiscRefIdeal.nD DiscRefIdeal.τ).loc DiscRefIdeal.main_arg0)
abbrev R1 (c : Dev DiscRefIdeal.nD) : Vec Ideal S4x32x64 .f32 := m' ((c.tc : Thread DiscRefIdeal.nD DiscRefIdeal.τ).loc DiscRefIdeal.main_arg1)
abbrev R2 (c : Dev DiscRefIdeal.nD) : Vec Ideal S4x32 .f32 := m' ((c.tc : Thread DiscRefIdeal.nD DiscRefIdeal.τ).loc DiscRefIdeal.main_arg2)
abbrev R3 (c : Dev DiscRefIdeal.nD) : Vec Ideal S4x32x64x16 .f32 := m' ((c.tc : Thread DiscRefIdeal.nD DiscRefIdeal.τ).loc DiscRefIdeal.main_arg3)
abbrev R4 (c : Dev DiscRefIdeal.nD) : Vec Ideal S4x32x64x16 .f32 := m' ((c.tc : Thread DiscRefIdeal.nD DiscRefIdeal.τ).loc DiscRefIdeal.main_arg4)
abbrev R5 (c : Dev DiscRefIdeal.nD) : Vec Ideal S4x32x64 .f32 := m' ((c.tc : Thread DiscRefIdeal.nD DiscRefIdeal.τ).loc DiscRefIdeal.main_arg5)
abbrev R6 (c : Dev DiscRefIdeal.nD) : Vec Ideal S4x32x64 .f32 := m' ((c.tc : Thread DiscRefIdeal.nD DiscRefIdeal.τ).loc DiscRefIdeal.main_arg6)
abbrev R7 (c : Dev DiscRefIdeal.nD) : Vec Ideal S4x32x64x16 .f32 := m' ((c.tc : Thread DiscRefIdeal.nD DiscRefIdeal.τ).loc DiscRefIdeal.main_arg7)
abbrev R8 (c : Dev DiscRefIdeal.nD) : Vec Ideal S4x32x64x16 .f32 := m' ((c.tc : Thread DiscRefIdeal.nD DiscRefIdeal.τ).loc DiscRefIdeal.main_arg8)

/-- The blocks of one point hold, in one lane, the values of one state of one group. -/
structure Lane (c : Dev DiscRefIdeal.nD) (x0 x1 x2 : Vec Ideal S1x1x512 .f32) (x3 x4 : Vec Ideal S1x16x512 .f32)
    (x5 : Vec Ideal S1x1x1024 .f32) (x6 : Vec Ideal S1x16x1024 .f32) (b : Fin 512) (d : Fin 4) (g : Fin 32) (p : Fin 64) : Prop where
  e0 : x0 (ix3 0 0 b) = R0 m' c (ix3 d g p)
  e1 : x1 (ix3 0 0 b) = R1 m' c (ix3 d g p)
  e2 : x2 (ix3 0 0 b) = R2 m' c (ix2 d g)
  e3 : ∀ h : Fin 16, x3 (ix3 0 h b) = R3 m' c (ix4 d g p h)
  e4 : ∀ h : Fin 16, x4 (ix3 0 h b) = R4 m' c (ix4 d g p h)
  e5 : x5 (ix3 0 0 ⟨b.val, by omega⟩) = R5 m' c (ix3 d g p)
  e6 : x5 (ix3 0 0 ⟨512 + b.val, by omega⟩) = R6 m' c (ix3 d g p)
  e7 : ∀ h : Fin 16, x6 (ix3 0 h ⟨b.val, by omega⟩) = R7 m' c (ix4 d g p h)
  e8 : ∀ h : Fin 16, x6 (ix3 0 h ⟨512 + b.val, by omega⟩) = R8 m' c (ix4 d g p h)

variable {m'}

theorem lane0 {c x0 x1 x2 x3 x4 x5 x6 b d g p} (H : Lane m' c x0 x1 x2 x3 x4 x5 x6 b d g p) :
    out0_7 (F := Ideal) x0 x1 x2 x3 x4 x5 x6 (ix3 0 0 b) = ((res_out0 m' c : Vec Ideal S4x32x64 .f32) (ix3 d g p) : EReal) := by
  obtain ⟨e0, e1, e2, e3, e4, e5, e6, e7, e8⟩ := H
  unfold res_out0 res_main_v141
  unfold_out out0_7
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  simp only [e0, e1, e2, e3, e4, e5, e6, e7, e8, zero_sub, Fin.sum_univ_one, add_assoc]
theorem lane1 {c x0 x1 x2 x3 x4 x5 x6 b d g p} (H : Lane m' c x0 x1 x2 x3 x4 x5 x6 b d g p) :
    out0_8 (F := Ideal) x0 x1 x2 x3 x4 x5 x6 (ix3 0 0 b) = ((res_out1 m' c : Vec Ideal S4x32x64 .f32) (ix3 d g p) : EReal) := by
  obtain ⟨e0, e1, e2, e3, e4, e5, e6, e7, e8⟩ := H
  unfold res_out1 res_main_v131
  unfold_out out0_8
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  simp only [e0, e1, e2, e3, e4, e5, e6, e7, e8, zero_sub, Fin.sum_univ_one, add_assoc]
theorem lane3 {c x0 x1 x2 x3 x4 x5 x6 b d g p} (H : Lane m' c x0 x1 x2 x3 x4 x5 x6 b d g p) (h : Fin 16) :
    out0_10 (F := Ideal) x0 x1 x2 x3 x4 x5 x6 (ix3 0 h b) = ((res_out3 m' c : Vec Ideal S4x32x64x16 .f32) (ix4 d g p h) : EReal) := by
  obtain ⟨e0, e1, e2, e3, e4, e5, e6, e7, e8⟩ := H
  unfold res_out3 res_main_v78
  unfold_out out0_10
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  simp only [e0, e1, e2, e3, e4, e5, e6, e7, e8, zero_sub, Fin.sum_univ_one, add_assoc]
theorem lane4 {c x0 x1 x2 x3 x4 x5 x6 b d g p} (H : Lane m' c x0 x1 x2 x3 x4 x5 x6 b d g p) (h : Fin 16) :
    out0_11 (F := Ideal) x0 x1 x2 x3 x4 x5 x6 (ix3 0 h b) = ((res_out4 m' c : Vec Ideal S4x32x64x16 .f32) (ix4 d g p h) : EReal) := by
  obtain ⟨e0, e1, e2, e3, e4, e5, e6, e7, e8⟩ := H
  unfold res_out4 res_main_v71
  unfold_out out0_11
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  simp only [e0, e1, e2, e3, e4, e5, e6, e7, e8, zero_sub, Fin.sum_univ_one, add_assoc]

theorem lane2 {c x0 x1 x2 x3 x4 x5 x6 d g} {b : Fin 64 → Fin 512} (H : ∀ p, Lane m' c x0 x1 x2 x3 x4 x5 x6 (b p) d g p) :
    (∑ p : Fin 64, out0_9 (F := Ideal) x0 x1 x2 x3 x4 x5 x6 (ix3 0 0 (b p)) : EReal) = ((res_out2 m' c : Vec Ideal S4x32 .f32) (ix2 d g) : EReal) := by
  unfold res_out2 res_main_v140
  unfold_out out0_9
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54]
  refine Eq.trans ?_ (Fin.sum_univ_one _).symm
  refine Fin.sum_fin_congr fun p => ?_
  obtain ⟨e0, e1, e2, e3, e4, e5, e6, e7, e8⟩ := H p
  simp only [e0, e1, e2, e3, e4, e5, e6, e7, e8, zero_sub, Fin.sum_univ_one, add_assoc]

section

variable (m : (ℓ : Loc nD τ sig) → Buf (Elt Ideal) ℓ) (ρ : Dev nD → PrngReg)

abbrev A0 (c : Dev nD) : Vec Ideal S4x32x64 .f32 := m ((c.tc : Thread nD τ).loc main_arg0)
abbrev A1 (c : Dev nD) : Vec Ideal S4x32x64 .f32 := m ((c.tc : Thread nD τ).loc main_arg1)
abbrev A2 (c : Dev nD) : Vec Ideal S4x32 .f32 := m ((c.tc : Thread nD τ).loc main_arg2)
abbrev A3 (c : Dev nD) : Vec Ideal S4x32x64x16 .f32 := m ((c.tc : Thread nD τ).loc main_arg3)
abbrev A4 (c : Dev nD) : Vec Ideal S4x32x64x16 .f32 := m ((c.tc : Thread nD τ).loc main_arg4)
abbrev A5 (c : Dev nD) : Vec Ideal S4x32x64 .f32 := m ((c.tc : Thread nD τ).loc main_arg5)
abbrev A6 (c : Dev nD) : Vec Ideal S4x32x64 .f32 := m ((c.tc : Thread nD τ).loc main_arg6)
abbrev A7 (c : Dev nD) : Vec Ideal S4x32x64x16 .f32 := m ((c.tc : Thread nD τ).loc main_arg7)
abbrev A8 (c : Dev nD) : Vec Ideal S4x32x64x16 .f32 := m ((c.tc : Thread nD τ).loc main_arg8)

theorem tiles : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![t.val, 0, 0] ∧ win0_6.index t = ![t.val, 0, 0] ∧ win0_7.index t = ![t.val, 0, 0]
    ∧ win0_8.index t = ![t.val, 0, 0] ∧ win0_9.index t = ![t.val, 0, 0] ∧ win0_10.index t = ![t.val, 0, 0]
    ∧ win0_11.index t = ![t.val, 0, 0] :=
  (by decide +kernel : ∀ t : Fin grid0.N, _)

def pt (d : Fin 4) (g : Fin 32) : Fin cfg0.N := ⟨d.val * 4 + g.val / 8, lt_of_lt_of_le (by omega : d.val * 4 + g.val / 8 < 16) (le_of_eq N_0.symm)⟩

def ln (g : Fin 32) (p : Fin 64) : Fin 512 := ⟨g.val % 8 * 64 + p.val, by omega⟩

def rows (x : Vec Ideal S4x32x64x16 .f32) : Vec Ideal S16x16x512 .f32 :=
  shapeCast S16x16x512 (transpose S4x4x16x8x64 [0, 1, 4, 2, 3] (shapeCast S4x4x8x64x16 x shapeCasts_S4x32x64x16_S4x4x8x64x16)
    transposes_S4x4x8x64x16_S4x4x16x8x64_0_1_4_2_3) shapeCasts_S4x4x16x8x64_S16x16x512

def back (x : Vec Ideal S16x16x512 .f32) : Vec Ideal S4x32x64x16 .f32 :=
  shapeCast S4x32x64x16 (transpose S4x4x8x64x16 [0, 1, 3, 4, 2] (shapeCast S4x4x16x8x64 x shapeCasts_S16x16x512_S4x4x16x8x64)
    transposes_S4x4x16x8x64_S4x4x8x64x16_0_1_3_4_2) shapeCasts_S4x4x8x64x16_S4x32x64x16

theorem v0 (c : Dev nD) : V m c main_v0 = shapeCast S16x1x512 (A0 m c) shapeCasts_S4x32x64_S16x1x512 := by
  unfold V V0
  simp only [hostOps0, List.flatten_cons, List.flatten_nil, List.append_nil, List.cons_append, List.nil_append]
  after_results_simp
  rfl

theorem v1 (c : Dev nD) : V m c main_v1 = shapeCast S16x1x512 (A1 m c) shapeCasts_S4x32x64_S16x1x512 := by
  unfold V V0
  simp only [hostOps0, List.flatten_cons, List.flatten_nil, List.append_nil, List.cons_append, List.nil_append]
  after_results_simp
  rfl

theorem v7 (c : Dev nD) : V m c main_v7 = rows (A3 m c) := by
  unfold V V0
  simp only [hostOps0, List.flatten_cons, List.flatten_nil, List.append_nil, List.cons_append, List.nil_append]
  after_results_simp
  rfl

theorem v10 (c : Dev nD) : V m c main_v10 = rows (A4 m c) := by
  unfold V V0
  simp only [hostOps0, List.flatten_cons, List.flatten_nil, List.append_nil, List.cons_append, List.nil_append]
  after_results_simp
  rfl

theorem v4 (c : Dev nD) : V m c main_v4 = shapeCast S16x1x512 (broadcastInDim S4x32x64 ![0, 1, 2] bcast_S4x32x1_S4x32x64_0_1_2 (broadcastInDim S4x32x1 ![0, 1] bcast_S4x32_S4x32x1_0_1 (A2 m c)) : Vec Ideal S4x32x64 .f32) shapeCasts_S4x32x64_S16x1x512 := by
  unfold V V0
  simp only [hostOps0, List.flatten_cons, List.flatten_nil, List.append_nil, List.cons_append, List.nil_append]
  after_results_simp
  rfl

theorem v13 (c : Dev nD) : V m c main_v13 = concatenate S16x1x1024 2 [⟨S16x1x512, shapeCast S16x1x512 (A5 m c) shapeCasts_S4x32x64_S16x1x512⟩, ⟨S16x1x512, shapeCast S16x1x512 (A6 m c) shapeCasts_S4x32x64_S16x1x512⟩] concatenates_S16x1x512_S16x1x512_S16x1x1024_d2 := by
  unfold V V0
  simp only [hostOps0, List.flatten_cons, List.flatten_nil, List.append_nil, List.cons_append, List.nil_append]
  after_results_simp
  rfl

theorem v20 (c : Dev nD) : V m c main_v20 = concatenate S16x16x1024 2 [⟨S16x16x512, rows (A7 m c)⟩, ⟨S16x16x512, rows (A8 m c)⟩] concatenates_S16x16x512_S16x16x512_S16x16x1024_d2 := by
  unfold V V0
  simp only [hostOps0, List.flatten_cons, List.flatten_nil, List.append_nil, List.cons_append, List.nil_append]
  after_results_simp
  rfl

theorem inj : Function.Injective (Pipeline.arrRef spec0) := by decide +kernel

theorem tail0 (c : Dev nD) : Pipeline.afterTail₀ cfgs (dats m) 0 (V0 m) [hostOps1] c main_v22 = (shapeCast S4x32x64 ((dats m 0 c).arrAt 7 cfg0.N) shapeCasts_S16x1x512_S4x32x64 : Vec Ideal S4x32x64 .f32) := by
  unfold Pipeline.afterTail₀
  simp only [hostOps1, List.flatten_cons, List.flatten_nil, List.append_nil, List.cons_append, List.nil_append]
  after_results_simp
  exact congrArg (fun x => shapeCast S4x32x64 x shapeCasts_S16x1x512_S4x32x64) (Pipeline.withArrays_arr spec0 inj c _ _ 7)

theorem tail1 (c : Dev nD) : Pipeline.afterTail₀ cfgs (dats m) 0 (V0 m) [hostOps1] c main_v23 = (shapeCast S4x32x64 ((dats m 0 c).arrAt 8 cfg0.N) shapeCasts_S16x1x512_S4x32x64 : Vec Ideal S4x32x64 .f32) := by
  unfold Pipeline.afterTail₀
  simp only [hostOps1, List.flatten_cons, List.flatten_nil, List.append_nil, List.cons_append, List.nil_append]
  after_results_simp
  exact congrArg (fun x => shapeCast S4x32x64 x shapeCasts_S16x1x512_S4x32x64) (Pipeline.withArrays_arr spec0 inj c _ _ 8)

theorem tail2 (c : Dev nD) : Pipeline.afterTail₀ cfgs (dats m) 0 (V0 m) [hostOps1] c main_v25 = (Host.reduceAdd (shapeCast S4x32x64 ((dats m 0 c).arrAt 9 cfg0.N) shapeCasts_S16x1x512_S4x32x64) (constant (F := Ideal) S_ .f32 0x00000000#32) reducesTo_S4x32x64_S4x32_d2 h_S_ : Vec Ideal S4x32 .f32) := by
  unfold Pipeline.afterTail₀
  simp only [hostOps1, List.flatten_cons, List.flatten_nil, List.append_nil, List.cons_append, List.nil_append]
  after_results_simp
  exact congrArg (fun x => Host.reduceAdd (shapeCast S4x32x64 x shapeCasts_S16x1x512_S4x32x64) (constant (F := Ideal) S_ .f32 0x00000000#32) reducesTo_S4x32x64_S4x32_d2 h_S_) (Pipeline.withArrays_arr spec0 inj c _ _ 9)

theorem tail3 (c : Dev nD) : Pipeline.afterTail₀ cfgs (dats m) 0 (V0 m) [hostOps1] c main_v28 = (back ((dats m 0 c).arrAt 10 cfg0.N) : Vec Ideal S4x32x64x16 .f32) := by
  unfold Pipeline.afterTail₀
  simp only [hostOps1, List.flatten_cons, List.flatten_nil, List.append_nil, List.cons_append, List.nil_append]
  after_results_simp
  exact congrArg back (Pipeline.withArrays_arr spec0 inj c _ _ 10)

theorem tail4 (c : Dev nD) : Pipeline.afterTail₀ cfgs (dats m) 0 (V0 m) [hostOps1] c main_v31 = (back ((dats m 0 c).arrAt 11 cfg0.N) : Vec Ideal S4x32x64x16 .f32) := by
  unfold Pipeline.afterTail₀
  simp only [hostOps1, List.flatten_cons, List.flatten_nil, List.append_nil, List.cons_append, List.nil_append]
  after_results_simp
  exact congrArg back (Pipeline.withArrays_arr spec0 inj c _ _ 11)

theorem N16 (t : Fin cfg0.N) : t.val < 16 := lt_of_lt_of_le t.isLt (le_of_eq N_0)

def sl (d : Fin 4) (g : Fin 32) : Fin 16 := ⟨d.val * 4 + g.val / 8, by omega⟩

theorem flat_at (x : Vec Ideal S4x32x64 .f32) (d : Fin 4) (g : Fin 32) (p : Fin 64) :
    shapeCast S16x1x512 x shapeCasts_S4x32x64_S16x1x512 (ix3 (sl d g) 0 (ln g p)) = x (ix3 d g p) := by
  pointwise [sl, ln]

theorem rows_at (x : Vec Ideal S4x32x64x16 .f32) (d : Fin 4) (g : Fin 32) (p : Fin 64) (h : Fin 16) :
    rows x (ix3 (sl d g) h (ln g p)) = x (ix4 d g p h) := by
  pointwise [rows, sl, ln]

theorem unflat_at (x : Vec Ideal S16x1x512 .f32) (d : Fin 4) (g : Fin 32) (p : Fin 64) :
    shapeCast S4x32x64 x shapeCasts_S16x1x512_S4x32x64 (ix3 d g p) = x (ix3 (sl d g) 0 (ln g p)) := by
  pointwise [sl, ln]

theorem back_at (x : Vec Ideal S16x16x512 .f32) (d : Fin 4) (g : Fin 32) (p : Fin 64) (h : Fin 16) :
    back x (ix4 d g p h) = x (ix3 (sl d g) h (ln g p)) := by
  pointwise [back, sl, ln]

theorem sum_at (x : Vec Ideal S4x32x64 .f32) (d : Fin 4) (g : Fin 32) :
    (Host.reduceAdd x (constant (F := Ideal) S_ .f32 0x00000000#32) reducesTo_S4x32x64_S4x32_d2 h_S_ : Vec Ideal S4x32 .f32) (ix2 d g)
      = (∑ p : Fin 64, x (ix3 d g p) : EReal) := by
  pointwise []

theorem emb0 (t : Fin cfg0.N) (h : Fin 1) (b : Fin 512) :
    (win0_0.blk t).view.emb (ix3 0 h b) = ix3 ⟨t.val, N16 t⟩ h b := by blk_ext [tiles t]

theorem blk0 (c : Dev nD) (d : Fin 4) (g : Fin 32) (p : Fin 64) :
    iblk m c 0 (pt d g) (ix3 0 0 (ln g p)) = A0 m c (ix3 d g p) := by
  refine (congrArg (V m c main_v0) (emb0 (pt d g) 0 (ln g p))).trans ((congrFun (v0 m c) _).trans ?_)
  exact flat_at _ d g p

theorem emb1 (t : Fin cfg0.N) (h : Fin 1) (b : Fin 512) :
    (win0_1.blk t).view.emb (ix3 0 h b) = ix3 ⟨t.val, N16 t⟩ h b := by blk_ext [tiles t]

theorem blk1 (c : Dev nD) (d : Fin 4) (g : Fin 32) (p : Fin 64) :
    iblk m c 1 (pt d g) (ix3 0 0 (ln g p)) = A1 m c (ix3 d g p) := by
  refine (congrArg (V m c main_v1) (emb1 (pt d g) 0 (ln g p))).trans ((congrFun (v1 m c) _).trans ?_)
  exact flat_at _ d g p

theorem emb2 (t : Fin cfg0.N) (h : Fin 1) (b : Fin 512) :
    (win0_2.blk t).view.emb (ix3 0 h b) = ix3 ⟨t.val, N16 t⟩ h b := by blk_ext [tiles t]

theorem blk2 (c : Dev nD) (d : Fin 4) (g : Fin 32) (p : Fin 64) :
    iblk m c 2 (pt d g) (ix3 0 0 (ln g p)) = A2 m c (ix2 d g) := by
  refine (congrArg (V m c main_v4) (emb2 (pt d g) 0 (ln g p))).trans ((congrFun (v4 m c) _).trans ?_)
  refine (flat_at _ d g p).trans ?_
  pointwise []

theorem emb3 (t : Fin cfg0.N) (h : Fin 16) (b : Fin 512) :
    (win0_3.blk t).view.emb (ix3 0 h b) = ix3 ⟨t.val, N16 t⟩ h b := by blk_ext [tiles t]

theorem blk3 (c : Dev nD) (d : Fin 4) (g : Fin 32) (p : Fin 64) (h : Fin 16) :
    iblk m c 3 (pt d g) (ix3 0 h (ln g p)) = A3 m c (ix4 d g p h) := by
  refine (congrArg (V m c main_v7) (emb3 (pt d g) h (ln g p))).trans ((congrFun (v7 m c) _).trans ?_)
  exact rows_at _ d g p h

theorem emb4 (t : Fin cfg0.N) (h : Fin 16) (b : Fin 512) :
    (win0_4.blk t).view.emb (ix3 0 h b) = ix3 ⟨t.val, N16 t⟩ h b := by blk_ext [tiles t]

theorem blk4 (c : Dev nD) (d : Fin 4) (g : Fin 32) (p : Fin 64) (h : Fin 16) :
    iblk m c 4 (pt d g) (ix3 0 h (ln g p)) = A4 m c (ix4 d g p h) := by
  refine (congrArg (V m c main_v10) (emb4 (pt d g) h (ln g p))).trans ((congrFun (v10 m c) _).trans ?_)
  exact rows_at _ d g p h

theorem emb5 (t : Fin cfg0.N) (h : Fin 1) (b : Fin 1024) :
    (win0_5.blk t).view.emb (ix3 0 h b) = ix3 ⟨t.val, N16 t⟩ h b := by blk_ext [tiles t]

theorem cat5 (x y : Vec Ideal S16x1x512 .f32) (n : Fin 16) (h : Fin 1) (b : Fin 512) :
    concatenate S16x1x1024 2 [⟨S16x1x512, x⟩, ⟨S16x1x512, y⟩] concatenates_S16x1x512_S16x1x512_S16x1x1024_d2 (ix3 n h ⟨b.val, by omega⟩) = x (ix3 n h b)
    ∧ concatenate S16x1x1024 2 [⟨S16x1x512, x⟩, ⟨S16x1x512, y⟩] concatenates_S16x1x512_S16x1x512_S16x1x1024_d2 (ix3 n h ⟨512 + b.val, by omega⟩) = y (ix3 n h b) := by
  obtain rfl : h = 0 := Subsingleton.elim _ _
  constructor
  · pointwise []
  · pointwise []

theorem blk5 (c : Dev nD) (d : Fin 4) (g : Fin 32) (p : Fin 64)  :
    iblk m c 5 (pt d g) (ix3 0 0 ⟨(ln g p).val, by omega⟩) = A5 m c (ix3 d g p) := by
  refine (congrArg (V m c main_v13) (emb5 (pt d g) 0 _)).trans ((congrFun (v13 m c) _).trans ?_)
  exact (cat5 _ _ (sl d g) 0 (ln g p)).1.trans (flat_at _ d g p)

theorem blk6 (c : Dev nD) (d : Fin 4) (g : Fin 32) (p : Fin 64)  :
    iblk m c 5 (pt d g) (ix3 0 0 ⟨512 + (ln g p).val, by omega⟩) = A6 m c (ix3 d g p) := by
  refine (congrArg (V m c main_v13) (emb5 (pt d g) 0 _)).trans ((congrFun (v13 m c) _).trans ?_)
  exact (cat5 _ _ (sl d g) 0 (ln g p)).2.trans (flat_at _ d g p)

theorem emb6 (t : Fin cfg0.N) (h : Fin 16) (b : Fin 1024) :
    (win0_6.blk t).view.emb (ix3 0 h b) = ix3 ⟨t.val, N16 t⟩ h b := by blk_ext [tiles t]

theorem cat6 (x y : Vec Ideal S16x16x512 .f32) (n : Fin 16) (h : Fin 16) (b : Fin 512) :
    concatenate S16x16x1024 2 [⟨S16x16x512, x⟩, ⟨S16x16x512, y⟩] concatenates_S16x16x512_S16x16x512_S16x16x1024_d2 (ix3 n h ⟨b.val, by omega⟩) = x (ix3 n h b)
    ∧ concatenate S16x16x1024 2 [⟨S16x16x512, x⟩, ⟨S16x16x512, y⟩] concatenates_S16x16x512_S16x16x512_S16x16x1024_d2 (ix3 n h ⟨512 + b.val, by omega⟩) = y (ix3 n h b) := by
  constructor
  · pointwise []
  · pointwise []

theorem blk7 (c : Dev nD) (d : Fin 4) (g : Fin 32) (p : Fin 64) (h : Fin 16) :
    iblk m c 6 (pt d g) (ix3 0 h ⟨(ln g p).val, by omega⟩) = A7 m c (ix4 d g p h) := by
  refine (congrArg (V m c main_v20) (emb6 (pt d g) h _)).trans ((congrFun (v20 m c) _).trans ?_)
  exact (cat6 _ _ (sl d g) h (ln g p)).1.trans (rows_at _ d g p h)

theorem blk8 (c : Dev nD) (d : Fin 4) (g : Fin 32) (p : Fin 64) (h : Fin 16) :
    iblk m c 6 (pt d g) (ix3 0 h ⟨512 + (ln g p).val, by omega⟩) = A8 m c (ix4 d g p h) := by
  refine (congrArg (V m c main_v20) (emb6 (pt d g) h _)).trans ((congrFun (v20 m c) _).trans ?_)
  exact (cat6 _ _ (sl d g) h (ln g p)).2.trans (rows_at _ d g p h)

/-- The block the call writes at a point, and the array of all of them. -/
abbrev o7 (c : Dev nD) (t : Fin cfg0.N) : Vec Ideal S1x1x512 .f32 :=
  out0_7 (iblk m c 0 t) (iblk m c 1 t) (iblk m c 2 t) (iblk m c 3 t) (iblk m c 4 t) (iblk m c 5 t) (iblk m c 6 t)

@[irreducible] def G7 (c : Dev nD) (t : Fin cfg0.N) (h : Fin 1) (b : Fin 512) : EReal := o7 m c t (ix3 0 h b)

def T7 (c : Dev nD) : Vec Ideal S16x1x512 .f32 := fun i =>
  G7 m c ⟨(i 0).val, lt_of_lt_of_le (i 0).isLt (le_of_eq N_0.symm)⟩ (i 1) (i 2)

theorem emb7 (t : Fin cfg0.N) (h : Fin 1) (b : Fin 512) :
    (win0_7.blk t).view.emb (ix3 0 h b) = ix3 ⟨t.val, N16 t⟩ h b := by blk_ext [tiles t]

theorem at7 (c : Dev nD) (t : Fin cfg0.N) (h : Fin 1) (b : Fin 512) :
    T7 m c (ix3 ⟨t.val, N16 t⟩ h b) = o7 m c t (ix3 0 h b) :=
  (rfl : _ = G7 m c t h b).trans (by unfold G7; rfl)

theorem final7 (c : Dev nD) : (dats m 0 c).arrAt 7 cfg0.N = T7 m c := by
  refine (dats m 0 c).arrAt_eq_of_covers 7 _ (by decide +kernel) fun t hf y => ?_
  blk_simp
  rw [after0_7]
  obtain ⟨h, b, rfl⟩ : ∃ (h : Fin 1) (b : Fin 512), y = ix3 (0 : Fin 1) h b :=
    ⟨y 1, y 2, by funext i; fin_cases i; exacts [Subsingleton.elim (α := Fin 1) _ _, rfl, rfl]⟩
  exact ((congrArg (T7 m c) (emb7 t h b)).trans (at7 m c t h b)).symm

/-- The block the call writes at a point, and the array of all of them. -/
abbrev o8 (c : Dev nD) (t : Fin cfg0.N) : Vec Ideal S1x1x512 .f32 :=
  out0_8 (iblk m c 0 t) (iblk m c 1 t) (iblk m c 2 t) (iblk m c 3 t) (iblk m c 4 t) (iblk m c 5 t) (iblk m c 6 t)

@[irreducible] def G8 (c : Dev nD) (t : Fin cfg0.N) (h : Fin 1) (b : Fin 512) : EReal := o8 m c t (ix3 0 h b)

def T8 (c : Dev nD) : Vec Ideal S16x1x512 .f32 := fun i =>
  G8 m c ⟨(i 0).val, lt_of_lt_of_le (i 0).isLt (le_of_eq N_0.symm)⟩ (i 1) (i 2)

theorem emb8 (t : Fin cfg0.N) (h : Fin 1) (b : Fin 512) :
    (win0_8.blk t).view.emb (ix3 0 h b) = ix3 ⟨t.val, N16 t⟩ h b := by blk_ext [tiles t]

theorem at8 (c : Dev nD) (t : Fin cfg0.N) (h : Fin 1) (b : Fin 512) :
    T8 m c (ix3 ⟨t.val, N16 t⟩ h b) = o8 m c t (ix3 0 h b) :=
  (rfl : _ = G8 m c t h b).trans (by unfold G8; rfl)

theorem final8 (c : Dev nD) : (dats m 0 c).arrAt 8 cfg0.N = T8 m c := by
  refine (dats m 0 c).arrAt_eq_of_covers 8 _ (by decide +kernel) fun t hf y => ?_
  blk_simp
  rw [after0_8]
  obtain ⟨h, b, rfl⟩ : ∃ (h : Fin 1) (b : Fin 512), y = ix3 (0 : Fin 1) h b :=
    ⟨y 1, y 2, by funext i; fin_cases i; exacts [Subsingleton.elim (α := Fin 1) _ _, rfl, rfl]⟩
  exact ((congrArg (T8 m c) (emb8 t h b)).trans (at8 m c t h b)).symm

/-- The block the call writes at a point, and the array of all of them. -/
abbrev o9 (c : Dev nD) (t : Fin cfg0.N) : Vec Ideal S1x1x512 .f32 :=
  out0_9 (iblk m c 0 t) (iblk m c 1 t) (iblk m c 2 t) (iblk m c 3 t) (iblk m c 4 t) (iblk m c 5 t) (iblk m c 6 t)

@[irreducible] def G9 (c : Dev nD) (t : Fin cfg0.N) (h : Fin 1) (b : Fin 512) : EReal := o9 m c t (ix3 0 h b)

def T9 (c : Dev nD) : Vec Ideal S16x1x512 .f32 := fun i =>
  G9 m c ⟨(i 0).val, lt_of_lt_of_le (i 0).isLt (le_of_eq N_0.symm)⟩ (i 1) (i 2)

theorem emb9 (t : Fin cfg0.N) (h : Fin 1) (b : Fin 512) :
    (win0_9.blk t).view.emb (ix3 0 h b) = ix3 ⟨t.val, N16 t⟩ h b := by blk_ext [tiles t]

theorem at9 (c : Dev nD) (t : Fin cfg0.N) (h : Fin 1) (b : Fin 512) :
    T9 m c (ix3 ⟨t.val, N16 t⟩ h b) = o9 m c t (ix3 0 h b) :=
  (rfl : _ = G9 m c t h b).trans (by unfold G9; rfl)

theorem final9 (c : Dev nD) : (dats m 0 c).arrAt 9 cfg0.N = T9 m c := by
  refine (dats m 0 c).arrAt_eq_of_covers 9 _ (by decide +kernel) fun t hf y => ?_
  blk_simp
  rw [after0_9]
  obtain ⟨h, b, rfl⟩ : ∃ (h : Fin 1) (b : Fin 512), y = ix3 (0 : Fin 1) h b :=
    ⟨y 1, y 2, by funext i; fin_cases i; exacts [Subsingleton.elim (α := Fin 1) _ _, rfl, rfl]⟩
  exact ((congrArg (T9 m c) (emb9 t h b)).trans (at9 m c t h b)).symm

/-- The block the call writes at a point, and the array of all of them. -/
abbrev o10 (c : Dev nD) (t : Fin cfg0.N) : Vec Ideal S1x16x512 .f32 :=
  out0_10 (iblk m c 0 t) (iblk m c 1 t) (iblk m c 2 t) (iblk m c 3 t) (iblk m c 4 t) (iblk m c 5 t) (iblk m c 6 t)

@[irreducible] def G10 (c : Dev nD) (t : Fin cfg0.N) (h : Fin 16) (b : Fin 512) : EReal := o10 m c t (ix3 0 h b)

def T10 (c : Dev nD) : Vec Ideal S16x16x512 .f32 := fun i =>
  G10 m c ⟨(i 0).val, lt_of_lt_of_le (i 0).isLt (le_of_eq N_0.symm)⟩ (i 1) (i 2)

theorem emb10 (t : Fin cfg0.N) (h : Fin 16) (b : Fin 512) :
    (win0_10.blk t).view.emb (ix3 0 h b) = ix3 ⟨t.val, N16 t⟩ h b := by blk_ext [tiles t]

theorem at10 (c : Dev nD) (t : Fin cfg0.N) (h : Fin 16) (b : Fin 512) :
    T10 m c (ix3 ⟨t.val, N16 t⟩ h b) = o10 m c t (ix3 0 h b) :=
  (rfl : _ = G10 m c t h b).trans (by unfold G10; rfl)

theorem final10 (c : Dev nD) : (dats m 0 c).arrAt 10 cfg0.N = T10 m c := by
  refine (dats m 0 c).arrAt_eq_of_covers 10 _ (by decide +kernel) fun t hf y => ?_
  blk_simp
  rw [after0_10]
  obtain ⟨h, b, rfl⟩ : ∃ (h : Fin 16) (b : Fin 512), y = ix3 (0 : Fin 1) h b :=
    ⟨y 1, y 2, by funext i; fin_cases i; exacts [Subsingleton.elim (α := Fin 1) _ _, rfl, rfl]⟩
  exact ((congrArg (T10 m c) (emb10 t h b)).trans (at10 m c t h b)).symm

/-- The block the call writes at a point, and the array of all of them. -/
abbrev o11 (c : Dev nD) (t : Fin cfg0.N) : Vec Ideal S1x16x512 .f32 :=
  out0_11 (iblk m c 0 t) (iblk m c 1 t) (iblk m c 2 t) (iblk m c 3 t) (iblk m c 4 t) (iblk m c 5 t) (iblk m c 6 t)

@[irreducible] def G11 (c : Dev nD) (t : Fin cfg0.N) (h : Fin 16) (b : Fin 512) : EReal := o11 m c t (ix3 0 h b)

def T11 (c : Dev nD) : Vec Ideal S16x16x512 .f32 := fun i =>
  G11 m c ⟨(i 0).val, lt_of_lt_of_le (i 0).isLt (le_of_eq N_0.symm)⟩ (i 1) (i 2)

theorem emb11 (t : Fin cfg0.N) (h : Fin 16) (b : Fin 512) :
    (win0_11.blk t).view.emb (ix3 0 h b) = ix3 ⟨t.val, N16 t⟩ h b := by blk_ext [tiles t]

theorem at11 (c : Dev nD) (t : Fin cfg0.N) (h : Fin 16) (b : Fin 512) :
    T11 m c (ix3 ⟨t.val, N16 t⟩ h b) = o11 m c t (ix3 0 h b) :=
  (rfl : _ = G11 m c t h b).trans (by unfold G11; rfl)

theorem final11 (c : Dev nD) : (dats m 0 c).arrAt 11 cfg0.N = T11 m c := by
  refine (dats m 0 c).arrAt_eq_of_covers 11 _ (by decide +kernel) fun t hf y => ?_
  blk_simp
  rw [after0_11]
  obtain ⟨h, b, rfl⟩ : ∃ (h : Fin 16) (b : Fin 512), y = ix3 (0 : Fin 1) h b :=
    ⟨y 1, y 2, by funext i; fin_cases i; exacts [Subsingleton.elim (α := Fin 1) _ _, rfl, rfl]⟩
  exact ((congrArg (T11 m c) (emb11 t h b)).trans (at11 m c t h b)).symm

end

theorem lanes {m : (ℓ : Loc nD τ sig) → Buf (Elt Ideal) ℓ} {c : Dev nD}
    (a0 : R0 m' c = A0 m c) (a1 : R1 m' c = A1 m c) (a2 : R2 m' c = A2 m c) (a3 : R3 m' c = A3 m c) (a4 : R4 m' c = A4 m c)
    (a5 : R5 m' c = A5 m c) (a6 : R6 m' c = A6 m c) (a7 : R7 m' c = A7 m c) (a8 : R8 m' c = A8 m c) (d : Fin 4) (g : Fin 32) (p : Fin 64) :
    Lane m' c (iblk m c 0 (pt d g)) (iblk m c 1 (pt d g)) (iblk m c 2 (pt d g)) (iblk m c 3 (pt d g)) (iblk m c 4 (pt d g))
      (iblk m c 5 (pt d g)) (iblk m c 6 (pt d g)) (ln g p) d g p where
  e0 := (blk0 m c d g p).trans (congrFun a0.symm _)
  e1 := (blk1 m c d g p).trans (congrFun a1.symm _)
  e2 := (blk2 m c d g p).trans (congrFun a2.symm _)
  e3 h := (blk3 m c d g p h).trans (congrFun a3.symm _)
  e4 h := (blk4 m c d g p h).trans (congrFun a4.symm _)
  e5 := (blk5 m c d g p).trans (congrFun a5.symm _)
  e6 := (blk6 m c d g p).trans (congrFun a6.symm _)
  e7 h := (blk7 m c d g p h).trans (congrFun a7.symm _)
  e8 h := (blk8 m c d g p h).trans (congrFun a8.symm _)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v22) = (shapeCast S4x32x64 (T7 m c) shapeCasts_S16x1x512_S4x32x64 : Vec Ideal S4x32x64 .f32)
      ∧ r.2.mem ((c : Thread nD τ).loc main_v23) = (shapeCast S4x32x64 (T8 m c) shapeCasts_S16x1x512_S4x32x64 : Vec Ideal S4x32x64 .f32)
      ∧ r.2.mem ((c : Thread nD τ).loc main_v25) = (Host.reduceAdd (shapeCast S4x32x64 (T9 m c) shapeCasts_S16x1x512_S4x32x64) (constant (F := Ideal) S_ .f32 0x00000000#32) reducesTo_S4x32x64_S4x32_d2 h_S_ : Vec Ideal S4x32 .f32)
      ∧ r.2.mem ((c : Thread nD τ).loc main_v28) = (back (T10 m c) : Vec Ideal S4x32x64x16 .f32)
      ∧ r.2.mem ((c : Thread nD τ).loc main_v31) = (back (T11 m c) : Vec Ideal S4x32x64x16 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).2 main_v22 (Pipeline.mem_restRefs_of main_v22 (by decide) (by decide))).trans ((tail0 m c).trans (by rw [final7])),
      ((h c).2 main_v23 (Pipeline.mem_restRefs_of main_v23 (by decide) (by decide))).trans ((tail1 m c).trans (by rw [final8])),
      ((h c).2 main_v25 (Pipeline.mem_restRefs_of main_v25 (by decide) (by decide))).trans ((tail2 m c).trans (by rw [final9])),
      ((h c).2 main_v28 (Pipeline.mem_restRefs_of main_v28 (by decide) (by decide))).trans ((tail3 m c).trans (by rw [final10])),
      ((h c).2 main_v31 (Pipeline.mem_restRefs_of main_v31 (by decide) (by decide))).trans ((tail4 m c).trans (by rw [final11])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

theorem claim : Cert.algebraic_DiscIdeal_DiscRefIdeal := by
  intro m ρ m' ρ' _ agree
  refine ⟨_, _, _, _, _, run m ρ, ?_⟩
  refine (θ_run _ _ _).mono (fun r h c => ?_) (Cert.DiscRefIdeal.Value.run m' ρ')
  obtain ⟨h0, h1, h2, h3, h4, h5⟩ := h c
  obtain ⟨a0, a1, a2, a3, a4, a5, a6, a7, a8⟩ := agree c
  have H := lanes a0 a1 a2 a3 a4 a5 a6 a7 a8
  refine ⟨h0.trans ?_, h1.trans ?_, h2.trans ?_, h3.trans ?_, h4.trans ?_, h5⟩
  · funext i
    obtain ⟨d, g, p, rfl⟩ : ∃ (d : Fin 4) (g : Fin 32) (p : Fin 64), i = ix3 d g p := ⟨i 0, i 1, i 2, by funext j; fin_cases j <;> rfl⟩
    exact ((unflat_at _ d g p).trans ((at7 _ _ (pt d g) 0 (ln g p)).trans (lane0 (H d g p)))).symm
  · funext i
    obtain ⟨d, g, p, rfl⟩ : ∃ (d : Fin 4) (g : Fin 32) (p : Fin 64), i = ix3 d g p := ⟨i 0, i 1, i 2, by funext j; fin_cases j <;> rfl⟩
    exact ((unflat_at _ d g p).trans ((at8 _ _ (pt d g) 0 (ln g p)).trans (lane1 (H d g p)))).symm
  · funext i
    obtain ⟨d, g, rfl⟩ : ∃ (d : Fin 4) (g : Fin 32), i = ix2 d g := ⟨i 0, i 1, by funext j; fin_cases j <;> rfl⟩
    exact ((sum_at _ d g).trans ((Fin.sum_fin_congr fun p => (unflat_at _ d g p).trans (at9 _ _ (pt d g) 0 (ln g p))).trans (lane2 (H d g)))).symm
  · funext i
    obtain ⟨d, g, p, q, rfl⟩ : ∃ (d : Fin 4) (g : Fin 32) (p : Fin 64) (q : Fin 16), i = ix4 d g p q :=
      ⟨i 0, i 1, i 2, i 3, by funext j; fin_cases j <;> rfl⟩
    exact ((back_at _ d g p q).trans ((at10 _ _ (pt d g) q (ln g p)).trans (lane3 (H d g p) q))).symm
  · funext i
    obtain ⟨d, g, p, q, rfl⟩ : ∃ (d : Fin 4) (g : Fin 32) (p : Fin 64) (q : Fin 16), i = ix4 d g p q :=
      ⟨i 0, i 1, i 2, i 3, by funext j; fin_cases j <;> rfl⟩
    exact ((back_at _ d g p q).trans ((at11 _ _ (pt d g) q (ln g p)).trans (lane4 (H d g p) q))).symm

end Cert.DiscIdeal.Step
-- ==== Proof.TailRun.lean ====
/- The run of the gated unit's reference, its operations one by one. -/
module

public import proofs.«01_k».proof.Proof.Gen.TailRefIdeal
public import Idealize.ShloMosaic.Lib.StableHlo.Run

@[expose] public section

noncomputable section

namespace Cert.TailRefIdeal.Step

open Cert.TailRefIdeal Cert.TailRefIdeal.Gen Idealize.ShloMosaic Idealize.ShloMosaic.TcCoe Idealize.SL.Sem Idealize.ShloMosaic.StableHlo

variable {F : FTy → Type} [FloatOps F]

/-- The function of the operation that writes `main_v81`, named. It packs its operands into a list of dependent pairs
    whose shapes a later argument's type mentions, so `simp` cannot rewrite an operand where it stands; applied by
    name, the operands are plain arguments, which `run`'s simp pass rewrites before the name unfolds. -/
def fn_main_v81 : (main_v78 : Ref sig .tc).ty.Contents (Elt F) → (main_v79 : Ref sig .tc).ty.Contents (Elt F) → (main_v80 : Ref sig .tc).ty.Contents (Elt F) → (main_v81 : Ref sig .tc).ty.Contents (Elt F) :=
  (fun u0 u1 u2 => (concatenate S2048x8192 1 [⟨S2048x512, (u0 : (⟨S2048x512, .bf16⟩ : BufTy).Contents (Elt F))⟩, ⟨S2048x512, (u1 : (⟨S2048x512, .bf16⟩ : BufTy).Contents (Elt F))⟩, ⟨S2048x7168, (u2 : (⟨S2048x7168, .bf16⟩ : BufTy).Contents (Elt F))⟩] concatenates_S2048x512_S2048x512_S2048x7168_S2048x8192_d1 : (⟨S2048x8192, .bf16⟩ : BufTy).Contents (Elt F)))

/-- @main's 119 operations, in order (a called function's operations stand in its call's place, spelt `TRef.…`). -/
abbrev ops : List (HloOp τ sig (Elt F)) :=
  [ unary main_arg2 main_v0 ((extractStridedSlice S2048x512 ![0, 0] · slices_S2048x8192_S2048x512_0_0) : (⟨S2048x8192, .f32⟩ : BufTy).Contents (Elt F) → (⟨S2048x512, .f32⟩ : BufTy).Contents (Elt F)),
    unary main_arg2 main_v1 ((extractStridedSlice S2048x512 ![0, 512] · slices_S2048x8192_S2048x512_0_512) : (⟨S2048x8192, .f32⟩ : BufTy).Contents (Elt F) → (⟨S2048x512, .f32⟩ : BufTy).Contents (Elt F)),
    unary main_arg3 main_v2 (broadcastInDim S1x512 ![1] bcast_S512_S1x512_1 : (⟨S512, .f32⟩ : BufTy).Contents (Elt F) → (⟨S1x512, .f32⟩ : BufTy).Contents (Elt F)),
    unary main_v2 main_v3 (broadcastInDim S2048x512 ![0, 1] bcast_S1x512_S2048x512_0_1 : (⟨S1x512, .f32⟩ : BufTy).Contents (Elt F) → (⟨S2048x512, .f32⟩ : BufTy).Contents (Elt F)),
    binary main_v3 main_v0 main_v4 (mulf : (⟨S2048x512, .f32⟩ : BufTy).Contents (Elt F) → (⟨S2048x512, .f32⟩ : BufTy).Contents (Elt F) → (⟨S2048x512, .f32⟩ : BufTy).Contents (Elt F)),
    binary main_arg1 main_v4 main_v5 (addf : (⟨S2048x512, .f32⟩ : BufTy).Contents (Elt F) → (⟨S2048x512, .f32⟩ : BufTy).Contents (Elt F) → (⟨S2048x512, .f32⟩ : BufTy).Contents (Elt F)),
    nullary main_cst (constant S_ .f32 0x3F000000#32),
    unary main_cst main_v6 (broadcastInDim S2048x512 ![] bcast_S_S2048x512 : (⟨S_, .f32⟩ : BufTy).Contents (Elt F) → (⟨S2048x512, .f32⟩ : BufTy).Contents (Elt F)),
    binary main_v6 main_v5 main_v7 (mulf : (⟨S2048x512, .f32⟩ : BufTy).Contents (Elt F) → (⟨S2048x512, .f32⟩ : BufTy).Contents (Elt F) → (⟨S2048x512, .f32⟩ : BufTy).Contents (Elt F)),
    binary main_v5 main_v5 main_v8 (mulf : (⟨S2048x512, .f32⟩ : BufTy).Contents (Elt F) → (⟨S2048x512, .f32⟩ : BufTy).Contents (Elt F) → (⟨S2048x512, .f32⟩ : BufTy).Contents (Elt F)),
    binary main_v8 main_v5 main_v9 (mulf : (⟨S2048x512, .f32⟩ : BufTy).Contents (Elt F) → (⟨S2048x512, .f32⟩ : BufTy).Contents (Elt F) → (⟨S2048x512, .f32⟩ : BufTy).Contents (Elt F)),
    binary main_v5 main_v5 main_v10 (mulf : (⟨S2048x512, .f32⟩ : BufTy).Contents (Elt F) → (⟨S2048x512, .f32⟩ : BufTy).Contents (Elt F) → (⟨S2048x512, .f32⟩ : BufTy).Contents (Elt F)),
    nullary main_cst_0 (constant S_ .f32 0x40400000#32),
    unary main_cst_0 main_v11 (broadcastInDim S2048x512 ![] bcast_S_S2048x512 : (⟨S_, .f32⟩ : BufTy).Contents (Elt F) → (⟨S2048x512, .f32⟩ : BufTy).Contents (Elt F)),
    binary main_v11 main_v10 main_v12 (mulf : (⟨S2048x512, .f32⟩ : BufTy).Contents (Elt F) → (⟨S2048x512, .f32⟩ : BufTy).Contents (Elt F) → (⟨S2048x512, .f32⟩ : BufTy).Contents (Elt F)),
    nullary main_cst_1 (constant S_ .f32 0x472EAB00#32),
    unary main_cst_1 main_v13 (broadcastInDim S2048x512 ![] bcast_S_S2048x512 : (⟨S_, .f32⟩ : BufTy).Contents (Elt F) → (⟨S2048x512, .f32⟩ : BufTy).Contents (Elt F)),
    binary main_v13 main_v9 main_v14 (mulf : (⟨S2048x512, .f32⟩ : BufTy).Contents (Elt F) → (⟨S2048x512, .f32⟩ : BufTy).Contents (Elt F) → (⟨S2048x512, .f32⟩ : BufTy).Contents (Elt F)),
    nullary main_cst_2 (constant S_ .f32 0x49742400#32),
    unary main_cst_2 main_v15 (broadcastInDim S2048x512 ![] bcast_S_S2048x512 : (⟨S_, .f32⟩ : BufTy).Contents (Elt F) → (⟨S2048x512, .f32⟩ : BufTy).Contents (Elt F)),
    binary main_v14 main_v15 main_v16 (Host.divf : (⟨S2048x512, .f32⟩ : BufTy).Contents (Elt F) → (⟨S2048x512, .f32⟩ : BufTy).Contents (Elt F) → (⟨S2048x512, .f32⟩ : BufTy).Contents (Elt F)),
    binary main_v5 main_v16 main_v17 (addf : (⟨S2048x512, .f32⟩ : BufTy).Contents (Elt F) → (⟨S2048x512, .f32⟩ : BufTy).Contents (Elt F) → (⟨S2048x512, .f32⟩ : BufTy).Contents (Elt F)),
    nullary main_cst_3 (constant S_ .f32 0x3F4C422A#32),
    unary main_cst_3 main_v18 (broadcastInDim S2048x512 ![] bcast_S_S2048x512 : (⟨S_, .f32⟩ : BufTy).Contents (Elt F) → (⟨S2048x512, .f32⟩ : BufTy).Contents (Elt F)),
    binary main_v18 main_v17 main_v19 (mulf : (⟨S2048x512, .f32⟩ : BufTy).Contents (Elt F) → (⟨S2048x512, .f32⟩ : BufTy).Contents (Elt F) → (⟨S2048x512, .f32⟩ : BufTy).Contents (Elt F)),
    unary main_v19 main_v20 (Host.tanh : (⟨S2048x512, .f32⟩ : BufTy).Contents (Elt F) → (⟨S2048x512, .f32⟩ : BufTy).Contents (Elt F)),
    nullary main_cst_4 (constant S_ .f32 0x3F800000#32),
    unary main_cst_4 main_v21 (broadcastInDim S2048x512 ![] bcast_S_S2048x512 : (⟨S_, .f32⟩ : BufTy).Contents (Elt F) → (⟨S2048x512, .f32⟩ : BufTy).Contents (Elt F)),
    binary main_v21 main_v20 main_v22 (addf : (⟨S2048x512, .f32⟩ : BufTy).Contents (Elt F) → (⟨S2048x512, .f32⟩ : BufTy).Contents (Elt F) → (⟨S2048x512, .f32⟩ : BufTy).Contents (Elt F)),
    nullary main_cst_5 (constant S_ .f32 0x3F800000#32),
    unary main_cst_5 main_v23 (broadcastInDim S2048x512 ![] bcast_S_S2048x512 : (⟨S_, .f32⟩ : BufTy).Contents (Elt F) → (⟨S2048x512, .f32⟩ : BufTy).Contents (Elt F)),
    binary main_v23 main_v20 main_v24 (subf : (⟨S2048x512, .f32⟩ : BufTy).Contents (Elt F) → (⟨S2048x512, .f32⟩ : BufTy).Contents (Elt F) → (⟨S2048x512, .f32⟩ : BufTy).Contents (Elt F)),
    binary main_v22 main_v24 main_v25 (mulf : (⟨S2048x512, .f32⟩ : BufTy).Contents (Elt F) → (⟨S2048x512, .f32⟩ : BufTy).Contents (Elt F) → (⟨S2048x512, .f32⟩ : BufTy).Contents (Elt F)),
    nullary main_cst_6 (constant S_ .f32 0x3F800000#32),
    unary main_cst_6 main_v26 (broadcastInDim S2048x512 ![] bcast_S_S2048x512 : (⟨S_, .f32⟩ : BufTy).Contents (Elt F) → (⟨S2048x512, .f32⟩ : BufTy).Contents (Elt F)),
    binary main_v26 main_v20 main_v27 (addf : (⟨S2048x512, .f32⟩ : BufTy).Contents (Elt F) → (⟨S2048x512, .f32⟩ : BufTy).Contents (Elt F) → (⟨S2048x512, .f32⟩ : BufTy).Contents (Elt F)),
    binary main_v7 main_v27 main_v28 (mulf : (⟨S2048x512, .f32⟩ : BufTy).Contents (Elt F) → (⟨S2048x512, .f32⟩ : BufTy).Contents (Elt F) → (⟨S2048x512, .f32⟩ : BufTy).Contents (Elt F)),
    binary main_v28 main_arg4 main_v29 ((fun l r => Host.dotGeneral dot_S2048x512_S512x512_S2048x512_1_0_0_1_n_n none l r) : (⟨S2048x512, .f32⟩ : BufTy).Contents (Elt F) → (⟨S512x512, .f32⟩ : BufTy).Contents (Elt F) → (⟨S2048x512, .f32⟩ : BufTy).Contents (Elt F)),
    unary main_arg5 main_v30 (broadcastInDim S1x512 ![1] bcast_S512_S1x512_1 : (⟨S512, .f32⟩ : BufTy).Contents (Elt F) → (⟨S1x512, .f32⟩ : BufTy).Contents (Elt F)),
    unary main_v30 main_v31 (broadcastInDim S2048x512 ![0, 1] bcast_S1x512_S2048x512_0_1 : (⟨S1x512, .f32⟩ : BufTy).Contents (Elt F) → (⟨S2048x512, .f32⟩ : BufTy).Contents (Elt F)),
    binary main_v29 main_v31 main_v32 (addf : (⟨S2048x512, .f32⟩ : BufTy).Contents (Elt F) → (⟨S2048x512, .f32⟩ : BufTy).Contents (Elt F) → (⟨S2048x512, .f32⟩ : BufTy).Contents (Elt F)),
    unary main_v32 main_v33 (Host.negf : (⟨S2048x512, .f32⟩ : BufTy).Contents (Elt F) → (⟨S2048x512, .f32⟩ : BufTy).Contents (Elt F)),
    unary main_v33 main_v34 (Host.exp : (⟨S2048x512, .f32⟩ : BufTy).Contents (Elt F) → (⟨S2048x512, .f32⟩ : BufTy).Contents (Elt F)),
    nullary main_cst_7 (constant S_ .f32 0x3F800000#32),
    unary main_cst_7 main_v35 (broadcastInDim S2048x512 ![] bcast_S_S2048x512 : (⟨S_, .f32⟩ : BufTy).Contents (Elt F) → (⟨S2048x512, .f32⟩ : BufTy).Contents (Elt F)),
    binary main_v35 main_v34 main_v36 (addf : (⟨S2048x512, .f32⟩ : BufTy).Contents (Elt F) → (⟨S2048x512, .f32⟩ : BufTy).Contents (Elt F) → (⟨S2048x512, .f32⟩ : BufTy).Contents (Elt F)),
    nullary main_cst_8 (constant S_ .f32 0x3F800000#32),
    unary main_cst_8 main_v37 (broadcastInDim S2048x512 ![] bcast_S_S2048x512 : (⟨S_, .f32⟩ : BufTy).Contents (Elt F) → (⟨S2048x512, .f32⟩ : BufTy).Contents (Elt F)),
    binary main_v37 main_v36 main_v38 (Host.divf : (⟨S2048x512, .f32⟩ : BufTy).Contents (Elt F) → (⟨S2048x512, .f32⟩ : BufTy).Contents (Elt F) → (⟨S2048x512, .f32⟩ : BufTy).Contents (Elt F)),
    nullary main_cst_9 (constant S_ .f32 0x3F800000#32),
    unary main_cst_9 main_v39 (broadcastInDim S2048x512 ![] bcast_S_S2048x512 : (⟨S_, .f32⟩ : BufTy).Contents (Elt F) → (⟨S2048x512, .f32⟩ : BufTy).Contents (Elt F)),
    binary main_v39 main_v38 main_v40 (subf : (⟨S2048x512, .f32⟩ : BufTy).Contents (Elt F) → (⟨S2048x512, .f32⟩ : BufTy).Contents (Elt F) → (⟨S2048x512, .f32⟩ : BufTy).Contents (Elt F)),
    binary main_v38 main_v40 main_v41 (mulf : (⟨S2048x512, .f32⟩ : BufTy).Contents (Elt F) → (⟨S2048x512, .f32⟩ : BufTy).Contents (Elt F) → (⟨S2048x512, .f32⟩ : BufTy).Contents (Elt F)),
    binary main_v28 main_v38 main_v42 (mulf : (⟨S2048x512, .f32⟩ : BufTy).Contents (Elt F) → (⟨S2048x512, .f32⟩ : BufTy).Contents (Elt F) → (⟨S2048x512, .f32⟩ : BufTy).Contents (Elt F)),
    TRef.unary (TRef.of (T := ⟨S2048x512, .f32⟩) main_v1) (TRef.of (T := ⟨S2048x512, .f32⟩) main_call0_v0) Host.negf,
    TRef.unary (TRef.of (T := ⟨S2048x512, .f32⟩) main_call0_v0) (TRef.of (T := ⟨S2048x512, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S2048x512, .f32⟩) main_call0_v2) (broadcastInDim S2048x512 ![] bcast_S_S2048x512),
    TRef.binary (TRef.of (T := ⟨S2048x512, .f32⟩) main_call0_v2) (TRef.of (T := ⟨S2048x512, .f32⟩) main_call0_v1) (TRef.of (T := ⟨S2048x512, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S2048x512, .f32⟩) main_call0_v4) (broadcastInDim S2048x512 ![] bcast_S_S2048x512),
    TRef.binary (TRef.of (T := ⟨S2048x512, .f32⟩) main_call0_v4) (TRef.of (T := ⟨S2048x512, .f32⟩) main_call0_v3) (TRef.of (T := ⟨S2048x512, .f32⟩) main_v43_2) Host.divf,
    TRef.nullary (TRef.of (T := ⟨S_, .f32⟩) main_call0_cst_1) (constant S_ .f32 0x3F800000#32),
    TRef.unary (TRef.of (T := ⟨S_, .f32⟩) main_call0_cst_1) (TRef.of (T := ⟨S2048x512, .f32⟩) main_call0_v6) (broadcastInDim S2048x512 ![] bcast_S_S2048x512),
    TRef.binary (TRef.of (T := ⟨S2048x512, .f32⟩) main_call0_v6) (TRef.of (T := ⟨S2048x512, .f32⟩) main_v43_2) (TRef.of (T := ⟨S2048x512, .f32⟩) main_call0_v7) subf,
    TRef.binary (TRef.of (T := ⟨S2048x512, .f32⟩) main_v43_2) (TRef.of (T := ⟨S2048x512, .f32⟩) main_call0_v7) (TRef.of (T := ⟨S2048x512, .f32⟩) main_v43_1) mulf,
    TRef.binary (TRef.of (T := ⟨S2048x512, .f32⟩) main_v1) (TRef.of (T := ⟨S2048x512, .f32⟩) main_v43_2) (TRef.of (T := ⟨S2048x512, .f32⟩) main_v43_0) mulf,
    binary main_v42 main_v43_0 main_v44 (mulf : (⟨S2048x512, .f32⟩ : BufTy).Contents (Elt F) → (⟨S2048x512, .f32⟩ : BufTy).Contents (Elt F) → (⟨S2048x512, .f32⟩ : BufTy).Contents (Elt F)),
    binary main_v42 main_arg0 main_v45 (mulf : (⟨S2048x512, .f32⟩ : BufTy).Contents (Elt F) → (⟨S2048x512, .f32⟩ : BufTy).Contents (Elt F) → (⟨S2048x512, .f32⟩ : BufTy).Contents (Elt F)),
    binary main_arg0 main_v43_0 main_v46 (mulf : (⟨S2048x512, .f32⟩ : BufTy).Contents (Elt F) → (⟨S2048x512, .f32⟩ : BufTy).Contents (Elt F) → (⟨S2048x512, .f32⟩ : BufTy).Contents (Elt F)),
    TRef.binary (TRef.of (T := ⟨S2048x512, .f32⟩) main_v1) (TRef.of (T := ⟨S2048x512, .f32⟩) main_v45) (TRef.of (T := ⟨S2048x512, .f32⟩) main_call1_v0) mulf,
    TRef.binary (TRef.of (T := ⟨S2048x512, .f32⟩) main_v45) (TRef.of (T := ⟨S2048x512, .f32⟩) main_v43_2) (TRef.of (T := ⟨S2048x512, .f32⟩) main_call1_v1) mulf,
    TRef.binary (TRef.of (T := ⟨S2048x512, .f32⟩) main_call1_v0) (TRef.of (T := ⟨S2048x512, .f32⟩) main_v43_1) (TRef.of (T := ⟨S2048x512, .f32⟩) main_call1_v2) mulf,
    TRef.binary (TRef.of (T := ⟨S2048x512, .f32⟩) main_call1_v1) (TRef.of (T := ⟨S2048x512, .f32⟩) main_call1_v2) (TRef.of (T := ⟨S2048x512, .f32⟩) main_v47) addf,
    binary main_v28 main_v46 main_v48 (mulf : (⟨S2048x512, .f32⟩ : BufTy).Contents (Elt F) → (⟨S2048x512, .f32⟩ : BufTy).Contents (Elt F) → (⟨S2048x512, .f32⟩ : BufTy).Contents (Elt F)),
    binary main_v46 main_v38 main_v49 (mulf : (⟨S2048x512, .f32⟩ : BufTy).Contents (Elt F) → (⟨S2048x512, .f32⟩ : BufTy).Contents (Elt F) → (⟨S2048x512, .f32⟩ : BufTy).Contents (Elt F)),
    binary main_v48 main_v41 main_v50 (mulf : (⟨S2048x512, .f32⟩ : BufTy).Contents (Elt F) → (⟨S2048x512, .f32⟩ : BufTy).Contents (Elt F) → (⟨S2048x512, .f32⟩ : BufTy).Contents (Elt F)),
    nullary main_cst_10 (constant S_ .f32 0x00000000#32),
    binary main_v50 main_cst_10 main_v51 ((fun x v => Host.reduceAdd x v reducesTo_S2048x512_S512_d0 h_S_) : (⟨S2048x512, .f32⟩ : BufTy).Contents (Elt F) → (⟨S_, .f32⟩ : BufTy).Contents (Elt F) → (⟨S512, .f32⟩ : BufTy).Contents (Elt F)),
    reshape main_v51 main_v52 (rfl : (.f32 : EltTy) = .f32) shapeCasts_S512_S1x512,
    nullary main_cst_11 (constant S_ .f32 0x00000000#32),
    binary main_v52 main_cst_11 main_v53 ((fun x v => Host.reduceAdd x v reducesTo_S1x512_S512_d0 h_S_) : (⟨S1x512, .f32⟩ : BufTy).Contents (Elt F) → (⟨S_, .f32⟩ : BufTy).Contents (Elt F) → (⟨S512, .f32⟩ : BufTy).Contents (Elt F)),
    binary main_v50 main_v28 main_v54 ((fun l r => Host.dotGeneral dot_S2048x512_S2048x512_S512x512_0_0_1_1_n_n none l r) : (⟨S2048x512, .f32⟩ : BufTy).Contents (Elt F) → (⟨S2048x512, .f32⟩ : BufTy).Contents (Elt F) → (⟨S512x512, .f32⟩ : BufTy).Contents (Elt F)),
    unary main_v54 main_v55 ((transpose S512x512 [1, 0] · transposes_S512x512_S512x512_1_0) : (⟨S512x512, .f32⟩ : BufTy).Contents (Elt F) → (⟨S512x512, .f32⟩ : BufTy).Contents (Elt F)),
    binary main_v50 main_arg4 main_v56 ((fun l r => Host.dotGeneral dot_S2048x512_S512x512_S2048x512_1_1_0_0_n_n none l r) : (⟨S2048x512, .f32⟩ : BufTy).Contents (Elt F) → (⟨S512x512, .f32⟩ : BufTy).Contents (Elt F) → (⟨S2048x512, .f32⟩ : BufTy).Contents (Elt F)),
    binary main_v49 main_v56 main_v57 (addf : (⟨S2048x512, .f32⟩ : BufTy).Contents (Elt F) → (⟨S2048x512, .f32⟩ : BufTy).Contents (Elt F) → (⟨S2048x512, .f32⟩ : BufTy).Contents (Elt F)),
    binary main_v7 main_v57 main_v58 (mulf : (⟨S2048x512, .f32⟩ : BufTy).Contents (Elt F) → (⟨S2048x512, .f32⟩ : BufTy).Contents (Elt F) → (⟨S2048x512, .f32⟩ : BufTy).Contents (Elt F)),
    binary main_v57 main_v27 main_v59 (mulf : (⟨S2048x512, .f32⟩ : BufTy).Contents (Elt F) → (⟨S2048x512, .f32⟩ : BufTy).Contents (Elt F) → (⟨S2048x512, .f32⟩ : BufTy).Contents (Elt F)),
    binary main_v58 main_v25 main_v60 (mulf : (⟨S2048x512, .f32⟩ : BufTy).Contents (Elt F) → (⟨S2048x512, .f32⟩ : BufTy).Contents (Elt F) → (⟨S2048x512, .f32⟩ : BufTy).Contents (Elt F)),
    nullary main_cst_12 (constant S_ .f32 0x3F4C422A#32),
    unary main_cst_12 main_v61 (broadcastInDim S2048x512 ![] bcast_S_S2048x512 : (⟨S_, .f32⟩ : BufTy).Contents (Elt F) → (⟨S2048x512, .f32⟩ : BufTy).Contents (Elt F)),
    binary main_v61 main_v60 main_v62 (mulf : (⟨S2048x512, .f32⟩ : BufTy).Contents (Elt F) → (⟨S2048x512, .f32⟩ : BufTy).Contents (Elt F) → (⟨S2048x512, .f32⟩ : BufTy).Contents (Elt F)),
    nullary main_cst_13 (constant S_ .f32 0x49742400#32),
    unary main_cst_13 main_v63 (broadcastInDim S2048x512 ![] bcast_S_S2048x512 : (⟨S_, .f32⟩ : BufTy).Contents (Elt F) → (⟨S2048x512, .f32⟩ : BufTy).Contents (Elt F)),
    binary main_v62 main_v63 main_v64 (Host.divf : (⟨S2048x512, .f32⟩ : BufTy).Contents (Elt F) → (⟨S2048x512, .f32⟩ : BufTy).Contents (Elt F) → (⟨S2048x512, .f32⟩ : BufTy).Contents (Elt F)),
    nullary main_cst_14 (constant S_ .f32 0x472EAB00#32),
    unary main_cst_14 main_v65 (broadcastInDim S2048x512 ![] bcast_S_S2048x512 : (⟨S_, .f32⟩ : BufTy).Contents (Elt F) → (⟨S2048x512, .f32⟩ : BufTy).Contents (Elt F)),
    binary main_v65 main_v64 main_v66 (mulf : (⟨S2048x512, .f32⟩ : BufTy).Contents (Elt F) → (⟨S2048x512, .f32⟩ : BufTy).Contents (Elt F) → (⟨S2048x512, .f32⟩ : BufTy).Contents (Elt F)),
    binary main_v66 main_v12 main_v67 (mulf : (⟨S2048x512, .f32⟩ : BufTy).Contents (Elt F) → (⟨S2048x512, .f32⟩ : BufTy).Contents (Elt F) → (⟨S2048x512, .f32⟩ : BufTy).Contents (Elt F)),
    binary main_v62 main_v67 main_v68 (addf : (⟨S2048x512, .f32⟩ : BufTy).Contents (Elt F) → (⟨S2048x512, .f32⟩ : BufTy).Contents (Elt F) → (⟨S2048x512, .f32⟩ : BufTy).Contents (Elt F)),
    nullary main_cst_15 (constant S_ .f32 0x3F000000#32),
    unary main_cst_15 main_v69 (broadcastInDim S2048x512 ![] bcast_S_S2048x512 : (⟨S_, .f32⟩ : BufTy).Contents (Elt F) → (⟨S2048x512, .f32⟩ : BufTy).Contents (Elt F)),
    binary main_v69 main_v59 main_v70 (mulf : (⟨S2048x512, .f32⟩ : BufTy).Contents (Elt F) → (⟨S2048x512, .f32⟩ : BufTy).Contents (Elt F) → (⟨S2048x512, .f32⟩ : BufTy).Contents (Elt F)),
    binary main_v68 main_v70 main_v71 (addf : (⟨S2048x512, .f32⟩ : BufTy).Contents (Elt F) → (⟨S2048x512, .f32⟩ : BufTy).Contents (Elt F) → (⟨S2048x512, .f32⟩ : BufTy).Contents (Elt F)),
    unary main_v2 main_v72 (broadcastInDim S2048x512 ![0, 1] bcast_S1x512_S2048x512_0_1 : (⟨S1x512, .f32⟩ : BufTy).Contents (Elt F) → (⟨S2048x512, .f32⟩ : BufTy).Contents (Elt F)),
    binary main_v72 main_v71 main_v73 (mulf : (⟨S2048x512, .f32⟩ : BufTy).Contents (Elt F) → (⟨S2048x512, .f32⟩ : BufTy).Contents (Elt F) → (⟨S2048x512, .f32⟩ : BufTy).Contents (Elt F)),
    binary main_v71 main_v0 main_v74 (mulf : (⟨S2048x512, .f32⟩ : BufTy).Contents (Elt F) → (⟨S2048x512, .f32⟩ : BufTy).Contents (Elt F) → (⟨S2048x512, .f32⟩ : BufTy).Contents (Elt F)),
    nullary main_cst_16 (constant S_ .f32 0x00000000#32),
    binary main_v74 main_cst_16 main_v75 ((fun x v => Host.reduceAdd x v reducesTo_S2048x512_S512_d0 h_S_) : (⟨S2048x512, .f32⟩ : BufTy).Contents (Elt F) → (⟨S_, .f32⟩ : BufTy).Contents (Elt F) → (⟨S512, .f32⟩ : BufTy).Contents (Elt F)),
    reshape main_v75 main_v76 (rfl : (.f32 : EltTy) = .f32) shapeCasts_S512_S1x512,
    nullary main_cst_17 (constant S_ .f32 0x00000000#32),
    binary main_v76 main_cst_17 main_v77 ((fun x v => Host.reduceAdd x v reducesTo_S1x512_S512_d0 h_S_) : (⟨S1x512, .f32⟩ : BufTy).Contents (Elt F) → (⟨S_, .f32⟩ : BufTy).Contents (Elt F) → (⟨S512, .f32⟩ : BufTy).Contents (Elt F)),
    unary main_arg6 main_v78 ((extractStridedSlice S2048x512 ![0, 0] · slices_S2048x8192_S2048x512_0_0) : (⟨S2048x8192, .bf16⟩ : BufTy).Contents (Elt F) → (⟨S2048x512, .bf16⟩ : BufTy).Contents (Elt F)),
    unary main_v47 main_v79 ((truncf .bf16 · bitsLt_bf16_f32) : (⟨S2048x512, .f32⟩ : BufTy).Contents (Elt F) → (⟨S2048x512, .bf16⟩ : BufTy).Contents (Elt F)),
    unary main_arg6 main_v80 ((extractStridedSlice S2048x7168 ![0, 1024] · slices_S2048x8192_S2048x7168_0_1024) : (⟨S2048x8192, .bf16⟩ : BufTy).Contents (Elt F) → (⟨S2048x7168, .bf16⟩ : BufTy).Contents (Elt F)),
    nary ![main_v78, main_v79, main_v80] main_v81 (fun u => fn_main_v81 (F := F) (u 0) (u 1) (u 2)),
    unary main_v55 main_v82 ((truncf .bf16 · bitsLt_bf16_f32) : (⟨S512x512, .f32⟩ : BufTy).Contents (Elt F) → (⟨S512x512, .bf16⟩ : BufTy).Contents (Elt F)),
    unary main_v53 main_v83 (broadcastInDim S1x512 ![1] bcast_S512_S1x512_1 : (⟨S512, .f32⟩ : BufTy).Contents (Elt F) → (⟨S1x512, .f32⟩ : BufTy).Contents (Elt F)),
    unary main_v77 main_v84 (broadcastInDim S1x512 ![1] bcast_S512_S1x512_1 : (⟨S512, .f32⟩ : BufTy).Contents (Elt F) → (⟨S1x512, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., nullary_bufs_sub .., binary_bufs_sub .., reshape_bufs_sub .., nullary_bufs_sub .., binary_bufs_sub .., binary_bufs_sub .., unary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., unary_bufs_sub .., binary_bufs_sub .., binary_bufs_sub .., nullary_bufs_sub .., binary_bufs_sub .., reshape_bufs_sub .., nullary_bufs_sub .., binary_bufs_sub .., unary_bufs_sub .., unary_bufs_sub .., unary_bufs_sub .., nary_bufs_sub .., unary_bufs_sub .., unary_bufs_sub .., unary_bufs_sub ..⟩

def x_v0 (m : (ℓ : Loc nD τ sig) → Buf (Elt F) ℓ) (c : Dev nD) : Buf (Elt F) ((c.tc : Thread nD τ).loc main_v0) := ((extractStridedSlice S2048x512 ![0, 0] · slices_S2048x8192_S2048x512_0_0) : (⟨S2048x8192, .f32⟩ : BufTy).Contents (Elt F) → (⟨S2048x512, .f32⟩ : BufTy).Contents (Elt F)) (m ((c.tc : Thread nD τ).loc main_arg2))
def x_v1 (m : (ℓ : Loc nD τ sig) → Buf (Elt F) ℓ) (c : Dev nD) : Buf (Elt F) ((c.tc : Thread nD τ).loc main_v1) := ((extractStridedSlice S2048x512 ![0, 512] · slices_S2048x8192_S2048x512_0_512) : (⟨S2048x8192, .f32⟩ : BufTy).Contents (Elt F) → (⟨S2048x512, .f32⟩ : BufTy).Contents (Elt F)) (m ((c.tc : Thread nD τ).loc main_arg2))
def x_v2 (m : (ℓ : Loc nD τ sig) → Buf (Elt F) ℓ) (c : Dev nD) : Buf (Elt F) ((c.tc : Thread nD τ).loc main_v2) := (broadcastInDim S1x512 ![1] bcast_S512_S1x512_1 : (⟨S512, .f32⟩ : BufTy).Contents (Elt F) → (⟨S1x512, .f32⟩ : BufTy).Contents (Elt F)) (m ((c.tc : Thread nD τ).loc main_arg3))
def x_v3 (m : (ℓ : Loc nD τ sig) → Buf (Elt F) ℓ) (c : Dev nD) : Buf (Elt F) ((c.tc : Thread nD τ).loc main_v3) := (broadcastInDim S2048x512 ![0, 1] bcast_S1x512_S2048x512_0_1 : (⟨S1x512, .f32⟩ : BufTy).Contents (Elt F) → (⟨S2048x512, .f32⟩ : BufTy).Contents (Elt F)) (x_v2 m c)
def x_v4 (m : (ℓ : Loc nD τ sig) → Buf (Elt F) ℓ) (c : Dev nD) : Buf (Elt F) ((c.tc : Thread nD τ).loc main_v4) := (mulf : (⟨S2048x512, .f32⟩ : BufTy).Contents (Elt F) → (⟨S2048x512, .f32⟩ : BufTy).Contents (Elt F) → (⟨S2048x512, .f32⟩ : BufTy).Contents (Elt F)) (x_v3 m c) (x_v0 m c)
def x_v5 (m : (ℓ : Loc nD τ sig) → Buf (Elt F) ℓ) (c : Dev nD) : Buf (Elt F) ((c.tc : Thread nD τ).loc main_v5) := (addf : (⟨S2048x512, .f32⟩ : BufTy).Contents (Elt F) → (⟨S2048x512, .f32⟩ : BufTy).Contents (Elt F) → (⟨S2048x512, .f32⟩ : BufTy).Contents (Elt F)) (m ((c.tc : Thread nD τ).loc main_arg1)) (x_v4 m c)
def x_cst (m : (ℓ : Loc nD τ sig) → Buf (Elt F) ℓ) (c : Dev nD) : Buf (Elt F) ((c.tc : Thread nD τ).loc main_cst) := (constant S_ .f32 0x3F000000#32)
def x_v6 (m : (ℓ : Loc nD τ sig) → Buf (Elt F) ℓ) (c : Dev nD) : Buf (Elt F) ((c.tc : Thread nD τ).loc main_v6) := (broadcastInDim S2048x512 ![] bcast_S_S2048x512 : (⟨S_, .f32⟩ : BufTy).Contents (Elt F) → (⟨S2048x512, .f32⟩ : BufTy).Contents (Elt F)) (x_cst m c)
def x_v7 (m : (ℓ : Loc nD τ sig) → Buf (Elt F) ℓ) (c : Dev nD) : Buf (Elt F) ((c.tc : Thread nD τ).loc main_v7) := (mulf : (⟨S2048x512, .f32⟩ : BufTy).Contents (Elt F) → (⟨S2048x512, .f32⟩ : BufTy).Contents (Elt F) → (⟨S2048x512, .f32⟩ : BufTy).Contents (Elt F)) (x_v6 m c) (x_v5 m c)
def x_v8 (m : (ℓ : Loc nD τ sig) → Buf (Elt F) ℓ) (c : Dev nD) : Buf (Elt F) ((c.tc : Thread nD τ).loc main_v8) := (mulf : (⟨S2048x512, .f32⟩ : BufTy).Contents (Elt F) → (⟨S2048x512, .f32⟩ : BufTy).Contents (Elt F) → (⟨S2048x512, .f32⟩ : BufTy).Contents (Elt F)) (x_v5 m c) (x_v5 m c)
def x_v9 (m : (ℓ : Loc nD τ sig) → Buf (Elt F) ℓ) (c : Dev nD) : Buf (Elt F) ((c.tc : Thread nD τ).loc main_v9) := (mulf : (⟨S2048x512, .f32⟩ : BufTy).Contents (Elt F) → (⟨S2048x512, .f32⟩ : BufTy).Contents (Elt F) → (⟨S2048x512, .f32⟩ : BufTy).Contents (Elt F)) (x_v8 m c) (x_v5 m c)
def x_v10 (m : (ℓ : Loc nD τ sig) → Buf (Elt F) ℓ) (c : Dev nD) : Buf (Elt F) ((c.tc : Thread nD τ).loc main_v10) := (mulf : (⟨S2048x512, .f32⟩ : BufTy).Contents (Elt F) → (⟨S2048x512, .f32⟩ : BufTy).Contents (Elt F) → (⟨S2048x512, .f32⟩ : BufTy).Contents (Elt F)) (x_v5 m c) (x_v5 m c)
def x_cst_0 (m : (ℓ : Loc nD τ sig) → Buf (Elt F) ℓ) (c : Dev nD) : Buf (Elt F) ((c.tc : Thread nD τ).loc main_cst_0) := (constant S_ .f32 0x40400000#32)
def x_v11 (m : (ℓ : Loc nD τ sig) → Buf (Elt F) ℓ) (c : Dev nD) : Buf (Elt F) ((c.tc : Thread nD τ).loc main_v11) := (broadcastInDim S2048x512 ![] bcast_S_S2048x512 : (⟨S_, .f32⟩ : BufTy).Contents (Elt F) → (⟨S2048x512, .f32⟩ : BufTy).Contents (Elt F)) (x_cst_0 m c)
def x_v12 (m : (ℓ : Loc nD τ sig) → Buf (Elt F) ℓ) (c : Dev nD) : Buf (Elt F) ((c.tc : Thread nD τ).loc main_v12) := (mulf : (⟨S2048x512, .f32⟩ : BufTy).Contents (Elt F) → (⟨S2048x512, .f32⟩ : BufTy).Contents (Elt F) → (⟨S2048x512, .f32⟩ : BufTy).Contents (Elt F)) (x_v11 m c) (x_v10 m c)
def x_cst_1 (m : (ℓ : Loc nD τ sig) → Buf (Elt F) ℓ) (c : Dev nD) : Buf (Elt F) ((c.tc : Thread nD τ).loc main_cst_1) := (constant S_ .f32 0x472EAB00#32)
def x_v13 (m : (ℓ : Loc nD τ sig) → Buf (Elt F) ℓ) (c : Dev nD) : Buf (Elt F) ((c.tc : Thread nD τ).loc main_v13) := (broadcastInDim S2048x512 ![] bcast_S_S2048x512 : (⟨S_, .f32⟩ : BufTy).Contents (Elt F) → (⟨S2048x512, .f32⟩ : BufTy).Contents (Elt F)) (x_cst_1 m c)
def x_v14 (m : (ℓ : Loc nD τ sig) → Buf (Elt F) ℓ) (c : Dev nD) : Buf (Elt F) ((c.tc : Thread nD τ).loc main_v14) := (mulf : (⟨S2048x512, .f32⟩ : BufTy).Contents (Elt F) → (⟨S2048x512, .f32⟩ : BufTy).Contents (Elt F) → (⟨S2048x512, .f32⟩ : BufTy).Contents (Elt F)) (x_v13 m c) (x_v9 m c)
def x_cst_2 (m : (ℓ : Loc nD τ sig) → Buf (Elt F) ℓ) (c : Dev nD) : Buf (Elt F) ((c.tc : Thread nD τ).loc main_cst_2) := (constant S_ .f32 0x49742400#32)
def x_v15 (m : (ℓ : Loc nD τ sig) → Buf (Elt F) ℓ) (c : Dev nD) : Buf (Elt F) ((c.tc : Thread nD τ).loc main_v15) := (broadcastInDim S2048x512 ![] bcast_S_S2048x512 : (⟨S_, .f32⟩ : BufTy).Contents (Elt F) → (⟨S2048x512, .f32⟩ : BufTy).Contents (Elt F)) (x_cst_2 m c)
def x_v16 (m : (ℓ : Loc nD τ sig) → Buf (Elt F) ℓ) (c : Dev nD) : Buf (Elt F) ((c.tc : Thread nD τ).loc main_v16) := (Host.divf : (⟨S2048x512, .f32⟩ : BufTy).Contents (Elt F) → (⟨S2048x512, .f32⟩ : BufTy).Contents (Elt F) → (⟨S2048x512, .f32⟩ : BufTy).Contents (Elt F)) (x_v14 m c) (x_v15 m c)
def x_v17 (m : (ℓ : Loc nD τ sig) → Buf (Elt F) ℓ) (c : Dev nD) : Buf (Elt F) ((c.tc : Thread nD τ).loc main_v17) := (addf : (⟨S2048x512, .f32⟩ : BufTy).Contents (Elt F) → (⟨S2048x512, .f32⟩ : BufTy).Contents (Elt F) → (⟨S2048x512, .f32⟩ : BufTy).Contents (Elt F)) (x_v5 m c) (x_v16 m c)
def x_cst_3 (m : (ℓ : Loc nD τ sig) → Buf (Elt F) ℓ) (c : Dev nD) : Buf (Elt F) ((c.tc : Thread nD τ).loc main_cst_3) := (constant S_ .f32 0x3F4C422A#32)
def x_v18 (m : (ℓ : Loc nD τ sig) → Buf (Elt F) ℓ) (c : Dev nD) : Buf (Elt F) ((c.tc : Thread nD τ).loc main_v18) := (broadcastInDim S2048x512 ![] bcast_S_S2048x512 : (⟨S_, .f32⟩ : BufTy).Contents (Elt F) → (⟨S2048x512, .f32⟩ : BufTy).Contents (Elt F)) (x_cst_3 m c)
def x_v19 (m : (ℓ : Loc nD τ sig) → Buf (Elt F) ℓ) (c : Dev nD) : Buf (Elt F) ((c.tc : Thread nD τ).loc main_v19) := (mulf : (⟨S2048x512, .f32⟩ : BufTy).Contents (Elt F) → (⟨S2048x512, .f32⟩ : BufTy).Contents (Elt F) → (⟨S2048x512, .f32⟩ : BufTy).Contents (Elt F)) (x_v18 m c) (x_v17 m c)
def x_v20 (m : (ℓ : Loc nD τ sig) → Buf (Elt F) ℓ) (c : Dev nD) : Buf (Elt F) ((c.tc : Thread nD τ).loc main_v20) := (Host.tanh : (⟨S2048x512, .f32⟩ : BufTy).Contents (Elt F) → (⟨S2048x512, .f32⟩ : BufTy).Contents (Elt F)) (x_v19 m c)
def x_cst_4 (m : (ℓ : Loc nD τ sig) → Buf (Elt F) ℓ) (c : Dev nD) : Buf (Elt F) ((c.tc : Thread nD τ).loc main_cst_4) := (constant S_ .f32 0x3F800000#32)
def x_v21 (m : (ℓ : Loc nD τ sig) → Buf (Elt F) ℓ) (c : Dev nD) : Buf (Elt F) ((c.tc : Thread nD τ).loc main_v21) := (broadcastInDim S2048x512 ![] bcast_S_S2048x512 : (⟨S_, .f32⟩ : BufTy).Contents (Elt F) → (⟨S2048x512, .f32⟩ : BufTy).Contents (Elt F)) (x_cst_4 m c)
def x_v22 (m : (ℓ : Loc nD τ sig) → Buf (Elt F) ℓ) (c : Dev nD) : Buf (Elt F) ((c.tc : Thread nD τ).loc main_v22) := (addf : (⟨S2048x512, .f32⟩ : BufTy).Contents (Elt F) → (⟨S2048x512, .f32⟩ : BufTy).Contents (Elt F) → (⟨S2048x512, .f32⟩ : BufTy).Contents (Elt F)) (x_v21 m c) (x_v20 m c)
def x_cst_5 (m : (ℓ : Loc nD τ sig) → Buf (Elt F) ℓ) (c : Dev nD) : Buf (Elt F) ((c.tc : Thread nD τ).loc main_cst_5) := (constant S_ .f32 0x3F800000#32)
def x_v23 (m : (ℓ : Loc nD τ sig) → Buf (Elt F) ℓ) (c : Dev nD) : Buf (Elt F) ((c.tc : Thread nD τ).loc main_v23) := (broadcastInDim S2048x512 ![] bcast_S_S2048x512 : (⟨S_, .f32⟩ : BufTy).Contents (Elt F) → (⟨S2048x512, .f32⟩ : BufTy).Contents (Elt F)) (x_cst_5 m c)
def x_v24 (m : (ℓ : Loc nD τ sig) → Buf (Elt F) ℓ) (c : Dev nD) : Buf (Elt F) ((c.tc : Thread nD τ).loc main_v24) := (subf : (⟨S2048x512, .f32⟩ : BufTy).Contents (Elt F) → (⟨S2048x512, .f32⟩ : BufTy).Contents (Elt F) → (⟨S2048x512, .f32⟩ : BufTy).Contents (Elt F)) (x_v23 m c) (x_v20 m c)
def x_v25 (m : (ℓ : Loc nD τ sig) → Buf (Elt F) ℓ) (c : Dev nD) : Buf (Elt F) ((c.tc : Thread nD τ).loc main_v25) := (mulf : (⟨S2048x512, .f32⟩ : BufTy).Contents (Elt F) → (⟨S2048x512, .f32⟩ : BufTy).Contents (Elt F) → (⟨S2048x512, .f32⟩ : BufTy).Contents (Elt F)) (x_v22 m c) (x_v24 m c)
def x_cst_6 (m : (ℓ : Loc nD τ sig) → Buf (Elt F) ℓ) (c : Dev nD) : Buf (Elt F) ((c.tc : Thread nD τ).loc main_cst_6) := (constant S_ .f32 0x3F800000#32)
def x_v26 (m : (ℓ : Loc nD τ sig) → Buf (Elt F) ℓ) (c : Dev nD) : Buf (Elt F) ((c.tc : Thread nD τ).loc main_v26) := (broadcastInDim S2048x512 ![] bcast_S_S2048x512 : (⟨S_, .f32⟩ : BufTy).Contents (Elt F) → (⟨S2048x512, .f32⟩ : BufTy).Contents (Elt F)) (x_cst_6 m c)
def x_v27 (m : (ℓ : Loc nD τ sig) → Buf (Elt F) ℓ) (c : Dev nD) : Buf (Elt F) ((c.tc : Thread nD τ).loc main_v27) := (addf : (⟨S2048x512, .f32⟩ : BufTy).Contents (Elt F) → (⟨S2048x512, .f32⟩ : BufTy).Contents (Elt F) → (⟨S2048x512, .f32⟩ : BufTy).Contents (Elt F)) (x_v26 m c) (x_v20 m c)
def x_v28 (m : (ℓ : Loc nD τ sig) → Buf (Elt F) ℓ) (c : Dev nD) : Buf (Elt F) ((c.tc : Thread nD τ).loc main_v28) := (mulf : (⟨S2048x512, .f32⟩ : BufTy).Contents (Elt F) → (⟨S2048x512, .f32⟩ : BufTy).Contents (Elt F) → (⟨S2048x512, .f32⟩ : BufTy).Contents (Elt F)) (x_v7 m c) (x_v27 m c)
def x_v29 (m : (ℓ : Loc nD τ sig) → Buf (Elt F) ℓ) (c : Dev nD) : Buf (Elt F) ((c.tc : Thread nD τ).loc main_v29) := ((fun l r => Host.dotGeneral dot_S2048x512_S512x512_S2048x512_1_0_0_1_n_n none l r) : (⟨S2048x512, .f32⟩ : BufTy).Contents (Elt F) → (⟨S512x512, .f32⟩ : BufTy).Contents (Elt F) → (⟨S2048x512, .f32⟩ : BufTy).Contents (Elt F)) (x_v28 m c) (m ((c.tc : Thread nD τ).loc main_arg4))
def x_v30 (m : (ℓ : Loc nD τ sig) → Buf (Elt F) ℓ) (c : Dev nD) : Buf (Elt F) ((c.tc : Thread nD τ).loc main_v30) := (broadcastInDim S1x512 ![1] bcast_S512_S1x512_1 : (⟨S512, .f32⟩ : BufTy).Contents (Elt F) → (⟨S1x512, .f32⟩ : BufTy).Contents (Elt F)) (m ((c.tc : Thread nD τ).loc main_arg5))
def x_v31 (m : (ℓ : Loc nD τ sig) → Buf (Elt F) ℓ) (c : Dev nD) : Buf (Elt F) ((c.tc : Thread nD τ).loc main_v31) := (broadcastInDim S2048x512 ![0, 1] bcast_S1x512_S2048x512_0_1 : (⟨S1x512, .f32⟩ : BufTy).Contents (Elt F) → (⟨S2048x512, .f32⟩ : BufTy).Contents (Elt F)) (x_v30 m c)
def x_v32 (m : (ℓ : Loc nD τ sig) → Buf (Elt F) ℓ) (c : Dev nD) : Buf (Elt F) ((c.tc : Thread nD τ).loc main_v32) := (addf : (⟨S2048x512, .f32⟩ : BufTy).Contents (Elt F) → (⟨S2048x512, .f32⟩ : BufTy).Contents (Elt F) → (⟨S2048x512, .f32⟩ : BufTy).Contents (Elt F)) (x_v29 m c) (x_v31 m c)
def x_v33 (m : (ℓ : Loc nD τ sig) → Buf (Elt F) ℓ) (c : Dev nD) : Buf (Elt F) ((c.tc : Thread nD τ).loc main_v33) := (Host.negf : (⟨S2048x512, .f32⟩ : BufTy).Contents (Elt F) → (⟨S2048x512, .f32⟩ : BufTy).Contents (Elt F)) (x_v32 m c)
def x_v34 (m : (ℓ : Loc nD τ sig) → Buf (Elt F) ℓ) (c : Dev nD) : Buf (Elt F) ((c.tc : Thread nD τ).loc main_v34) := (Host.exp : (⟨S2048x512, .f32⟩ : BufTy).Contents (Elt F) → (⟨S2048x512, .f32⟩ : BufTy).Contents (Elt F)) (x_v33 m c)
def x_cst_7 (m : (ℓ : Loc nD τ sig) → Buf (Elt F) ℓ) (c : Dev nD) : Buf (Elt F) ((c.tc : Thread nD τ).loc main_cst_7) := (constant S_ .f32 0x3F800000#32)
def x_v35 (m : (ℓ : Loc nD τ sig) → Buf (Elt F) ℓ) (c : Dev nD) : Buf (Elt F) ((c.tc : Thread nD τ).loc main_v35) := (broadcastInDim S2048x512 ![] bcast_S_S2048x512 : (⟨S_, .f32⟩ : BufTy).Contents (Elt F) → (⟨S2048x512, .f32⟩ : BufTy).Contents (Elt F)) (x_cst_7 m c)
def x_v36 (m : (ℓ : Loc nD τ sig) → Buf (Elt F) ℓ) (c : Dev nD) : Buf (Elt F) ((c.tc : Thread nD τ).loc main_v36) := (addf : (⟨S2048x512, .f32⟩ : BufTy).Contents (Elt F) → (⟨S2048x512, .f32⟩ : BufTy).Contents (Elt F) → (⟨S2048x512, .f32⟩ : BufTy).Contents (Elt F)) (x_v35 m c) (x_v34 m c)
def x_cst_8 (m : (ℓ : Loc nD τ sig) → Buf (Elt F) ℓ) (c : Dev nD) : Buf (Elt F) ((c.tc : Thread nD τ).loc main_cst_8) := (constant S_ .f32 0x3F800000#32)
def x_v37 (m : (ℓ : Loc nD τ sig) → Buf (Elt F) ℓ) (c : Dev nD) : Buf (Elt F) ((c.tc : Thread nD τ).loc main_v37) := (broadcastInDim S2048x512 ![] bcast_S_S2048x512 : (⟨S_, .f32⟩ : BufTy).Contents (Elt F) → (⟨S2048x512, .f32⟩ : BufTy).Contents (Elt F)) (x_cst_8 m c)
def x_v38 (m : (ℓ : Loc nD τ sig) → Buf (Elt F) ℓ) (c : Dev nD) : Buf (Elt F) ((c.tc : Thread nD τ).loc main_v38) := (Host.divf : (⟨S2048x512, .f32⟩ : BufTy).Contents (Elt F) → (⟨S2048x512, .f32⟩ : BufTy).Contents (Elt F) → (⟨S2048x512, .f32⟩ : BufTy).Contents (Elt F)) (x_v37 m c) (x_v36 m c)
def x_cst_9 (m : (ℓ : Loc nD τ sig) → Buf (Elt F) ℓ) (c : Dev nD) : Buf (Elt F) ((c.tc : Thread nD τ).loc main_cst_9) := (constant S_ .f32 0x3F800000#32)
def x_v39 (m : (ℓ : Loc nD τ sig) → Buf (Elt F) ℓ) (c : Dev nD) : Buf (Elt F) ((c.tc : Thread nD τ).loc main_v39) := (broadcastInDim S2048x512 ![] bcast_S_S2048x512 : (⟨S_, .f32⟩ : BufTy).Contents (Elt F) → (⟨S2048x512, .f32⟩ : BufTy).Contents (Elt F)) (x_cst_9 m c)
def x_v40 (m : (ℓ : Loc nD τ sig) → Buf (Elt F) ℓ) (c : Dev nD) : Buf (Elt F) ((c.tc : Thread nD τ).loc main_v40) := (subf : (⟨S2048x512, .f32⟩ : BufTy).Contents (Elt F) → (⟨S2048x512, .f32⟩ : BufTy).Contents (Elt F) → (⟨S2048x512, .f32⟩ : BufTy).Contents (Elt F)) (x_v39 m c) (x_v38 m c)
def x_v41 (m : (ℓ : Loc nD τ sig) → Buf (Elt F) ℓ) (c : Dev nD) : Buf (Elt F) ((c.tc : Thread nD τ).loc main_v41) := (mulf : (⟨S2048x512, .f32⟩ : BufTy).Contents (Elt F) → (⟨S2048x512, .f32⟩ : BufTy).Contents (Elt F) → (⟨S2048x512, .f32⟩ : BufTy).Contents (Elt F)) (x_v38 m c) (x_v40 m c)
def x_v42 (m : (ℓ : Loc nD τ sig) → Buf (Elt F) ℓ) (c : Dev nD) : Buf (Elt F) ((c.tc : Thread nD τ).loc main_v42) := (mulf : (⟨S2048x512, .f32⟩ : BufTy).Contents (Elt F) → (⟨S2048x512, .f32⟩ : BufTy).Contents (Elt F) → (⟨S2048x512, .f32⟩ : BufTy).Contents (Elt F)) (x_v28 m c) (x_v38 m c)
def x_call0_v0 (m : (ℓ : Loc nD τ sig) → Buf (Elt F) ℓ) (c : Dev nD) : Buf (Elt F) ((c.tc : Thread nD τ).loc main_call0_v0) := Host.negf (x_v1 m c)
def x_call0_v1 (m : (ℓ : Loc nD τ sig) → Buf (Elt F) ℓ) (c : Dev nD) : Buf (Elt F) ((c.tc : Thread nD τ).loc main_call0_v1) := Host.exp (x_call0_v0 m c)
def x_call0_cst (m : (ℓ : Loc nD τ sig) → Buf (Elt F) ℓ) (c : Dev nD) : Buf (Elt F) ((c.tc : Thread nD τ).loc main_call0_cst) := (constant S_ .f32 0x3F800000#32)
def x_call0_v2 (m : (ℓ : Loc nD τ sig) → Buf (Elt F) ℓ) (c : Dev nD) : Buf (Elt F) ((c.tc : Thread nD τ).loc main_call0_v2) := (broadcastInDim S2048x512 ![] bcast_S_S2048x512) (x_call0_cst m c)
def x_call0_v3 (m : (ℓ : Loc nD τ sig) → Buf (Elt F) ℓ) (c : Dev nD) : Buf (Elt F) ((c.tc : Thread nD τ).loc main_call0_v3) := addf (x_call0_v2 m c) (x_call0_v1 m c)
def x_call0_cst_0 (m : (ℓ : Loc nD τ sig) → Buf (Elt F) ℓ) (c : Dev nD) : Buf (Elt F) ((c.tc : Thread nD τ).loc main_call0_cst_0) := (constant S_ .f32 0x3F800000#32)
def x_call0_v4 (m : (ℓ : Loc nD τ sig) → Buf (Elt F) ℓ) (c : Dev nD) : Buf (Elt F) ((c.tc : Thread nD τ).loc main_call0_v4) := (broadcastInDim S2048x512 ![] bcast_S_S2048x512) (x_call0_cst_0 m c)
def x_v43_2 (m : (ℓ : Loc nD τ sig) → Buf (Elt F) ℓ) (c : Dev nD) : Buf (Elt F) ((c.tc : Thread nD τ).loc main_v43_2) := Host.divf (x_call0_v4 m c) (x_call0_v3 m c)
def x_call0_cst_1 (m : (ℓ : Loc nD τ sig) → Buf (Elt F) ℓ) (c : Dev nD) : Buf (Elt F) ((c.tc : Thread nD τ).loc main_call0_cst_1) := (constant S_ .f32 0x3F800000#32)
def x_call0_v6 (m : (ℓ : Loc nD τ sig) → Buf (Elt F) ℓ) (c : Dev nD) : Buf (Elt F) ((c.tc : Thread nD τ).loc main_call0_v6) := (broadcastInDim S2048x512 ![] bcast_S_S2048x512) (x_call0_cst_1 m c)
def x_call0_v7 (m : (ℓ : Loc nD τ sig) → Buf (Elt F) ℓ) (c : Dev nD) : Buf (Elt F) ((c.tc : Thread nD τ).loc main_call0_v7) := subf (x_call0_v6 m c) (x_v43_2 m c)
def x_v43_1 (m : (ℓ : Loc nD τ sig) → Buf (Elt F) ℓ) (c : Dev nD) : Buf (Elt F) ((c.tc : Thread nD τ).loc main_v43_1) := mulf (x_v43_2 m c) (x_call0_v7 m c)
def x_v43_0 (m : (ℓ : Loc nD τ sig) → Buf (Elt F) ℓ) (c : Dev nD) : Buf (Elt F) ((c.tc : Thread nD τ).loc main_v43_0) := mulf (x_v1 m c) (x_v43_2 m c)
def x_v44 (m : (ℓ : Loc nD τ sig) → Buf (Elt F) ℓ) (c : Dev nD) : Buf (Elt F) ((c.tc : Thread nD τ).loc main_v44) := (mulf : (⟨S2048x512, .f32⟩ : BufTy).Contents (Elt F) → (⟨S2048x512, .f32⟩ : BufTy).Contents (Elt F) → (⟨S2048x512, .f32⟩ : BufTy).Contents (Elt F)) (x_v42 m c) (x_v43_0 m c)
def x_v45 (m : (ℓ : Loc nD τ sig) → Buf (Elt F) ℓ) (c : Dev nD) : Buf (Elt F) ((c.tc : Thread nD τ).loc main_v45) := (mulf : (⟨S2048x512, .f32⟩ : BufTy).Contents (Elt F) → (⟨S2048x512, .f32⟩ : BufTy).Contents (Elt F) → (⟨S2048x512, .f32⟩ : BufTy).Contents (Elt F)) (x_v42 m c) (m ((c.tc : Thread nD τ).loc main_arg0))
def x_v46 (m : (ℓ : Loc nD τ sig) → Buf (Elt F) ℓ) (c : Dev nD) : Buf (Elt F) ((c.tc : Thread nD τ).loc main_v46) := (mulf : (⟨S2048x512, .f32⟩ : BufTy).Contents (Elt F) → (⟨S2048x512, .f32⟩ : BufTy).Contents (Elt F) → (⟨S2048x512, .f32⟩ : BufTy).Contents (Elt F)) (m ((c.tc : Thread nD τ).loc main_arg0)) (x_v43_0 m c)
def x_call1_v0 (m : (ℓ : Loc nD τ sig) → Buf (Elt F) ℓ) (c : Dev nD) : Buf (Elt F) ((c.tc : Thread nD τ).loc main_call1_v0) := mulf (x_v1 m c) (x_v45 m c)
def x_call1_v1 (m : (ℓ : Loc nD τ sig) → Buf (Elt F) ℓ) (c : Dev nD) : Buf (Elt F) ((c.tc : Thread nD τ).loc main_call1_v1) := mulf (x_v45 m c) (x_v43_2 m c)
def x_call1_v2 (m : (ℓ : Loc nD τ sig) → Buf (Elt F) ℓ) (c : Dev nD) : Buf (Elt F) ((c.tc : Thread nD τ).loc main_call1_v2) := mulf (x_call1_v0 m c) (x_v43_1 m c)
def x_v47 (m : (ℓ : Loc nD τ sig) → Buf (Elt F) ℓ) (c : Dev nD) : Buf (Elt F) ((c.tc : Thread nD τ).loc main_v47) := addf (x_call1_v1 m c) (x_call1_v2 m c)
def x_v48 (m : (ℓ : Loc nD τ sig) → Buf (Elt F) ℓ) (c : Dev nD) : Buf (Elt F) ((c.tc : Thread nD τ).loc main_v48) := (mulf : (⟨S2048x512, .f32⟩ : BufTy).Contents (Elt F) → (⟨S2048x512, .f32⟩ : BufTy).Contents (Elt F) → (⟨S2048x512, .f32⟩ : BufTy).Contents (Elt F)) (x_v28 m c) (x_v46 m c)
def x_v49 (m : (ℓ : Loc nD τ sig) → Buf (Elt F) ℓ) (c : Dev nD) : Buf (Elt F) ((c.tc : Thread nD τ).loc main_v49) := (mulf : (⟨S2048x512, .f32⟩ : BufTy).Contents (Elt F) → (⟨S2048x512, .f32⟩ : BufTy).Contents (Elt F) → (⟨S2048x512, .f32⟩ : BufTy).Contents (Elt F)) (x_v46 m c) (x_v38 m c)
def x_v50 (m : (ℓ : Loc nD τ sig) → Buf (Elt F) ℓ) (c : Dev nD) : Buf (Elt F) ((c.tc : Thread nD τ).loc main_v50) := (mulf : (⟨S2048x512, .f32⟩ : BufTy).Contents (Elt F) → (⟨S2048x512, .f32⟩ : BufTy).Contents (Elt F) → (⟨S2048x512, .f32⟩ : BufTy).Contents (Elt F)) (x_v48 m c) (x_v41 m c)
def x_cst_10 (m : (ℓ : Loc nD τ sig) → Buf (Elt F) ℓ) (c : Dev nD) : Buf (Elt F) ((c.tc : Thread nD τ).loc main_cst_10) := (constant S_ .f32 0x00000000#32)
def x_v51 (m : (ℓ : Loc nD τ sig) → Buf (Elt F) ℓ) (c : Dev nD) : Buf (Elt F) ((c.tc : Thread nD τ).loc main_v51) := ((fun x v => Host.reduceAdd x v reducesTo_S2048x512_S512_d0 h_S_) : (⟨S2048x512, .f32⟩ : BufTy).Contents (Elt F) → (⟨S_, .f32⟩ : BufTy).Contents (Elt F) → (⟨S512, .f32⟩ : BufTy).Contents (Elt F)) (x_v50 m c) (x_cst_10 m c)
def x_v52 (m : (ℓ : Loc nD τ sig) → Buf (Elt F) ℓ) (c : Dev nD) : Buf (Elt F) ((c.tc : Thread nD τ).loc main_v52) := shapeCast main_v52.ty.shape (x_v51 m c) shapeCasts_S512_S1x512
def x_cst_11 (m : (ℓ : Loc nD τ sig) → Buf (Elt F) ℓ) (c : Dev nD) : Buf (Elt F) ((c.tc : Thread nD τ).loc main_cst_11) := (constant S_ .f32 0x00000000#32)
def x_v53 (m : (ℓ : Loc nD τ sig) → Buf (Elt F) ℓ) (c : Dev nD) : Buf (Elt F) ((c.tc : Thread nD τ).loc main_v53) := ((fun x v => Host.reduceAdd x v reducesTo_S1x512_S512_d0 h_S_) : (⟨S1x512, .f32⟩ : BufTy).Contents (Elt F) → (⟨S_, .f32⟩ : BufTy).Contents (Elt F) → (⟨S512, .f32⟩ : BufTy).Contents (Elt F)) (x_v52 m c) (x_cst_11 m c)
def x_v54 (m : (ℓ : Loc nD τ sig) → Buf (Elt F) ℓ) (c : Dev nD) : Buf (Elt F) ((c.tc : Thread nD τ).loc main_v54) := ((fun l r => Host.dotGeneral dot_S2048x512_S2048x512_S512x512_0_0_1_1_n_n none l r) : (⟨S2048x512, .f32⟩ : BufTy).Contents (Elt F) → (⟨S2048x512, .f32⟩ : BufTy).Contents (Elt F) → (⟨S512x512, .f32⟩ : BufTy).Contents (Elt F)) (x_v50 m c) (x_v28 m c)
def x_v55 (m : (ℓ : Loc nD τ sig) → Buf (Elt F) ℓ) (c : Dev nD) : Buf (Elt F) ((c.tc : Thread nD τ).loc main_v55) := ((transpose S512x512 [1, 0] · transposes_S512x512_S512x512_1_0) : (⟨S512x512, .f32⟩ : BufTy).Contents (Elt F) → (⟨S512x512, .f32⟩ : BufTy).Contents (Elt F)) (x_v54 m c)
def x_v56 (m : (ℓ : Loc nD τ sig) → Buf (Elt F) ℓ) (c : Dev nD) : Buf (Elt F) ((c.tc : Thread nD τ).loc main_v56) := ((fun l r => Host.dotGeneral dot_S2048x512_S512x512_S2048x512_1_1_0_0_n_n none l r) : (⟨S2048x512, .f32⟩ : BufTy).Contents (Elt F) → (⟨S512x512, .f32⟩ : BufTy).Contents (Elt F) → (⟨S2048x512, .f32⟩ : BufTy).Contents (Elt F)) (x_v50 m c) (m ((c.tc : Thread nD τ).loc main_arg4))
def x_v57 (m : (ℓ : Loc nD τ sig) → Buf (Elt F) ℓ) (c : Dev nD) : Buf (Elt F) ((c.tc : Thread nD τ).loc main_v57) := (addf : (⟨S2048x512, .f32⟩ : BufTy).Contents (Elt F) → (⟨S2048x512, .f32⟩ : BufTy).Contents (Elt F) → (⟨S2048x512, .f32⟩ : BufTy).Contents (Elt F)) (x_v49 m c) (x_v56 m c)
def x_v58 (m : (ℓ : Loc nD τ sig) → Buf (Elt F) ℓ) (c : Dev nD) : Buf (Elt F) ((c.tc : Thread nD τ).loc main_v58) := (mulf : (⟨S2048x512, .f32⟩ : BufTy).Contents (Elt F) → (⟨S2048x512, .f32⟩ : BufTy).Contents (Elt F) → (⟨S2048x512, .f32⟩ : BufTy).Contents (Elt F)) (x_v7 m c) (x_v57 m c)
def x_v59 (m : (ℓ : Loc nD τ sig) → Buf (Elt F) ℓ) (c : Dev nD) : Buf (Elt F) ((c.tc : Thread nD τ).loc main_v59) := (mulf : (⟨S2048x512, .f32⟩ : BufTy).Contents (Elt F) → (⟨S2048x512, .f32⟩ : BufTy).Contents (Elt F) → (⟨S2048x512, .f32⟩ : BufTy).Contents (Elt F)) (x_v57 m c) (x_v27 m c)
def x_v60 (m : (ℓ : Loc nD τ sig) → Buf (Elt F) ℓ) (c : Dev nD) : Buf (Elt F) ((c.tc : Thread nD τ).loc main_v60) := (mulf : (⟨S2048x512, .f32⟩ : BufTy).Contents (Elt F) → (⟨S2048x512, .f32⟩ : BufTy).Contents (Elt F) → (⟨S2048x512, .f32⟩ : BufTy).Contents (Elt F)) (x_v58 m c) (x_v25 m c)
def x_cst_12 (m : (ℓ : Loc nD τ sig) → Buf (Elt F) ℓ) (c : Dev nD) : Buf (Elt F) ((c.tc : Thread nD τ).loc main_cst_12) := (constant S_ .f32 0x3F4C422A#32)
def x_v61 (m : (ℓ : Loc nD τ sig) → Buf (Elt F) ℓ) (c : Dev nD) : Buf (Elt F) ((c.tc : Thread nD τ).loc main_v61) := (broadcastInDim S2048x512 ![] bcast_S_S2048x512 : (⟨S_, .f32⟩ : BufTy).Contents (Elt F) → (⟨S2048x512, .f32⟩ : BufTy).Contents (Elt F)) (x_cst_12 m c)
def x_v62 (m : (ℓ : Loc nD τ sig) → Buf (Elt F) ℓ) (c : Dev nD) : Buf (Elt F) ((c.tc : Thread nD τ).loc main_v62) := (mulf : (⟨S2048x512, .f32⟩ : BufTy).Contents (Elt F) → (⟨S2048x512, .f32⟩ : BufTy).Contents (Elt F) → (⟨S2048x512, .f32⟩ : BufTy).Contents (Elt F)) (x_v61 m c) (x_v60 m c)
def x_cst_13 (m : (ℓ : Loc nD τ sig) → Buf (Elt F) ℓ) (c : Dev nD) : Buf (Elt F) ((c.tc : Thread nD τ).loc main_cst_13) := (constant S_ .f32 0x49742400#32)
def x_v63 (m : (ℓ : Loc nD τ sig) → Buf (Elt F) ℓ) (c : Dev nD) : Buf (Elt F) ((c.tc : Thread nD τ).loc main_v63) := (broadcastInDim S2048x512 ![] bcast_S_S2048x512 : (⟨S_, .f32⟩ : BufTy).Contents (Elt F) → (⟨S2048x512, .f32⟩ : BufTy).Contents (Elt F)) (x_cst_13 m c)
def x_v64 (m : (ℓ : Loc nD τ sig) → Buf (Elt F) ℓ) (c : Dev nD) : Buf (Elt F) ((c.tc : Thread nD τ).loc main_v64) := (Host.divf : (⟨S2048x512, .f32⟩ : BufTy).Contents (Elt F) → (⟨S2048x512, .f32⟩ : BufTy).Contents (Elt F) → (⟨S2048x512, .f32⟩ : BufTy).Contents (Elt F)) (x_v62 m c) (x_v63 m c)
def x_cst_14 (m : (ℓ : Loc nD τ sig) → Buf (Elt F) ℓ) (c : Dev nD) : Buf (Elt F) ((c.tc : Thread nD τ).loc main_cst_14) := (constant S_ .f32 0x472EAB00#32)
def x_v65 (m : (ℓ : Loc nD τ sig) → Buf (Elt F) ℓ) (c : Dev nD) : Buf (Elt F) ((c.tc : Thread nD τ).loc main_v65) := (broadcastInDim S2048x512 ![] bcast_S_S2048x512 : (⟨S_, .f32⟩ : BufTy).Contents (Elt F) → (⟨S2048x512, .f32⟩ : BufTy).Contents (Elt F)) (x_cst_14 m c)
def x_v66 (m : (ℓ : Loc nD τ sig) → Buf (Elt F) ℓ) (c : Dev nD) : Buf (Elt F) ((c.tc : Thread nD τ).loc main_v66) := (mulf : (⟨S2048x512, .f32⟩ : BufTy).Contents (Elt F) → (⟨S2048x512, .f32⟩ : BufTy).Contents (Elt F) → (⟨S2048x512, .f32⟩ : BufTy).Contents (Elt F)) (x_v65 m c) (x_v64 m c)
def x_v67 (m : (ℓ : Loc nD τ sig) → Buf (Elt F) ℓ) (c : Dev nD) : Buf (Elt F) ((c.tc : Thread nD τ).loc main_v67) := (mulf : (⟨S2048x512, .f32⟩ : BufTy).Contents (Elt F) → (⟨S2048x512, .f32⟩ : BufTy).Contents (Elt F) → (⟨S2048x512, .f32⟩ : BufTy).Contents (Elt F)) (x_v66 m c) (x_v12 m c)
def x_v68 (m : (ℓ : Loc nD τ sig) → Buf (Elt F) ℓ) (c : Dev nD) : Buf (Elt F) ((c.tc : Thread nD τ).loc main_v68) := (addf : (⟨S2048x512, .f32⟩ : BufTy).Contents (Elt F) → (⟨S2048x512, .f32⟩ : BufTy).Contents (Elt F) → (⟨S2048x512, .f32⟩ : BufTy).Contents (Elt F)) (x_v62 m c) (x_v67 m c)
def x_cst_15 (m : (ℓ : Loc nD τ sig) → Buf (Elt F) ℓ) (c : Dev nD) : Buf (Elt F) ((c.tc : Thread nD τ).loc main_cst_15) := (constant S_ .f32 0x3F000000#32)
def x_v69 (m : (ℓ : Loc nD τ sig) → Buf (Elt F) ℓ) (c : Dev nD) : Buf (Elt F) ((c.tc : Thread nD τ).loc main_v69) := (broadcastInDim S2048x512 ![] bcast_S_S2048x512 : (⟨S_, .f32⟩ : BufTy).Contents (Elt F) → (⟨S2048x512, .f32⟩ : BufTy).Contents (Elt F)) (x_cst_15 m c)
def x_v70 (m : (ℓ : Loc nD τ sig) → Buf (Elt F) ℓ) (c : Dev nD) : Buf (Elt F) ((c.tc : Thread nD τ).loc main_v70) := (mulf : (⟨S2048x512, .f32⟩ : BufTy).Contents (Elt F) → (⟨S2048x512, .f32⟩ : BufTy).Contents (Elt F) → (⟨S2048x512, .f32⟩ : BufTy).Contents (Elt F)) (x_v69 m c) (x_v59 m c)
def x_v71 (m : (ℓ : Loc nD τ sig) → Buf (Elt F) ℓ) (c : Dev nD) : Buf (Elt F) ((c.tc : Thread nD τ).loc main_v71) := (addf : (⟨S2048x512, .f32⟩ : BufTy).Contents (Elt F) → (⟨S2048x512, .f32⟩ : BufTy).Contents (Elt F) → (⟨S2048x512, .f32⟩ : BufTy).Contents (Elt F)) (x_v68 m c) (x_v70 m c)
def x_v72 (m : (ℓ : Loc nD τ sig) → Buf (Elt F) ℓ) (c : Dev nD) : Buf (Elt F) ((c.tc : Thread nD τ).loc main_v72) := (broadcastInDim S2048x512 ![0, 1] bcast_S1x512_S2048x512_0_1 : (⟨S1x512, .f32⟩ : BufTy).Contents (Elt F) → (⟨S2048x512, .f32⟩ : BufTy).Contents (Elt F)) (x_v2 m c)
def x_v73 (m : (ℓ : Loc nD τ sig) → Buf (Elt F) ℓ) (c : Dev nD) : Buf (Elt F) ((c.tc : Thread nD τ).loc main_v73) := (mulf : (⟨S2048x512, .f32⟩ : BufTy).Contents (Elt F) → (⟨S2048x512, .f32⟩ : BufTy).Contents (Elt F) → (⟨S2048x512, .f32⟩ : BufTy).Contents (Elt F)) (x_v72 m c) (x_v71 m c)
def x_v74 (m : (ℓ : Loc nD τ sig) → Buf (Elt F) ℓ) (c : Dev nD) : Buf (Elt F) ((c.tc : Thread nD τ).loc main_v74) := (mulf : (⟨S2048x512, .f32⟩ : BufTy).Contents (Elt F) → (⟨S2048x512, .f32⟩ : BufTy).Contents (Elt F) → (⟨S2048x512, .f32⟩ : BufTy).Contents (Elt F)) (x_v71 m c) (x_v0 m c)
def x_cst_16 (m : (ℓ : Loc nD τ sig) → Buf (Elt F) ℓ) (c : Dev nD) : Buf (Elt F) ((c.tc : Thread nD τ).loc main_cst_16) := (constant S_ .f32 0x00000000#32)
def x_v75 (m : (ℓ : Loc nD τ sig) → Buf (Elt F) ℓ) (c : Dev nD) : Buf (Elt F) ((c.tc : Thread nD τ).loc main_v75) := ((fun x v => Host.reduceAdd x v reducesTo_S2048x512_S512_d0 h_S_) : (⟨S2048x512, .f32⟩ : BufTy).Contents (Elt F) → (⟨S_, .f32⟩ : BufTy).Contents (Elt F) → (⟨S512, .f32⟩ : BufTy).Contents (Elt F)) (x_v74 m c) (x_cst_16 m c)
def x_v76 (m : (ℓ : Loc nD τ sig) → Buf (Elt F) ℓ) (c : Dev nD) : Buf (Elt F) ((c.tc : Thread nD τ).loc main_v76) := shapeCast main_v76.ty.shape (x_v75 m c) shapeCasts_S512_S1x512
def x_cst_17 (m : (ℓ : Loc nD τ sig) → Buf (Elt F) ℓ) (c : Dev nD) : Buf (Elt F) ((c.tc : Thread nD τ).loc main_cst_17) := (constant S_ .f32 0x00000000#32)
def x_v77 (m : (ℓ : Loc nD τ sig) → Buf (Elt F) ℓ) (c : Dev nD) : Buf (Elt F) ((c.tc : Thread nD τ).loc main_v77) := ((fun x v => Host.reduceAdd x v reducesTo_S1x512_S512_d0 h_S_) : (⟨S1x512, .f32⟩ : BufTy).Contents (Elt F) → (⟨S_, .f32⟩ : BufTy).Contents (Elt F) → (⟨S512, .f32⟩ : BufTy).Contents (Elt F)) (x_v76 m c) (x_cst_17 m c)
def x_v78 (m : (ℓ : Loc nD τ sig) → Buf (Elt F) ℓ) (c : Dev nD) : Buf (Elt F) ((c.tc : Thread nD τ).loc main_v78) := ((extractStridedSlice S2048x512 ![0, 0] · slices_S2048x8192_S2048x512_0_0) : (⟨S2048x8192, .bf16⟩ : BufTy).Contents (Elt F) → (⟨S2048x512, .bf16⟩ : BufTy).Contents (Elt F)) (m ((c.tc : Thread nD τ).loc main_arg6))
def x_v79 (m : (ℓ : Loc nD τ sig) → Buf (Elt F) ℓ) (c : Dev nD) : Buf (Elt F) ((c.tc : Thread nD τ).loc main_v79) := ((truncf .bf16 · bitsLt_bf16_f32) : (⟨S2048x512, .f32⟩ : BufTy).Contents (Elt F) → (⟨S2048x512, .bf16⟩ : BufTy).Contents (Elt F)) (x_v47 m c)
def x_v80 (m : (ℓ : Loc nD τ sig) → Buf (Elt F) ℓ) (c : Dev nD) : Buf (Elt F) ((c.tc : Thread nD τ).loc main_v80) := ((extractStridedSlice S2048x7168 ![0, 1024] · slices_S2048x8192_S2048x7168_0_1024) : (⟨S2048x8192, .bf16⟩ : BufTy).Contents (Elt F) → (⟨S2048x7168, .bf16⟩ : BufTy).Contents (Elt F)) (m ((c.tc : Thread nD τ).loc main_arg6))
def x_v81 (m : (ℓ : Loc nD τ sig) → Buf (Elt F) ℓ) (c : Dev nD) : Buf (Elt F) ((c.tc : Thread nD τ).loc main_v81) := fn_main_v81 (x_v78 m c) (x_v79 m c) (x_v80 m c)
def x_v82 (m : (ℓ : Loc nD τ sig) → Buf (Elt F) ℓ) (c : Dev nD) : Buf (Elt F) ((c.tc : Thread nD τ).loc main_v82) := ((truncf .bf16 · bitsLt_bf16_f32) : (⟨S512x512, .f32⟩ : BufTy).Contents (Elt F) → (⟨S512x512, .bf16⟩ : BufTy).Contents (Elt F)) (x_v55 m c)
def x_v83 (m : (ℓ : Loc nD τ sig) → Buf (Elt F) ℓ) (c : Dev nD) : Buf (Elt F) ((c.tc : Thread nD τ).loc main_v83) := (broadcastInDim S1x512 ![1] bcast_S512_S1x512_1 : (⟨S512, .f32⟩ : BufTy).Contents (Elt F) → (⟨S1x512, .f32⟩ : BufTy).Contents (Elt F)) (x_v53 m c)
def x_v84 (m : (ℓ : Loc nD τ sig) → Buf (Elt F) ℓ) (c : Dev nD) : Buf (Elt F) ((c.tc : Thread nD τ).loc main_v84) := (broadcastInDim S1x512 ![1] bcast_S512_S1x512_1 : (⟨S512, .f32⟩ : BufTy).Contents (Elt F) → (⟨S1x512, .f32⟩ : BufTy).Contents (Elt F)) (x_v77 m c)

set_option maxRecDepth 65536 in
set_option maxHeartbeats 16000000 in
/-- Every run ends with the results at the last operations and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71) = x_v71 m c
      ∧ r.2.mem ((c.tc : Thread nD τ).loc main_v73) = x_v73 m c
      ∧ r.2.mem ((c.tc : Thread nD τ).loc main_v81) = x_v81 m c
      ∧ r.2.mem ((c.tc : Thread nD τ).loc main_v82) = x_v82 m c
      ∧ r.2.mem ((c.tc : Thread nD τ).loc main_v83) = x_v83 m c
      ∧ r.2.mem ((c.tc : Thread nD τ).loc main_v84) = x_v84 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v71).trans (by simp only [ops, TRef.binary, TRef.nullary, TRef.unary, TRef.toBuf, TRef.ofBuf, cast_eq]; after_results_simp <;> (try dsimp only [Matrix.cons_val]) <;> (try after_results_simp) <;> rfl),
      (h c main_v73).trans (by simp only [ops, TRef.binary, TRef.nullary, TRef.unary, TRef.toBuf, TRef.ofBuf, cast_eq]; after_results_simp <;> (try dsimp only [Matrix.cons_val]) <;> (try after_results_simp) <;> rfl),
      (h c main_v81).trans (by simp only [ops, TRef.binary, TRef.nullary, TRef.unary, TRef.toBuf, TRef.ofBuf, cast_eq]; after_results_simp <;> (try dsimp only [Matrix.cons_val]) <;> (try after_results_simp) <;> rfl),
      (h c main_v82).trans (by simp only [ops, TRef.binary, TRef.nullary, TRef.unary, TRef.toBuf, TRef.ofBuf, cast_eq]; after_results_simp <;> (try dsimp only [Matrix.cons_val]) <;> (try after_results_simp) <;> rfl),
      (h c main_v83).trans (by simp only [ops, TRef.binary, TRef.nullary, TRef.unary, TRef.toBuf, TRef.ofBuf, cast_eq]; after_results_simp <;> (try dsimp only [Matrix.cons_val]) <;> (try after_results_simp) <;> rfl),
      (h c main_v84).trans (by simp only [ops, TRef.binary, TRef.nullary, TRef.unary, TRef.toBuf, TRef.ofBuf, cast_eq]; after_results_simp <;> (try dsimp only [Matrix.cons_val]) <;> (try after_results_simp) <;> rfl),
      (h c main_arg0).trans (by simp only [ops, TRef.binary, TRef.nullary, TRef.unary, TRef.toBuf, TRef.ofBuf, cast_eq]; after_results_simp <;> (try dsimp only [Matrix.cons_val]) <;> (try after_results_simp) <;> rfl),
      (h c main_arg1).trans (by simp only [ops, TRef.binary, TRef.nullary, TRef.unary, TRef.toBuf, TRef.ofBuf, cast_eq]; after_results_simp <;> (try dsimp only [Matrix.cons_val]) <;> (try after_results_simp) <;> rfl),
      (h c main_arg2).trans (by simp only [ops, TRef.binary, TRef.nullary, TRef.unary, TRef.toBuf, TRef.ofBuf, cast_eq]; after_results_simp <;> (try dsimp only [Matrix.cons_val]) <;> (try after_results_simp) <;> rfl),
      (h c main_arg3).trans (by simp only [ops, TRef.binary, TRef.nullary, TRef.unary, TRef.toBuf, TRef.ofBuf, cast_eq]; after_results_simp <;> (try dsimp only [Matrix.cons_val]) <;> (try after_results_simp) <;> rfl),
      (h c main_arg4).trans (by simp only [ops, TRef.binary, TRef.nullary, TRef.unary, TRef.toBuf, TRef.ofBuf, cast_eq]; after_results_simp <;> (try dsimp only [Matrix.cons_val]) <;> (try after_results_simp) <;> rfl),
      (h c main_arg5).trans (by simp only [ops, TRef.binary, TRef.nullary, TRef.unary, TRef.toBuf, TRef.ofBuf, cast_eq]; after_results_simp <;> (try dsimp only [Matrix.cons_val]) <;> (try after_results_simp) <;> rfl),
      (h c main_arg6).trans (by simp only [ops, TRef.binary, TRef.nullary, TRef.unary, TRef.toBuf, TRef.ofBuf, cast_eq]; after_results_simp <;> (try dsimp only [Matrix.cons_val]) <;> (try after_results_simp) <;> rfl)⟩)
    (run_seq scopedRefs_eq scopedSems_eq defs main (fun _ => ops) main_eq (fun _ => ops_sub) m ρ)

end Cert.TailRefIdeal.Step

end
-- ==== Proof.TailTile.lean ====
/- The gradients of the gated unit after the state-space layer: the call's tiles and its results as arrays. -/
module

public import proofs.«01_k».proof.Defs
public import proofs.«01_k».proof.Proof.Gen.TailIdeal.Frame
public import Idealize.ShloMosaic.Lib.Pipeline.ValueKit

@[expose] public section

set_option maxRecDepth 16384

noncomputable section

namespace Cert.TailIdeal.Step

open Cert.TailIdeal Cert.TailIdeal.Gen Idealize.ShloMosaic Idealize.ShloMosaic.TcCoe
open Idealize.SL.Sem

/-! ## One row of the unit -/

def half : EReal := Ideal.ofBits .f32 0x3F000000#32
def root : EReal := Ideal.ofBits .f32 0x3F4C422A#32
def cubic : EReal := Named.named (F := Ideal) (φ := .f32) κ "cubic" 0x3D372713#32
def slope : EReal := Named.named (F := Ideal) (φ := .f32) κ "slope" 0x3E095D4F#32

/-- A row of the cotangent, of the scan's output and of the projection, and the weights. -/
structure Row where
  dy : Fin 512 → EReal
  y : Fin 512 → EReal
  u : Fin 512 → EReal
  z : Fin 512 → EReal
  d : Fin 512 → EReal
  b : Fin 512 → EReal
  w : Fin 512 → Fin 512 → EReal

namespace Row

variable (R : Row) (k : Fin 512)

def y1 : EReal := R.y k + R.d k * R.u k
def th : EReal := Ideal.tanh (root * (R.y1 k + cubic * (R.y1 k * R.y1 k * R.y1 k)))
def y2 : EReal := half * R.y1 k * (1 + R.th k)
def sg : EReal := Ideal.logistic (∑ x : Fin 512, R.y2 x * R.w x k + R.b k)
def sz : EReal := Ideal.logistic (R.z k)
def ct : EReal := R.dy k * (R.z k * R.sz k)
def dz : EReal := R.dy k * (R.y2 k * R.sg k) * (R.sz k * (1 + R.z k * (1 - R.sz k)))
def dgl : EReal := R.ct k * R.y2 k * (R.sg k * (1 - R.sg k))
def dy2 : EReal := R.ct k * R.sg k + ∑ x : Fin 512, R.dgl x * R.w k x
def gp : EReal := half * R.y1 k * (1 - R.th k * R.th k) * (root * (1 + slope * (R.y1 k * R.y1 k)))
def dy1 : EReal := R.dy2 k * (half * (1 + R.th k) + R.gp k)

end Row

/-! ## A tile's values -/

theorem n11 (x2 x1 x4) (a k : Fin 512) : k0_pay11 (F := Ideal) x2 x1 x4 (ix2 a k) = (x1 (ix2 a k) + x4 (ix2 0 k) * x2 (ix2 a k) : EReal) := by
  pointwise [k0_pay11]
theorem n12 (x2 x1 x4) (a k : Fin 512) (y : EReal) (h : k0_pay11 (F := Ideal) x2 x1 x4 (ix2 a k) = y) :
    k0_pay12 (F := Ideal) x2 x1 x4 (ix2 a k) = half * y * (1 + Ideal.tanh (root * (y + cubic * (y * y * y)))) := by
  subst h
  pointwise [k0_pay12]
  rfl
theorem n13 (x2 x1 x4) (a k : Fin 512) : k0_pay13 (F := Ideal) x2 x1 x4 (ix2 a k) = (k0_pay12 (F := Ideal) x2 x1 x4 (ix2 a k) : EReal) := by
  pointwise [k0_pay13]
theorem n14 (x2 x1 x4 x5 x6) (a k : Fin 512) : k0_pay14 (F := Ideal) x2 x1 x4 x5 x6 (ix2 a k)
    = Ideal.logistic (∑ x : Fin 512, k0_pay13 (F := Ideal) x2 x1 x4 (ix2 a x) * x5 (ix2 x k) + x6 (ix2 0 k) : EReal) := by
  pointwise [k0_pay14]
theorem n15 (x3) (a k : Fin 512) : k0_pay15 (F := Ideal) x3 (ix2 a k) = Ideal.logistic (x3 (ix2 a k)) := by pointwise [k0_pay15]
theorem n16 (x3 x0) (a k : Fin 512) : k0_pay16 (F := Ideal) x3 x0 (ix2 a k) = (x0 (ix2 a k) * (x3 (ix2 a k) * k0_pay15 (F := Ideal) x3 (ix2 a k)) : EReal) := by
  pointwise [k0_pay16]
theorem n17 (x2 x1 x4 x5 x6 x0) (a k : Fin 512) : k0_pay17 (F := Ideal) x2 x1 x4 x5 x6 x0 (ix2 a k)
    = (x0 (ix2 a k) * (k0_pay12 (F := Ideal) x2 x1 x4 (ix2 a k) * k0_pay14 (F := Ideal) x2 x1 x4 x5 x6 (ix2 a k)) : EReal) := by
  pointwise [k0_pay17]
theorem n18 (x3) (a k : Fin 512) : k0_pay18 (F := Ideal) x3 (ix2 a k) = (x3 (ix2 a k) * (1 - k0_pay15 (F := Ideal) x3 (ix2 a k)) : EReal) := by
  pointwise [k0_pay18]
theorem n19 (v0 v1 v2) (a k : Fin 512) : k0_pay19 (F := Ideal) v0 v1 v2 (ix2 a k) = (v1 (ix2 a k) * (v0 (ix2 a k) * (1 + v2 (ix2 a k))) : EReal) := by
  pointwise [k0_pay19]
theorem n20 (v0 v1 v2) (a k : Fin 512) : k0_pay20 (F := Ideal) v0 v1 v2 (ix2 a k) = (v2 (ix2 a k) * v0 (ix2 a k) * (v1 (ix2 a k) * (1 - v1 (ix2 a k))) : EReal) := by
  pointwise [k0_pay20]
theorem n21 (v0 v1 v2) (a k : Fin 512) : k0_pay21 (F := Ideal) v0 v1 v2 (ix2 a k) = (k0_pay20 (F := Ideal) v0 v1 v2 (ix2 a k) : EReal) := by
  pointwise [k0_pay21]
theorem n22 (v0 v1 v2 x5) (a k : Fin 512) : k0_pay22 (F := Ideal) v0 v1 v2 x5 (ix2 a k)
    = (v2 (ix2 a k) * v1 (ix2 a k) + ∑ x : Fin 512, k0_pay21 (F := Ideal) v0 v1 v2 (ix2 a x) * x5 (ix2 k x) : EReal) := by
  pointwise [k0_pay22]
theorem n23 (v) (a k : Fin 512) (y : EReal) (h : v (ix2 a k) = y) :
    k0_pay23 (F := Ideal) v (ix2 a k) = Ideal.tanh (root * (y + cubic * (y * y * y))) := by
  subst h
  pointwise [k0_pay23]
  rfl
theorem n24 (v) (a k : Fin 512) : k0_pay24 (F := Ideal) v (ix2 a k) = (half * (1 + k0_pay23 (F := Ideal) v (ix2 a k)) : EReal) := by
  pointwise [k0_pay24]
  rfl
theorem n25 (v) (a k : Fin 512) (y t : EReal) (h : v (ix2 a k) = y) (ht : k0_pay23 (F := Ideal) v (ix2 a k) = t) :
    k0_pay25 (F := Ideal) v (ix2 a k) = half * y * (1 - t * t) * (root * (1 + slope * (y * y))) := by
  subst h
  subst ht
  pointwise [k0_pay25]
  rfl
theorem n1 (v0 v1 v2) (a k : Fin 512) : k0_pay1 (F := Ideal) v0 v1 v2 (ix2 a k) = (v0 (ix2 a k) * (v1 (ix2 a k) + v2 (ix2 a k)) : EReal) := by
  pointwise [k0_pay1]
theorem n2 (v0 v1 v2 x4) (a k : Fin 512) : k0_pay2 (F := Ideal) v0 v1 v2 x4 (ix2 a k) = (x4 (ix2 0 k) * k0_pay1 (F := Ideal) v0 v1 v2 (ix2 a k) : EReal) := by
  pointwise [k0_pay2]
theorem n3 (v0 v1) (k n : Fin 512) : k0_pay3 (F := Ideal) v0 v1 (ix2 k n) = ∑ r : Fin 512, (v0 (ix2 r k) * v1 (ix2 r n) : EReal) := by
  pointwise [k0_pay3]
theorem n6 (v0 v1) (k n : Fin 512) : k0_pay6 (F := Ideal) v0 v1 (ix2 k n) = (k0_pay3 (F := Ideal) v0 v1 (ix2 k n) : EReal) := by
  pointwise [k0_pay6]
theorem n7 (v0 v1 v2) (k n : Fin 512) : k0_pay7 (F := Ideal) v0 v1 v2 (ix2 k n) = (v2 (ix2 k n) + k0_pay3 (F := Ideal) v0 v1 (ix2 k n) : EReal) := by
  pointwise [k0_pay7]
theorem n10 (v) (k n : Fin 512) : k0_pay10 (F := Ideal) v (ix2 k n) = (v (ix2 k n) : EReal) := by
  pointwise [k0_pay10]
theorem n4 (v) (k : Fin 512) : k0_pay4 (F := Ideal) v (ix2 0 k) = ∑ r : Fin 512, (v (ix2 r k) : EReal) := by
  pointwise [k0_pay4]
theorem n5 (x2 v0 v1 v2) (k : Fin 512) : k0_pay5 (F := Ideal) x2 v0 v1 v2 (ix2 0 k)
    = ∑ r : Fin 512, (k0_pay1 (F := Ideal) v0 v1 v2 (ix2 r k) * x2 (ix2 r k) : EReal) := by
  pointwise [k0_pay5]
theorem n8 (v p) (k : Fin 512) : k0_pay8 (F := Ideal) v p (ix2 0 k) = (p (ix2 0 k) + k0_pay4 (F := Ideal) v (ix2 0 k) : EReal) := by
  pointwise [k0_pay8]
theorem n9 (x2 v0 v1 v2 p) (k : Fin 512) : k0_pay9 (F := Ideal) x2 v0 v1 v2 p (ix2 0 k)
    = (p (ix2 0 k) + k0_pay5 (F := Ideal) x2 v0 v1 v2 (ix2 0 k) : EReal) := by
  pointwise [k0_pay9]

section Tile

variable (x0 x1 x2 x3 : Vec Ideal S512x512 .f32) (x4 x6 : Vec Ideal S1x512 .f32) (x5 : Vec Ideal S512x512 .bf16)

/-- Row `a` of a tile. -/
def tr (a : Fin 512) : Row :=
  ⟨fun k => x0 (ix2 a k), fun k => x1 (ix2 a k), fun k => x2 (ix2 a k), fun k => x3 (ix2 a k), fun k => x4 (ix2 0 k),
    fun k => x6 (ix2 0 k), fun k n => x5 (ix2 k n)⟩

abbrev tDy2 : FVec Ideal S512x512 .f32 := k0_pay22 (k0_pay12 x2 x1 x4) (k0_pay14 x2 x1 x4 x5 x6) (k0_pay16 x3 x0) x5
abbrev tG : FVec Ideal S512x512 .f32 := k0_pay24 (k0_pay11 x2 x1 x4)
abbrev tH : FVec Ideal S512x512 .f32 := k0_pay25 (k0_pay11 x2 x1 x4)

local notation "T" => tr x0 x1 x2 x3 x4 x6 x5

theorem y1T (a k : Fin 512) : k0_pay11 x2 x1 x4 (ix2 a k) = (T a).y1 k := n11 x2 x1 x4 a k
theorem y2T (a k : Fin 512) : k0_pay12 x2 x1 x4 (ix2 a k) = (T a).y2 k := n12 x2 x1 x4 a k _ (y1T x0 x1 x2 x3 x4 x6 x5 a k)
theorem y2bT (a k : Fin 512) : k0_pay13 x2 x1 x4 (ix2 a k) = (T a).y2 k := (n13 x2 x1 x4 a k).trans (y2T x0 x1 x2 x3 x4 x6 x5 a k)
theorem sgT (a k : Fin 512) : k0_pay14 x2 x1 x4 x5 x6 (ix2 a k) = (T a).sg k :=
  (n14 x2 x1 x4 x5 x6 a k).trans (congrArg (fun s : EReal => Ideal.logistic (s + x6 (ix2 0 k)))
    (Fin.sum_fin_congr fun x => congrArg (fun s : EReal => s * x5 (ix2 x k)) (y2bT x0 x1 x2 x3 x4 x6 x5 a x)))
theorem szT (a k : Fin 512) : k0_pay15 x3 (ix2 a k) = (T a).sz k := n15 x3 a k
theorem ctT (a k : Fin 512) : k0_pay16 x3 x0 (ix2 a k) = (T a).ct k :=
  (n16 x3 x0 a k).trans (congrArg (fun s : EReal => x0 (ix2 a k) * (x3 (ix2 a k) * s)) (szT x0 x1 x2 x3 x4 x6 x5 a k))
theorem dzT (a k : Fin 512) : k0_pay19 (k0_pay15 x3) (k0_pay17 x2 x1 x4 x5 x6 x0) (k0_pay18 x3) (ix2 a k) = (T a).dz k := by
  rw [n19, n17, n18, y2T x0 x1 x2 x3 x4 x6 x5, sgT x0 x1 x2 x3 x4 x6 x5, szT x0 x1 x2 x3 x4 x6 x5]
  rfl
theorem dglT (a k : Fin 512) : k0_pay20 (k0_pay12 x2 x1 x4) (k0_pay14 x2 x1 x4 x5 x6) (k0_pay16 x3 x0) (ix2 a k) = (T a).dgl k := by
  rw [n20, y2T x0 x1 x2 x3 x4 x6 x5, sgT x0 x1 x2 x3 x4 x6 x5, ctT x0 x1 x2 x3 x4 x6 x5]
  rfl
theorem dglbT (a k : Fin 512) : k0_pay21 (k0_pay12 x2 x1 x4) (k0_pay14 x2 x1 x4 x5 x6) (k0_pay16 x3 x0) (ix2 a k) = (T a).dgl k :=
  (n21 _ _ _ a k).trans (dglT x0 x1 x2 x3 x4 x6 x5 a k)
theorem dy2T (a k : Fin 512) : tDy2 x0 x1 x2 x3 x4 x6 x5 (ix2 a k) = (T a).dy2 k := by
  refine (n22 _ _ _ _ a k).trans ?_
  rw [sgT x0 x1 x2 x3 x4 x6 x5, ctT x0 x1 x2 x3 x4 x6 x5]
  exact congrArg (fun s : EReal => (T a).ct k * (T a).sg k + s)
    (Fin.sum_fin_congr fun x => congrArg (fun s : EReal => s * x5 (ix2 k x)) (dglbT x0 x1 x2 x3 x4 x6 x5 a x))
theorem thT (a k : Fin 512) : k0_pay23 (k0_pay11 x2 x1 x4) (ix2 a k) = (T a).th k := n23 _ a k _ (y1T x0 x1 x2 x3 x4 x6 x5 a k)
theorem gT (a k : Fin 512) : tG x1 x2 x4 (ix2 a k) = half * (1 + (T a).th k) :=
  (n24 _ a k).trans (congrArg (fun s : EReal => half * (1 + s)) (thT x0 x1 x2 x3 x4 x6 x5 a k))
theorem hT (a k : Fin 512) : tH x1 x2 x4 (ix2 a k) = (T a).gp k :=
  n25 _ a k _ _ (y1T x0 x1 x2 x3 x4 x6 x5 a k) (thT x0 x1 x2 x3 x4 x6 x5 a k)
theorem dy1T (a k : Fin 512) : k0_pay1 (tDy2 x0 x1 x2 x3 x4 x6 x5) (tG x1 x2 x4) (tH x1 x2 x4) (ix2 a k) = (T a).dy1 k := by
  rw [n1, dy2T, gT x0 x1 x2 x3 x4 x6 x5, hT x0 x1 x2 x3 x4 x6 x5]
  rfl
theorem duT (a k : Fin 512) : k0_pay2 (tDy2 x0 x1 x2 x3 x4 x6 x5) (tG x1 x2 x4) (tH x1 x2 x4) x4 (ix2 a k) = (T a).d k * (T a).dy1 k := by
  rw [n2, dy1T]
  rfl
theorem dwT (k n : Fin 512) :
    k0_pay3 (k0_pay13 x2 x1 x4) (k0_pay21 (k0_pay12 x2 x1 x4) (k0_pay14 x2 x1 x4 x5 x6) (k0_pay16 x3 x0)) (ix2 k n)
      = ∑ r : Fin 512, (T r).y2 k * (T r).dgl n :=
  (n3 _ _ k n).trans (Fin.sum_fin_congr fun r => congrArg₂ (fun s t : EReal => s * t) (y2bT x0 x1 x2 x3 x4 x6 x5 r k) (dglbT x0 x1 x2 x3 x4 x6 x5 r n))
theorem dbT (k : Fin 512) : k0_pay4 (k0_pay20 (k0_pay12 x2 x1 x4) (k0_pay14 x2 x1 x4 x5 x6) (k0_pay16 x3 x0)) (ix2 0 k)
      = ∑ r : Fin 512, (T r).dgl k :=
  (n4 _ k).trans (Fin.sum_fin_congr fun r => dglT x0 x1 x2 x3 x4 x6 x5 r k)
theorem ddT (k : Fin 512) : k0_pay5 x2 (tDy2 x0 x1 x2 x3 x4 x6 x5) (tG x1 x2 x4) (tH x1 x2 x4) (ix2 0 k)
      = ∑ r : Fin 512, (T r).dy1 k * (T r).u k :=
  (n5 _ _ _ _ k).trans (Fin.sum_fin_congr fun r => congrArg (fun s : EReal => s * x2 (ix2 r k)) (dy1T x0 x1 x2 x3 x4 x6 x5 r k))

end Tile

end Cert.TailIdeal.Step
-- ==== Proof.TailK.lean ====
/- The gradients of the gated unit after the state-space layer: what the call leaves in each of its results. -/
module

public import proofs.«01_k».proof.Proof.TailTile

@[expose] public section

set_option maxRecDepth 16384

noncomputable section

namespace Cert.TailIdeal.Step

open Cert.TailIdeal Cert.TailIdeal.Gen Idealize.ShloMosaic Idealize.ShloMosaic.TcCoe
open Idealize.SL.Sem

variable (m : (ℓ : Loc nD τ sig) → Buf (Elt Ideal) ℓ)

abbrev B0 (c : Dev nD) (t : Fin cfg0.N) : Vec Ideal S512x512 .f32 := iblk m c 0 t
abbrev B1 (c : Dev nD) (t : Fin cfg0.N) : Vec Ideal S512x512 .f32 := iblk m c 1 t
abbrev B2 (c : Dev nD) (t : Fin cfg0.N) : Vec Ideal S512x512 .f32 := iblk m c 2 t
abbrev B3 (c : Dev nD) (t : Fin cfg0.N) : Vec Ideal S512x512 .f32 := iblk m c 3 t
abbrev B4 (c : Dev nD) (t : Fin cfg0.N) : Vec Ideal S1x512 .f32 := iblk m c 4 t
abbrev B5 (c : Dev nD) (t : Fin cfg0.N) : Vec Ideal S512x512 .bf16 := iblk m c 5 t
abbrev B6 (c : Dev nD) (t : Fin cfg0.N) : Vec Ideal S1x512 .f32 := iblk m c 6 t
abbrev rowT (c : Dev nD) (t : Fin cfg0.N) : Fin 512 → Row :=
  tr (B0 m c t) (B1 m c t) (B2 m c t) (B3 m c t) (B4 m c t) (B6 m c t) (B5 m c t)

/-! ## What a point leaves -/

theorem o7 (c : Dev nD) (t : Fin cfg0.N) (a k : Fin 512) : (outsAt0 m c t.val t.isLt).1 (ix2 a k) = (rowT m c t a).dy1 k := by
  have e : (outsAt0 m c t.val t.isLt).1 = k0_pay1 (tDy2 (B0 m c t) (B1 m c t) (B2 m c t) (B3 m c t) (B4 m c t) (B6 m c t) (B5 m c t))
      (tG (B1 m c t) (B2 m c t) (B4 m c t)) (tH (B1 m c t) (B2 m c t) (B4 m c t)) := by
    by_cases h : t.val % 4 = 0
    · rw [outsAt0_A m c t h (by have := lt_of_lt_of_eq t.isLt N_0; omega) (by omega)]; frame_out
    · by_cases h1 : t.val % 4 = 3
      · rw [outsAt0_C m c t h (by omega) h1]; frame_out
      · rw [outsAt0_B m c t h (by omega) h1]; frame_out
  rw [e]
  exact dy1T ..

theorem o8 (c : Dev nD) (t : Fin cfg0.N) (a k : Fin 512) :
    (outsAt0 m c t.val t.isLt).2.1 (ix2 a k) = (rowT m c t a).d k * (rowT m c t a).dy1 k := by
  have e : (outsAt0 m c t.val t.isLt).2.1 = k0_pay2 (tDy2 (B0 m c t) (B1 m c t) (B2 m c t) (B3 m c t) (B4 m c t) (B6 m c t) (B5 m c t))
      (tG (B1 m c t) (B2 m c t) (B4 m c t)) (tH (B1 m c t) (B2 m c t) (B4 m c t)) (B4 m c t) := by
    by_cases h : t.val % 4 = 0
    · rw [outsAt0_A m c t h (by have := lt_of_lt_of_eq t.isLt N_0; omega) (by omega)]; frame_out
    · by_cases h1 : t.val % 4 = 3
      · rw [outsAt0_C m c t h (by omega) h1]; frame_out
      · rw [outsAt0_B m c t h (by omega) h1]; frame_out
  rw [e]
  exact duT ..

theorem o9 (c : Dev nD) (t : Fin cfg0.N) (a k : Fin 512) : (outsAt0 m c t.val t.isLt).2.2.1 (ix2 a k) = (rowT m c t a).dz k := by
  have e : (outsAt0 m c t.val t.isLt).2.2.1 = k0_pay19 (k0_pay15 (B3 m c t)) (k0_pay17 (B2 m c t) (B1 m c t) (B4 m c t) (B5 m c t) (B6 m c t) (B0 m c t))
      (k0_pay18 (B3 m c t)) := by
    by_cases h : t.val % 4 = 0
    · rw [outsAt0_A m c t h (by have := lt_of_lt_of_eq t.isLt N_0; omega) (by omega)]; frame_out
    · by_cases h1 : t.val % 4 = 3
      · rw [outsAt0_C m c t h (by omega) h1]; frame_out
      · rw [outsAt0_B m c t h (by omega) h1]; frame_out
  rw [e]
  exact dzT ..

def partW (c : Dev nD) (t : Fin cfg0.N) (k n : Fin 512) : EReal := ∑ r : Fin 512, (rowT m c t r).y2 k * (rowT m c t r).dgl n
def partB (c : Dev nD) (t : Fin cfg0.N) (k : Fin 512) : EReal := ∑ r : Fin 512, (rowT m c t r).dgl k
def partD (c : Dev nD) (t : Fin cfg0.N) (k : Fin 512) : EReal := ∑ r : Fin 512, (rowT m c t r).dy1 k * (rowT m c t r).u k

theorem ix512 (j : S512x512.Idx) : ∃ (k n : Fin 512), j = ix2 k n := ⟨j 0, j 1, by funext i; fin_cases i <;> rfl⟩
theorem ix1x512 (j : S1x512.Idx) : ∃ (n : Fin 512), j = ix2 0 n := ⟨j 1, by
  funext i
  fin_cases i
  · exact Subsingleton.elim (α := Fin 1) _ _
  · rfl⟩

theorem accW_A (c : Dev nD) (t : Fin cfg0.N) (h : t.val % 4 = 0) (j) :
    (outsAt0 m c t.val t.isLt).2.2.2.2.2.2 j = (0 + partW m c t (j 0) (j 1) : EReal) := by
  obtain ⟨k, n, rfl⟩ := ix512 j
  rw [outsAt0_A m c t h (by have := lt_of_lt_of_eq t.isLt N_0; omega) (by omega)]; frame_out
  exact ((n6 _ _ k n).trans (dwT ..)).trans (zero_add (M := EReal) _).symm

theorem accW_B (c : Dev nD) (t : Fin cfg0.N) (h : ¬ t.val % 4 = 0) (j) :
    (outsAt0 m c t.val t.isLt).2.2.2.2.2.2 j
      = ((outsAt0 m c (t.val - 1) (by omega)).2.2.2.2.2.2 j + partW m c t (j 0) (j 1) : EReal) := by
  obtain ⟨k, n, rfl⟩ := ix512 j
  by_cases h1 : t.val % 4 = 3
  · rw [outsAt0_C m c t h (by omega) h1]; frame_out
    rw [n7]
    exact congrArg₂ (fun a b : EReal => a + b) (congrFun (Memref.IsWhole.read_unread (Memref.isWhole_whole _) _) _) (dwT ..)
  · rw [outsAt0_B m c t h (by omega) h1]; frame_out
    rw [n7]
    exact congrArg₂ (fun a b : EReal => a + b) (congrFun (Memref.IsWhole.read_unread (Memref.isWhole_whole _) _) _) (dwT ..)

theorem accB_A (c : Dev nD) (t : Fin cfg0.N) (h : t.val % 4 = 0) (j) :
    (outsAt0 m c t.val t.isLt).2.2.2.2.1 j = (0 + partB m c t (j 1) : EReal) := by
  obtain ⟨n, rfl⟩ := ix1x512 j
  rw [outsAt0_A m c t h (by have := lt_of_lt_of_eq t.isLt N_0; omega) (by omega)]; frame_out
  exact (dbT (B0 m c t) (B1 m c t) (B2 m c t) (B3 m c t) (B4 m c t) (B6 m c t) (B5 m c t) n).trans (zero_add (M := EReal) _).symm

theorem accB_B (c : Dev nD) (t : Fin cfg0.N) (h : ¬ t.val % 4 = 0) (j) :
    (outsAt0 m c t.val t.isLt).2.2.2.2.1 j
      = ((outsAt0 m c (t.val - 1) (by omega)).2.2.2.2.1 j + partB m c t (j 1) : EReal) := by
  obtain ⟨n, rfl⟩ := ix1x512 j
  by_cases h1 : t.val % 4 = 3
  · rw [outsAt0_C m c t h (by omega) h1]; frame_out
    exact (n8 _ _ n).trans (congrArg (fun b : EReal => _ + b) (dbT (B0 m c t) (B1 m c t) (B2 m c t) (B3 m c t) (B4 m c t) (B6 m c t) (B5 m c t) n))
  · rw [outsAt0_B m c t h (by omega) h1]; frame_out
    exact (n8 _ _ n).trans (congrArg (fun b : EReal => _ + b) (dbT (B0 m c t) (B1 m c t) (B2 m c t) (B3 m c t) (B4 m c t) (B6 m c t) (B5 m c t) n))

theorem accD_A (c : Dev nD) (t : Fin cfg0.N) (h : t.val % 4 = 0) (j) :
    (outsAt0 m c t.val t.isLt).2.2.2.2.2.1 j = (0 + partD m c t (j 1) : EReal) := by
  obtain ⟨n, rfl⟩ := ix1x512 j
  rw [outsAt0_A m c t h (by have := lt_of_lt_of_eq t.isLt N_0; omega) (by omega)]; frame_out
  exact (ddT (B0 m c t) (B1 m c t) (B2 m c t) (B3 m c t) (B4 m c t) (B6 m c t) (B5 m c t) n).trans (zero_add (M := EReal) _).symm

theorem accD_B (c : Dev nD) (t : Fin cfg0.N) (h : ¬ t.val % 4 = 0) (j) :
    (outsAt0 m c t.val t.isLt).2.2.2.2.2.1 j
      = ((outsAt0 m c (t.val - 1) (by omega)).2.2.2.2.2.1 j + partD m c t (j 1) : EReal) := by
  obtain ⟨n, rfl⟩ := ix1x512 j
  by_cases h1 : t.val % 4 = 3
  · rw [outsAt0_C m c t h (by omega) h1]; frame_out
    exact (n9 _ _ _ _ _ n).trans (congrArg (fun b : EReal => _ + b) (ddT (B0 m c t) (B1 m c t) (B2 m c t) (B3 m c t) (B4 m c t) (B6 m c t) (B5 m c t) n))
  · rw [outsAt0_B m c t h (by omega) h1]; frame_out
    exact (n9 _ _ _ _ _ n).trans (congrArg (fun b : EReal => _ + b) (ddT (B0 m c t) (B1 m c t) (B2 m c t) (B3 m c t) (B4 m c t) (B6 m c t) (B5 m c t) n))

theorem last10 (c : Dev nD) (t : Fin cfg0.N) (h1 : t.val % 4 = 3) (j) :
    (outsAt0 m c t.val t.isLt).2.2.2.1 j = ((outsAt0 m c t.val t.isLt).2.2.2.2.2.2 j : EReal) := by
  obtain ⟨k, n, rfl⟩ := ix512 j
  rw [outsAt0_C m c t (by omega) (by omega) h1]; frame_out
  exact n10 _ k n

/-! ## The tiles' rows as the arrays' -/

theorem tiles : ∀ t : Fin cfg0.N, win0_0.index t = ![t.val, 0] ∧ win0_1.index t = ![t.val, 0] ∧ win0_2.index t = ![t.val, 0]
    ∧ win0_3.index t = ![t.val, 1] ∧ win0_4.index t = ![0, 0] ∧ win0_5.index t = ![0, 0] ∧ win0_6.index t = ![0, 0]
    ∧ win0_7.index t = ![t.val, 0] ∧ win0_8.index t = ![t.val, 0] ∧ win0_9.index t = ![t.val, 1]
    ∧ win0_10.index t = ![0, 0] ∧ win0_11.index t = ![0, 0] ∧ win0_12.index t = ![0, 0] ∧ t.val < 4 :=
  (by decide +kernel : ∀ t : Fin grid0.N, _)

theorem tlt (t : Fin cfg0.N) : t.val < 4 := lt_of_lt_of_eq t.isLt N_0

/-- The row of the array that row `a` of block `t` is. -/
def row (t : Fin cfg0.N) (a : Fin 512) : Fin 2048 := ⟨t.val * 512 + a.val, by
  have := tlt t
  omega⟩

abbrev DYS (c : Dev nD) : FVec Ideal S2048x512 .f32 := m ((c.tc : Thread nD τ).loc main_arg0)
abbrev YR (c : Dev nD) : FVec Ideal S2048x512 .f32 := m ((c.tc : Thread nD τ).loc main_arg1)
abbrev PR (c : Dev nD) : FVec Ideal S2048x8192 .f32 := m ((c.tc : Thread nD τ).loc main_arg2)
abbrev DS (c : Dev nD) : FVec Ideal S512 .f32 := m ((c.tc : Thread nD τ).loc main_arg3)
abbrev WG (c : Dev nD) : FVec Ideal S512x512 .f32 := m ((c.tc : Thread nD τ).loc main_arg4)
abbrev BG (c : Dev nD) : FVec Ideal S512 .f32 := m ((c.tc : Thread nD τ).loc main_arg5)
abbrev DP (c : Dev nD) : FVec Ideal S2048x8192 .bf16 := m ((c.tc : Thread nD τ).loc main_arg6)

/-- A row of the arrays. -/
def aRow (dys yr : FVec Ideal S2048x512 .f32) (pr : FVec Ideal S2048x8192 .f32) (ds : FVec Ideal S512 .f32) (wg : FVec Ideal S512x512 .f32)
    (bg : FVec Ideal S512 .f32) (i : Fin 2048) : Row :=
  ⟨fun k => dys (ix2 i k), fun k => yr (ix2 i k), fun k => pr (ix2 i (⟨k.val, by omega⟩ : Fin 8192)),
    fun k => pr (ix2 i (⟨512 + k.val, by omega⟩ : Fin 8192)), fun k => ds (ix1 k), fun k => bg (ix1 k), fun k n => wg (ix2 k n)⟩

abbrev gRow (c : Dev nD) : Fin 2048 → Row := aRow (DYS m c) (YR m c) (PR m c) (DS m c) (WG m c) (BG m c)

theorem blk0 (c : Dev nD) (t : Fin cfg0.N) (a k : Fin 512) : B0 m c t (ix2 a k) = DYS m c (ix2 (row t a) k) := by
  blk_point [iblk, V, tiles t, row]
theorem blk1 (c : Dev nD) (t : Fin cfg0.N) (a k : Fin 512) : B1 m c t (ix2 a k) = YR m c (ix2 (row t a) k) := by
  blk_point [iblk, V, tiles t, row]
theorem blk2 (c : Dev nD) (t : Fin cfg0.N) (a k : Fin 512) : B2 m c t (ix2 a k) = PR m c (ix2 (row t a) (⟨k.val, by omega⟩ : Fin 8192)) := by
  blk_point [iblk, V, tiles t, row]
theorem blk3 (c : Dev nD) (t : Fin cfg0.N) (a k : Fin 512) : B3 m c t (ix2 a k) = PR m c (ix2 (row t a) (⟨512 + k.val, by omega⟩ : Fin 8192)) := by
  blk_point [iblk, V, tiles t, row]
theorem blk4 (c : Dev nD) (t : Fin cfg0.N) (k : Fin 512) : B4 m c t (ix2 0 k) = DS m c (ix1 k) := by
  blk_point [iblk, V, tiles t]
theorem blk5 (c : Dev nD) (t : Fin cfg0.N) (k n : Fin 512) : B5 m c t (ix2 k n) = WG m c (ix2 k n) := by
  blk_point [iblk, V, tiles t]
theorem blk6 (c : Dev nD) (t : Fin cfg0.N) (k : Fin 512) : B6 m c t (ix2 0 k) = BG m c (ix1 k) := by
  blk_point [iblk, V, tiles t]

theorem rowEq (c : Dev nD) (t : Fin cfg0.N) (a : Fin 512) : rowT m c t a = gRow m c (row t a) := by
  unfold rowT tr gRow aRow
  simp only [blk0, blk1, blk2, blk3, blk4, blk5, blk6]

/-! ## The results -/

theorem emb7 (t : Fin cfg0.N) (a k : Fin 512) : (win0_7.blk t).view.emb (ix2 a k) = ix2 (row t a) k := by blk_ext [tiles t, row]
theorem emb8 (t : Fin cfg0.N) (a k : Fin 512) : (win0_8.blk t).view.emb (ix2 a k) = ix2 (row t a) k := by blk_ext [tiles t, row]
theorem emb9 (t : Fin cfg0.N) (a k : Fin 512) :
    (win0_9.blk t).view.emb (ix2 a k) = ix2 (row t a) (⟨512 + k.val, by omega⟩ : Fin 8192) := by blk_ext [tiles t, row]

def dyArr (c : Dev nD) : FVec Ideal S2048x512 .f32 := fun i => (gRow m c (i 0)).dy1 (i 1)
def duArr (c : Dev nD) : FVec Ideal S2048x512 .f32 := fun i => (gRow m c (i 0)).d (i 1) * (gRow m c (i 0)).dy1 (i 1)
def dzArr (c : Dev nD) : FVec Ideal S2048x8192 .bf16 := fun i =>
  if h : 512 ≤ (i 1).val ∧ (i 1).val < 1024 then (gRow m c (i 0)).dz ⟨(i 1).val - 512, by omega⟩ else DP m c i
def dwArr (c : Dev nD) : FVec Ideal S512x512 .bf16 :=
  fun j => (∑ i : Fin 2048, (gRow m c i).y2 (j 0) * (gRow m c i).dgl (j 1) : EReal)
def dbArr (c : Dev nD) : FVec Ideal S1x512 .f32 := fun j => (∑ i : Fin 2048, (gRow m c i).dgl (j 1) : EReal)
def ddArr (c : Dev nD) : FVec Ideal S1x512 .f32 := fun j => (∑ i : Fin 2048, (gRow m c i).dy1 (j 1) * (gRow m c i).u (j 1) : EReal)

theorem dy_final (c : Dev nD) : (dats m 0 c).arrAt 7 cfg0.N = dyArr m c := by
  refine (dats m 0 c).arrAt_eq_of_covers 7 _ (by decide +kernel) fun t hf y => ?_
  blk_simp
  rw [after0_7]
  obtain ⟨a, k, rfl⟩ := ix512 y
  rw [emb7]
  refine (o7 m c t a k).trans ?_
  rw [rowEq]
  rfl

theorem du_final (c : Dev nD) : (dats m 0 c).arrAt 8 cfg0.N = duArr m c := by
  refine (dats m 0 c).arrAt_eq_of_covers 8 _ (by decide +kernel) fun t hf y => ?_
  blk_simp
  rw [after0_8]
  obtain ⟨a, k, rfl⟩ := ix512 y
  rw [emb8]
  refine (o8 m c t a k).trans ?_
  rw [rowEq]
  rfl

theorem v32 (c : Dev nD) : V m c main_v3_2 = DP m c := by
  unfold V
  simp only [hostOps0, List.flatten_cons, List.flatten_nil, List.append_nil, List.cons_append, List.nil_append]
  after_results_simp
  rfl

theorem dz_final (c : Dev nD) : (dats m 0 c).arrAt 9 cfg0.N = dzArr m c := by
  refine (dats m 0 c).arrAt_eq_of_coversWhere_of_agree 9 _ (fun β => β (1 : Fin _) = 1) (by decide +kernel) (fun t hf y => ?_) (fun j hj => ?_)
  · blk_simp
    rw [after0_9]
    obtain ⟨a, k, rfl⟩ := ix512 y
    rw [emb9]
    refine (o9 m c t a k).trans ?_
    rw [rowEq]
    refine Eq.symm ((dif_pos ⟨Nat.le_add_right _ _, by show 512 + k.val < 1024; omega⟩).trans ?_)
    exact congrArg (gRow m c (row t a)).dz (Fin.ext (show 512 + k.val - 512 = k.val by omega))
  · blk_simp [Pipeline.Window.cell_apply] at hj
    have h : ¬ (512 ≤ (j 1).val ∧ (j 1).val < 1024) := fun h => hj (by omega)
    exact (congrFun ((A_eq m c 9).trans (v32 m c)) j).trans (Eq.symm (dif_neg h) : DP m c j = dzArr m c j)

theorem rowsSum (f : Fin 2048 → EReal) : (∑ t : Fin cfg0.N, ∑ r : Fin 512, f (row t r)) = ∑ i : Fin 2048, f i := by
  refine Eq.trans (Fin.sum_points_lanes_congr (A := 1) (L := 2048) (M := EReal) 4 (g := fun _ l => f l) fun t k ha hl => ?_) (Fin.sum_univ_one _)
  refine congrArg f (Fin.ext ?_)
  have := tlt t
  show t.val * 512 + k.val = t.val % 4 * 512 + k.val
  omega

theorem dw_final (c : Dev nD) : (dats m 0 c).arrAt 10 cfg0.N = dwArr m c := by
  refine (dats m 0 c).arrAt_eq_of_after_last 10 t0_3 (by decide +kernel) _ fun j => ?_
  blk_simp
  rw [after0_10, last10 m c t0_3 (by decide) j]
  obtain ⟨k, n, rfl⟩ := ix512 j
  rw [Pipeline.eq_sum_fin_of_reset_step_apply_last (fun n h => (outsAt0 m c n h).2.2.2.2.2.2) 4 (fun _ => (0 : EReal))
    (fun t (j : S512x512.Idx) => partW m c t (j 0) (j 1)) (fun t h j => accW_A m c t h j) (fun t h j => accW_B m c t h j)
    (le_of_eq N_0) t0_3 rfl (ix2 k n)]
  refine (zero_add (M := EReal) _).trans ?_
  refine Eq.trans ?_ (rowsSum (fun i => (gRow m c i).y2 k * (gRow m c i).dgl n))
  refine Fin.sum_fin_congr fun t => ?_
  show partW m c t k n = _
  unfold partW
  exact Fin.sum_fin_congr fun r => by rw [rowEq]

theorem db_final (c : Dev nD) : (dats m 0 c).arrAt 11 cfg0.N = dbArr m c := by
  refine (dats m 0 c).arrAt_eq_of_after_last 11 t0_3 (by decide +kernel) _ fun j => ?_
  blk_simp
  rw [after0_11]
  obtain ⟨n, rfl⟩ := ix1x512 j
  rw [Pipeline.eq_sum_fin_of_reset_step_apply_last (fun n h => (outsAt0 m c n h).2.2.2.2.1) 4 (fun _ => (0 : EReal))
    (fun t (j : S1x512.Idx) => partB m c t (j 1)) (fun t h j => accB_A m c t h j) (fun t h j => accB_B m c t h j)
    (le_of_eq N_0) t0_3 rfl (ix2 0 n)]
  refine (zero_add (M := EReal) _).trans ?_
  refine Eq.trans ?_ (rowsSum (fun i => (gRow m c i).dgl n))
  refine Fin.sum_fin_congr fun t => ?_
  show partB m c t n = _
  unfold partB
  exact Fin.sum_fin_congr fun r => by rw [rowEq]

theorem dd_final (c : Dev nD) : (dats m 0 c).arrAt 12 cfg0.N = ddArr m c := by
  refine (dats m 0 c).arrAt_eq_of_after_last 12 t0_3 (by decide +kernel) _ fun j => ?_
  blk_simp
  rw [after0_12]
  obtain ⟨n, rfl⟩ := ix1x512 j
  rw [Pipeline.eq_sum_fin_of_reset_step_apply_last (fun n h => (outsAt0 m c n h).2.2.2.2.2.1) 4 (fun _ => (0 : EReal))
    (fun t (j : S1x512.Idx) => partD m c t (j 1)) (fun t h j => accD_A m c t h j) (fun t h j => accD_B m c t h j)
    (le_of_eq N_0) t0_3 rfl (ix2 0 n)]
  refine (zero_add (M := EReal) _).trans ?_
  refine Eq.trans ?_ (rowsSum (fun i => (gRow m c i).dy1 n * (gRow m c i).u n))
  refine Fin.sum_fin_congr fun t => ?_
  show partD m c t n = _
  unfold partD
  exact Fin.sum_fin_congr fun r => by rw [rowEq]

variable (ρ : Dev nD → PrngReg)

/-- Every run of the call ends with these results and the arguments as they were. -/
theorem run : θ_run defs (onTc (τ := τ) (main (F := Ideal))) ⟨m, fun _ => 0, ρ⟩ fun r => ∀ c : Dev nD,
      r.2.mem ((c.tc : Thread nD τ).loc main_v3_0) = dyArr m c
      ∧ r.2.mem ((c.tc : Thread nD τ).loc main_v3_1) = duArr m c
      ∧ r.2.mem ((c.tc : Thread nD τ).loc main_v3_2) = dzArr m c
      ∧ r.2.mem ((c.tc : Thread nD τ).loc main_v3_3) = dwArr m c
      ∧ r.2.mem ((c.tc : Thread nD τ).loc main_v3_4) = dbArr m c
      ∧ r.2.mem ((c.tc : Thread nD τ).loc main_v3_5) = ddArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h.1 c).1 7).trans (dy_final m c), ((h.1 c).1 8).trans (du_final m c),
      ((h.1 c).1 9).trans (dz_final m c), ((h.1 c).1 10).trans (dw_final m c), ((h.1 c).1 11).trans (db_final m c),
      ((h.1 c).1 12).trans (dd_final m c), h.2 c⟩)
    (θ_run_and (run_main m ρ) (unchanged m ρ))

end Cert.TailIdeal.Step
-- ==== Proof.Tail.lean ====
/- The gradients of the gated unit after the state-space layer: the reference at coordinates, and the claim on the call. -/
module

public import proofs.«01_k».proof.Proof.Finite
public import proofs.«01_k».proof.Proof.TailK
public import proofs.«01_k».proof.Proof.TailRun
public import proofs.«01_k».proof.Proof.Gen.Pre_tail_finite
public import Idealize.ShloMosaic.Lib.Pipeline.ValueKit

@[expose] public section

set_option maxRecDepth 16384

noncomputable section

/-! ## A row of real numbers -/

namespace Cert.TailIdeal.Step

open Idealize.ShloMosaic

theorem half_eq : half = ((1 / 2 : ℝ) : EReal) := by
  simp [half, Ideal.ofBits, Ideal.ieee]
  rw [← EReal.coe_mul]
  norm_num
theorem root_real : ∃ r : ℝ, root = (r : EReal) := by
  refine ⟨13386282 * (1 / 16777216), ?_⟩
  simp [root, Ideal.ofBits, Ideal.ieee]
  rw [← EReal.coe_mul]
  exact congrArg _ (by norm_num)
theorem cubic_eq : cubic = ((8943 / 200000 : ℝ) : EReal) := IdealRules.named_const.ideal_named_scalar _ _ _ _ rfl
theorem slope_eq : slope = ((26829 / 200000 : ℝ) : EReal) := IdealRules.named_const.ideal_named_scalar _ _ _ _ rfl
theorem lit_44715 : Ideal.ofBits .f32 0x472EAB00#32 = ((44715 : ℝ) : EReal) := by
  simp [Ideal.ofBits, Ideal.ieee]
  rw [← EReal.coe_mul]
  norm_num
theorem lit_million : Ideal.ofBits .f32 0x49742400#32 = ((1000000 : ℝ) : EReal) := by
  simp [Ideal.ofBits, Ideal.ieee]
  rw [← EReal.coe_mul]
  norm_num
theorem lit_three : Ideal.ofBits .f32 0x40400000#32 = ((3 : ℝ) : EReal) := by
  simp [Ideal.ofBits, Ideal.ieee]
  rw [← EReal.coe_mul]
  norm_num

/-- The cubic under the tangent, with its constant as a quotient or as a number. -/
theorem tangent (y : ℝ) : Ideal.tanh (root * ((y : EReal) + Ideal.div (Ideal.ofBits .f32 0x472EAB00#32 * ((y : EReal) * y * y)) (Ideal.ofBits .f32 0x49742400#32)))
    = Ideal.tanh (root * ((y : EReal) + cubic * ((y : EReal) * y * y))) := by
  rw [lit_44715, lit_million, Ideal.div_coe (by norm_num), cubic_eq]
  simp only [← EReal.coe_mul]
  exact congrArg (fun s : ℝ => Ideal.tanh (root * ((y : EReal) + (s : EReal)))) (by ring)

/-- The gradient through the gate's product with its own logistic. -/
theorem gate (d y g s z : ℝ) : (y : EReal) * g * d * s + (z : EReal) * ((y : EReal) * g * d) * ((s : EReal) * (1 - (s : EReal)))
    = (d : EReal) * ((y : EReal) * g) * ((s : EReal) * (1 + (z : EReal) * (1 - (s : EReal)))) := by
  simp only [← EReal.coe_one, ← EReal.coe_mul, ← EReal.coe_sub, ← EReal.coe_add]
  exact congrArg _ (by ring)

/-- The gradient through the tangent's unit. -/
theorem unit (y e t : ℝ) :
    root * (half * (y : EReal) * e * ((1 + (t : EReal)) * (1 - (t : EReal))))
      + Ideal.ofBits .f32 0x472EAB00#32 * Ideal.div (root * (half * (y : EReal) * e * ((1 + (t : EReal)) * (1 - (t : EReal))))) (Ideal.ofBits .f32 0x49742400#32)
        * (Ideal.ofBits .f32 0x40400000#32 * ((y : EReal) * y))
      + half * ((e : EReal) * (1 + (t : EReal)))
    = (e : EReal) * (half * (1 + (t : EReal)) + half * (y : EReal) * (1 - (t : EReal) * t) * (root * (1 + slope * ((y : EReal) * y)))) := by
  obtain ⟨r, hr⟩ := root_real
  rw [lit_44715, lit_million, lit_three, Ideal.div_coe (by norm_num), slope_eq, half_eq, hr]
  simp only [← EReal.coe_one, ← EReal.coe_mul, ← EReal.coe_sub, ← EReal.coe_add]
  exact congrArg _ (by ring)

/-- A row whose entries are real numbers. -/
structure Row.Real (R : Row) : Prop where
  dy : ∀ k, ∃ r : ℝ, R.dy k = (r : EReal)
  y : ∀ k, ∃ r : ℝ, R.y k = (r : EReal)
  u : ∀ k, ∃ r : ℝ, R.u k = (r : EReal)
  z : ∀ k, ∃ r : ℝ, R.z k = (r : EReal)
  d : ∀ k, ∃ r : ℝ, R.d k = (r : EReal)
  b : ∀ k, ∃ r : ℝ, R.b k = (r : EReal)
  w : ∀ k n, ∃ r : ℝ, R.w k n = (r : EReal)

theorem real_sum (f : Fin 512 → EReal) (h : ∀ k, ∃ r : ℝ, f k = (r : EReal)) : ∃ r : ℝ, ∑ k : Fin 512, f k = (r : EReal) := by
  choose g hg using h
  exact ⟨∑ k, g k, (Finset.sum_congr rfl fun k _ => hg k).trans (Finite.coe_sum _ _)⟩

namespace Row.Real

variable {R : Row} (H : R.Real) (k : Fin 512)
include H

theorem y1 : ∃ r : ℝ, R.y1 k = (r : EReal) := by
  obtain ⟨a, ha⟩ := H.y k
  obtain ⟨b, hb⟩ := H.d k
  obtain ⟨e, he⟩ := H.u k
  exact ⟨a + b * e, by unfold Row.y1; rw [ha, hb, he, EReal.coe_add, EReal.coe_mul]⟩
theorem th : ∃ r : ℝ, R.th k = (r : EReal) := by
  obtain ⟨a, ha⟩ := H.y1 k
  obtain ⟨r, hr⟩ := root_real
  unfold Row.th
  rw [ha, hr, cubic_eq]
  simp only [← EReal.coe_mul, ← EReal.coe_add]
  exact ⟨_, Ideal.tanh_coe _⟩
theorem y2 : ∃ r : ℝ, R.y2 k = (r : EReal) := by
  obtain ⟨a, ha⟩ := H.y1 k
  obtain ⟨t, ht⟩ := H.th k
  unfold Row.y2
  rw [ha, ht, half_eq]
  simp only [← EReal.coe_one, ← EReal.coe_mul, ← EReal.coe_add]
  exact ⟨_, rfl⟩
theorem sg : ∃ r : ℝ, R.sg k = (r : EReal) := Finite.logistic_real _
theorem sz : ∃ r : ℝ, R.sz k = (r : EReal) := Finite.logistic_real _
theorem ct : ∃ r : ℝ, R.ct k = (r : EReal) := by
  obtain ⟨a, ha⟩ := H.dy k
  obtain ⟨b, hb⟩ := H.z k
  obtain ⟨e, he⟩ := H.sz k
  exact ⟨a * (b * e), by unfold Row.ct; rw [ha, hb, he, EReal.coe_mul, EReal.coe_mul]⟩
theorem dgl : ∃ r : ℝ, R.dgl k = (r : EReal) := by
  obtain ⟨a, ha⟩ := H.ct k
  obtain ⟨b, hb⟩ := H.y2 k
  obtain ⟨e, he⟩ := H.sg k
  unfold Row.dgl
  rw [ha, hb, he]
  simp only [← EReal.coe_one, ← EReal.coe_mul, ← EReal.coe_sub]
  exact ⟨_, rfl⟩
theorem dy2 : ∃ r : ℝ, R.dy2 k = (r : EReal) := by
  obtain ⟨a, ha⟩ := H.ct k
  obtain ⟨e, he⟩ := H.sg k
  obtain ⟨s, hs⟩ := real_sum (fun x => R.dgl x * R.w k x) fun x => by
    obtain ⟨p, hp⟩ := H.dgl x
    obtain ⟨q, hq⟩ := H.w k x
    exact ⟨p * q, by rw [hp, hq, EReal.coe_mul]⟩
  exact ⟨a * e + s, by unfold Row.dy2; rw [ha, he, hs, EReal.coe_add, EReal.coe_mul]⟩

end Row.Real

end Cert.TailIdeal.Step

/-! ## The reference at coordinates -/

namespace Cert.TailRefIdeal.Step

open Cert.TailRefIdeal Cert.TailRefIdeal.Gen Idealize.ShloMosaic Idealize.ShloMosaic.TcCoe
open Cert.TailIdeal.Step (half root cubic slope Row aRow)

variable (m : (ℓ : Loc nD τ sig) → Buf (Elt Ideal) ℓ) (c : Dev nD)

/-- Row `i` of the reference's arguments. -/
abbrev gRow (i : Fin 2048) : Row :=
  aRow (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) i

variable (H : ∀ i, (gRow m c i).Real) (i : Fin 2048) (k : Fin 512)

theorem y1_at : (x_v5 m c : FVec Ideal S2048x512 .f32) (ix2 i k) = (gRow m c i).y1 k := by
  pointwise [x_v5, x_v4, x_v3, x_v2, x_v0]
  rfl

include H

theorem th_at : (x_v20 m c : FVec Ideal S2048x512 .f32) (ix2 i k) = (gRow m c i).th k := by
  obtain ⟨y, hy⟩ := (H i).y1 k
  refine Eq.trans ?_ ((Cert.TailIdeal.Step.tangent y).trans (by unfold Row.th; rw [hy]))
  pointwise [x_v20, x_v19, x_v18, x_cst_3, x_v17, x_v16, x_v15, x_cst_2, x_v14, x_v13, x_cst_1, x_v9, x_v8]
  rw [y1_at, hy]
  rfl

theorem y2_at : (x_v28 m c : FVec Ideal S2048x512 .f32) (ix2 i k) = (gRow m c i).y2 k := by
  pointwise [x_v28, x_v7, x_v6, x_cst, x_v27, x_v26, x_cst_6]
  rw [y1_at, th_at m c H]
  rfl

theorem sg_at : (x_v38 m c : FVec Ideal S2048x512 .f32) (ix2 i k) = (gRow m c i).sg k := by
  pointwise [x_v38, x_v37, x_cst_8, x_v36, x_v35, x_cst_7, x_v34, x_v33, x_v32, x_v31, x_v30, x_v29]
  simp only [y2_at m c H]
  rfl

theorem sz_at : (x_v43_2 m c : FVec Ideal S2048x512 .f32) (ix2 i k) = (gRow m c i).sz k := by
  pointwise [x_v43_2, x_call0_v4, x_call0_cst_0, x_call0_v3, x_call0_v2, x_call0_cst, x_call0_v1, x_call0_v0, x_v1]
  rfl

theorem ct_at : (x_v46 m c : FVec Ideal S2048x512 .f32) (ix2 i k) = (gRow m c i).ct k := by
  pointwise [x_v46, x_v43_0, x_v1]
  rw [sz_at m c H]
  rfl

theorem dz_at : (x_v47 m c : FVec Ideal S2048x512 .f32) (ix2 i k) = (gRow m c i).dz k := by
  obtain ⟨d, hd⟩ := (H i).dy k
  obtain ⟨y, hy⟩ := (H i).y2 k
  obtain ⟨g, hg⟩ := (H i).sg k
  obtain ⟨s, hs⟩ := (H i).sz k
  obtain ⟨z, hz⟩ := (H i).z k
  refine Eq.trans ?_ ((Cert.TailIdeal.Step.gate d y g s z).trans (by unfold Row.dz; rw [hd, hy, hg, hs, hz]))
  pointwise [x_v47, x_call1_v1, x_call1_v2, x_call1_v0, x_v45, x_v42, x_v43_1, x_call0_v7, x_call0_v6, x_call0_cst_1, x_v1]
  rw [sz_at m c H, y2_at m c H, sg_at m c H, hy, hg, hs, ← hd, ← hz]
  rfl

theorem dgl_at : (x_v50 m c : FVec Ideal S2048x512 .f32) (ix2 i k) = (gRow m c i).dgl k := by
  pointwise [x_v50, x_v48, x_v41, x_v40, x_v39, x_cst_9]
  rw [y2_at m c H, sg_at m c H, ct_at m c H]
  exact congrArg (fun s : EReal => s * ((gRow m c i).sg k * (1 - (gRow m c i).sg k))) (mul_comm (G := EReal) _ _)

theorem dy2_at : (x_v57 m c : FVec Ideal S2048x512 .f32) (ix2 i k) = (gRow m c i).dy2 k := by
  pointwise [x_v57, x_v49, x_v56]
  rw [sg_at m c H, ct_at m c H]
  simp only [dgl_at m c H]
  rfl

theorem dy1_at : (x_v71 m c : FVec Ideal S2048x512 .f32) (ix2 i k) = (gRow m c i).dy1 k := by
  obtain ⟨y, hy⟩ := (H i).y1 k
  obtain ⟨e, he⟩ := (H i).dy2 k
  obtain ⟨t, ht⟩ := (H i).th k
  refine Eq.trans ?_ ((Cert.TailIdeal.Step.unit y e t).trans (by unfold Row.dy1 Row.gp; rw [hy, he, ht]))
  pointwise [x_v71, x_v70, x_v69, x_cst_15, x_v59, x_v68, x_v67, x_v66, x_v65, x_cst_14, x_v64, x_v63, x_cst_13, x_v62, x_v61, x_cst_12,
    x_v60, x_v58, x_v25, x_v22, x_v21, x_cst_4, x_v24, x_v23, x_cst_5, x_v27, x_v26, x_cst_6, x_v12, x_v11, x_cst_0, x_v10, x_v7, x_v6, x_cst]
  rw [y1_at, th_at m c H, dy2_at m c H, hy, he, ht]
  rfl

theorem du_at : (x_v73 m c : FVec Ideal S2048x512 .f32) (ix2 i k) = (gRow m c i).d k * (gRow m c i).dy1 k := by
  pointwise [x_v73, x_v72, x_v2]
  rw [dy1_at m c H]
  rfl

theorem dw_at (n : Fin 512) : (x_v82 m c : FVec Ideal S512x512 .bf16) (ix2 k n) = ∑ i : Fin 2048, (gRow m c i).y2 k * (gRow m c i).dgl n := by
  pointwise [x_v82, x_v55, x_v54]
  exact Fin.sum_fin_congr fun i => by rw [dgl_at m c H, y2_at m c H]; exact mul_comm (G := EReal) _ _

theorem db_at : (x_v83 m c : FVec Ideal S1x512 .f32) (ix2 0 k) = ∑ i : Fin 2048, (gRow m c i).dgl k := by
  pointwise [x_v83, x_v53, x_v52, x_v51, x_cst_10, x_cst_11]
  refine (Fin.sum_univ_one (M := EReal) _).trans ?_
  exact Fin.sum_fin_congr fun i => dgl_at m c H i k

theorem dd_at : (x_v84 m c : FVec Ideal S1x512 .f32) (ix2 0 k) = ∑ i : Fin 2048, (gRow m c i).dy1 k * (gRow m c i).u k := by
  pointwise [x_v84, x_v77, x_v76, x_v75, x_v74, x_v0, x_cst_16, x_cst_17]
  refine (Fin.sum_univ_one (M := EReal) _).trans ?_
  exact Fin.sum_fin_congr fun i => by rw [dy1_at m c H]; rfl

omit H in
theorem left_at : (x_v81 m c : FVec Ideal S2048x8192 .bf16) (ix2 i (⟨k.val, by omega⟩ : Fin 8192))
    = (m ((c.tc : Thread nD τ).loc main_arg6) : FVec Ideal S2048x8192 .bf16) (ix2 i (⟨k.val, by omega⟩ : Fin 8192)) := by
  pointwise [x_v81, fn_main_v81, x_v78, x_v79, x_v80]

omit H in
theorem mid_at : (x_v81 m c : FVec Ideal S2048x8192 .bf16) (ix2 i (⟨512 + k.val, by omega⟩ : Fin 8192))
    = (x_v47 m c : FVec Ideal S2048x512 .f32) (ix2 i k) := by
  pointwise [x_v81, fn_main_v81, x_v78, x_v79, x_v80]

omit H in
theorem right_at (k : Fin 7168) : (x_v81 m c : FVec Ideal S2048x8192 .bf16) (ix2 i (⟨1024 + k.val, by omega⟩ : Fin 8192))
    = (m ((c.tc : Thread nD τ).loc main_arg6) : FVec Ideal S2048x8192 .bf16) (ix2 i (⟨1024 + k.val, by omega⟩ : Fin 8192)) := by
  pointwise [x_v81, fn_main_v81, x_v78, x_v79, x_v80]
  rw [dif_neg (by omega), dif_neg (by omega)]
  exact congrArg (fun q : Fin 8192 => (m ((c.tc : Thread nD τ).loc main_arg6) : FVec Ideal S2048x8192 .bf16) (ix2 i q))
    (Fin.ext (show 1024 + (1024 + k.val - 512 - 512) = 1024 + k.val by omega))

theorem dproj_at (n : Fin 8192) : (x_v81 m c : FVec Ideal S2048x8192 .bf16) (ix2 i n)
    = if h : 512 ≤ n.val ∧ n.val < 1024 then (gRow m c i).dz ⟨n.val - 512, by omega⟩
      else (m ((c.tc : Thread nD τ).loc main_arg6) : FVec Ideal S2048x8192 .bf16) (ix2 i n) := by
  by_cases h0 : n.val < 512
  · rw [dif_neg (by omega)]
    exact left_at m c i ⟨n.val, h0⟩
  · by_cases h1 : n.val < 1024
    · rw [dif_pos ⟨by omega, h1⟩]
      have e : n = (⟨512 + (n.val - 512), by omega⟩ : Fin 8192) := Fin.ext (show n.val = 512 + (n.val - 512) by omega)
      refine Eq.trans ?_ ((mid_at m c i ⟨n.val - 512, by omega⟩).trans (dz_at m c H i ⟨n.val - 512, by omega⟩))
      exact congrArg (fun q : Fin 8192 => (x_v81 m c : FVec Ideal S2048x8192 .bf16) (ix2 i q)) e
    · rw [dif_neg (by omega)]
      have e : n = (⟨1024 + (n.val - 1024), by omega⟩ : Fin 8192) := Fin.ext (show n.val = 1024 + (n.val - 1024) by omega)
      refine (congrArg (fun q : Fin 8192 => (x_v81 m c : FVec Ideal S2048x8192 .bf16) (ix2 i q)) e).trans
        ((right_at m c i ⟨n.val - 1024, by omega⟩).trans ?_)
      exact congrArg (fun q : Fin 8192 => (m ((c.tc : Thread nD τ).loc main_arg6) : FVec Ideal S2048x8192 .bf16) (ix2 i q)) e.symm

end Cert.TailRefIdeal.Step

/-! ## The claim -/

namespace Cert.TailIdeal.Step

open Cert.TailIdeal Cert.TailIdeal.Gen Idealize.ShloMosaic Idealize.ShloMosaic.TcCoe
open Idealize.SL.Sem

variable (m : (ℓ : Loc nD τ sig) → Buf (Elt Ideal) ℓ)

/-- Finite arguments are arrays of real numbers. -/
theorem reals_of_pre (pre : Cert.Pre_TailIdeal_tail_finite m) (c : Dev nD) (i : Fin 2048) : (gRow m c i).Real := by
  have h := congrFun (pre c) ix0
  unfold Cert.Pre_tail_finite.fn at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  haveI : Subsingleton Cert.Pre_tail_finite.S_.Idx := ⟨fun a b => funext fun i => i.elim0⟩
  obtain ⟨r0, q0⟩ := Finite.reals _ _ rfl (Host.reduce_andi_all _ _ _ _ _ h0)
  obtain ⟨r1, q1⟩ := Finite.reals _ _ rfl (Host.reduce_andi_all _ _ _ _ _ h1)
  obtain ⟨r2, q2⟩ := Finite.reals _ _ rfl (Host.reduce_andi_all _ _ _ _ _ h2)
  obtain ⟨r3, q3⟩ := Finite.reals _ _ rfl (Host.reduce_andi_all _ _ _ _ _ h3)
  obtain ⟨r4, q4⟩ := Finite.reals _ _ rfl (Host.reduce_andi_all _ _ _ _ _ h4)
  obtain ⟨r5, q5⟩ := Finite.reals _ _ rfl (Host.reduce_andi_all _ _ _ _ _ h5)
  have cols (n : Fin 1024) : PR m c (ix2 i (⟨n.val, by omega⟩ : Fin 8192)) = ((r2 (ix2 i n) : ℝ) : EReal) := by
    refine Eq.trans ?_ (congrFun q2 (ix2 i n))
    pointwise
  exact ⟨fun k => ⟨_, congrFun q0 (ix2 i k)⟩, fun k => ⟨_, congrFun q1 (ix2 i k)⟩, fun k => ⟨_, cols ⟨k.val, by omega⟩⟩,
    fun k => ⟨_, cols ⟨512 + k.val, by omega⟩⟩, fun k => ⟨_, congrFun q3 (ix1 k)⟩, fun k => ⟨_, congrFun q5 (ix1 k)⟩,
    fun k n => ⟨_, congrFun q4 (ix2 k n)⟩⟩

/-- The call's gradients are the reference's. -/
theorem claim : Cert.algebraic_TailIdeal_TailRefIdeal_pre_tail_finite := by
  intro m ρ m' ρ' pre agree
  refine ⟨_, _, _, _, _, _, run m ρ, ?_⟩
  refine (θ_run _ _ _).mono (fun r h c => ?_) (Cert.TailRefIdeal.Step.run m' ρ')
  obtain ⟨h0, h1, h2, h3, h4, h5, h6⟩ := h c
  obtain ⟨a0, a1, a2, a3, a4, a5, a6⟩ := agree c
  have same (i : Fin 2048) : Cert.TailRefIdeal.Step.gRow m' c i = gRow m c i := by
    show aRow _ _ _ _ _ _ i = aRow _ _ _ _ _ _ i
    rw [a0, a1, a2, a3, a4, a5]
  have H (i : Fin 2048) : (Cert.TailRefIdeal.Step.gRow m' c i).Real := (same i).symm ▸ reals_of_pre m pre c i
  refine ⟨h0.trans ?_, h1.trans ?_, h2.trans ?_, h3.trans ?_, h4.trans ?_, h5.trans ?_, h6⟩
  · funext j
    obtain ⟨i, k, rfl⟩ : ∃ (i : Fin 2048) (k : Fin 512), j = ix2 i k := ⟨j 0, j 1, by funext i; fin_cases i <;> rfl⟩
    exact (Cert.TailRefIdeal.Step.dy1_at m' c H i k).trans (by rw [same]; rfl)
  · funext j
    obtain ⟨i, k, rfl⟩ : ∃ (i : Fin 2048) (k : Fin 512), j = ix2 i k := ⟨j 0, j 1, by funext i; fin_cases i <;> rfl⟩
    exact (Cert.TailRefIdeal.Step.du_at m' c H i k).trans (by rw [same]; rfl)
  · funext j
    obtain ⟨i, n, rfl⟩ : ∃ (i : Fin 2048) (n : Fin 8192), j = ix2 i n := ⟨j 0, j 1, by funext i; fin_cases i <;> rfl⟩
    exact (Cert.TailRefIdeal.Step.dproj_at m' c H i n).trans (by rw [same, a6]; rfl)
  · funext j
    obtain ⟨k, n, rfl⟩ := ix512 j
    exact (Cert.TailRefIdeal.Step.dw_at m' c H k n).trans (by simp only [same]; rfl)
  · funext j
    obtain ⟨n, rfl⟩ := ix1x512 j
    exact (Cert.TailRefIdeal.Step.db_at m' c H n).trans (by simp only [same]; rfl)
  · funext j
    obtain ⟨n, rfl⟩ := ix1x512 j
    exact (Cert.TailRefIdeal.Step.dd_at m' c H n).trans (by simp only [same]; rfl)

end Cert.TailIdeal.Step
-- ==== Proof.lean ====
/- The proof of the claims: each program's run is the generated one, and what its arrays hold is in the modules. -/
module

public import proofs.«01_k».proof.Defs
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdRefIdeal
public import proofs.«01_k».proof.Proof.Gen.FwdRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallIdeal.Value
public import proofs.«01_k».proof.Proof.Gen.SmallRefIdeal
public import proofs.«01_k».proof.Proof.Gen.SmallRefIdeal.Run
public import proofs.«01_k».proof.Proof.Gen.BigIn
public import proofs.«01_k».proof.Proof.Gen.BigIn.Skeleton
public import proofs.«01_k».proof.Proof.Gen.BigIn.Launch
public import proofs.«01_k».proof.Proof.Gen.BigIn.Points
public import proofs.«01_k».proof.Proof.Gen.BigIn.Frame
public import proofs.«01_k».proof.Proof.Gen.BigInIdeal
public import proofs.«01_k».proof.Proof.Gen.BigInIdeal.Skeleton
public import proofs.«01_k».proof.Proof.Gen.BigInIdeal.Launch
public import proofs.«01_k».proof.Proof.Gen.BigInIdeal.Points
public import proofs.«01_k».proof.Proof.Gen.BigInIdeal.Frame
public import proofs.«01_k».proof.Proof.Gen.BigInIdeal.Value
public import proofs.«01_k».proof.Proof.Gen.BigInRefIdeal
public import proofs.«01_k».proof.Proof.Gen.BigInRefIdeal.Run
public import proofs.«01_k».proof.Proof.Gen.BigGlu
public import proofs.«01_k».proof.Proof.Gen.BigGlu.Skeleton
public import proofs.«01_k».proof.Proof.Gen.BigGlu.Launch
public import proofs.«01_k».proof.Proof.Gen.BigGlu.Points
public import proofs.«01_k».proof.Proof.Gen.BigGlu.Frame
public import proofs.«01_k».proof.Proof.Gen.BigGluIdeal
public import proofs.«01_k».proof.Proof.Gen.BigGluIdeal.Skeleton
public import proofs.«01_k».proof.Proof.Gen.BigGluIdeal.Launch
public import proofs.«01_k».proof.Proof.Gen.BigGluIdeal.Points
public import proofs.«01_k».proof.Proof.Gen.BigGluIdeal.Frame
public import proofs.«01_k».proof.Proof.Gen.BigGluIdeal.Value
public import proofs.«01_k».proof.Proof.Gen.BigGluRefIdeal
public import proofs.«01_k».proof.Proof.Gen.BigGluRefIdeal.Run
public import proofs.«01_k».proof.Proof.Gen.BigBranch
public import proofs.«01_k».proof.Proof.Gen.BigBranch.Skeleton
public import proofs.«01_k».proof.Proof.Gen.BigBranch.Launch
public import proofs.«01_k».proof.Proof.Gen.BigBranch.Points
public import proofs.«01_k».proof.Proof.Gen.BigBranch.Frame
public import proofs.«01_k».proof.Proof.Gen.BigBranchIdeal
public import proofs.«01_k».proof.Proof.Gen.BigBranchIdeal.Skeleton
public import proofs.«01_k».proof.Proof.Gen.BigBranchIdeal.Launch
public import proofs.«01_k».proof.Proof.Gen.BigBranchIdeal.Points
public import proofs.«01_k».proof.Proof.Gen.BigBranchIdeal.Frame
public import proofs.«01_k».proof.Proof.Gen.BigBranchIdeal.Value
public import proofs.«01_k».proof.Proof.Gen.BigBranchRefIdeal
public import proofs.«01_k».proof.Proof.Gen.BigBranchRefIdeal.Run
public import proofs.«01_k».proof.Proof.Gen.BigOut
public import proofs.«01_k».proof.Proof.Gen.BigOut.Skeleton
public import proofs.«01_k».proof.Proof.Gen.BigOut.Launch
public import proofs.«01_k».proof.Proof.Gen.BigOut.Points
public import proofs.«01_k».proof.Proof.Gen.BigOut.Frame
public import proofs.«01_k».proof.Proof.Gen.BigOutIdeal
public import proofs.«01_k».proof.Proof.Gen.BigOutIdeal.Skeleton
public import proofs.«01_k».proof.Proof.Gen.BigOutIdeal.Launch
public import proofs.«01_k».proof.Proof.Gen.BigOutIdeal.Points
public import proofs.«01_k».proof.Proof.Gen.BigOutIdeal.Frame
public import proofs.«01_k».proof.Proof.Gen.BigOutIdeal.Value
public import proofs.«01_k».proof.Proof.Gen.BigOutRefIdeal
public import proofs.«01_k».proof.Proof.Gen.BigOutRefIdeal.Run
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossRefIdeal.Run
public import proofs.«01_k».proof.Proof.Gen.Disc
public import proofs.«01_k».proof.Proof.Gen.Disc.Skeleton
public import proofs.«01_k».proof.Proof.Gen.Disc.Launch
public import proofs.«01_k».proof.Proof.Gen.Disc.Points
public import proofs.«01_k».proof.Proof.Gen.Disc.Frame
public import proofs.«01_k».proof.Proof.Gen.DiscIdeal
public import proofs.«01_k».proof.Proof.Gen.DiscIdeal.Skeleton
public import proofs.«01_k».proof.Proof.Gen.DiscIdeal.Launch
public import proofs.«01_k».proof.Proof.Gen.DiscIdeal.Points
public import proofs.«01_k».proof.Proof.Gen.DiscIdeal.Frame
public import proofs.«01_k».proof.Proof.Gen.DiscRefIdeal
public import proofs.«01_k».proof.Proof.Gen.DiscRefIdeal.Run
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.Pre_merge_finite
public import proofs.«01_k».proof.Proof.Gen.Pre_norm_finite
public import proofs.«01_k».proof.Proof.Gen.Pre_tail_finite
public import proofs.«01_k».proof.Proof.FwdBitsRun
public import proofs.«01_k».proof.Proof.FwdBitsFrame
public import proofs.«01_k».proof.Proof.FwdBits
public import proofs.«01_k».proof.Proof.FwdRun
public import proofs.«01_k».proof.Proof.FwdFrame
public import proofs.«01_k».proof.Proof.Fwd
public import proofs.«01_k».proof.Proof.ProjBwd
public import proofs.«01_k».proof.Proof.MergeClaim
public import proofs.«01_k».proof.Proof.Norm
public import proofs.«01_k».proof.Proof.Small
public import proofs.«01_k».proof.Proof.AdamW
public import proofs.«01_k».proof.Proof.BigIn
public import proofs.«01_k».proof.Proof.BigGlu
public import proofs.«01_k».proof.Proof.BigBranch
public import proofs.«01_k».proof.Proof.BigOut
public import proofs.«01_k».proof.Proof.Loss
public import proofs.«01_k».proof.Proof.Disc
public import proofs.«01_k».proof.Proof.TailRun
public import proofs.«01_k».proof.Proof.Tail
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem frame_FwdRefIdeal : Cert.quiescent_FwdRefIdeal := fun m ρ _ =>
  (θ_run Cert.FwdRefIdeal.defs _ _).mono
    (fun r h => ⟨fun c => (h c).2.2, sem_eq_zero_of_no_sems (by decide) r.2⟩) (Cert.FwdRefIdeal.Value.run m ρ)

theorem frame_ProjRefIdeal : Cert.quiescent_ProjRefIdeal := fun m ρ _ =>
  (θ_run Cert.ProjRefIdeal.defs _ _).mono
    (fun r h => ⟨fun c => (h c).2.2, sem_eq_zero_of_no_sems (by decide) r.2⟩) (Cert.ProjRefIdeal.Value.run m ρ)

theorem frame_MergeRefIdeal : Cert.quiescent_MergeRefIdeal := fun m ρ _ =>
  (θ_run Cert.MergeRefIdeal.defs _ _).mono
    (fun r h => ⟨fun c => (h c).2.2.2.2.2.2, sem_eq_zero_of_no_sems (by decide) r.2⟩) (Cert.MergeRefIdeal.Value.run m ρ)

theorem frame_NormRefIdeal : Cert.quiescent_NormRefIdeal := fun m ρ _ =>
  (θ_run Cert.NormRefIdeal.defs _ _).mono
    (fun r h => ⟨fun c => (h c).2.2, sem_eq_zero_of_no_sems (by decide) r.2⟩) (Cert.NormRefIdeal.Value.run m ρ)

theorem frame_SmallRefIdeal : Cert.quiescent_SmallRefIdeal := fun m ρ _ =>
  (θ_run Cert.SmallRefIdeal.defs _ _).mono
    (fun r h => ⟨fun c => (h c).2.2.2.2, sem_eq_zero_of_no_sems (by decide) r.2⟩) (Cert.SmallRefIdeal.Value.run m ρ)

theorem frame_BigInRefIdeal : Cert.quiescent_BigInRefIdeal := fun m ρ _ =>
  (θ_run Cert.BigInRefIdeal.defs _ _).mono
    (fun r h => ⟨fun c => (h c).2.2.2.2, sem_eq_zero_of_no_sems (by decide) r.2⟩) (Cert.BigInRefIdeal.Value.run m ρ)

theorem frame_BigGluRefIdeal : Cert.quiescent_BigGluRefIdeal := fun m ρ _ =>
  (θ_run Cert.BigGluRefIdeal.defs _ _).mono
    (fun r h => ⟨fun c => (h c).2.2.2.2, sem_eq_zero_of_no_sems (by decide) r.2⟩) (Cert.BigGluRefIdeal.Value.run m ρ)

theorem frame_BigBranchRefIdeal : Cert.quiescent_BigBranchRefIdeal := fun m ρ _ =>
  (θ_run Cert.BigBranchRefIdeal.defs _ _).mono
    (fun r h => ⟨fun c => (h c).2.2.2.2, sem_eq_zero_of_no_sems (by decide) r.2⟩) (Cert.BigBranchRefIdeal.Value.run m ρ)

theorem frame_BigOutRefIdeal : Cert.quiescent_BigOutRefIdeal := fun m ρ _ =>
  (θ_run Cert.BigOutRefIdeal.defs _ _).mono
    (fun r h => ⟨fun c => (h c).2.2.2.2, sem_eq_zero_of_no_sems (by decide) r.2⟩) (Cert.BigOutRefIdeal.Value.run m ρ)

theorem frame_LossRefIdeal : Cert.quiescent_LossRefIdeal := fun m ρ _ =>
  (θ_run Cert.LossRefIdeal.defs _ _).mono
    (fun r h => ⟨fun c => (h c).2.2, sem_eq_zero_of_no_sems (by decide) r.2⟩) (Cert.LossRefIdeal.Value.run m ρ)

theorem frame_DiscRefIdeal : Cert.quiescent_DiscRefIdeal := fun m ρ _ =>
  (θ_run Cert.DiscRefIdeal.defs _ _).mono
    (fun r h => ⟨fun c => (h c).2.2.2.2.2, sem_eq_zero_of_no_sems (by decide) r.2⟩) (Cert.DiscRefIdeal.Value.run m ρ)

theorem frame_TailRefIdeal : Cert.quiescent_TailRefIdeal := fun m ρ _ =>
  (θ_run Cert.TailRefIdeal.defs _ _).mono
    (fun r h => ⟨fun c => (h c).2.2.2.2.2.2, sem_eq_zero_of_no_sems (by decide) r.2⟩) (Cert.TailRefIdeal.Step.run m ρ)

/-- The projections' gradients. -/
theorem projBwd : Cert.algebraic_ProjIdeal_ProjRefIdeal := by
  intro m ρ m' ρ' _ agree
  refine ⟨_, _, Cert.ProjIdeal.Value.run_blocks m ρ, ?_⟩
  refine (θ_run _ _ _).mono (fun r h c => ?_) (Cert.ProjRefIdeal.Value.run m' ρ')
  obtain ⟨h0, h1, h2⟩ := h c
  obtain ⟨a0, a1, a2⟩ := agree c
  refine ⟨h0.trans ?_, h1.trans ?_, h2⟩
  · rw [a0, a2]; exact (Cert.ProjIdeal.ProjBwd.dh_final m c).symm
  · rw [a0, a1]; exact (Cert.ProjIdeal.ProjBwd.dw_final m c).symm

theorem claim : Cert.Claim :=
  ⟨Cert.Fwd.Gen.facts,
    Cert.FwdIdeal.Gen.facts,
    Cert.FwdRefIdeal.Gen.facts,
    Cert.Proj.Gen.facts,
    Cert.ProjIdeal.Gen.facts,
    Cert.ProjRefIdeal.Gen.facts,
    Cert.Merge.Gen.facts,
    Cert.MergeIdeal.Gen.facts,
    Cert.MergeRefIdeal.Gen.facts,
    Cert.Norm.Gen.facts,
    Cert.NormIdeal.Gen.facts,
    Cert.NormRefIdeal.Gen.facts,
    Cert.Small.Gen.facts,
    Cert.SmallIdeal.Gen.facts,
    Cert.SmallRefIdeal.Gen.facts,
    Cert.BigIn.Gen.facts,
    Cert.BigInIdeal.Gen.facts,
    Cert.BigInRefIdeal.Gen.facts,
    Cert.BigGlu.Gen.facts,
    Cert.BigGluIdeal.Gen.facts,
    Cert.BigGluRefIdeal.Gen.facts,
    Cert.BigBranch.Gen.facts,
    Cert.BigBranchIdeal.Gen.facts,
    Cert.BigBranchRefIdeal.Gen.facts,
    Cert.BigOut.Gen.facts,
    Cert.BigOutIdeal.Gen.facts,
    Cert.BigOutRefIdeal.Gen.facts,
    Cert.Loss.Gen.facts,
    Cert.LossIdeal.Gen.facts,
    Cert.LossRefIdeal.Gen.facts,
    Cert.Disc.Gen.facts,
    Cert.DiscIdeal.Gen.facts,
    Cert.DiscRefIdeal.Gen.facts,
    Cert.Tail.Gen.facts,
    Cert.TailIdeal.Gen.facts,
    Cert.TailRefIdeal.Gen.facts,
    Cert.Pre_merge_finite.Gen.facts,
    Cert.Pre_norm_finite.Gen.facts,
    Cert.Pre_tail_finite.Gen.facts,
    fun m ρ _ => Cert.Fwd.Step.frame m ρ,
    fun m ρ _ => Cert.FwdIdeal.Step.frame m ρ,
    frame_FwdRefIdeal,
    fun m ρ _ => Cert.Proj.Gen.frame m ρ,
    fun m ρ _ => Cert.ProjIdeal.Gen.frame m ρ,
    frame_ProjRefIdeal,
    fun m ρ _ => Cert.Merge.Gen.frame m ρ,
    fun m ρ _ => Cert.MergeIdeal.Gen.frame m ρ,
    fun m ρ _ => Cert.MergeIdeal.Gen.frame m ρ,
    frame_MergeRefIdeal,
    fun m ρ _ => frame_MergeRefIdeal m ρ trivial,
    fun m ρ _ => Cert.Norm.Gen.frame m ρ,
    fun m ρ _ => Cert.NormIdeal.Gen.frame m ρ,
    fun m ρ _ => Cert.NormIdeal.Gen.frame m ρ,
    frame_NormRefIdeal,
    fun m ρ _ => frame_NormRefIdeal m ρ trivial,
    fun m ρ _ => Cert.Small.Gen.frame m ρ,
    fun m ρ _ => Cert.SmallIdeal.Gen.frame m ρ,
    frame_SmallRefIdeal,
    fun m ρ _ => Cert.BigIn.Gen.frame m ρ,
    fun m ρ _ => Cert.BigInIdeal.Gen.frame m ρ,
    frame_BigInRefIdeal,
    fun m ρ _ => Cert.BigGlu.Gen.frame m ρ,
    fun m ρ _ => Cert.BigGluIdeal.Gen.frame m ρ,
    frame_BigGluRefIdeal,
    fun m ρ _ => Cert.BigBranch.Gen.frame m ρ,
    fun m ρ _ => Cert.BigBranchIdeal.Gen.frame m ρ,
    frame_BigBranchRefIdeal,
    fun m ρ _ => Cert.BigOut.Gen.frame m ρ,
    fun m ρ _ => Cert.BigOutIdeal.Gen.frame m ρ,
    frame_BigOutRefIdeal,
    fun m ρ _ => Cert.Loss.Gen.frame m ρ,
    fun m ρ _ => Cert.LossIdeal.Gen.frame m ρ,
    frame_LossRefIdeal,
    fun m ρ _ => Cert.Disc.Gen.frame m ρ,
    fun m ρ _ => Cert.DiscIdeal.Gen.frame m ρ,
    frame_DiscRefIdeal,
    fun m ρ _ => Cert.Tail.Gen.frame m ρ,
    fun m ρ _ => Cert.TailIdeal.Gen.frame m ρ,
    fun m ρ _ => Cert.TailIdeal.Gen.frame m ρ,
    frame_TailRefIdeal,
    fun m ρ _ => frame_TailRefIdeal m ρ trivial,
    trivial,
    Cert.FwdIdeal.Step.claim,
    trivial,
    projBwd,
    trivial,
    Cert.MergeIdeal.Step.claim,
    trivial,
    Cert.NormIdeal.Step.claim,
    trivial,
    Cert.SmallIdeal.Step.claim,
    trivial,
    Cert.BigInIdeal.Step.claim,
    trivial,
    Cert.BigGluIdeal.Step.claim,
    trivial,
    Cert.BigBranchIdeal.Step.claim,
    trivial,
    Cert.BigOutIdeal.Step.claim,
    trivial,
    Cert.LossIdeal.Step.claim,
    trivial,
    Cert.DiscIdeal.Step.claim,
    ⟨IdealRules.named_const.statement _ _ _ _ _ rfl, IdealRules.named_const.statement _ _ _ _ _ rfl⟩,
    Cert.TailIdeal.Step.claim⟩

end Cert.Proof

end
